-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v32_0)) (v1 : (c : Dev Cert.Kernel3Ideal.nD) → Buf (Elt Ideal) ((c.tc : Thread Cert.Kernel3Ideal.nD Cert.Kernel3Ideal.τ).loc Cert.Kernel3Ideal.main_v32_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v32_0) = v0 c
          ∧ r.2.mem ((c.tc : Thread Cert.Kernel3Ideal.nD Cert.Kernel3Ideal.τ).loc Cert.Kernel3Ideal.main_v32_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S_ : Shape := ⟨0, ![]⟩

class Facts : Prop where
  bcast_S_S2x8192x8x64 : S_.BroadcastsInDim S2x8192x8x64 (![] : Fin 0 → Fin S2x8192x8x64.rank)
  bcast_S_S2x8192x8x32 : S_.BroadcastsInDim S2x8192x8x32 (![] : Fin 0 → Fin S2x8192x8x32.rank)
  bcast_S_S2x8192x32 : S_.BroadcastsInDim S2x8192x32 (![] : Fin 0 → Fin S2x8192x32.rank)

variable [Facts]

def fn {F : FTy → Type} [FloatOps F] (main_arg0 : FVec F S2x8192x8x64 .f32) (main_arg1 : FVec F S2x8192x8x32 .f32) (main_arg2 : FVec F S2x8192x8x64 .f32) (main_arg3 : FVec F S2x8192x32 .f32) (main_arg4 : FVec F S2x8192x8x64 .f32) : IVec S2x8192x8x64 1 × IVec S2x8192x8x32 1 × IVec S2x8192x8x64 1 × IVec S2x8192x32 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_v3 : FVec F S2x8192x8x32 .f32 := Host.absf main_arg1
  let main_cst_0 : FVec F S_ .f32 := constant S_ .f32 0x7F800000#32
  let main_v4 : FVec F S2x8192x8x32 .f32 := broadcastInDim S2x8192x8x32 ![] bcast_S_S2x8192x8x32 main_cst_0
  let main_v5 : IVec S2x8192x8x32 1 := cmpf .olt main_v3 main_v4
  let main_v6 : FVec F S2x8192x8x64 .f32 := Host.absf main_arg2
  let main_cst_1 : FVec F S_ .f32 := constant S_ .f32 0x7F800000#32
  let main_v7 : FVec F S2x8192x8x64 .f32 := broadcastInDim S2x8192x8x64 ![] bcast_S_S2x8192x8x64 main_cst_1
  let main_v8 : IVec S2x8192x8x64 1 := cmpf .olt main_v6 main_v7
  let main_v9 : FVec F S2x8192x32 .f32 := Host.absf main_arg3
  let main_cst_2 : FVec F S_ .f32 := constant S_ .f32 0x7F800000#32
  let main_v10 : FVec F S2x8192x32 .f32 := broadcastInDim S2x8192x32 ![] bcast_S_S2x8192x32 main_cst_2
  let main_v11 : IVec S2x8192x32 1 := cmpf .olt main_v9 main_v10
  (main_v2, main_v5, main_v8, main_v11)
-- ==== Kernel.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S_ : Shape := ⟨0, ![]⟩
abbrev S2x8192x8x96 : Shape := ⟨4, ![2, 8192, 8, 96]⟩
abbrev S2x8192x8x128 : Shape := ⟨4, ![2, 8192, 8, 128]⟩
abbrev S16384x1024 : Shape := ⟨2, ![16384, 1024]⟩
abbrev S1024x16384 : Shape := ⟨2, ![1024, 16384]⟩
abbrev S2x8192x1x32 : Shape := ⟨4, ![2, 8192, 1, 32]⟩
abbrev S32x512x1024 : Shape := ⟨3, ![32, 512, 1024]⟩
abbrev S2x8192x8x1 : Shape := ⟨4, ![2, 8192, 8, 1]⟩
abbrev S2x8192x8x65 : Shape := ⟨4, ![2, 8192, 8, 65]⟩
abbrev S2x8192x8x80 : Shape := ⟨4, ![2, 8192, 8, 80]⟩
abbrev S32x512x640 : Shape := ⟨3, ![32, 512, 640]⟩
abbrev S32x640x512 : Shape := ⟨3, ![32, 640, 512]⟩
abbrev S512x16384 : Shape := ⟨2, ![512, 16384]⟩
abbrev S1024x512 : Shape := ⟨2, ![1024, 512]⟩
abbrev S512x512 : Shape := ⟨2, ![512, 512]⟩
abbrev S16x512x1024 : Shape := ⟨3, ![16, 512, 1024]⟩
abbrev S16x640x512 : Shape := ⟨3, ![16, 640, 512]⟩
abbrev S2x16 : Shape := ⟨2, ![2, 16]⟩
abbrev S2x8x512x512 : Shape := ⟨4, ![2, 8, 512, 512]⟩
abbrev S8x80x512 : Shape := ⟨3, ![8, 80, 512]⟩
abbrev S1x1 : Shape := ⟨2, ![1, 1]⟩
abbrev S1x512x1024 : Shape := ⟨3, ![1, 512, 1024]⟩
abbrev S512x1024 : Shape := ⟨2, ![512, 1024]⟩
abbrev S1x640x512 : Shape := ⟨3, ![1, 640, 512]⟩
abbrev S640x512 : Shape := ⟨2, ![640, 512]⟩
abbrev S128x512 : Shape := ⟨2, ![128, 512]⟩
abbrev S1x512 : Shape := ⟨2, ![1, 512]⟩
abbrev S1x512x128 : Shape := ⟨3, ![1, 512, 128]⟩
abbrev S512x128 : Shape := ⟨2, ![512, 128]⟩
abbrev S256x512 : Shape := ⟨2, ![256, 512]⟩
abbrev S256x128 : Shape := ⟨2, ![256, 128]⟩
abbrev S256x256 : Shape := ⟨2, ![256, 256]⟩
abbrev S128x256 : Shape := ⟨2, ![128, 256]⟩
abbrev S1x1x256x512 : Shape := ⟨4, ![1, 1, 256, 512]⟩
abbrev S1x1x256x256 : Shape := ⟨4, ![1, 1, 256, 256]⟩
abbrev S1x256 : Shape := ⟨2, ![1, 256]⟩
abbrev S256 : Shape := ⟨1, ![256]⟩
abbrev S512 : Shape := ⟨1, ![512]⟩
abbrev S1x1x16x512 : Shape := ⟨4, ![1, 1, 16, 512]⟩
abbrev S16x512 : Shape := ⟨2, ![16, 512]⟩
abbrev S1x80x512 : Shape := ⟨3, ![1, 80, 512]⟩
abbrev S80x512 : Shape := ⟨2, ![80, 512]⟩
abbrev S1x1x512x512 : Shape := ⟨4, ![1, 1, 512, 512]⟩
abbrev S1x64x512 : Shape := ⟨3, ![1, 64, 512]⟩
abbrev S64x512 : Shape := ⟨2, ![64, 512]⟩
abbrev S1x1x512 : Shape := ⟨3, ![1, 1, 512]⟩

abbrev nBuf : Space → Nat
  | .hbm => 36
  | .vmem => 8
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x8x64, .f32⟩
  | .hbm, ⟨3, _⟩ => ⟨S2x8192x32, .f32⟩
  | .hbm, ⟨4, _⟩ => ⟨S2x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x8192x8x96, .f32⟩
  | .hbm, ⟨10, _⟩ => ⟨S2x8192x8x96, .f32⟩
  | .hbm, ⟨11, _⟩ => ⟨S2x8192x8x96, .f32⟩
  | .hbm, ⟨12, _⟩ => ⟨S_, .i32⟩
  | .hbm, ⟨13, _⟩ => ⟨S_, .f32⟩
  | .hbm, ⟨14, _⟩ => ⟨S2x8192x8x128, .f32⟩
  | .hbm, ⟨15, _⟩ => ⟨S2x8192x8x128, .bf16⟩
  | .hbm, ⟨16, _⟩ => ⟨S16384x1024, .bf16⟩
  | .hbm, ⟨17, _⟩ => ⟨S1024x16384, .bf16⟩
  | .hbm, ⟨18, _⟩ => ⟨S2x8192x1x32, .f32⟩
  | .hbm, ⟨19, _⟩ => ⟨S2x8192x8x32, .f32⟩
  | .hbm, ⟨20, _⟩ => ⟨S2x8192x8x96, .f32⟩
  | .hbm, ⟨21, _⟩ => ⟨S_, .i32⟩
  | .hbm, ⟨22, _⟩ => ⟨S_, .f32⟩
  | .hbm, ⟨23, _⟩ => ⟨S2x8192x8x128, .f32⟩
  | .hbm, ⟨24, _⟩ => ⟨S2x8192x8x128, .bf16⟩
  | .hbm, ⟨25, _⟩ => ⟨S32x512x1024, .bf16⟩
  | .hbm, ⟨26, _⟩ => ⟨S_, .f32⟩
  | .hbm, ⟨27, _⟩ => ⟨S2x8192x8x1, .f32⟩
  | .hbm, ⟨28, _⟩ => ⟨S2x8192x8x65, .f32⟩
  | .hbm, ⟨29, _⟩ => ⟨S_, .i32⟩
  | .hbm, ⟨30, _⟩ => ⟨S_, .f32⟩
  | .hbm, ⟨31, _⟩ => ⟨S2x8192x8x80, .f32⟩
  | .hbm, ⟨32, _⟩ => ⟨S2x8192x8x80, .bf16⟩
  | .hbm, ⟨33, _⟩ => ⟨S32x512x640, .bf16⟩
  | .hbm, ⟨34, _⟩ => ⟨S32x640x512, .bf16⟩
  | .hbm, ⟨35, _⟩ => ⟨S512x16384, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S16x512x1024, .bf16⟩
  | .local _ .vmem, ⟨5, _⟩ => ⟨S16x640x512, .bf16⟩
  | .local _ .vmem, ⟨6, _⟩ => ⟨S2x8x512x512, .f32⟩
  | .local _ .vmem, ⟨7, _⟩ => ⟨S8x80x512, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 1, 16], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

def k0_off1 (i : grid0.Coords) (c0_i32_252 : BitVec 32) : Fin 3 → Nat :=
  let arg0 : BitVec 32 := BitVec.ofNat 32 (i 0).val
  let c16_i32 : BitVec 32 := 16#32
  let v0 : BitVec 32 := Scalar.muli arg0 c16_i32
  let v356 : BitVec 32 := Scalar.addi v0 c0_i32_252
  let c0_i32_259 : BitVec 32 := 0#32
  let c0_i32_260 : BitVec 32 := 0#32
  ![v356.toNat, 0, 0]
def k0_off2 (i : grid0.Coords) (c0_i32_253 : BitVec 32) : Fin 3 → Nat :=
  let arg0 : BitVec 32 := BitVec.ofNat 32 (i 0).val
  let c16_i32 : BitVec 32 := 16#32
  let v0 : BitVec 32 := Scalar.muli arg0 c16_i32
  let v357 : BitVec 32 := Scalar.addi v0 c0_i32_253
  let c0_i32_266 : BitVec 32 := 0#32
  let c0_i32_267 : BitVec 32 := 0#32
  ![v357.toNat, 0, 0]
def k0_off3 (i : grid0.Coords) : Fin 2 → Nat :=
  let c0_i32_1 : BitVec 32 := 0#32
  let arg2 : BitVec 32 := BitVec.ofNat 32 (i 2).val
  ![0, arg2.toNat]
def k0_off4 (i : grid0.Coords) : Fin 3 → Nat :=
  let arg2 : BitVec 32 := BitVec.ofNat 32 (i 2).val
  let c0_i32_2 : BitVec 32 := 0#32
  let c0_i32_3 : BitVec 32 := 0#32
  ![arg2.toNat, 0, 0]
def k0_off5 (i : grid0.Coords) : Fin 3 → Nat :=
  let arg0 : BitVec 32 := BitVec.ofNat 32 (i 0).val
  let c16_i32 : BitVec 32 := 16#32
  let v0 : BitVec 32 := Scalar.muli arg0 c16_i32
  let arg2 : BitVec 32 := BitVec.ofNat 32 (i 2).val
  let v4 : BitVec 32 := Scalar.addi v0 arg2
  let c0_i32_4 : BitVec 32 := 0#32
  let c0_i32_5 : BitVec 32 := 0#32
  ![v4.toNat, 0, 0]
def k0_off6 (i : grid0.Coords) : Fin 2 → Nat :=
  let c1_i32 : BitVec 32 := 1#32
  let arg2 : BitVec 32 := BitVec.ofNat 32 (i 2).val
  ![1, arg2.toNat]
def k0_off7 (i : grid0.Coords) : Fin 3 → Nat :=
  let arg2 : BitVec 32 := BitVec.ofNat 32 (i 2).val
  let c0_i32_6 : BitVec 32 := 0#32
  let c0_i32_7 : BitVec 32 := 0#32
  ![arg2.toNat, 0, 0]
def k0_off8 (i : grid0.Coords) : Fin 3 → Nat :=
  let arg0 : BitVec 32 := BitVec.ofNat 32 (i 0).val
  let c16_i32 : BitVec 32 := 16#32
  let v0 : BitVec 32 := Scalar.muli arg0 c16_i32
  let arg2 : BitVec 32 := BitVec.ofNat 32 (i 2).val
  let v5 : BitVec 32 := Scalar.addi v0 arg2
  let c0_i32_8 : BitVec 32 := 0#32
  let c0_i32_9 : BitVec 32 := 0#32
  ![v5.toNat, 0, 0]
def k0_off9 (i : grid0.Coords) : Fin 3 → Nat :=
  let arg2 : BitVec 32 := BitVec.ofNat 32 (i 2).val
  let v50 : Index := Scalar.indexCast arg2
  let c0_30 : Index := 0#32
  let c0_31 : Index := 0#32
  ![v50.toNat, 0, 0]
def k0_off10 (i : grid0.Coords) : Fin 3 → Nat :=
  let arg2 : BitVec 32 := BitVec.ofNat 32 (i 2).val
  let v81 : Index := Scalar.indexCast arg2
  let c0_52 : Index := 0#32
  let c128_53 : Index := 128#32
  ![v81.toNat, 0, 128]
def k0_off11 (i : grid0.Coords) : Fin 3 → Nat :=
  let arg2 : BitVec 32 := BitVec.ofNat 32 (i 2).val
  let v112 : Index := Scalar.indexCast arg2
  let c0_73 : Index := 0#32
  let c256_74 : Index := 256#32
  ![v112.toNat, 0, 256]
def k0_off12 (i : grid0.Coords) : Fin 3 → Nat :=
  let arg2 : BitVec 32 := BitVec.ofNat 32 (i 2).val
  let v143 : Index := Scalar.indexCast arg2
  let c0_94 : Index := 0#32
  let c384_95 : Index := 384#32
  ![v143.toNat, 0, 384]
def k0_off13 (i : grid0.Coords) : Fin 3 → Nat :=
  let arg2 : BitVec 32 := BitVec.ofNat 32 (i 2).val
  let v174 : Index := Scalar.indexCast arg2
  let c0_115 : Index := 0#32
  let c512_116 : Index := 512#32
  ![v174.toNat, 0, 512]
def k0_off14 (i : grid0.Coords) : Fin 3 → Nat :=
  let arg2 : BitVec 32 := BitVec.ofNat 32 (i 2).val
  let v205 : Index := Scalar.indexCast arg2
  let c0_136 : Index := 0#32
  let c640_137 : Index := 640#32
  ![v205.toNat, 0, 640]
def k0_off15 (i : grid0.Coords) : Fin 3 → Nat :=
  let arg2 : BitVec 32 := BitVec.ofNat 32 (i 2).val
  let v236 : Index := Scalar.indexCast arg2
  let c0_157 : Index := 0#32
  let c768_158 : Index := 768#32
  ![v236.toNat, 0, 768]
def k0_off16 (i : grid0.Coords) : Fin 3 → Nat :=
  let arg2 : BitVec 32 := BitVec.ofNat 32 (i 2).val
  let v267 : Index := Scalar.indexCast arg2
  let c0_178 : Index := 0#32
  let c896_179 : Index := 896#32
  ![v267.toNat, 0, 896]
@[reducible] def k0_t1_loop (i : grid0.Coords) : Scf.Loop 32 :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_201 : BitVec 32 := 1#32
  ⟨c0_i32_199, v302, c1_i32_201⟩
def k0_cond2 (i : grid0.Coords) (k0_t1 : Fin (k0_t1_loop i).trips) : BitVec 1 :=
  let c2_i32 : BitVec 32 := 2#32
  let c0_i32_199 : BitVec 32 := 0#32
  let c1_i32_201 : BitVec 32 := 1#32
  let arg12 : BitVec 32 := Scf.iv c0_i32_199 c1_i32_201 k0_t1
  let arg2 : BitVec 32 := BitVec.ofNat 32 (i 2).val
  let c1_i32_10 : BitVec 32 := 1#32
  let v18 : BitVec 32 := Scalar.addi arg2 c1_i32_10
  let c1_i32_252 : BitVec 32 := 1#32
  let v356 : BitVec 32 := Scalar.subi v18 c1_i32_252
  let v357 : BitVec 1 := Scalar.cmpi .eq arg12 v356
  let v358 : BitVec 32 := Scalar.extui v357
  let v359 : BitVec 32 := Scalar.muli c2_i32 v358
  let c2_i32_253 : BitVec 32 := 2#32
  let c0_i32_254 : BitVec 32 := 0#32
  let v360 : BitVec 1 := Scalar.cmpi .eq c2_i32_253 c0_i32_254
  let c1_i32_255 : BitVec 32 := 1#32
  let v361 : BitVec 32 := Scalar.select v360 c1_i32_255 c2_i32_253
  let v362 : BitVec 32 := Scalar.remsi arg12 v361
  let c0_i32_257 : BitVec 32 := 0#32
  let v364 : BitVec 1 := Scalar.cmpi .slt v362 c0_i32_257
  let c0_i32_258 : BitVec 32 := 0#32
  let v365 : BitVec 1 := Scalar.cmpi .slt v361 c0_i32_258
  let v366 : BitVec 1 := Scalar.xori v364 v365
  let c0_i32_256 : BitVec 32 := 0#32
  let v363 : BitVec 1 := Scalar.cmpi .ne v362 c0_i32_256
  let v367 : BitVec 1 := Scalar.andi v366 v363
  let v368 : BitVec 32 := Scalar.addi v362 v361
  let v369 : BitVec 32 := Scalar.select v367 v368 v362
  let v370 : BitVec 32 := Scalar.addi v359 v369
  let c0_i32_259 : BitVec 32 := 0#32
  let v371 : BitVec 32 := Scalar.maxsi v370 c0_i32_259
  let c3_i32 : BitVec 32 := 3#32
  let v372 : BitVec 32 := Scalar.minsi v371 c3_i32
  let c0_i32_260 : BitVec 32 := 0#32
  let v373 : BitVec 1 := Scalar.cmpi .ne v372 c0_i32_260
  v373

def k0_cond3 (i : grid0.Coords) (k0_t1 : Fin (k0_t1_loop i).trips) : BitVec 1 :=
  let c2_i32 : BitVec 32 := 2#32
  let c0_i32_199 : BitVec 32 := 0#32
  let c1_i32_201 : BitVec 32 := 1#32
  let arg12 : BitVec 32 := Scf.iv c0_i32_199 c1_i32_201 k0_t1
  let arg2 : BitVec 32 := BitVec.ofNat 32 (i 2).val
  let c1_i32_10 : BitVec 32 := 1#32
  let v18 : BitVec 32 := Scalar.addi arg2 c1_i32_10
  let c1_i32_252 : BitVec 32 := 1#32
  let v356 : BitVec 32 := Scalar.subi v18 c1_i32_252
  let v357 : BitVec 1 := Scalar.cmpi .eq arg12 v356
  let v358 : BitVec 32 := Scalar.extui v357
  let v359 : BitVec 32 := Scalar.muli c2_i32 v358
  let c2_i32_253 : BitVec 32 := 2#32
  let c0_i32_254 : BitVec 32 := 0#32
  let v360 : BitVec 1 := Scalar.cmpi .eq c2_i32_253 c0_i32_254
  let c1_i32_255 : BitVec 32 := 1#32
  let v361 : BitVec 32 := Scalar.select v360 c1_i32_255 c2_i32_253
  let v362 : BitVec 32 := Scalar.remsi arg12 v361
  let c0_i32_257 : BitVec 32 := 0#32
  let v364 : BitVec 1 := Scalar.cmpi .slt v362 c0_i32_257
  let c0_i32_258 : BitVec 32 := 0#32
  let v365 : BitVec 1 := Scalar.cmpi .slt v361 c0_i32_258
  let v366 : BitVec 1 := Scalar.xori v364 v365
  let c0_i32_256 : BitVec 32 := 0#32
  let v363 : BitVec 1 := Scalar.cmpi .ne v362 c0_i32_256
  let v367 : BitVec 1 := Scalar.andi v366 v363
  let v368 : BitVec 32 := Scalar.addi v362 v361
  let v369 : BitVec 32 := Scalar.select v367 v368 v362
  let v370 : BitVec 32 := Scalar.addi v359 v369
  let c0_i32_259 : BitVec 32 := 0#32
  let v371 : BitVec 32 := Scalar.maxsi v370 c0_i32_259
  let c3_i32 : BitVec 32 := 3#32
  let v372 : BitVec 32 := Scalar.minsi v371 c3_i32
  let c1_i32_261 : BitVec 32 := 1#32
  let v375 : BitVec 32 := Scalar.subi v372 c1_i32_261
  let c0_i32_262 : BitVec 32 := 0#32
  let v376 : BitVec 1 := Scalar.cmpi .ne v375 c0_i32_262
  v376

def k0_cond4 (i : grid0.Coords) (k0_t1 : Fin (k0_t1_loop i).trips) : BitVec 1 :=
  let c2_i32 : BitVec 32 := 2#32
  let c0_i32_199 : BitVec 32 := 0#32
  let c1_i32_201 : BitVec 32 := 1#32
  let arg12 : BitVec 32 := Scf.iv c0_i32_199 c1_i32_201 k0_t1
  let arg2 : BitVec 32 := BitVec.ofNat 32 (i 2).val
  let c1_i32_10 : BitVec 32 := 1#32
  let v18 : BitVec 32 := Scalar.addi arg2 c1_i32_10
  let c1_i32_252 : BitVec 32 := 1#32
  let v356 : BitVec 32 := Scalar.subi v18 c1_i32_252
  let v357 : BitVec 1 := Scalar.cmpi .eq arg12 v356
  let v358 : BitVec 32 := Scalar.extui v357
  let v359 : BitVec 32 := Scalar.muli c2_i32 v358
  let c2_i32_253 : BitVec 32 := 2#32
  let c0_i32_254 : BitVec 32 := 0#32
  let v360 : BitVec 1 := Scalar.cmpi .eq c2_i32_253 c0_i32_254
  let c1_i32_255 : BitVec 32 := 1#32
  let v361 : BitVec 32 := Scalar.select v360 c1_i32_255 c2_i32_253
  let v362 : BitVec 32 := Scalar.remsi arg12 v361
  let c0_i32_257 : BitVec 32 := 0#32
  let v364 : BitVec 1 := Scalar.cmpi .slt v362 c0_i32_257
  let c0_i32_258 : BitVec 32 := 0#32
  let v365 : BitVec 1 := Scalar.cmpi .slt v361 c0_i32_258
  let v366 : BitVec 1 := Scalar.xori v364 v365
  let c0_i32_256 : BitVec 32 := 0#32
  let v363 : BitVec 1 := Scalar.cmpi .ne v362 c0_i32_256
  let v367 : BitVec 1 := Scalar.andi v366 v363
  let v368 : BitVec 32 := Scalar.addi v362 v361
  let v369 : BitVec 32 := Scalar.select v367 v368 v362
  let v370 : BitVec 32 := Scalar.addi v359 v369
  let c0_i32_259 : BitVec 32 := 0#32
  let v371 : BitVec 32 := Scalar.maxsi v370 c0_i32_259
  let c3_i32 : BitVec 32 := 3#32
  let v372 : BitVec 32 := Scalar.minsi v371 c3_i32
  let c1_i32_261 : BitVec 32 := 1#32
  let v375 : BitVec 32 := Scalar.subi v372 c1_i32_261
  let c1_i32_263 : BitVec 32 := 1#32
  let v378 : BitVec 32 := Scalar.subi v375 c1_i32_263
  let c0_i32_264 : BitVec 32 := 0#32
  let v379 : BitVec 1 := Scalar.cmpi .ne v378 c0_i32_264
  v379

def k0_off17 (arg21 : BitVec 32) : Fin 3 → Nat :=
  let v574 : Index := Scalar.indexCast arg21
  let c0_366 : Index := 0#32
  let c0_367 : Index := 0#32
  ![v574.toNat, 0, 0]

def k0_off18 (arg21 : BitVec 32) : Fin 3 → Nat :=
  let v786 : Index := Scalar.indexCast arg21
  let c80_503 : Index := 80#32
  let c0_504 : Index := 0#32
  ![v786.toNat, 80, 0]
def k0_off19 (arg21 : BitVec 32) : Fin 3 → Nat :=
  let v998 : Index := Scalar.indexCast arg21
  let c160_640 : Index := 160#32
  let c0_641 : Index := 0#32
  ![v998.toNat, 160, 0]
def k0_off20 (arg21 : BitVec 32) : Fin 3 → Nat :=
  let v1210 : Index := Scalar.indexCast arg21
  let c240_777 : Index := 240#32
  let c0_778 : Index := 0#32
  ![v1210.toNat, 240, 0]
def k0_off21 (arg21 : BitVec 32) : Fin 3 → Nat :=
  let v1422 : Index := Scalar.indexCast arg21
  let c320_914 : Index := 320#32
  let c0_915 : Index := 0#32
  ![v1422.toNat, 320, 0]
def k0_off22 (arg21 : BitVec 32) : Fin 3 → Nat :=
  let v1634 : Index := Scalar.indexCast arg21
  let c400_1051 : Index := 400#32
  let c0_1052 : Index := 0#32
  ![v1634.toNat, 400, 0]
def k0_off23 (arg21 : BitVec 32) : Fin 3 → Nat :=
  let v1846 : Index := Scalar.indexCast arg21
  let c480_1188 : Index := 480#32
  let c0_1189 : Index := 0#32
  ![v1846.toNat, 480, 0]
def k0_off24 (arg21 : BitVec 32) : Fin 3 → Nat :=
  let v2058 : Index := Scalar.indexCast arg21
  let c560 : Index := 560#32
  let c0_1325 : Index := 0#32
  ![v2058.toNat, 560, 0]
def k0_off25 (arg21 : BitVec 32) : Fin 3 → Nat :=
  let v574 : Index := Scalar.indexCast arg21
  let c0_366 : Index := 0#32
  let c0_367 : Index := 0#32
  ![v574.toNat, 0, 0]
def k0_off26 (arg21 : BitVec 32) : Fin 3 → Nat :=
  let v786 : Index := Scalar.indexCast arg21
  let c80_503 : Index := 80#32
  let c0_504 : Index := 0#32
  ![v786.toNat, 80, 0]
def k0_off27 (arg21 : BitVec 32) : Fin 3 → Nat :=
  let v998 : Index := Scalar.indexCast arg21
  let c160_640 : Index := 160#32
  let c0_641 : Index := 0#32
  ![v998.toNat, 160, 0]
def k0_off28 (arg21 : BitVec 32) : Fin 3 → Nat :=
  let v1210 : Index := Scalar.indexCast arg21
  let c240_777 : Index := 240#32
  let c0_778 : Index := 0#32
  ![v1210.toNat, 240, 0]
def k0_off29 (arg21 : BitVec 32) : Fin 3 → Nat :=
  let v1422 : Index := Scalar.indexCast arg21
  let c320_914 : Index := 320#32
  let c0_915 : Index := 0#32
  ![v1422.toNat, 320, 0]
def k0_off30 (arg21 : BitVec 32) : Fin 3 → Nat :=
  let v1634 : Index := Scalar.indexCast arg21
  let c400_1051 : Index := 400#32
  let c0_1052 : Index := 0#32
  ![v1634.toNat, 400, 0]
def k0_off31 (arg21 : BitVec 32) : Fin 3 → Nat :=
  let v1846 : Index := Scalar.indexCast arg21
  let c480_1188 : Index := 480#32
  let c0_1189 : Index := 0#32
  ![v1846.toNat, 480, 0]
def k0_off32 (arg21 : BitVec 32) : Fin 3 → Nat :=
  let v2058 : Index := Scalar.indexCast arg21
  let c560 : Index := 560#32
  let c0_1325 : Index := 0#32
  ![v2058.toNat, 560, 0]
def k0_off33 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v378 : Index := Scalar.indexCast arg12
  let c0_263 : Index := 0#32
  let c0_264 : Index := 0#32
  ![v378.toNat, 0, 0]
def k0_off34 (arg21 : BitVec 32) : Fin 3 → Nat :=
  let v580 : Index := Scalar.indexCast arg21
  let c0_372 : Index := 0#32
  let c0_373 : Index := 0#32
  ![v580.toNat, 0, 0]
def k0_off35 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v599 : Index := Scalar.indexCast arg12
  let c0_381 : Index := 0#32
  let c128_382 : Index := 128#32
  ![v599.toNat, 0, 128]
def k0_off36 (arg21 : BitVec 32) : Fin 3 → Nat :=
  let v801 : Index := Scalar.indexCast arg21
  let c80_517 : Index := 80#32
  let c0_518 : Index := 0#32
  ![v801.toNat, 80, 0]
def k0_off37 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v820 : Index := Scalar.indexCast arg12
  let c0_526 : Index := 0#32
  let c256_527 : Index := 256#32
  ![v820.toNat, 0, 256]
def k0_off38 (arg21 : BitVec 32) : Fin 3 → Nat :=
  let v1022 : Index := Scalar.indexCast arg21
  let c160_662 : Index := 160#32
  let c0_663 : Index := 0#32
  ![v1022.toNat, 160, 0]
def k0_off39 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1041 : Index := Scalar.indexCast arg12
  let c0_671 : Index := 0#32
  let c384_672 : Index := 384#32
  ![v1041.toNat, 0, 384]
def k0_off40 (arg21 : BitVec 32) : Fin 3 → Nat :=
  let v1243 : Index := Scalar.indexCast arg21
  let c240_807 : Index := 240#32
  let c0_808 : Index := 0#32
  ![v1243.toNat, 240, 0]
def k0_off41 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1262 : Index := Scalar.indexCast arg12
  let c0_816 : Index := 0#32
  let c512_817 : Index := 512#32
  ![v1262.toNat, 0, 512]
def k0_off42 (arg21 : BitVec 32) : Fin 3 → Nat :=
  let v1464 : Index := Scalar.indexCast arg21
  let c320_952 : Index := 320#32
  let c0_953 : Index := 0#32
  ![v1464.toNat, 320, 0]
def k0_off43 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1483 : Index := Scalar.indexCast arg12
  let c0_961 : Index := 0#32
  let c640_962 : Index := 640#32
  ![v1483.toNat, 0, 640]
def k0_off44 (arg21 : BitVec 32) : Fin 3 → Nat :=
  let v1685 : Index := Scalar.indexCast arg21
  let c400_1097 : Index := 400#32
  let c0_1098 : Index := 0#32
  ![v1685.toNat, 400, 0]
def k0_off45 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1704 : Index := Scalar.indexCast arg12
  let c0_1106 : Index := 0#32
  let c768_1107 : Index := 768#32
  ![v1704.toNat, 0, 768]
def k0_off46 (arg21 : BitVec 32) : Fin 3 → Nat :=
  let v1906 : Index := Scalar.indexCast arg21
  let c480_1242 : Index := 480#32
  let c0_1243 : Index := 0#32
  ![v1906.toNat, 480, 0]
def k0_off47 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1925 : Index := Scalar.indexCast arg12
  let c0_1251 : Index := 0#32
  let c896_1252 : Index := 896#32
  ![v1925.toNat, 0, 896]
def k0_off48 (arg21 : BitVec 32) : Fin 3 → Nat :=
  let v2127 : Index := Scalar.indexCast arg21
  let c560 : Index := 560#32
  let c0_1387 : Index := 0#32
  ![v2127.toNat, 560, 0]
def k0_off49 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v375 : Index := Scalar.indexCast arg12
  let c0_261 : Index := 0#32
  let c0_262 : Index := 0#32
  ![v375.toNat, 0, 0]
def k0_off50 (arg21 : BitVec 32) : Fin 3 → Nat :=
  let v577 : Index := Scalar.indexCast arg21
  let c0_370 : Index := 0#32
  let c0_371 : Index := 0#32
  ![v577.toNat, 0, 0]
def k0_off51 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v596 : Index := Scalar.indexCast arg12
  let c0_379 : Index := 0#32
  let c128_380 : Index := 128#32
  ![v596.toNat, 0, 128]
def k0_off52 (arg21 : BitVec 32) : Fin 3 → Nat :=
  let v798 : Index := Scalar.indexCast arg21
  let c80_515 : Index := 80#32
  let c0_516 : Index := 0#32
  ![v798.toNat, 80, 0]
def k0_off53 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v817 : Index := Scalar.indexCast arg12
  let c0_524 : Index := 0#32
  let c256_525 : Index := 256#32
  ![v817.toNat, 0, 256]
def k0_off54 (arg21 : BitVec 32) : Fin 3 → Nat :=
  let v1019 : Index := Scalar.indexCast arg21
  let c160_660 : Index := 160#32
  let c0_661 : Index := 0#32
  ![v1019.toNat, 160, 0]
def k0_off55 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1038 : Index := Scalar.indexCast arg12
  let c0_669 : Index := 0#32
  let c384_670 : Index := 384#32
  ![v1038.toNat, 0, 384]
def k0_off56 (arg21 : BitVec 32) : Fin 3 → Nat :=
  let v1240 : Index := Scalar.indexCast arg21
  let c240_805 : Index := 240#32
  let c0_806 : Index := 0#32
  ![v1240.toNat, 240, 0]
def k0_off57 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1259 : Index := Scalar.indexCast arg12
  let c0_814 : Index := 0#32
  let c512_815 : Index := 512#32
  ![v1259.toNat, 0, 512]
def k0_off58 (arg21 : BitVec 32) : Fin 3 → Nat :=
  let v1461 : Index := Scalar.indexCast arg21
  let c320_950 : Index := 320#32
  let c0_951 : Index := 0#32
  ![v1461.toNat, 320, 0]
def k0_off59 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1480 : Index := Scalar.indexCast arg12
  let c0_959 : Index := 0#32
  let c640_960 : Index := 640#32
  ![v1480.toNat, 0, 640]
def k0_off60 (arg21 : BitVec 32) : Fin 3 → Nat :=
  let v1682 : Index := Scalar.indexCast arg21
  let c400_1095 : Index := 400#32
  let c0_1096 : Index := 0#32
  ![v1682.toNat, 400, 0]
def k0_off61 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1701 : Index := Scalar.indexCast arg12
  let c0_1104 : Index := 0#32
  let c768_1105 : Index := 768#32
  ![v1701.toNat, 0, 768]
def k0_off62 (arg21 : BitVec 32) : Fin 3 → Nat :=
  let v1903 : Index := Scalar.indexCast arg21
  let c480_1240 : Index := 480#32
  let c0_1241 : Index := 0#32
  ![v1903.toNat, 480, 0]
def k0_off63 (i : grid0.Coords) (k0_t1 : Fin (k0_t1_loop i).trips) : Fin 3 → Nat :=
  let c0_i32_199 : BitVec 32 := 0#32
  let c1_i32_201 : BitVec 32 := 1#32
  let arg12 : BitVec 32 := Scf.iv c0_i32_199 c1_i32_201 k0_t1
  let v1922 : Index := Scalar.indexCast arg12
  let c0_1249 : Index := 0#32
  let c896_1250 : Index := 896#32
  ![v1922.toNat, 0, 896]
def k0_off64 (arg21 : BitVec 32) : Fin 3 → Nat :=
  let v2124 : Index := Scalar.indexCast arg21
  let c560 : Index := 560#32
  let c0_1385 : Index := 0#32
  ![v2124.toNat, 560, 0]

def k0_chk1 (i : grid0.Coords) (k0_t1 : Fin (k0_t1_loop i).trips) (arg21 : BitVec 32) : Prop :=
  (∀ (k0_h2 : k0_cond2 i k0_t1 = 1#1), ∀ (k0_h3 : k0_cond3 i k0_t1 = 1#1), ∀ (k0_h4 : k0_cond4 i k0_t1 = 1#1), ∀ a, (k0_off17 arg21) a + S1x80x512.size a ≤ S16x640x512.size a) ∧
  (∀ (k0_h2 : k0_cond2 i k0_t1 = 1#1), ∀ (k0_h3 : k0_cond3 i k0_t1 = 1#1), ∀ (k0_h4 : k0_cond4 i k0_t1 = 1#1), ∀ a, (k0_off18 arg21) a + S1x80x512.size a ≤ S16x640x512.size a) ∧
  (∀ (k0_h2 : k0_cond2 i k0_t1 = 1#1), ∀ (k0_h3 : k0_cond3 i k0_t1 = 1#1), ∀ (k0_h4 : k0_cond4 i k0_t1 = 1#1), ∀ a, (k0_off19 arg21) a + S1x80x512.size a ≤ S16x640x512.size a) ∧
  (∀ (k0_h2 : k0_cond2 i k0_t1 = 1#1), ∀ (k0_h3 : k0_cond3 i k0_t1 = 1#1), ∀ (k0_h4 : k0_cond4 i k0_t1 = 1#1), ∀ a, (k0_off20 arg21) a + S1x80x512.size a ≤ S16x640x512.size a) ∧
  (∀ (k0_h2 : k0_cond2 i k0_t1 = 1#1), ∀ (k0_h3 : k0_cond3 i k0_t1 = 1#1), ∀ (k0_h4 : k0_cond4 i k0_t1 = 1#1), ∀ a, (k0_off21 arg21) a + S1x80x512.size a ≤ S16x640x512.size a) ∧
  (∀ (k0_h2 : k0_cond2 i k0_t1 = 1#1), ∀ (k0_h3 : k0_cond3 i k0_t1 = 1#1), ∀ (k0_h4 : k0_cond4 i k0_t1 = 1#1), ∀ a, (k0_off22 arg21) a + S1x80x512.size a ≤ S16x640x512.size a) ∧
  (∀ (k0_h2 : k0_cond2 i k0_t1 = 1#1), ∀ (k0_h3 : k0_cond3 i k0_t1 = 1#1), ∀ (k0_h4 : k0_cond4 i k0_t1 = 1#1), ∀ a, (k0_off23 arg21) a + S1x80x512.size a ≤ S16x640x512.size a) ∧
  (∀ (k0_h2 : k0_cond2 i k0_t1 = 1#1), ∀ (k0_h3 : k0_cond3 i k0_t1 = 1#1), ∀ (k0_h4 : k0_cond4 i k0_t1 = 1#1), ∀ a, (k0_off24 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off25 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off26 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off27 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off28 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off29 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off30 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off31 arg21) a + S1x80x512.size a ≤ S16x640x512.size a) ∧
  (∀ (k0_h2 : k0_cond2 i k0_t1 = 1#1), ∀ (k0_h3 : k0_cond3 i k0_t1 = 1#1), ∀ (k0_h4 : ¬(k0_cond4 i k0_t1 = 1#1)), ∀ a, (k0_off32 arg21) a + S1x80x512.size a ≤ S16x640x512.size a) ∧
  (∀ (k0_h2 : k0_cond2 i k0_t1 = 1#1), ∀ (k0_h3 : ¬(k0_cond3 i k0_t1 = 1#1)), ∀ a, (k0_off34 arg21) a + S1x80x512.size a ≤ S16x640x512.size a) ∧
  (∀ (k0_h2 : k0_cond2 i k0_t1 = 1#1), ∀ (k0_h3 : ¬(k0_cond3 i k0_t1 = 1#1)), ∀ a, (k0_off36 arg21) a + S1x80x512.size a ≤ S16x640x512.size a) ∧
  (∀ (k0_h2 : k0_cond2 i k0_t1 = 1#1), ∀ (k0_h3 : ¬(k0_cond3 i k0_t1 = 1#1)), ∀ a, (k0_off38 arg21) a + S1x80x512.size a ≤ S16x640x512.size a) ∧
  (∀ (k0_h2 : k0_cond2 i k0_t1 = 1#1), ∀ (k0_h3 : ¬(k0_cond3 i k0_t1 = 1#1)), ∀ a, (k0_off40 arg21) a + S1x80x512.size a ≤ S16x640x512.size a) ∧
  (∀ (k0_h2 : k0_cond2 i k0_t1 = 1#1), ∀ (k0_h3 : ¬(k0_cond3 i k0_t1 = 1#1)), ∀ a, (k0_off42 arg21) a + S1x80x512.size a ≤ S16x640x512.size a) ∧
  (∀ (k0_h2 : k0_cond2 i k0_t1 = 1#1), ∀ (k0_h3 : ¬(k0_cond3 i k0_t1 = 1#1)), ∀ a, (k0_off44 arg21) a + S1x80x512.size a ≤ S16x640x512.size a) ∧
  (∀ (k0_h2 : k0_cond2 i k0_t1 = 1#1), ∀ (k0_h3 : ¬(k0_cond3 i k0_t1 = 1#1)), ∀ a, (k0_off46 arg21) a + S1x80x512.size a ≤ S16x640x512.size a) ∧
  (∀ (k0_h2 : k0_cond2 i k0_t1 = 1#1), ∀ (k0_h3 : ¬(k0_cond3 i k0_t1 = 1#1)), ∀ a, (k0_off48 arg21) a + S1x80x512.size a ≤ S16x640x512.size a) ∧
  (∀ (k0_h2 : ¬(k0_cond2 i k0_t1 = 1#1)), ∀ a, (k0_off50 arg21) a + S1x80x512.size a ≤ S16x640x512.size a) ∧
  (∀ (k0_h2 : ¬(k0_cond2 i k0_t1 = 1#1)), ∀ a, (k0_off52 arg21) a + S1x80x512.size a ≤ S16x640x512.size a) ∧
  (∀ (k0_h2 : ¬(k0_cond2 i k0_t1 = 1#1)), ∀ a, (k0_off54 arg21) a + S1x80x512.size a ≤ S16x640x512.size a) ∧
  (∀ (k0_h2 : ¬(k0_cond2 i k0_t1 = 1#1)), ∀ a, (k0_off56 arg21) a + S1x80x512.size a ≤ S16x640x512.size a) ∧
  (∀ (k0_h2 : ¬(k0_cond2 i k0_t1 = 1#1)), ∀ a, (k0_off58 arg21) a + S1x80x512.size a ≤ S16x640x512.size a) ∧
  (∀ (k0_h2 : ¬(k0_cond2 i k0_t1 = 1#1)), ∀ a, (k0_off60 arg21) a + S1x80x512.size a ≤ S16x640x512.size a) ∧
  (∀ (k0_h2 : ¬(k0_cond2 i k0_t1 = 1#1)), ∀ a, (k0_off62 arg21) a + S1x80x512.size a ≤ S16x640x512.size a) ∧
  (∀ (k0_h2 : ¬(k0_cond2 i k0_t1 = 1#1)), ∀ a, (k0_off64 arg21) a + S1x80x512.size a ≤ S16x640x512.size a)
theorem k0_off17_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off17 arg21) a + S1x80x512.size a ≤ S16x640x512.size a := fun i k0_t1 arg21 k0_hw1 k0_h2 k0_h3 k0_h4 => k0_hw1.1 k0_h2 k0_h3 k0_h4
theorem k0_off18_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off18 arg21) a + S1x80x512.size a ≤ S16x640x512.size a := fun i k0_t1 arg21 k0_hw1 k0_h2 k0_h3 k0_h4 => k0_hw1.2.1 k0_h2 k0_h3 k0_h4
theorem k0_off19_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off19 arg21) a + S1x80x512.size a ≤ S16x640x512.size a := fun i k0_t1 arg21 k0_hw1 k0_h2 k0_h3 k0_h4 => k0_hw1.2.2.1 k0_h2 k0_h3 k0_h4
theorem k0_off20_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off20 arg21) a + S1x80x512.size a ≤ S16x640x512.size a := fun i k0_t1 arg21 k0_hw1 k0_h2 k0_h3 k0_h4 => k0_hw1.2.2.2.1 k0_h2 k0_h3 k0_h4
theorem k0_off21_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off21 arg21) a + S1x80x512.size a ≤ S16x640x512.size a := fun i k0_t1 arg21 k0_hw1 k0_h2 k0_h3 k0_h4 => k0_hw1.2.2.2.2.1 k0_h2 k0_h3 k0_h4
theorem k0_off22_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off22 arg21) a + S1x80x512.size a ≤ S16x640x512.size a := fun i k0_t1 arg21 k0_hw1 k0_h2 k0_h3 k0_h4 => k0_hw1.2.2.2.2.2.1 k0_h2 k0_h3 k0_h4
theorem k0_off23_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off23 arg21) a + S1x80x512.size a ≤ S16x640x512.size a := fun i k0_t1 arg21 k0_hw1 k0_h2 k0_h3 k0_h4 => k0_hw1.2.2.2.2.2.2.1 k0_h2 k0_h3 k0_h4
theorem k0_off24_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : k0_cond4 i k0_t1 = 1#1), ∀ a, (k0_off24 arg21) a + S1x80x512.size a ≤ S16x640x512.size a := fun i k0_t1 arg21 k0_hw1 k0_h2 k0_h3 k0_h4 => k0_hw1.2.2.2.2.2.2.2.1 k0_h2 k0_h3 k0_h4
theorem k0_off25_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off25 arg21) a + S1x80x512.size a ≤ S16x640x512.size a := fun i k0_t1 arg21 k0_hw1 k0_h2 k0_h3 k0_h4 => k0_hw1.2.2.2.2.2.2.2.2.1 k0_h2 k0_h3 k0_h4
theorem k0_off26_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off26 arg21) a + S1x80x512.size a ≤ S16x640x512.size a := fun i k0_t1 arg21 k0_hw1 k0_h2 k0_h3 k0_h4 => k0_hw1.2.2.2.2.2.2.2.2.2.1 k0_h2 k0_h3 k0_h4
theorem k0_off27_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off27 arg21) a + S1x80x512.size a ≤ S16x640x512.size a := fun i k0_t1 arg21 k0_hw1 k0_h2 k0_h3 k0_h4 => k0_hw1.2.2.2.2.2.2.2.2.2.2.1 k0_h2 k0_h3 k0_h4
theorem k0_off28_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off28 arg21) a + S1x80x512.size a ≤ S16x640x512.size a := fun i k0_t1 arg21 k0_hw1 k0_h2 k0_h3 k0_h4 => k0_hw1.2.2.2.2.2.2.2.2.2.2.2.1 k0_h2 k0_h3 k0_h4
theorem k0_off29_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off29 arg21) a + S1x80x512.size a ≤ S16x640x512.size a := fun i k0_t1 arg21 k0_hw1 k0_h2 k0_h3 k0_h4 => k0_hw1.2.2.2.2.2.2.2.2.2.2.2.2.1 k0_h2 k0_h3 k0_h4
theorem k0_off30_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off30 arg21) a + S1x80x512.size a ≤ S16x640x512.size a := fun i k0_t1 arg21 k0_hw1 k0_h2 k0_h3 k0_h4 => k0_hw1.2.2.2.2.2.2.2.2.2.2.2.2.2.1 k0_h2 k0_h3 k0_h4
theorem k0_off31_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off31 arg21) a + S1x80x512.size a ≤ S16x640x512.size a := fun i k0_t1 arg21 k0_hw1 k0_h2 k0_h3 k0_h4 => k0_hw1.2.2.2.2.2.2.2.2.2.2.2.2.2.2.1 k0_h2 k0_h3 k0_h4
theorem k0_off32_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : k0_cond3 i k0_t1 = 1#1), ∀ (k0_h4 : ¬(k0_cond4 i k0_t1 = 1#1)), ∀ a, (k0_off32 arg21) a + S1x80x512.size a ≤ S16x640x512.size a := fun i k0_t1 arg21 k0_hw1 k0_h2 k0_h3 k0_h4 => k0_hw1.2.2.2.2.2.2.2.2.2.2.2.2.2.2.2.1 k0_h2 k0_h3 k0_h4
theorem k0_off34_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off34 arg21) a + S1x80x512.size a ≤ S16x640x512.size a := fun i k0_t1 arg21 k0_hw1 k0_h2 k0_h3 => k0_hw1.2.2.2.2.2.2.2.2.2.2.2.2.2.2.2.2.1 k0_h2 k0_h3
theorem k0_off36_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off36 arg21) a + S1x80x512.size a ≤ S16x640x512.size a := fun i k0_t1 arg21 k0_hw1 k0_h2 k0_h3 => k0_hw1.2.2.2.2.2.2.2.2.2.2.2.2.2.2.2.2.2.1 k0_h2 k0_h3
theorem k0_off38_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off38 arg21) a + S1x80x512.size a ≤ S16x640x512.size a := fun i k0_t1 arg21 k0_hw1 k0_h2 k0_h3 => k0_hw1.2.2.2.2.2.2.2.2.2.2.2.2.2.2.2.2.2.2.1 k0_h2 k0_h3
theorem k0_off40_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off40 arg21) a + S1x80x512.size a ≤ S16x640x512.size a := fun i k0_t1 arg21 k0_hw1 k0_h2 k0_h3 => k0_hw1.2.2.2.2.2.2.2.2.2.2.2.2.2.2.2.2.2.2.2.1 k0_h2 k0_h3
theorem k0_off42_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off42 arg21) a + S1x80x512.size a ≤ S16x640x512.size a := fun i k0_t1 arg21 k0_hw1 k0_h2 k0_h3 => k0_hw1.2.2.2.2.2.2.2.2.2.2.2.2.2.2.2.2.2.2.2.2.1 k0_h2 k0_h3
theorem k0_off44_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off44 arg21) a + S1x80x512.size a ≤ S16x640x512.size a := fun i k0_t1 arg21 k0_hw1 k0_h2 k0_h3 => k0_hw1.2.2.2.2.2.2.2.2.2.2.2.2.2.2.2.2.2.2.2.2.2.1 k0_h2 k0_h3
theorem k0_off46_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off46 arg21) a + S1x80x512.size a ≤ S16x640x512.size a := fun i k0_t1 arg21 k0_hw1 k0_h2 k0_h3 => k0_hw1.2.2.2.2.2.2.2.2.2.2.2.2.2.2.2.2.2.2.2.2.2.2.1 k0_h2 k0_h3
theorem k0_off48_inb : ∀ (i : grid0.Coords) (k0_t1 : Fin (k0_t1_loop i).trips) (arg21 : BitVec 32) (k0_hw1 : k0_chk1 i k0_t1 arg21), ∀ (k0_h2 : k0_cond2 i k0_t1 = 1#1), ∀ (k0_h3 : ¬(k0_cond3 i k0_t1 = 1#1)), ∀ a, (k0_off48 arg21) a + S1x80x512.size a ≤ S16x640x512.size a := fun i k0_t1 arg21 k0_hw1 k0_h2 k0_h3 => k0_hw1.2.2.2.2.2.2.2.2.2.2.2.2.2.2.2.2.2.2.2.2.2.2.2.1 k0_h2 k0_h3
theorem k0_off50_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off50 arg21) a + S1x80x512.size a ≤ S16x640x512.size a := fun i k0_t1 arg21 k0_hw1 k0_h2 => k0_hw1.2.2.2.2.2.2.2.2.2.2.2.2.2.2.2.2.2.2.2.2.2.2.2.2.1 k0_h2
theorem k0_off52_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off52 arg21) a + S1x80x512.size a ≤ S16x640x512.size a := fun i k0_t1 arg21 k0_hw1 k0_h2 => k0_hw1.2.2.2.2.2.2.2.2.2.2.2.2.2.2.2.2.2.2.2.2.2.2.2.2.2.1 k0_h2
theorem k0_off54_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off54 arg21) a + S1x80x512.size a ≤ S16x640x512.size a := fun i k0_t1 arg21 k0_hw1 k0_h2 => k0_hw1.2.2.2.2.2.2.2.2.2.2.2.2.2.2.2.2.2.2.2.2.2.2.2.2.2.2.1 k0_h2
theorem k0_off56_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off56 arg21) a + S1x80x512.size a ≤ S16x640x512.size a := fun i k0_t1 arg21 k0_hw1 k0_h2 => k0_hw1.2.2.2.2.2.2.2.2.2.2.2.2.2.2.2.2.2.2.2.2.2.2.2.2.2.2.2.1 k0_h2
theorem k0_off58_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off58 arg21) a + S1x80x512.size a ≤ S16x640x512.size a := fun i k0_t1 arg21 k0_hw1 k0_h2 => k0_hw1.2.2.2.2.2.2.2.2.2.2.2.2.2.2.2.2.2.2.2.2.2.2.2.2.2.2.2.2.1 k0_h2
theorem k0_off60_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off60 arg21) a + S1x80x512.size a ≤ S16x640x512.size a := fun i k0_t1 arg21 k0_hw1 k0_h2 => k0_hw1.2.2.2.2.2.2.2.2.2.2.2.2.2.2.2.2.2.2.2.2.2.2.2.2.2.2.2.2.2.1 k0_h2
theorem k0_off62_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off62 arg21) a + S1x80x512.size a ≤ S16x640x512.size a := fun i k0_t1 arg21 k0_hw1 k0_h2 => k0_hw1.2.2.2.2.2.2.2.2.2.2.2.2.2.2.2.2.2.2.2.2.2.2.2.2.2.2.2.2.2.2.1 k0_h2
theorem k0_off64_inb : ∀ (i : grid0.Coords) (k0_t1 : Fin (k0_t1_loop i).trips) (arg21 : BitVec 32) (k0_hw1 : k0_chk1 i k0_t1 arg21), ∀ (k0_h2 : ¬(k0_cond2 i k0_t1 = 1#1)), ∀ a, (k0_off64 arg21) a + S1x80x512.size a ≤ S16x640x512.size a := fun i k0_t1 arg21 k0_hw1 k0_h2 => k0_hw1.2.2.2.2.2.2.2.2.2.2.2.2.2.2.2.2.2.2.2.2.2.2.2.2.2.2.2.2.2.2.2 k0_h2

@[reducible] def k0_t2_loop (i : grid0.Coords) : Scf.Loop 32 :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let v299 : BitVec 32 := Scalar.addi c0_i32_199 v298
  let c1_i32_202 : BitVec 32 := 1#32
  ⟨v302, v299, c1_i32_202⟩
def k0_cond5 (i : grid0.Coords) (k0_t2 : Fin (k0_t2_loop i).trips) : BitVec 1 :=
  let c2_i32 : BitVec 32 := 2#32
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let c1_i32_252 : BitVec 32 := 1#32
  let v356 : BitVec 32 := Scalar.subi v18 c1_i32_252
  let v357 : BitVec 1 := Scalar.cmpi .eq arg12 v356
  let v358 : BitVec 32 := Scalar.extui v357
  let v359 : BitVec 32 := Scalar.muli c2_i32 v358
  let c2_i32_253 : BitVec 32 := 2#32
  let c0_i32_254 : BitVec 32 := 0#32
  let v360 : BitVec 1 := Scalar.cmpi .eq c2_i32_253 c0_i32_254
  let c1_i32_255 : BitVec 32 := 1#32
  let v361 : BitVec 32 := Scalar.select v360 c1_i32_255 c2_i32_253
  let v362 : BitVec 32 := Scalar.remsi arg12 v361
  let c0_i32_257 : BitVec 32 := 0#32
  let v364 : BitVec 1 := Scalar.cmpi .slt v362 c0_i32_257
  let c0_i32_258 : BitVec 32 := 0#32
  let v365 : BitVec 1 := Scalar.cmpi .slt v361 c0_i32_258
  let v366 : BitVec 1 := Scalar.xori v364 v365
  let c0_i32_256 : BitVec 32 := 0#32
  let v363 : BitVec 1 := Scalar.cmpi .ne v362 c0_i32_256
  let v367 : BitVec 1 := Scalar.andi v366 v363
  let v368 : BitVec 32 := Scalar.addi v362 v361
  let v369 : BitVec 32 := Scalar.select v367 v368 v362
  let v370 : BitVec 32 := Scalar.addi v359 v369
  let c0_i32_259 : BitVec 32 := 0#32
  let v371 : BitVec 32 := Scalar.maxsi v370 c0_i32_259
  let c3_i32 : BitVec 32 := 3#32
  let v372 : BitVec 32 := Scalar.minsi v371 c3_i32
  let c0_i32_260 : BitVec 32 := 0#32
  let v373 : BitVec 1 := Scalar.cmpi .ne v372 c0_i32_260
  v373

def k0_cond6 (i : grid0.Coords) (k0_t2 : Fin (k0_t2_loop i).trips) : BitVec 1 :=
  let c2_i32 : BitVec 32 := 2#32
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let c1_i32_252 : BitVec 32 := 1#32
  let v356 : BitVec 32 := Scalar.subi v18 c1_i32_252
  let v357 : BitVec 1 := Scalar.cmpi .eq arg12 v356
  let v358 : BitVec 32 := Scalar.extui v357
  let v359 : BitVec 32 := Scalar.muli c2_i32 v358
  let c2_i32_253 : BitVec 32 := 2#32
  let c0_i32_254 : BitVec 32 := 0#32
  let v360 : BitVec 1 := Scalar.cmpi .eq c2_i32_253 c0_i32_254
  let c1_i32_255 : BitVec 32 := 1#32
  let v361 : BitVec 32 := Scalar.select v360 c1_i32_255 c2_i32_253
  let v362 : BitVec 32 := Scalar.remsi arg12 v361
  let c0_i32_257 : BitVec 32 := 0#32
  let v364 : BitVec 1 := Scalar.cmpi .slt v362 c0_i32_257
  let c0_i32_258 : BitVec 32 := 0#32
  let v365 : BitVec 1 := Scalar.cmpi .slt v361 c0_i32_258
  let v366 : BitVec 1 := Scalar.xori v364 v365
  let c0_i32_256 : BitVec 32 := 0#32
  let v363 : BitVec 1 := Scalar.cmpi .ne v362 c0_i32_256
  let v367 : BitVec 1 := Scalar.andi v366 v363
  let v368 : BitVec 32 := Scalar.addi v362 v361
  let v369 : BitVec 32 := Scalar.select v367 v368 v362
  let v370 : BitVec 32 := Scalar.addi v359 v369
  let c0_i32_259 : BitVec 32 := 0#32
  let v371 : BitVec 32 := Scalar.maxsi v370 c0_i32_259
  let c3_i32 : BitVec 32 := 3#32
  let v372 : BitVec 32 := Scalar.minsi v371 c3_i32
  let c1_i32_261 : BitVec 32 := 1#32
  let v375 : BitVec 32 := Scalar.subi v372 c1_i32_261
  let c0_i32_262 : BitVec 32 := 0#32
  let v376 : BitVec 1 := Scalar.cmpi .ne v375 c0_i32_262
  v376

def k0_cond7 (i : grid0.Coords) (k0_t2 : Fin (k0_t2_loop i).trips) : BitVec 1 :=
  let c2_i32 : BitVec 32 := 2#32
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let c1_i32_252 : BitVec 32 := 1#32
  let v356 : BitVec 32 := Scalar.subi v18 c1_i32_252
  let v357 : BitVec 1 := Scalar.cmpi .eq arg12 v356
  let v358 : BitVec 32 := Scalar.extui v357
  let v359 : BitVec 32 := Scalar.muli c2_i32 v358
  let c2_i32_253 : BitVec 32 := 2#32
  let c0_i32_254 : BitVec 32 := 0#32
  let v360 : BitVec 1 := Scalar.cmpi .eq c2_i32_253 c0_i32_254
  let c1_i32_255 : BitVec 32 := 1#32
  let v361 : BitVec 32 := Scalar.select v360 c1_i32_255 c2_i32_253
  let v362 : BitVec 32 := Scalar.remsi arg12 v361
  let c0_i32_257 : BitVec 32 := 0#32
  let v364 : BitVec 1 := Scalar.cmpi .slt v362 c0_i32_257
  let c0_i32_258 : BitVec 32 := 0#32
  let v365 : BitVec 1 := Scalar.cmpi .slt v361 c0_i32_258
  let v366 : BitVec 1 := Scalar.xori v364 v365
  let c0_i32_256 : BitVec 32 := 0#32
  let v363 : BitVec 1 := Scalar.cmpi .ne v362 c0_i32_256
  let v367 : BitVec 1 := Scalar.andi v366 v363
  let v368 : BitVec 32 := Scalar.addi v362 v361
  let v369 : BitVec 32 := Scalar.select v367 v368 v362
  let v370 : BitVec 32 := Scalar.addi v359 v369
  let c0_i32_259 : BitVec 32 := 0#32
  let v371 : BitVec 32 := Scalar.maxsi v370 c0_i32_259
  let c3_i32 : BitVec 32 := 3#32
  let v372 : BitVec 32 := Scalar.minsi v371 c3_i32
  let c1_i32_261 : BitVec 32 := 1#32
  let v375 : BitVec 32 := Scalar.subi v372 c1_i32_261
  let c1_i32_263 : BitVec 32 := 1#32
  let v378 : BitVec 32 := Scalar.subi v375 c1_i32_263
  let c0_i32_264 : BitVec 32 := 0#32
  let v379 : BitVec 1 := Scalar.cmpi .ne v378 c0_i32_264
  v379

def k0_off65 (arg21 : BitVec 32) : Fin 3 → Nat :=
  let v574 : Index := Scalar.indexCast arg21
  let c0_366 : Index := 0#32
  let c0_367 : Index := 0#32
  ![v574.toNat, 0, 0]

def k0_off66 (arg21 : BitVec 32) : Fin 3 → Nat :=
  let v786 : Index := Scalar.indexCast arg21
  let c80_503 : Index := 80#32
  let c0_504 : Index := 0#32
  ![v786.toNat, 80, 0]
def k0_off67 (arg21 : BitVec 32) : Fin 3 → Nat :=
  let v998 : Index := Scalar.indexCast arg21
  let c160_640 : Index := 160#32
  let c0_641 : Index := 0#32
  ![v998.toNat, 160, 0]
def k0_off68 (arg21 : BitVec 32) : Fin 3 → Nat :=
  let v1210 : Index := Scalar.indexCast arg21
  let c240_777 : Index := 240#32
  let c0_778 : Index := 0#32
  ![v1210.toNat, 240, 0]
def k0_off69 (arg21 : BitVec 32) : Fin 3 → Nat :=
  let v1422 : Index := Scalar.indexCast arg21
  let c320_914 : Index := 320#32
  let c0_915 : Index := 0#32
  ![v1422.toNat, 320, 0]
def k0_off70 (arg21 : BitVec 32) : Fin 3 → Nat :=
  let v1634 : Index := Scalar.indexCast arg21
  let c400_1051 : Index := 400#32
  let c0_1052 : Index := 0#32
  ![v1634.toNat, 400, 0]
def k0_off71 (arg21 : BitVec 32) : Fin 3 → Nat :=
  let v1846 : Index := Scalar.indexCast arg21
  let c480_1188 : Index := 480#32
  let c0_1189 : Index := 0#32
  ![v1846.toNat, 480, 0]
def k0_off72 (arg21 : BitVec 32) : Fin 3 → Nat :=
  let v2058 : Index := Scalar.indexCast arg21
  let c560 : Index := 560#32
  let c0_1325 : Index := 0#32
  ![v2058.toNat, 560, 0]
def k0_off73 (arg21 : BitVec 32) : Fin 3 → Nat :=
  let v574 : Index := Scalar.indexCast arg21
  let c0_366 : Index := 0#32
  let c0_367 : Index := 0#32
  ![v574.toNat, 0, 0]
def k0_off74 (arg21 : BitVec 32) : Fin 3 → Nat :=
  let v786 : Index := Scalar.indexCast arg21
  let c80_503 : Index := 80#32
  let c0_504 : Index := 0#32
  ![v786.toNat, 80, 0]
def k0_off75 (arg21 : BitVec 32) : Fin 3 → Nat :=
  let v998 : Index := Scalar.indexCast arg21
  let c160_640 : Index := 160#32
  let c0_641 : Index := 0#32
  ![v998.toNat, 160, 0]
def k0_off76 (arg21 : BitVec 32) : Fin 3 → Nat :=
  let v1210 : Index := Scalar.indexCast arg21
  let c240_777 : Index := 240#32
  let c0_778 : Index := 0#32
  ![v1210.toNat, 240, 0]
def k0_off77 (arg21 : BitVec 32) : Fin 3 → Nat :=
  let v1422 : Index := Scalar.indexCast arg21
  let c320_914 : Index := 320#32
  let c0_915 : Index := 0#32
  ![v1422.toNat, 320, 0]
def k0_off78 (arg21 : BitVec 32) : Fin 3 → Nat :=
  let v1634 : Index := Scalar.indexCast arg21
  let c400_1051 : Index := 400#32
  let c0_1052 : Index := 0#32
  ![v1634.toNat, 400, 0]
def k0_off79 (arg21 : BitVec 32) : Fin 3 → Nat :=
  let v1846 : Index := Scalar.indexCast arg21
  let c480_1188 : Index := 480#32
  let c0_1189 : Index := 0#32
  ![v1846.toNat, 480, 0]
def k0_off80 (arg21 : BitVec 32) : Fin 3 → Nat :=
  let v2058 : Index := Scalar.indexCast arg21
  let c560 : Index := 560#32
  let c0_1325 : Index := 0#32
  ![v2058.toNat, 560, 0]
def k0_off81 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v378 : Index := Scalar.indexCast arg12
  let c0_263 : Index := 0#32
  let c0_264 : Index := 0#32
  ![v378.toNat, 0, 0]
def k0_off82 (arg21 : BitVec 32) : Fin 3 → Nat :=
  let v580 : Index := Scalar.indexCast arg21
  let c0_372 : Index := 0#32
  let c0_373 : Index := 0#32
  ![v580.toNat, 0, 0]
def k0_off83 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v599 : Index := Scalar.indexCast arg12
  let c0_381 : Index := 0#32
  let c128_382 : Index := 128#32
  ![v599.toNat, 0, 128]
def k0_off84 (arg21 : BitVec 32) : Fin 3 → Nat :=
  let v801 : Index := Scalar.indexCast arg21
  let c80_517 : Index := 80#32
  let c0_518 : Index := 0#32
  ![v801.toNat, 80, 0]
def k0_off85 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v820 : Index := Scalar.indexCast arg12
  let c0_526 : Index := 0#32
  let c256_527 : Index := 256#32
  ![v820.toNat, 0, 256]
def k0_off86 (arg21 : BitVec 32) : Fin 3 → Nat :=
  let v1022 : Index := Scalar.indexCast arg21
  let c160_662 : Index := 160#32
  let c0_663 : Index := 0#32
  ![v1022.toNat, 160, 0]
def k0_off87 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1041 : Index := Scalar.indexCast arg12
  let c0_671 : Index := 0#32
  let c384_672 : Index := 384#32
  ![v1041.toNat, 0, 384]
def k0_off88 (arg21 : BitVec 32) : Fin 3 → Nat :=
  let v1243 : Index := Scalar.indexCast arg21
  let c240_807 : Index := 240#32
  let c0_808 : Index := 0#32
  ![v1243.toNat, 240, 0]
def k0_off89 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1262 : Index := Scalar.indexCast arg12
  let c0_816 : Index := 0#32
  let c512_817 : Index := 512#32
  ![v1262.toNat, 0, 512]
def k0_off90 (arg21 : BitVec 32) : Fin 3 → Nat :=
  let v1464 : Index := Scalar.indexCast arg21
  let c320_952 : Index := 320#32
  let c0_953 : Index := 0#32
  ![v1464.toNat, 320, 0]
def k0_off91 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1483 : Index := Scalar.indexCast arg12
  let c0_961 : Index := 0#32
  let c640_962 : Index := 640#32
  ![v1483.toNat, 0, 640]
def k0_off92 (arg21 : BitVec 32) : Fin 3 → Nat :=
  let v1685 : Index := Scalar.indexCast arg21
  let c400_1097 : Index := 400#32
  let c0_1098 : Index := 0#32
  ![v1685.toNat, 400, 0]
def k0_off93 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1704 : Index := Scalar.indexCast arg12
  let c0_1106 : Index := 0#32
  let c768_1107 : Index := 768#32
  ![v1704.toNat, 0, 768]
def k0_off94 (arg21 : BitVec 32) : Fin 3 → Nat :=
  let v1906 : Index := Scalar.indexCast arg21
  let c480_1242 : Index := 480#32
  let c0_1243 : Index := 0#32
  ![v1906.toNat, 480, 0]
def k0_off95 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1925 : Index := Scalar.indexCast arg12
  let c0_1251 : Index := 0#32
  let c896_1252 : Index := 896#32
  ![v1925.toNat, 0, 896]
def k0_off96 (arg21 : BitVec 32) : Fin 3 → Nat :=
  let v2127 : Index := Scalar.indexCast arg21
  let c560 : Index := 560#32
  let c0_1387 : Index := 0#32
  ![v2127.toNat, 560, 0]
def k0_off97 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v375 : Index := Scalar.indexCast arg12
  let c0_261 : Index := 0#32
  let c0_262 : Index := 0#32
  ![v375.toNat, 0, 0]
def k0_off98 (arg21 : BitVec 32) : Fin 3 → Nat :=
  let v577 : Index := Scalar.indexCast arg21
  let c0_370 : Index := 0#32
  let c0_371 : Index := 0#32
  ![v577.toNat, 0, 0]
def k0_off99 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v596 : Index := Scalar.indexCast arg12
  let c0_379 : Index := 0#32
  let c128_380 : Index := 128#32
  ![v596.toNat, 0, 128]
def k0_off100 (arg21 : BitVec 32) : Fin 3 → Nat :=
  let v798 : Index := Scalar.indexCast arg21
  let c80_515 : Index := 80#32
  let c0_516 : Index := 0#32
  ![v798.toNat, 80, 0]
def k0_off101 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v817 : Index := Scalar.indexCast arg12
  let c0_524 : Index := 0#32
  let c256_525 : Index := 256#32
  ![v817.toNat, 0, 256]
def k0_off102 (arg21 : BitVec 32) : Fin 3 → Nat :=
  let v1019 : Index := Scalar.indexCast arg21
  let c160_660 : Index := 160#32
  let c0_661 : Index := 0#32
  ![v1019.toNat, 160, 0]
def k0_off103 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1038 : Index := Scalar.indexCast arg12
  let c0_669 : Index := 0#32
  let c384_670 : Index := 384#32
  ![v1038.toNat, 0, 384]
def k0_off104 (arg21 : BitVec 32) : Fin 3 → Nat :=
  let v1240 : Index := Scalar.indexCast arg21
  let c240_805 : Index := 240#32
  let c0_806 : Index := 0#32
  ![v1240.toNat, 240, 0]
def k0_off105 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1259 : Index := Scalar.indexCast arg12
  let c0_814 : Index := 0#32
  let c512_815 : Index := 512#32
  ![v1259.toNat, 0, 512]
def k0_off106 (arg21 : BitVec 32) : Fin 3 → Nat :=
  let v1461 : Index := Scalar.indexCast arg21
  let c320_950 : Index := 320#32
  let c0_951 : Index := 0#32
  ![v1461.toNat, 320, 0]
def k0_off107 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1480 : Index := Scalar.indexCast arg12
  let c0_959 : Index := 0#32
  let c640_960 : Index := 640#32
  ![v1480.toNat, 0, 640]
def k0_off108 (arg21 : BitVec 32) : Fin 3 → Nat :=
  let v1682 : Index := Scalar.indexCast arg21
  let c400_1095 : Index := 400#32
  let c0_1096 : Index := 0#32
  ![v1682.toNat, 400, 0]
def k0_off109 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1701 : Index := Scalar.indexCast arg12
  let c0_1104 : Index := 0#32
  let c768_1105 : Index := 768#32
  ![v1701.toNat, 0, 768]
def k0_off110 (arg21 : BitVec 32) : Fin 3 → Nat :=
  let v1903 : Index := Scalar.indexCast arg21
  let c480_1240 : Index := 480#32
  let c0_1241 : Index := 0#32
  ![v1903.toNat, 480, 0]
def k0_off111 (i : grid0.Coords) (k0_t2 : Fin (k0_t2_loop i).trips) : Fin 3 → Nat :=
  let c0_i32_199 : BitVec 32 := 0#32
  let arg2 : BitVec 32 := BitVec.ofNat 32 (i 2).val
  let c1_i32_10 : BitVec 32 := 1#32
  let v18 : BitVec 32 := Scalar.addi arg2 c1_i32_10
  let v298 : BitVec 32 := Scalar.subi v18 c0_i32_199
  let c1_i32_200 : BitVec 32 := 1#32
  let v300 : BitVec 32 := Scalar.divsi v298 c1_i32_200
  let v301 : BitVec 32 := Scalar.muli v300 c1_i32_200
  let v302 : BitVec 32 := Scalar.addi c0_i32_199 v301
  let c1_i32_202 : BitVec 32 := 1#32
  let arg12 : BitVec 32 := Scf.iv v302 c1_i32_202 k0_t2
  let v1922 : Index := Scalar.indexCast arg12
  let c0_1249 : Index := 0#32
  let c896_1250 : Index := 896#32
  ![v1922.toNat, 0, 896]
def k0_off112 (arg21 : BitVec 32) : Fin 3 → Nat :=
  let v2124 : Index := Scalar.indexCast arg21
  let c560 : Index := 560#32
  let c0_1385 : Index := 0#32
  ![v2124.toNat, 560, 0]

def k0_chk2 (i : grid0.Coords) (k0_t2 : Fin (k0_t2_loop i).trips) (arg21 : BitVec 32) : Prop :=
  (∀ (k0_h5 : k0_cond5 i k0_t2 = 1#1), ∀ (k0_h6 : k0_cond6 i k0_t2 = 1#1), ∀ (k0_h7 : k0_cond7 i k0_t2 = 1#1), ∀ a, (k0_off65 arg21) a + S1x80x512.size a ≤ S16x640x512.size a) ∧
  (∀ (k0_h5 : k0_cond5 i k0_t2 = 1#1), ∀ (k0_h6 : k0_cond6 i k0_t2 = 1#1), ∀ (k0_h7 : k0_cond7 i k0_t2 = 1#1), ∀ a, (k0_off66 arg21) a + S1x80x512.size a ≤ S16x640x512.size a) ∧
  (∀ (k0_h5 : k0_cond5 i k0_t2 = 1#1), ∀ (k0_h6 : k0_cond6 i k0_t2 = 1#1), ∀ (k0_h7 : k0_cond7 i k0_t2 = 1#1), ∀ a, (k0_off67 arg21) a + S1x80x512.size a ≤ S16x640x512.size a) ∧
  (∀ (k0_h5 : k0_cond5 i k0_t2 = 1#1), ∀ (k0_h6 : k0_cond6 i k0_t2 = 1#1), ∀ (k0_h7 : k0_cond7 i k0_t2 = 1#1), ∀ a, (k0_off68 arg21) a + S1x80x512.size a ≤ S16x640x512.size a) ∧
  (∀ (k0_h5 : k0_cond5 i k0_t2 = 1#1), ∀ (k0_h6 : k0_cond6 i k0_t2 = 1#1), ∀ (k0_h7 : k0_cond7 i k0_t2 = 1#1), ∀ a, (k0_off69 arg21) a + S1x80x512.size a ≤ S16x640x512.size a) ∧
  (∀ (k0_h5 : k0_cond5 i k0_t2 = 1#1), ∀ (k0_h6 : k0_cond6 i k0_t2 = 1#1), ∀ (k0_h7 : k0_cond7 i k0_t2 = 1#1), ∀ a, (k0_off70 arg21) a + S1x80x512.size a ≤ S16x640x512.size a) ∧
  (∀ (k0_h5 : k0_cond5 i k0_t2 = 1#1), ∀ (k0_h6 : k0_cond6 i k0_t2 = 1#1), ∀ (k0_h7 : k0_cond7 i k0_t2 = 1#1), ∀ a, (k0_off71 arg21) a + S1x80x512.size a ≤ S16x640x512.size a) ∧
  (∀ (k0_h5 : k0_cond5 i k0_t2 = 1#1), ∀ (k0_h6 : k0_cond6 i k0_t2 = 1#1), ∀ (k0_h7 : k0_cond7 i k0_t2 = 1#1), ∀ a, (k0_off72 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off73 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off74 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off75 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off76 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off77 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off78 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off79 arg21) a + S1x80x512.size a ≤ S16x640x512.size a) ∧
  (∀ (k0_h5 : k0_cond5 i k0_t2 = 1#1), ∀ (k0_h6 : k0_cond6 i k0_t2 = 1#1), ∀ (k0_h7 : ¬(k0_cond7 i k0_t2 = 1#1)), ∀ a, (k0_off80 arg21) a + S1x80x512.size a ≤ S16x640x512.size a) ∧
  (∀ (k0_h5 : k0_cond5 i k0_t2 = 1#1), ∀ (k0_h6 : ¬(k0_cond6 i k0_t2 = 1#1)), ∀ a, (k0_off82 arg21) a + S1x80x512.size a ≤ S16x640x512.size a) ∧
  (∀ (k0_h5 : k0_cond5 i k0_t2 = 1#1), ∀ (k0_h6 : ¬(k0_cond6 i k0_t2 = 1#1)), ∀ a, (k0_off84 arg21) a + S1x80x512.size a ≤ S16x640x512.size a) ∧
  (∀ (k0_h5 : k0_cond5 i k0_t2 = 1#1), ∀ (k0_h6 : ¬(k0_cond6 i k0_t2 = 1#1)), ∀ a, (k0_off86 arg21) a + S1x80x512.size a ≤ S16x640x512.size a) ∧
  (∀ (k0_h5 : k0_cond5 i k0_t2 = 1#1), ∀ (k0_h6 : ¬(k0_cond6 i k0_t2 = 1#1)), ∀ a, (k0_off88 arg21) a + S1x80x512.size a ≤ S16x640x512.size a) ∧
  (∀ (k0_h5 : k0_cond5 i k0_t2 = 1#1), ∀ (k0_h6 : ¬(k0_cond6 i k0_t2 = 1#1)), ∀ a, (k0_off90 arg21) a + S1x80x512.size a ≤ S16x640x512.size a) ∧
  (∀ (k0_h5 : k0_cond5 i k0_t2 = 1#1), ∀ (k0_h6 : ¬(k0_cond6 i k0_t2 = 1#1)), ∀ a, (k0_off92 arg21) a + S1x80x512.size a ≤ S16x640x512.size a) ∧
  (∀ (k0_h5 : k0_cond5 i k0_t2 = 1#1), ∀ (k0_h6 : ¬(k0_cond6 i k0_t2 = 1#1)), ∀ a, (k0_off94 arg21) a + S1x80x512.size a ≤ S16x640x512.size a) ∧
  (∀ (k0_h5 : k0_cond5 i k0_t2 = 1#1), ∀ (k0_h6 : ¬(k0_cond6 i k0_t2 = 1#1)), ∀ a, (k0_off96 arg21) a + S1x80x512.size a ≤ S16x640x512.size a) ∧
  (∀ (k0_h5 : ¬(k0_cond5 i k0_t2 = 1#1)), ∀ a, (k0_off98 arg21) a + S1x80x512.size a ≤ S16x640x512.size a) ∧
  (∀ (k0_h5 : ¬(k0_cond5 i k0_t2 = 1#1)), ∀ a, (k0_off100 arg21) a + S1x80x512.size a ≤ S16x640x512.size a) ∧
  (∀ (k0_h5 : ¬(k0_cond5 i k0_t2 = 1#1)), ∀ a, (k0_off102 arg21) a + S1x80x512.size a ≤ S16x640x512.size a) ∧
  (∀ (k0_h5 : ¬(k0_cond5 i k0_t2 = 1#1)), ∀ a, (k0_off104 arg21) a + S1x80x512.size a ≤ S16x640x512.size a) ∧
  (∀ (k0_h5 : ¬(k0_cond5 i k0_t2 = 1#1)), ∀ a, (k0_off106 arg21) a + S1x80x512.size a ≤ S16x640x512.size a) ∧
  (∀ (k0_h5 : ¬(k0_cond5 i k0_t2 = 1#1)), ∀ a, (k0_off108 arg21) a + S1x80x512.size a ≤ S16x640x512.size a) ∧
  (∀ (k0_h5 : ¬(k0_cond5 i k0_t2 = 1#1)), ∀ a, (k0_off110 arg21) a + S1x80x512.size a ≤ S16x640x512.size a) ∧
  (∀ (k0_h5 : ¬(k0_cond5 i k0_t2 = 1#1)), ∀ a, (k0_off112 arg21) a + S1x80x512.size a ≤ S16x640x512.size a)
theorem k0_off65_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off65 arg21) a + S1x80x512.size a ≤ S16x640x512.size a := fun i k0_t2 arg21 k0_hw2 k0_h5 k0_h6 k0_h7 => k0_hw2.1 k0_h5 k0_h6 k0_h7
theorem k0_off66_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off66 arg21) a + S1x80x512.size a ≤ S16x640x512.size a := fun i k0_t2 arg21 k0_hw2 k0_h5 k0_h6 k0_h7 => k0_hw2.2.1 k0_h5 k0_h6 k0_h7
theorem k0_off67_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off67 arg21) a + S1x80x512.size a ≤ S16x640x512.size a := fun i k0_t2 arg21 k0_hw2 k0_h5 k0_h6 k0_h7 => k0_hw2.2.2.1 k0_h5 k0_h6 k0_h7
theorem k0_off68_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off68 arg21) a + S1x80x512.size a ≤ S16x640x512.size a := fun i k0_t2 arg21 k0_hw2 k0_h5 k0_h6 k0_h7 => k0_hw2.2.2.2.1 k0_h5 k0_h6 k0_h7
theorem k0_off69_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off69 arg21) a + S1x80x512.size a ≤ S16x640x512.size a := fun i k0_t2 arg21 k0_hw2 k0_h5 k0_h6 k0_h7 => k0_hw2.2.2.2.2.1 k0_h5 k0_h6 k0_h7
theorem k0_off70_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off70 arg21) a + S1x80x512.size a ≤ S16x640x512.size a := fun i k0_t2 arg21 k0_hw2 k0_h5 k0_h6 k0_h7 => k0_hw2.2.2.2.2.2.1 k0_h5 k0_h6 k0_h7
theorem k0_off71_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off71 arg21) a + S1x80x512.size a ≤ S16x640x512.size a := fun i k0_t2 arg21 k0_hw2 k0_h5 k0_h6 k0_h7 => k0_hw2.2.2.2.2.2.2.1 k0_h5 k0_h6 k0_h7
theorem k0_off72_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : k0_cond7 i k0_t2 = 1#1), ∀ a, (k0_off72 arg21) a + S1x80x512.size a ≤ S16x640x512.size a := fun i k0_t2 arg21 k0_hw2 k0_h5 k0_h6 k0_h7 => k0_hw2.2.2.2.2.2.2.2.1 k0_h5 k0_h6 k0_h7
theorem k0_off73_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off73 arg21) a + S1x80x512.size a ≤ S16x640x512.size a := fun i k0_t2 arg21 k0_hw2 k0_h5 k0_h6 k0_h7 => k0_hw2.2.2.2.2.2.2.2.2.1 k0_h5 k0_h6 k0_h7
theorem k0_off74_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off74 arg21) a + S1x80x512.size a ≤ S16x640x512.size a := fun i k0_t2 arg21 k0_hw2 k0_h5 k0_h6 k0_h7 => k0_hw2.2.2.2.2.2.2.2.2.2.1 k0_h5 k0_h6 k0_h7
theorem k0_off75_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off75 arg21) a + S1x80x512.size a ≤ S16x640x512.size a := fun i k0_t2 arg21 k0_hw2 k0_h5 k0_h6 k0_h7 => k0_hw2.2.2.2.2.2.2.2.2.2.2.1 k0_h5 k0_h6 k0_h7
theorem k0_off76_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off76 arg21) a + S1x80x512.size a ≤ S16x640x512.size a := fun i k0_t2 arg21 k0_hw2 k0_h5 k0_h6 k0_h7 => k0_hw2.2.2.2.2.2.2.2.2.2.2.2.1 k0_h5 k0_h6 k0_h7
theorem k0_off77_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off77 arg21) a + S1x80x512.size a ≤ S16x640x512.size a := fun i k0_t2 arg21 k0_hw2 k0_h5 k0_h6 k0_h7 => k0_hw2.2.2.2.2.2.2.2.2.2.2.2.2.1 k0_h5 k0_h6 k0_h7
theorem k0_off78_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off78 arg21) a + S1x80x512.size a ≤ S16x640x512.size a := fun i k0_t2 arg21 k0_hw2 k0_h5 k0_h6 k0_h7 => k0_hw2.2.2.2.2.2.2.2.2.2.2.2.2.2.1 k0_h5 k0_h6 k0_h7
theorem k0_off79_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off79 arg21) a + S1x80x512.size a ≤ S16x640x512.size a := fun i k0_t2 arg21 k0_hw2 k0_h5 k0_h6 k0_h7 => k0_hw2.2.2.2.2.2.2.2.2.2.2.2.2.2.2.1 k0_h5 k0_h6 k0_h7
theorem k0_off80_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : k0_cond6 i k0_t2 = 1#1), ∀ (k0_h7 : ¬(k0_cond7 i k0_t2 = 1#1)), ∀ a, (k0_off80 arg21) a + S1x80x512.size a ≤ S16x640x512.size a := fun i k0_t2 arg21 k0_hw2 k0_h5 k0_h6 k0_h7 => k0_hw2.2.2.2.2.2.2.2.2.2.2.2.2.2.2.2.1 k0_h5 k0_h6 k0_h7
theorem k0_off82_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off82 arg21) a + S1x80x512.size a ≤ S16x640x512.size a := fun i k0_t2 arg21 k0_hw2 k0_h5 k0_h6 => k0_hw2.2.2.2.2.2.2.2.2.2.2.2.2.2.2.2.2.1 k0_h5 k0_h6
theorem k0_off84_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off84 arg21) a + S1x80x512.size a ≤ S16x640x512.size a := fun i k0_t2 arg21 k0_hw2 k0_h5 k0_h6 => k0_hw2.2.2.2.2.2.2.2.2.2.2.2.2.2.2.2.2.2.1 k0_h5 k0_h6
theorem k0_off86_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off86 arg21) a + S1x80x512.size a ≤ S16x640x512.size a := fun i k0_t2 arg21 k0_hw2 k0_h5 k0_h6 => k0_hw2.2.2.2.2.2.2.2.2.2.2.2.2.2.2.2.2.2.2.1 k0_h5 k0_h6
theorem k0_off88_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off88 arg21) a + S1x80x512.size a ≤ S16x640x512.size a := fun i k0_t2 arg21 k0_hw2 k0_h5 k0_h6 => k0_hw2.2.2.2.2.2.2.2.2.2.2.2.2.2.2.2.2.2.2.2.1 k0_h5 k0_h6
theorem k0_off90_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off90 arg21) a + S1x80x512.size a ≤ S16x640x512.size a := fun i k0_t2 arg21 k0_hw2 k0_h5 k0_h6 => k0_hw2.2.2.2.2.2.2.2.2.2.2.2.2.2.2.2.2.2.2.2.2.1 k0_h5 k0_h6
theorem k0_off92_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off92 arg21) a + S1x80x512.size a ≤ S16x640x512.size a := fun i k0_t2 arg21 k0_hw2 k0_h5 k0_h6 => k0_hw2.2.2.2.2.2.2.2.2.2.2.2.2.2.2.2.2.2.2.2.2.2.1 k0_h5 k0_h6
theorem k0_off94_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off94 arg21) a + S1x80x512.size a ≤ S16x640x512.size a := fun i k0_t2 arg21 k0_hw2 k0_h5 k0_h6 => k0_hw2.2.2.2.2.2.2.2.2.2.2.2.2.2.2.2.2.2.2.2.2.2.2.1 k0_h5 k0_h6
theorem k0_off96_inb : ∀ (i : grid0.Coords) (k0_t2 : Fin (k0_t2_loop i).trips) (arg21 : BitVec 32) (k0_hw2 : k0_chk2 i k0_t2 arg21), ∀ (k0_h5 : k0_cond5 i k0_t2 = 1#1), ∀ (k0_h6 : ¬(k0_cond6 i k0_t2 = 1#1)), ∀ a, (k0_off96 arg21) a + S1x80x512.size a ≤ S16x640x512.size a := fun i k0_t2 arg21 k0_hw2 k0_h5 k0_h6 => k0_hw2.2.2.2.2.2.2.2.2.2.2.2.2.2.2.2.2.2.2.2.2.2.2.2.1 k0_h5 k0_h6
theorem k0_off98_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off98 arg21) a + S1x80x512.size a ≤ S16x640x512.size a := fun i k0_t2 arg21 k0_hw2 k0_h5 => k0_hw2.2.2.2.2.2.2.2.2.2.2.2.2.2.2.2.2.2.2.2.2.2.2.2.2.1 k0_h5
theorem k0_off100_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off100 arg21) a + S1x80x512.size a ≤ S16x640x512.size a := fun i k0_t2 arg21 k0_hw2 k0_h5 => k0_hw2.2.2.2.2.2.2.2.2.2.2.2.2.2.2.2.2.2.2.2.2.2.2.2.2.2.1 k0_h5
theorem k0_off102_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off102 arg21) a + S1x80x512.size a ≤ S16x640x512.size a := fun i k0_t2 arg21 k0_hw2 k0_h5 => k0_hw2.2.2.2.2.2.2.2.2.2.2.2.2.2.2.2.2.2.2.2.2.2.2.2.2.2.2.1 k0_h5
theorem k0_off104_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off104 arg21) a + S1x80x512.size a ≤ S16x640x512.size a := fun i k0_t2 arg21 k0_hw2 k0_h5 => k0_hw2.2.2.2.2.2.2.2.2.2.2.2.2.2.2.2.2.2.2.2.2.2.2.2.2.2.2.2.1 k0_h5
theorem k0_off106_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off106 arg21) a + S1x80x512.size a ≤ S16x640x512.size a := fun i k0_t2 arg21 k0_hw2 k0_h5 => k0_hw2.2.2.2.2.2.2.2.2.2.2.2.2.2.2.2.2.2.2.2.2.2.2.2.2.2.2.2.2.1 k0_h5
theorem k0_off108_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off108 arg21) a + S1x80x512.size a ≤ S16x640x512.size a := fun i k0_t2 arg21 k0_hw2 k0_h5 => k0_hw2.2.2.2.2.2.2.2.2.2.2.2.2.2.2.2.2.2.2.2.2.2.2.2.2.2.2.2.2.2.1 k0_h5
theorem k0_off110_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off110 arg21) a + S1x80x512.size a ≤ S16x640x512.size a := fun i k0_t2 arg21 k0_hw2 k0_h5 => k0_hw2.2.2.2.2.2.2.2.2.2.2.2.2.2.2.2.2.2.2.2.2.2.2.2.2.2.2.2.2.2.2.1 k0_h5
theorem k0_off112_inb : ∀ (i : grid0.Coords) (k0_t2 : Fin (k0_t2_loop i).trips) (arg21 : BitVec 32) (k0_hw2 : k0_chk2 i k0_t2 arg21), ∀ (k0_h5 : ¬(k0_cond5 i k0_t2 = 1#1)), ∀ a, (k0_off112 arg21) a + S1x80x512.size a ≤ S16x640x512.size a := fun i k0_t2 arg21 k0_hw2 k0_h5 => k0_hw2.2.2.2.2.2.2.2.2.2.2.2.2.2.2.2.2.2.2.2.2.2.2.2.2.2.2.2.2.2.2.2 k0_h5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![arg1.toNat, v1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x8x64 : Shape := ⟨4, ![2, 8192, 8, 64]⟩
abbrev S2x8192x8x32 : Shape := ⟨4, ![2, 8192, 8, 32]⟩
abbrev S2x8192x32 : Shape := ⟨3, ![2, 8192, 32]⟩
abbrev S_ : Shape := ⟨0, ![]⟩
abbrev S2x8x8192x8192 : Shape := ⟨4, ![2, 8, 8192, 8192]⟩
abbrev S2x8192x8192x8 : Shape := ⟨4, ![2, 8192, 8192, 8]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x8192 : Shape := ⟨3, ![2, 8, 8192]⟩
abbrev S2x8x8192x1 : Shape := ⟨4, ![2, 8, 8192, 1]⟩
abbrev S2x8x64x8192 : Shape := ⟨4, ![2, 8, 64, 8192]⟩
abbrev S16384x512 : Shape := ⟨2, ![16384, 512]⟩
abbrev S512x16384 : Shape := ⟨2, ![512, 16384]⟩

abbrev nBuf : Space → Nat
  | .hbm => 46
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x32, .f32⟩
  | .hbm, ⟨2, _⟩ => ⟨S2x8192x8x64, .f32⟩
  | .hbm, ⟨3, _⟩ => ⟨S2x8192x32, .f32⟩
  | .hbm, ⟨4, _⟩ => ⟨S2x8192x8x64, .f32⟩
  | .hbm, ⟨5, _⟩ => ⟨S_, .f32⟩
  | .hbm, ⟨6, _⟩ => ⟨S2x8192x8x64, .f32⟩
  | .hbm, ⟨7, _⟩ => ⟨S2x8192x8x64, .f32⟩
  | .hbm, ⟨8, _⟩ => ⟨S2x8x8192x8192, .f32⟩
  | .hbm, ⟨9, _⟩ => ⟨S_, .f32⟩
  | .hbm, ⟨10, _⟩ => ⟨S2x8192x8x32, .f32⟩
  | .hbm, ⟨11, _⟩ => ⟨S2x8192x8x32, .f32⟩
  | .hbm, ⟨12, _⟩ => ⟨S2x8192x8192x8, .f32⟩
  | .hbm, ⟨13, _⟩ => ⟨S2x8x8192x8192, .f32⟩
  | .hbm, ⟨14, _⟩ => ⟨S2x8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S1x1x8192x8192, .i1⟩
  | .hbm, ⟨22, _⟩ => ⟨S_, .f32⟩
  | .hbm, ⟨23, _⟩ => ⟨S_, .f32⟩
  | .hbm, ⟨24, _⟩ => ⟨S2x8x8192x8192, .i1⟩
  | .hbm, ⟨25, _⟩ => ⟨S2x8x8192x8192, .f32⟩
  | .hbm, ⟨26, _⟩ => ⟨S2x8x8192x8192, .f32⟩
  | .hbm, ⟨27, _⟩ => ⟨S_, .f32⟩
  | .hbm, ⟨28, _⟩ => ⟨S2x8x8192, .f32⟩
  | .hbm, ⟨29, _⟩ => ⟨S_, .f32⟩
  | .hbm, ⟨30, _⟩ => ⟨S2x8x8192, .f32⟩
  | .hbm, ⟨31, _⟩ => ⟨S2x8x8192, .f32⟩
  | .hbm, ⟨32, _⟩ => ⟨S2x8x8192x1, .f32⟩
  | .hbm, ⟨33, _⟩ => ⟨S2x8x8192x8192, .f32⟩
  | .hbm, ⟨34, _⟩ => ⟨S2x8x8192x8192, .f32⟩
  | .hbm, ⟨35, _⟩ => ⟨S2x8x8192x8192, .f32⟩
  | .hbm, ⟨36, _⟩ => ⟨S_, .f32⟩
  | .hbm, ⟨37, _⟩ => ⟨S2x8x8192, .f32⟩
  | .hbm, ⟨38, _⟩ => ⟨S2x8x8192x1, .f32⟩
  | .hbm, ⟨39, _⟩ => ⟨S2x8x8192x8192, .f32⟩
  | .hbm, ⟨40, _⟩ => ⟨S2x8x8192x8192, .f32⟩
  | .hbm, ⟨41, _⟩ => ⟨S2x8x64x8192, .f32⟩
  | .hbm, ⟨42, _⟩ => ⟨S2x8192x8x64, .f32⟩
  | .hbm, ⟨43, _⟩ => ⟨S16384x512, .f32⟩
  | .hbm, ⟨44, _⟩ => ⟨S512x16384, .f32⟩
  | .hbm, ⟨45, _⟩ => ⟨S512x16384, .bf16⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x4096 : Shape := ⟨2, ![1024, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x4096, .f32⟩
  | .hbm, ⟨9, _⟩ => ⟨S4096x1024, .f32⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .f32⟩
  | .local _ .vmem, ⟨4, _⟩ => ⟨S4096x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x4096 : Shape := ⟨2, ![1024, 4096]⟩
abbrev S2x8192x4096 : Shape := ⟨3, ![2, 8192, 4096]⟩
abbrev S4096x1024 : Shape := ⟨2, ![4096, 1024]⟩
abbrev S16384x1024 : Shape := ⟨2, ![16384, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x4096, .f32⟩
  | .hbm, ⟨23, _⟩ => ⟨S2x8192x4096, .f32⟩
  | .hbm, ⟨24, _⟩ => ⟨S_, .f32⟩
  | .hbm, ⟨25, _⟩ => ⟨S2x8192x4096, .f32⟩
  | .hbm, ⟨26, _⟩ => ⟨S2x8192x4096, .f32⟩
  | .hbm, ⟨27, _⟩ => ⟨S2x8192x4096, .f32⟩
  | .hbm, ⟨28, _⟩ => ⟨S4096x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S_, .f32⟩
  | .hbm, ⟨33, _⟩ => ⟨S2x8192, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S2x8192x1, .f32⟩
  | .hbm, ⟨42, _⟩ => ⟨S2x8192x1024, .f32⟩
  | .hbm, ⟨43, _⟩ => ⟨S2x8192x1024, .f32⟩
  | .hbm, ⟨44, _⟩ => ⟨S1x1x1024, .f32⟩
  | .hbm, ⟨45, _⟩ => ⟨S2x8192x1024, .f32⟩
  | .hbm, ⟨46, _⟩ => ⟨S2x8192x1024, .f32⟩
  | .hbm, ⟨47, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192 : Shape := ⟨2, ![2, 8192]⟩
abbrev S1x1024 : Shape := ⟨2, ![1, 1024]⟩
abbrev S1x1024x3744 : Shape := ⟨3, ![1, 1024, 3744]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S128x1024 : Shape := ⟨2, ![128, 1024]⟩
abbrev S640x1 : Shape := ⟨2, ![640, 1]⟩
abbrev S16 : Shape := ⟨1, ![16]⟩
abbrev S_ : Shape := ⟨0, ![]⟩
abbrev S1x3744x1024 : Shape := ⟨3, ![1, 3744, 1024]⟩
abbrev S384x768 : Shape := ⟨2, ![384, 768]⟩
abbrev S384x8x96 : Shape := ⟨3, ![384, 8, 96]⟩
abbrev S384x8x128 : Shape := ⟨3, ![384, 8, 128]⟩
abbrev S384x1024 : Shape := ⟨2, ![384, 1024]⟩
abbrev S1024x384 : Shape := ⟨2, ![1024, 384]⟩
abbrev S256x1024 : Shape := ⟨2, ![256, 1024]⟩
abbrev S256x8x128 : Shape := ⟨3, ![256, 8, 128]⟩
abbrev S256x8x64 : Shape := ⟨3, ![256, 8, 64]⟩
abbrev S256x8x80 : Shape := ⟨3, ![256, 8, 80]⟩
abbrev S256x640 : Shape := ⟨2, ![256, 640]⟩
abbrev S640x256 : Shape := ⟨2, ![640, 256]⟩
abbrev S16384x1024 : Shape := ⟨2, ![16384, 1024]⟩
abbrev S1024 : Shape := ⟨1, ![1024]⟩
abbrev S384 : Shape := ⟨1, ![384]⟩
abbrev S256 : Shape := ⟨1, ![256]⟩
abbrev S1x16384 : Shape := ⟨2, ![1, 16384]⟩
abbrev S16x1 : Shape := ⟨2, ![16, 1]⟩
abbrev S16384x512 : Shape := ⟨2, ![16384, 512]⟩
abbrev S16384x2048 : Shape := ⟨2, ![16384, 2048]⟩
abbrev S1024x16384 : Shape := ⟨2, ![1024, 16384]⟩
abbrev S32x640x512 : Shape := ⟨3, ![32, 640, 512]⟩
abbrev S1024x1024 : Shape := ⟨2, ![1024, 1024]⟩
abbrev S1024x512 : Shape := ⟨2, ![1024, 512]⟩
abbrev S1024x2048 : Shape := ⟨2, ![1024, 2048]⟩
abbrev S2x640x512 : Shape := ⟨3, ![2, 640, 512]⟩
abbrev S1024x1 : Shape := ⟨2, ![1024, 1]⟩
abbrev S1x512x1024 : Shape := ⟨3, ![1, 512, 1024]⟩
abbrev S512x1024 : Shape := ⟨2, ![512, 1024]⟩
abbrev S1x2048x1024 : Shape := ⟨3, ![1, 2048, 1024]⟩
abbrev S2048x1024 : Shape := ⟨2, ![2048, 1024]⟩
abbrev S1x384x1024 : Shape := ⟨3, ![1, 384, 1024]⟩
abbrev S16x1024 : Shape := ⟨2, ![16, 1024]⟩
abbrev S64x1024 : Shape := ⟨2, ![64, 1024]⟩
abbrev S32x1024 : Shape := ⟨2, ![32, 1024]⟩
abbrev S1024x256 : Shape := ⟨2, ![1024, 256]⟩
abbrev S1x32x1024 : Shape := ⟨3, ![1, 32, 1024]⟩
abbrev S1024x128 : Shape := ⟨2, ![1024, 128]⟩
abbrev S640x1024 : Shape := ⟨2, ![640, 1024]⟩
abbrev S640x512 : Shape := ⟨2, ![640, 512]⟩
abbrev S1x640x512 : Shape := ⟨3, ![1, 640, 512]⟩

abbrev nBuf : Space → Nat
  | .hbm => 55
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1x1024, .f32⟩
  | .hbm, ⟨3, _⟩ => ⟨S1x1024x3744, .f32⟩
  | .hbm, ⟨4, _⟩ => ⟨S1x384, .f32⟩
  | .hbm, ⟨5, _⟩ => ⟨S1x384x768, .f32⟩
  | .hbm, ⟨6, _⟩ => ⟨S1x256, .f32⟩
  | .hbm, ⟨7, _⟩ => ⟨S1x256x1024, .f32⟩
  | .hbm, ⟨8, _⟩ => ⟨S128x1024, .bf16⟩
  | .hbm, ⟨9, _⟩ => ⟨S640x1, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S1x3744x1024, .f32⟩
  | .hbm, ⟨19, _⟩ => ⟨S384x768, .f32⟩
  | .hbm, ⟨20, _⟩ => ⟨S384x768, .bf16⟩
  | .hbm, ⟨21, _⟩ => ⟨S384x8x96, .bf16⟩
  | .hbm, ⟨22, _⟩ => ⟨S_, .i32⟩
  | .hbm, ⟨23, _⟩ => ⟨S_, .bf16⟩
  | .hbm, ⟨24, _⟩ => ⟨S384x8x128, .bf16⟩
  | .hbm, ⟨25, _⟩ => ⟨S384x1024, .bf16⟩
  | .hbm, ⟨26, _⟩ => ⟨S1024x384, .bf16⟩
  | .hbm, ⟨27, _⟩ => ⟨S256x1024, .f32⟩
  | .hbm, ⟨28, _⟩ => ⟨S256x1024, .bf16⟩
  | .hbm, ⟨29, _⟩ => ⟨S256x8x128, .bf16⟩
  | .hbm, ⟨30, _⟩ => ⟨S256x8x64, .bf16⟩
  | .hbm, ⟨31, _⟩ => ⟨S_, .i32⟩
  | .hbm, ⟨32, _⟩ => ⟨S_, .bf16⟩
  | .hbm, ⟨33, _⟩ => ⟨S256x8x128, .bf16⟩
  | .hbm, ⟨34, _⟩ => ⟨S256x1024, .bf16⟩
  | .hbm, ⟨35, _⟩ => ⟨S256x8x64, .bf16⟩
  | .hbm, ⟨36, _⟩ => ⟨S_, .i32⟩
  | .hbm, ⟨37, _⟩ => ⟨S_, .bf16⟩
  | .hbm, ⟨38, _⟩ => ⟨S256x8x80, .bf16⟩
  | .hbm, ⟨39, _⟩ => ⟨S256x640, .bf16⟩
  | .hbm, ⟨40, _⟩ => ⟨S640x256, .bf16⟩
  | .hbm, ⟨41, _⟩ => ⟨S16384x1024, .f32⟩
  | .hbm, ⟨42, _⟩ => ⟨S1024, .f32⟩
  | .hbm, ⟨43, _⟩ => ⟨S1x1024, .f32⟩
  | .hbm, ⟨44, _⟩ => ⟨S384, .f32⟩
  | .hbm, ⟨45, _⟩ => ⟨S1x384, .f32⟩
  | .hbm, ⟨46, _⟩ => ⟨S256, .f32⟩
  | .hbm, ⟨47, _⟩ => ⟨S1x256, .f32⟩
  | .hbm, ⟨48, _⟩ => ⟨S1x16384, .i32⟩
  | .hbm, ⟨49, _⟩ => ⟨S16x1, .f32⟩
  | .hbm, ⟨50, _⟩ => ⟨S16384x512, .bf16⟩
  | .hbm, ⟨51, _⟩ => ⟨S16384x2048, .bf16⟩
  | .hbm, ⟨52, _⟩ => ⟨S1024x16384, .bf16⟩
  | .hbm, ⟨53, _⟩ => ⟨S16384x1024, .bf16⟩
  | .hbm, ⟨54, _⟩ => ⟨S32x640x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x3744x1024, .f32⟩
  | .local _ .vmem, ⟨4, _⟩ => ⟨S1x384, .f32⟩
  | .local _ .vmem, ⟨5, _⟩ => ⟨S1x256, .f32⟩
  | .local _ .vmem, ⟨6, _⟩ => ⟨S1024x384, .bf16⟩
  | .local _ .vmem, ⟨7, _⟩ => ⟨S256x1024, .bf16⟩
  | .local _ .vmem, ⟨8, _⟩ => ⟨S640x256, .bf16⟩
  | .local _ .vmem, ⟨9, _⟩ => ⟨S640x1, .f32⟩
  | .local _ .vmem, ⟨10, _⟩ => ⟨S128x1024, .bf16⟩
  | .local _ .vmem, ⟨11, _⟩ => ⟨S1x1024, .i32⟩
  | .local _ .vmem, ⟨12, _⟩ => ⟨S1x1024, .i32⟩
  | .local _ .vmem, ⟨13, _⟩ => ⟨S16x1, .f32⟩
  | .local _ .vmem, ⟨14, _⟩ => ⟨S1024x512, .bf16⟩
  | .local _ .vmem, ⟨15, _⟩ => ⟨S1024x512, .bf16⟩
  | .local _ .vmem, ⟨16, _⟩ => ⟨S1024x2048, .bf16⟩
  | .local _ .vmem, ⟨17, _⟩ => ⟨S1024x2048, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S2x640x512, .bf16⟩
  | .local _ .vmem, ⟨23, _⟩ => ⟨S2x640x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32_0 : Ref sig .tc := ⟨.hbm, 50, rfl⟩
abbrev main_v32_1 : Ref sig .tc := ⟨.hbm, 51, rfl⟩
abbrev main_v32_2 : Ref sig .tc := ⟨.hbm, 52, rfl⟩
abbrev main_v32_3 : Ref sig .tc := ⟨.hbm, 53, rfl⟩
abbrev main_v32_4 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3744x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S640x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1024 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x640x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S2x8192x1024 : Shape := ⟨3, ![2, 8192, 1024]⟩
abbrev S2x8192 : Shape := ⟨2, ![2, 8192]⟩
abbrev S1x1024 : Shape := ⟨2, ![1, 1024]⟩
abbrev S1x1024x3744 : Shape := ⟨3, ![1, 1024, 3744]⟩
abbrev S1x384 : Shape := ⟨2, ![1, 384]⟩
abbrev S1x384x768 : Shape := ⟨3, ![1, 384, 768]⟩
abbrev S1x256 : Shape := ⟨2, ![1, 256]⟩
abbrev S1x256x1024 : Shape := ⟨3, ![1, 256, 1024]⟩
abbrev S_ : Shape := ⟨0, ![]⟩
abbrev S2x8192x1 : Shape := ⟨3, ![2, 8192, 1]⟩
abbrev S1024 : Shape := ⟨1, ![1024]⟩
abbrev S1x1x1024 : Shape := ⟨3, ![1, 1, 1024]⟩
abbrev S1024x3744 : Shape := ⟨2, ![1024, 3744]⟩
abbrev S2x8192x3744 : Shape := ⟨3, ![2, 8192, 3744]⟩
abbrev S2x8192x384 : Shape := ⟨3, ![2, 8192, 384]⟩
abbrev S2x8192x256 : Shape := ⟨3, ![2, 8192, 256]⟩
abbrev S2x8192x32 : Shape := ⟨3, ![2, 8192, 32]⟩
abbrev S2x8192x2048 : Shape := ⟨3, ![2, 8192, 2048]⟩
abbrev S2x8192x512 : Shape := ⟨3, ![2, 8192, 512]⟩
abbrev S16384x512 : Shape := ⟨2, ![16384, 512]⟩
abbrev S16384x2048 : Shape := ⟨2, ![16384, 2048]⟩

abbrev nBuf : Space → Nat
  | .hbm => 55
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1x1024, .f32⟩
  | .hbm, ⟨3, _⟩ => ⟨S1x1024x3744, .f32⟩
  | .hbm, ⟨4, _⟩ => ⟨S1x384, .f32⟩
  | .hbm, ⟨5, _⟩ => ⟨S1x384x768, .f32⟩
  | .hbm, ⟨6, _⟩ => ⟨S1x256, .f32⟩
  | .hbm, ⟨7, _⟩ => ⟨S1x256x1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S1024x3744, .f32⟩
  | .hbm, ⟨26, _⟩ => ⟨S2x8192x3744, .f32⟩
  | .hbm, ⟨27, _⟩ => ⟨S2x8192x1024, .f32⟩
  | .hbm, ⟨28, _⟩ => ⟨S2x8192x384, .f32⟩
  | .hbm, ⟨29, _⟩ => ⟨S2x8192x256, .f32⟩
  | .hbm, ⟨30, _⟩ => ⟨S2x8192x32, .f32⟩
  | .hbm, ⟨31, _⟩ => ⟨S2x8192x2048, .f32⟩
  | .hbm, ⟨32, _⟩ => ⟨S2x8192x512, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S_, .f32⟩
  | .hbm, ⟨37, _⟩ => ⟨S2x8192x512, .f32⟩
  | .hbm, ⟨38, _⟩ => ⟨S2x8192x512, .f32⟩
  | .hbm, ⟨39, _⟩ => ⟨S_, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .hbm, ⟨43, _⟩ => ⟨S2x8192x2048, .f32⟩
  | .hbm, ⟨44, _⟩ => ⟨S2x8192x2048, .f32⟩
  | .hbm, ⟨45, _⟩ => ⟨S_, .f32⟩
  | .hbm, ⟨46, _⟩ => ⟨S2x8192x2048, .f32⟩
  | .hbm, ⟨47, _⟩ => ⟨S2x8192x2048, .f32⟩
  | .hbm, ⟨48, _⟩ => ⟨S_, .f32⟩
  | .hbm, ⟨49, _⟩ => ⟨S2x8192x2048, .f32⟩
  | .hbm, ⟨50, _⟩ => ⟨S2x8192x2048, .f32⟩
  | .hbm, ⟨51, _⟩ => ⟨S16384x512, .f32⟩
  | .hbm, ⟨52, _⟩ => ⟨S16384x512, .bf16⟩
  | .hbm, ⟨53, _⟩ => ⟨S16384x2048, .f32⟩
  | .hbm, ⟨54, _⟩ => ⟨S16384x2048, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Proof.Base.lean ====
module

public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.FrameBody
public import Idealize.ShloMosaic.Lib.Ring
public import Idealize.ShloMosaic.Lib.Tactic

/-! The buffers of the attention call, and the pieces in which the body holds them. -/

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

abbrev 𝒱₀ : Variants := Variants.none

/-- The resident keys, values (transposed), the two score slots, the accumulators; keys and values in HBM. -/
abbrev A7 : Memref sig .tc .vmem S16x512x1024 .bf16 := Memref.whole cc0_scratch0
abbrev A8 : Memref sig .tc .vmem S16x640x512 .bf16 := Memref.whole cc0_scratch1
abbrev A10 : Memref sig .tc .vmem S2x8x512x512 .f32 := Memref.whole cc0_scratch3
abbrev A11 : Memref sig .tc .vmem S8x80x512 .f32 := Memref.whole cc0_scratch4
abbrev HK : Memref sig .tc .hbm S32x512x1024 .bf16 := Memref.whole main_v14
abbrev HV : Memref sig .tc .hbm S32x640x512 .bf16 := Memref.whole main_v20

/-- One chunk's slot of the resident keys. -/
abbrev slotK (o : Fin 3 → ℕ) (h : ∀ a, o a + S1x512x1024.size a ≤ S16x512x1024.size a) : Memref sig .tc .vmem S512x1024 .bf16 :=
  (A7.slice (Rect.unit (s := S16x512x1024) o S1x512x1024.size h) (fun _ => rfl)).squeeze S512x1024 squeezes_S1x512x1024_S512x1024
abbrev slotV (o : Fin 3 → ℕ) (h : ∀ a, o a + S1x640x512.size a ≤ S16x640x512.size a) : Memref sig .tc .vmem S640x512 .bf16 :=
  (A8.slice (Rect.unit (s := S16x640x512) o S1x640x512.size h) (fun _ => rfl)).squeeze S640x512 squeezes_S1x640x512_S640x512
/-- One chunk of the keys in HBM. -/
abbrev srcK (o : Fin 3 → ℕ) (h : ∀ a, o a + S1x512x1024.size a ≤ S32x512x1024.size a) : Memref sig .tc .hbm S512x1024 .bf16 :=
  (HK.slice (Rect.unit (s := S32x512x1024) o S1x512x1024.size h) (fun _ => rfl)).squeeze S512x1024 squeezes_S1x512x1024_S512x1024
abbrev srcV (o : Fin 3 → ℕ) (h : ∀ a, o a + S1x640x512.size a ≤ S32x640x512.size a) : Memref sig .tc .hbm S640x512 .bf16 :=
  (HV.slice (Rect.unit (s := S32x640x512) o S1x640x512.size h) (fun _ => rfl)).squeeze S640x512 squeezes_S1x640x512_S640x512
/-- One transfer's semaphore. -/
abbrev cellOf (o : Fin 2 → ℕ) (h : ∀ a, o a + S1x1.size a ≤ S2x16.size a) : DmaSems sig S_ :=
  (cc0_scratch2.slice (Rect.unit (s := S2x16) o S1x1.size h)).squeeze S_ squeezes_S1x1_S_

/-- A memref's own elements, held in full at `f`. -/
abbrev own {sp : Space} {S : Shape} {e : EltTy} (c : Dev nD) (M : Memref sig .tc sp S e) (f : Buf (Elt F) (M.view.loc (c : Thread nD τ))) : sProp 𝕄 :=
  M.view.loc (c : Thread nD τ) ↦[M.view.set]{fullShare} f
/-- A buffer held whole at `f`. -/
abbrev holdAll {sp : Space} {S : Shape} {e : EltTy} (c : Dev nD) (M : Memref sig .tc sp S e) (f : Buf (Elt F) (M.view.loc (c : Thread nD τ))) : sProp 𝕄 :=
  M.view.loc (c : Thread nD τ) ↦{fullShare} f
abbrev zeroCell (c : Dev nD) (o : Fin 2 → ℕ) (h : ∀ a, o a + S1x1.size a ≤ S2x16.size a) : sProp 𝕄 :=
  semVal ((c : Thread nD τ), SemLoc.dma (cellOf o h).sem) 0

end Attn

end
-- ==== Proof.Spec.lean ====
module

public import proofs.«01_k».proof.Proof.Base
public import Idealize.ShloMosaic.Lib.Pipeline.Value
public import Idealize.ShloMosaic.Lib.Pointwise
public import Idealize.ShloMosaic.Lib.WritesUnit

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-! ### One head's part of each buffer -/

/-- Head `h`'s accumulator (values' rows over the queries). -/
def slab11 (f : S8x80x512.Idx → Elt F .f32) (h : Fin 8) : FVec F S80x512 .f32 := fun j => f (ix3 h (j 0) (j 1))
/-- Head `h`'s scores in slot `s`. -/
def slab10 (f : S2x8x512x512.Idx → Elt F .f32) (s : Fin 2) (h : Fin 8) : FVec F S512x512 .f32 := fun j => f (ix4 s h (j 0) (j 1))
/-- Head `h`'s keys of chunk `n`. -/
def slab7 (f : S16x512x1024.Idx → Elt F .bf16) (n : Fin 16) (h : Fin 8) : FVec F S512x128 .bf16 :=
  fun j => f (ix3 n (j 0) ⟨128 * h.val + (j 1).val, by have := (j 1).isLt; have : (j 1).val < 128 := this; omega⟩)
/-- Head `h`'s values (transposed) of chunk `n`. -/
def slab8 (f : S16x640x512.Idx → Elt F .bf16) (n : Fin 16) (h : Fin 8) : FVec F S80x512 .bf16 :=
  fun j => f (ix3 n ⟨80 * h.val + (j 0).val, by have := (j 0).isLt; have : (j 0).val < 80 := this; omega⟩ (j 1))

/-! ### What one trip computes -/

/-- The scores of a chunk of keys against the queries. -/
def dotQ (K : FVec F S512x128 .bf16) (Q : FVec F S128x512 .bf16) : FVec F S512x512 .f32 :=
  matmul dot_S512x128_S128x512_S512x512_1_0_0_1_n_n none K Q (constant S512x512 .f32 0x00000000#32)
/-- The greatest score of each query. -/
def rowMax (S : FVec F S512x512 .f32) : FVec F S1x512 .f32 :=
  shapeCast S1x512 (multiReduction .maximumf [0] S512 S 0xFF800000#32 reduces_S512x512_S512 (.inl rfl) rfl) shapeCasts_S512_S1x512
/-- The weights of a chunk relative to its own maximum. -/
def pOf (S : FVec F S512x512 .f32) (M : FVec F S1x512 .f32) : FVec F S512x512 .bf16 :=
  truncf .bf16 (exp2 (subf S (broadcastTo S512x512 M (by decide)))) bitsLt_bf16_f32
/-- The accumulator after a chunk. -/
def accStep (m M : FVec F S1x512 .f32) (P : FVec F S512x512 .bf16) (V : FVec F S80x512 .bf16) (A : FVec F S80x512 .f32) : FVec F S80x512 .f32 :=
  addf (mulf (broadcastTo S80x512 (exp2 (subf m (maximumf m M))) broadcasts_S1x512_S80x512) A)
    (mulf (broadcastTo S80x512 (exp2 (subf M (maximumf m M))) broadcasts_S1x512_S80x512)
      (matmul dot_S80x512_S512x512_S80x512_1_0_0_1_n_n none V P (constant S80x512 .f32 0x00000000#32)))

/-! ### The loads and stores of a trip, as parts of the buffers -/

theorem inb10 (s h o : ℕ) (hs : s < 2) (hh : h < 8) (ho : o + 16 ≤ 512) : ∀ a, (![s, h, o, 0] : Fin 4 → ℕ) a + S1x1x16x512.size a ≤ S2x8x512x512.size a := by
  intro a; fin_cases a <;> simp <;> omega
/-- Sixteen rows of a head's scores. -/
def rd10 (f : S2x8x512x512.Idx → Elt F .f32) (s h o : ℕ) (ho : o + 16 ≤ 512) (hs : s < 2) (hh : h < 8) : Vec F S1x1x16x512 .f32 :=
  A10.view.readAt (Elt F) (Rect.unit (s := S2x8x512x512) ![s, h, o, 0] S1x1x16x512.size (inb10 s h o hs hh ho)).toLoadRect f

def pCat (M : FVec F S1x512 .f32) (f : S2x8x512x512.Idx → Elt F .f32) (s h : ℕ) (hs : s < 2) (hh : h < 8) : FVec F S512x512 .bf16 :=
  concatenate S512x512 0 [⟨S16x512, k0_pay1 M (rd10 f s h 0 (by omega) hs hh)⟩,
      ⟨S16x512, k0_pay1 M (rd10 f s h 16 (by omega) hs hh)⟩,
      ⟨S16x512, k0_pay1 M (rd10 f s h 32 (by omega) hs hh)⟩,
      ⟨S16x512, k0_pay1 M (rd10 f s h 48 (by omega) hs hh)⟩,
      ⟨S16x512, k0_pay1 M (rd10 f s h 64 (by omega) hs hh)⟩,
      ⟨S16x512, k0_pay1 M (rd10 f s h 80 (by omega) hs hh)⟩,
      ⟨S16x512, k0_pay1 M (rd10 f s h 96 (by omega) hs hh)⟩,
      ⟨S16x512, k0_pay1 M (rd10 f s h 112 (by omega) hs hh)⟩,
      ⟨S16x512, k0_pay1 M (rd10 f s h 128 (by omega) hs hh)⟩,
      ⟨S16x512, k0_pay1 M (rd10 f s h 144 (by omega) hs hh)⟩,
      ⟨S16x512, k0_pay1 M (rd10 f s h 160 (by omega) hs hh)⟩,
      ⟨S16x512, k0_pay1 M (rd10 f s h 176 (by omega) hs hh)⟩,
      ⟨S16x512, k0_pay1 M (rd10 f s h 192 (by omega) hs hh)⟩,
      ⟨S16x512, k0_pay1 M (rd10 f s h 208 (by omega) hs hh)⟩,
      ⟨S16x512, k0_pay1 M (rd10 f s h 224 (by omega) hs hh)⟩,
      ⟨S16x512, k0_pay1 M (rd10 f s h 240 (by omega) hs hh)⟩,
      ⟨S16x512, k0_pay1 M (rd10 f s h 256 (by omega) hs hh)⟩,
      ⟨S16x512, k0_pay1 M (rd10 f s h 272 (by omega) hs hh)⟩,
      ⟨S16x512, k0_pay1 M (rd10 f s h 288 (by omega) hs hh)⟩,
      ⟨S16x512, k0_pay1 M (rd10 f s h 304 (by omega) hs hh)⟩,
      ⟨S16x512, k0_pay1 M (rd10 f s h 320 (by omega) hs hh)⟩,
      ⟨S16x512, k0_pay1 M (rd10 f s h 336 (by omega) hs hh)⟩,
      ⟨S16x512, k0_pay1 M (rd10 f s h 352 (by omega) hs hh)⟩,
      ⟨S16x512, k0_pay1 M (rd10 f s h 368 (by omega) hs hh)⟩,
      ⟨S16x512, k0_pay1 M (rd10 f s h 384 (by omega) hs hh)⟩,
      ⟨S16x512, k0_pay1 M (rd10 f s h 400 (by omega) hs hh)⟩,
      ⟨S16x512, k0_pay1 M (rd10 f s h 416 (by omega) hs hh)⟩,
      ⟨S16x512, k0_pay1 M (rd10 f s h 432 (by omega) hs hh)⟩,
      ⟨S16x512, k0_pay1 M (rd10 f s h 448 (by omega) hs hh)⟩,
      ⟨S16x512, k0_pay1 M (rd10 f s h 464 (by omega) hs hh)⟩,
      ⟨S16x512, k0_pay1 M (rd10 f s h 480 (by omega) hs hh)⟩,
      ⟨S16x512, k0_pay1 M (rd10 f s h 496 (by omega) hs hh)⟩] concatenates_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S512x512_d0

theorem pCat_eq (M : FVec F S1x512 .f32) (f : S2x8x512x512.Idx → Elt F .f32) (s h : ℕ) (hs : s < 2) (hh : h < 8) :
    pCat M f s h hs hh = pOf (slab10 f ⟨s, hs⟩ ⟨h, hh⟩) M := by
  have e : pCat M f s h hs hh = concatenate S512x512 0 (List.ofFn fun r : Fin 32 => (⟨S16x512, k0_pay1 M (rd10 f s h (16 * r.val) (by omega) hs hh)⟩ : (s : Shape) × (s.Idx → F .bf16)))
      concatenates_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S16x512_S512x512_d0 := rfl
  rw [e]
  funext j
  refine (Idealize.ShloMosaic.concatenate_ofFn_apply (t := S512x512) (s₁ := S16x512) 0
    (fun r : Fin 32 => k0_pay1 M (rd10 f s h (16 * r.val) (by omega) hs hh)) _ rfl 16 rfl j ⟨(j 0).val / 16, by have : (j 0).val < 512 := (j 0).isLt; omega⟩ rfl
    (ix2 ⟨(j 0).val % 16, Nat.mod_lt _ (by decide)⟩ (j 1)) rfl (by intro b hb; fin_cases b <;> simp_all)).trans ?_
  unfold k0_pay1 pOf slab10
  simp only [pointwise]
  have hj : (j 0).val < 512 := (j 0).isLt
  have e4 : rd10 f s h (16 * ((j 0).val / 16)) (by omega) hs hh (ix4 0 0 ⟨(j 0).val % 16, Nat.mod_lt _ (by decide)⟩ (j 1)) = f (ix4 ⟨s, hs⟩ ⟨h, hh⟩ (j 0) (j 1)) :=
    congrArg f (funext fun a => Fin.ext (by
      fin_cases a
      · show s + 1 * 0 = s; omega
      · show h + 1 * 0 = h; omega
      · show 16 * ((j 0).val / 16) + 1 * ((j 0).val % 16) = (j 0).val; omega
      · show 0 + 1 * (j 1).val = (j 1).val; omega))
  rw [e4]
  rfl

theorem rd11 (f : S8x80x512.Idx → Elt F .f32) (h : ℕ) (hh : h < 8) (hb) :
    shapeCast S80x512 (A11.view.readAt (Elt F) (Rect.unit (s := S8x80x512) ![h, 0, 0] S1x80x512.size hb).toLoadRect f) shapeCasts_S1x80x512_S80x512 = slab11 f ⟨h, hh⟩ := by
  funext j
  unfold slab11
  simp only [pointwise]
  refine congrArg f (funext fun a => Fin.ext ?_)
  fin_cases a
  · show h + 1 * 0 = h; omega
  · show 0 + 1 * (j 0).val = (j 0).val; omega
  · show 0 + 1 * (j 1).val = (j 1).val; omega

theorem rd8 (f : S16x640x512.Idx → Elt F .bf16) (n : Fin 16) (h : Fin 8) (o : ℕ) (ho : o = 80 * h.val) (hb) :
    shapeCast S80x512 (A8.view.readAt (Elt F) (Rect.unit (s := S16x640x512) ![n.val, o, 0] S1x80x512.size hb).toLoadRect f) shapeCasts_S1x80x512_S80x512 = slab8 f n h := by
  subst ho
  funext j
  unfold slab8
  simp only [pointwise]
  refine congrArg f (funext fun a => Fin.ext ?_)
  fin_cases a
  · show n.val + 1 * 0 = n.val; omega
  · show 80 * h.val + 1 * (j 0).val = 80 * h.val + (j 0).val; omega
  · show 0 + 1 * (j 1).val = (j 1).val; omega

theorem rd7 (f : S16x512x1024.Idx → Elt F .bf16) (n : Fin 16) (h : Fin 8) (o : ℕ) (ho : o = 128 * h.val) (hb) :
    shapeCast S512x128 (A7.view.readAt (Elt F) (Rect.unit (s := S16x512x1024) ![n.val, 0, o] S1x512x128.size hb).toLoadRect f) shapeCasts_S1x512x128_S512x128 = slab7 f n h := by
  subst ho
  funext j
  unfold slab7
  simp only [pointwise]
  refine congrArg f (funext fun a => Fin.ext ?_)
  fin_cases a
  · show n.val + 1 * 0 = n.val; omega
  · show 0 + 1 * (j 0).val = (j 0).val; omega
  · show 128 * h.val + 1 * (j 1).val = 128 * h.val + (j 1).val; omega

/-- What a store of the step's value leaves: the step on the parts of the buffers it loaded. -/
theorem acc_piece (m M : FVec F S1x512 .f32) (f10 : S2x8x512x512.Idx → Elt F .f32) (f8 : S16x640x512.Idx → Elt F .bf16) (f11 : S8x80x512.Idx → Elt F .f32)
    (s : ℕ) (hs : s < 2) (h : ℕ) (hh : h < 8) (n : Fin 16) (o : ℕ) (ho : o = 80 * h) (hb) (hb') :
    k0_pay2282 m M (pCat M f10 s h hs hh) (A8.view.readAt (Elt F) (Rect.unit (s := S16x640x512) ![n.val, o, 0] S1x80x512.size hb).toLoadRect f8)
        (A11.view.readAt (Elt F) (Rect.unit (s := S8x80x512) ![h, 0, 0] S1x80x512.size hb').toLoadRect f11)
      = shapeCast S1x80x512 (accStep m M (pOf (slab10 f10 ⟨s, hs⟩ ⟨h, hh⟩) M) (slab8 f8 n ⟨h, hh⟩) (slab11 f11 ⟨h, hh⟩)) shapeCasts_S80x512_S1x80x512 := by
  unfold k0_pay2282
  dsimp only
  rw [rd11 f11 h hh, rd8 f8 n ⟨h, hh⟩ o ho, pCat_eq]
  rfl

theorem hit11 {sp : Space} (V : View sig .tc sp S8x80x512 .f32) (f : V.ty.Contents (Elt F)) (k : ℕ) (hk : k < 8) (b : ∀ a, (![k, 0, 0] : Fin 3 → ℕ) a + S1x80x512.size a ≤ S8x80x512.size a) (w : FVec F S80x512 .f32)
    (L : List (View.Piece (Elt F) S8x80x512 .f32)) (j : S80x512.Idx) :
    V.read (Elt F) (V.writes (Elt F) f (⟨Rect.unit ![k, 0, 0] S1x80x512.size b, shapeCast S1x80x512 w shapeCasts_S80x512_S1x80x512⟩ :: L)) (ix3 ⟨k, hk⟩ (j 0) (j 1)) = w j := by
  rw [View.read_writes_cons_unit_of_mem V f b _ L (ix3 ⟨k, hk⟩ (j 0) (j 1)) (ix3 0 (j 0) (j 1) : S1x80x512.Idx) rfl
    (by intro a; fin_cases a <;> simp [ix3])]
  simp only [pointwise, ix2_eta]

theorem miss11 {sp : Space} (V : View sig .tc sp S8x80x512 .f32) (f : V.ty.Contents (Elt F)) (k : ℕ) (b : ∀ a, (![k, 0, 0] : Fin 3 → ℕ) a + S1x80x512.size a ≤ S8x80x512.size a) (w)
    (L : List (View.Piece (Elt F) S8x80x512 .f32)) (h : Fin 8) (j : S80x512.Idx) (hne : h.val < k) :
    V.read (Elt F) (V.writes (Elt F) f (⟨Rect.unit ![k, 0, 0] S1x80x512.size b, w⟩ :: L)) (ix3 h (j 0) (j 1))
      = V.read (Elt F) (V.writes (Elt F) f L) (ix3 h (j 0) (j 1)) :=
  View.read_writes_cons_unit_of_not_mem V f b _ L _ rfl 0 (.inl hne)

set_option maxHeartbeats 0 in
theorem read11 {sp : Space} (V : View sig .tc sp S8x80x512 .f32) (f : V.ty.Contents (Elt F)) (v : Fin 8 → FVec F S80x512 .f32) (h : Fin 8) (j : S80x512.Idx)
    (b0 : ∀ a, (![0, 0, 0] : Fin 3 → ℕ) a + S1x80x512.size a ≤ S8x80x512.size a)
    (b1 : ∀ a, (![1, 0, 0] : Fin 3 → ℕ) a + S1x80x512.size a ≤ S8x80x512.size a)
    (b2 : ∀ a, (![2, 0, 0] : Fin 3 → ℕ) a + S1x80x512.size a ≤ S8x80x512.size a)
    (b3 : ∀ a, (![3, 0, 0] : Fin 3 → ℕ) a + S1x80x512.size a ≤ S8x80x512.size a)
    (b4 : ∀ a, (![4, 0, 0] : Fin 3 → ℕ) a + S1x80x512.size a ≤ S8x80x512.size a)
    (b5 : ∀ a, (![5, 0, 0] : Fin 3 → ℕ) a + S1x80x512.size a ≤ S8x80x512.size a)
    (b6 : ∀ a, (![6, 0, 0] : Fin 3 → ℕ) a + S1x80x512.size a ≤ S8x80x512.size a)
    (b7 : ∀ a, (![7, 0, 0] : Fin 3 → ℕ) a + S1x80x512.size a ≤ S8x80x512.size a) :
    V.read (Elt F) (V.writes (Elt F) f
      [⟨Rect.unit ![7, 0, 0] S1x80x512.size b7, shapeCast S1x80x512 (v 7) shapeCasts_S80x512_S1x80x512⟩,
       ⟨Rect.unit ![6, 0, 0] S1x80x512.size b6, shapeCast S1x80x512 (v 6) shapeCasts_S80x512_S1x80x512⟩,
       ⟨Rect.unit ![5, 0, 0] S1x80x512.size b5, shapeCast S1x80x512 (v 5) shapeCasts_S80x512_S1x80x512⟩,
       ⟨Rect.unit ![4, 0, 0] S1x80x512.size b4, shapeCast S1x80x512 (v 4) shapeCasts_S80x512_S1x80x512⟩,
       ⟨Rect.unit ![3, 0, 0] S1x80x512.size b3, shapeCast S1x80x512 (v 3) shapeCasts_S80x512_S1x80x512⟩,
       ⟨Rect.unit ![2, 0, 0] S1x80x512.size b2, shapeCast S1x80x512 (v 2) shapeCasts_S80x512_S1x80x512⟩,
       ⟨Rect.unit ![1, 0, 0] S1x80x512.size b1, shapeCast S1x80x512 (v 1) shapeCasts_S80x512_S1x80x512⟩,
       ⟨Rect.unit ![0, 0, 0] S1x80x512.size b0, shapeCast S1x80x512 (v 0) shapeCasts_S80x512_S1x80x512⟩]) (ix3 h (j 0) (j 1)) = v h j := by
  obtain ⟨h, hh⟩ := h
  rcases (show h = 0 ∨ h = 1 ∨ h = 2 ∨ h = 3 ∨ h = 4 ∨ h = 5 ∨ h = 6 ∨ h = 7 by omega) with rfl | rfl | rfl | rfl | rfl | rfl | rfl | rfl
  · rw [miss11 V f 7 _ _ _ _ j (show 0 < 7 by omega), miss11 V f 6 _ _ _ _ j (show 0 < 6 by omega), miss11 V f 5 _ _ _ _ j (show 0 < 5 by omega), miss11 V f 4 _ _ _ _ j (show 0 < 4 by omega), miss11 V f 3 _ _ _ _ j (show 0 < 3 by omega), miss11 V f 2 _ _ _ _ j (show 0 < 2 by omega), miss11 V f 1 _ _ _ _ j (show 0 < 1 by omega)]; exact hit11 V f 0 hh _ _ _ j
  · rw [miss11 V f 7 _ _ _ _ j (show 1 < 7 by omega), miss11 V f 6 _ _ _ _ j (show 1 < 6 by omega), miss11 V f 5 _ _ _ _ j (show 1 < 5 by omega), miss11 V f 4 _ _ _ _ j (show 1 < 4 by omega), miss11 V f 3 _ _ _ _ j (show 1 < 3 by omega), miss11 V f 2 _ _ _ _ j (show 1 < 2 by omega)]; exact hit11 V f 1 hh _ _ _ j
  · rw [miss11 V f 7 _ _ _ _ j (show 2 < 7 by omega), miss11 V f 6 _ _ _ _ j (show 2 < 6 by omega), miss11 V f 5 _ _ _ _ j (show 2 < 5 by omega), miss11 V f 4 _ _ _ _ j (show 2 < 4 by omega), miss11 V f 3 _ _ _ _ j (show 2 < 3 by omega)]; exact hit11 V f 2 hh _ _ _ j
  · rw [miss11 V f 7 _ _ _ _ j (show 3 < 7 by omega), miss11 V f 6 _ _ _ _ j (show 3 < 6 by omega), miss11 V f 5 _ _ _ _ j (show 3 < 5 by omega), miss11 V f 4 _ _ _ _ j (show 3 < 4 by omega)]; exact hit11 V f 3 hh _ _ _ j
  · rw [miss11 V f 7 _ _ _ _ j (show 4 < 7 by omega), miss11 V f 6 _ _ _ _ j (show 4 < 6 by omega), miss11 V f 5 _ _ _ _ j (show 4 < 5 by omega)]; exact hit11 V f 4 hh _ _ _ j
  · rw [miss11 V f 7 _ _ _ _ j (show 5 < 7 by omega), miss11 V f 6 _ _ _ _ j (show 5 < 6 by omega)]; exact hit11 V f 5 hh _ _ _ j
  · rw [miss11 V f 7 _ _ _ _ j (show 6 < 7 by omega)]; exact hit11 V f 6 hh _ _ _ j
  · exact hit11 V f 7 hh _ _ _ j

theorem slab11_read (f : S8x80x512.Idx → Elt F .f32) (h : Fin 8) (j : S80x512.Idx) :
    slab11 f h j = A11.view.read (Elt F) f (ix3 h (j 0) (j 1)) := rfl

/-- Eight stores, one per head: each head's part is its store's value. -/
theorem slab11_writes (f : S8x80x512.Idx → Elt F .f32) (v : Fin 8 → FVec F S80x512 .f32) (h : Fin 8)
    (b0 : ∀ a, (![0, 0, 0] : Fin 3 → ℕ) a + S1x80x512.size a ≤ S8x80x512.size a)
    (b1 : ∀ a, (![1, 0, 0] : Fin 3 → ℕ) a + S1x80x512.size a ≤ S8x80x512.size a)
    (b2 : ∀ a, (![2, 0, 0] : Fin 3 → ℕ) a + S1x80x512.size a ≤ S8x80x512.size a)
    (b3 : ∀ a, (![3, 0, 0] : Fin 3 → ℕ) a + S1x80x512.size a ≤ S8x80x512.size a)
    (b4 : ∀ a, (![4, 0, 0] : Fin 3 → ℕ) a + S1x80x512.size a ≤ S8x80x512.size a)
    (b5 : ∀ a, (![5, 0, 0] : Fin 3 → ℕ) a + S1x80x512.size a ≤ S8x80x512.size a)
    (b6 : ∀ a, (![6, 0, 0] : Fin 3 → ℕ) a + S1x80x512.size a ≤ S8x80x512.size a)
    (b7 : ∀ a, (![7, 0, 0] : Fin 3 → ℕ) a + S1x80x512.size a ≤ S8x80x512.size a) :
    slab11 (A11.view.writes (Elt F) f
      [⟨Rect.unit ![7, 0, 0] S1x80x512.size b7, shapeCast S1x80x512 (v 7) shapeCasts_S80x512_S1x80x512⟩,
       ⟨Rect.unit ![6, 0, 0] S1x80x512.size b6, shapeCast S1x80x512 (v 6) shapeCasts_S80x512_S1x80x512⟩,
       ⟨Rect.unit ![5, 0, 0] S1x80x512.size b5, shapeCast S1x80x512 (v 5) shapeCasts_S80x512_S1x80x512⟩,
       ⟨Rect.unit ![4, 0, 0] S1x80x512.size b4, shapeCast S1x80x512 (v 4) shapeCasts_S80x512_S1x80x512⟩,
       ⟨Rect.unit ![3, 0, 0] S1x80x512.size b3, shapeCast S1x80x512 (v 3) shapeCasts_S80x512_S1x80x512⟩,
       ⟨Rect.unit ![2, 0, 0] S1x80x512.size b2, shapeCast S1x80x512 (v 2) shapeCasts_S80x512_S1x80x512⟩,
       ⟨Rect.unit ![1, 0, 0] S1x80x512.size b1, shapeCast S1x80x512 (v 1) shapeCasts_S80x512_S1x80x512⟩,
       ⟨Rect.unit ![0, 0, 0] S1x80x512.size b0, shapeCast S1x80x512 (v 0) shapeCasts_S80x512_S1x80x512⟩]) h = v h :=
  funext fun j => (slab11_read _ h j).trans <| read11 A11.view f v h j b0 b1 b2 b3 b4 b5 b6 b7

theorem hit10 {sp : Space} (V : View sig .tc sp S2x8x512x512 .f32) (f : V.ty.Contents (Elt F)) (s : ℕ) (hs : s < 2) (k : ℕ) (hk : k < 8) (b : ∀ a, (![s, k, 0, 0] : Fin 4 → ℕ) a + S1x1x512x512.size a ≤ S2x8x512x512.size a) (w : FVec F S512x512 .f32)
    (L : List (View.Piece (Elt F) S2x8x512x512 .f32)) (j : S512x512.Idx) :
    V.read (Elt F) (V.writes (Elt F) f (⟨Rect.unit ![s, k, 0, 0] S1x1x512x512.size b, shapeCast S1x1x512x512 w shapeCasts_S512x512_S1x1x512x512⟩ :: L)) (ix4 ⟨s, hs⟩ ⟨k, hk⟩ (j 0) (j 1)) = w j := by
  rw [View.read_writes_cons_unit_of_mem V f b _ L (ix4 ⟨s, hs⟩ ⟨k, hk⟩ (j 0) (j 1)) (ix4 0 0 (j 0) (j 1) : S1x1x512x512.Idx) rfl
    (by intro a; fin_cases a <;> simp [ix4])]
  simp only [pointwise, ix2_eta]

theorem miss10 {sp : Space} (V : View sig .tc sp S2x8x512x512 .f32) (f : V.ty.Contents (Elt F)) (s : ℕ) (hs : s < 2) (k : ℕ) (b : ∀ a, (![s, k, 0, 0] : Fin 4 → ℕ) a + S1x1x512x512.size a ≤ S2x8x512x512.size a) (w)
    (L : List (View.Piece (Elt F) S2x8x512x512 .f32)) (h : Fin 8) (j : S512x512.Idx) (hne : h.val < k) :
    V.read (Elt F) (V.writes (Elt F) f (⟨Rect.unit ![s, k, 0, 0] S1x1x512x512.size b, w⟩ :: L)) (ix4 ⟨s, hs⟩ h (j 0) (j 1))
      = V.read (Elt F) (V.writes (Elt F) f L) (ix4 ⟨s, hs⟩ h (j 0) (j 1)) :=
  View.read_writes_cons_unit_of_not_mem V f b _ L _ rfl 1 (.inl hne)

set_option maxHeartbeats 0 in
theorem read10 {sp : Space} (V : View sig .tc sp S2x8x512x512 .f32) (f : V.ty.Contents (Elt F)) (s : ℕ) (hs : s < 2) (v : Fin 8 → FVec F S512x512 .f32) (h : Fin 8) (j : S512x512.Idx)
    (b0 : ∀ a, (![s, 0, 0, 0] : Fin 4 → ℕ) a + S1x1x512x512.size a ≤ S2x8x512x512.size a)
    (b1 : ∀ a, (![s, 1, 0, 0] : Fin 4 → ℕ) a + S1x1x512x512.size a ≤ S2x8x512x512.size a)
    (b2 : ∀ a, (![s, 2, 0, 0] : Fin 4 → ℕ) a + S1x1x512x512.size a ≤ S2x8x512x512.size a)
    (b3 : ∀ a, (![s, 3, 0, 0] : Fin 4 → ℕ) a + S1x1x512x512.size a ≤ S2x8x512x512.size a)
    (b4 : ∀ a, (![s, 4, 0, 0] : Fin 4 → ℕ) a + S1x1x512x512.size a ≤ S2x8x512x512.size a)
    (b5 : ∀ a, (![s, 5, 0, 0] : Fin 4 → ℕ) a + S1x1x512x512.size a ≤ S2x8x512x512.size a)
    (b6 : ∀ a, (![s, 6, 0, 0] : Fin 4 → ℕ) a + S1x1x512x512.size a ≤ S2x8x512x512.size a)
    (b7 : ∀ a, (![s, 7, 0, 0] : Fin 4 → ℕ) a + S1x1x512x512.size a ≤ S2x8x512x512.size a) :
    V.read (Elt F) (V.writes (Elt F) f
      [⟨Rect.unit ![s, 7, 0, 0] S1x1x512x512.size b7, shapeCast S1x1x512x512 (v 7) shapeCasts_S512x512_S1x1x512x512⟩,
       ⟨Rect.unit ![s, 6, 0, 0] S1x1x512x512.size b6, shapeCast S1x1x512x512 (v 6) shapeCasts_S512x512_S1x1x512x512⟩,
       ⟨Rect.unit ![s, 5, 0, 0] S1x1x512x512.size b5, shapeCast S1x1x512x512 (v 5) shapeCasts_S512x512_S1x1x512x512⟩,
       ⟨Rect.unit ![s, 4, 0, 0] S1x1x512x512.size b4, shapeCast S1x1x512x512 (v 4) shapeCasts_S512x512_S1x1x512x512⟩,
       ⟨Rect.unit ![s, 3, 0, 0] S1x1x512x512.size b3, shapeCast S1x1x512x512 (v 3) shapeCasts_S512x512_S1x1x512x512⟩,
       ⟨Rect.unit ![s, 2, 0, 0] S1x1x512x512.size b2, shapeCast S1x1x512x512 (v 2) shapeCasts_S512x512_S1x1x512x512⟩,
       ⟨Rect.unit ![s, 1, 0, 0] S1x1x512x512.size b1, shapeCast S1x1x512x512 (v 1) shapeCasts_S512x512_S1x1x512x512⟩,
       ⟨Rect.unit ![s, 0, 0, 0] S1x1x512x512.size b0, shapeCast S1x1x512x512 (v 0) shapeCasts_S512x512_S1x1x512x512⟩]) (ix4 ⟨s, hs⟩ h (j 0) (j 1)) = v h j := by
  obtain ⟨h, hh⟩ := h
  rcases (show h = 0 ∨ h = 1 ∨ h = 2 ∨ h = 3 ∨ h = 4 ∨ h = 5 ∨ h = 6 ∨ h = 7 by omega) with rfl | rfl | rfl | rfl | rfl | rfl | rfl | rfl
  · rw [miss10 V f s hs 7 _ _ _ _ j (show 0 < 7 by omega), miss10 V f s hs 6 _ _ _ _ j (show 0 < 6 by omega), miss10 V f s hs 5 _ _ _ _ j (show 0 < 5 by omega), miss10 V f s hs 4 _ _ _ _ j (show 0 < 4 by omega), miss10 V f s hs 3 _ _ _ _ j (show 0 < 3 by omega), miss10 V f s hs 2 _ _ _ _ j (show 0 < 2 by omega), miss10 V f s hs 1 _ _ _ _ j (show 0 < 1 by omega)]; exact hit10 V f s hs 0 hh _ _ _ j
  · rw [miss10 V f s hs 7 _ _ _ _ j (show 1 < 7 by omega), miss10 V f s hs 6 _ _ _ _ j (show 1 < 6 by omega), miss10 V f s hs 5 _ _ _ _ j (show 1 < 5 by omega), miss10 V f s hs 4 _ _ _ _ j (show 1 < 4 by omega), miss10 V f s hs 3 _ _ _ _ j (show 1 < 3 by omega), miss10 V f s hs 2 _ _ _ _ j (show 1 < 2 by omega)]; exact hit10 V f s hs 1 hh _ _ _ j
  · rw [miss10 V f s hs 7 _ _ _ _ j (show 2 < 7 by omega), miss10 V f s hs 6 _ _ _ _ j (show 2 < 6 by omega), miss10 V f s hs 5 _ _ _ _ j (show 2 < 5 by omega), miss10 V f s hs 4 _ _ _ _ j (show 2 < 4 by omega), miss10 V f s hs 3 _ _ _ _ j (show 2 < 3 by omega)]; exact hit10 V f s hs 2 hh _ _ _ j
  · rw [miss10 V f s hs 7 _ _ _ _ j (show 3 < 7 by omega), miss10 V f s hs 6 _ _ _ _ j (show 3 < 6 by omega), miss10 V f s hs 5 _ _ _ _ j (show 3 < 5 by omega), miss10 V f s hs 4 _ _ _ _ j (show 3 < 4 by omega)]; exact hit10 V f s hs 3 hh _ _ _ j
  · rw [miss10 V f s hs 7 _ _ _ _ j (show 4 < 7 by omega), miss10 V f s hs 6 _ _ _ _ j (show 4 < 6 by omega), miss10 V f s hs 5 _ _ _ _ j (show 4 < 5 by omega)]; exact hit10 V f s hs 4 hh _ _ _ j
  · rw [miss10 V f s hs 7 _ _ _ _ j (show 5 < 7 by omega), miss10 V f s hs 6 _ _ _ _ j (show 5 < 6 by omega)]; exact hit10 V f s hs 5 hh _ _ _ j
  · rw [miss10 V f s hs 7 _ _ _ _ j (show 6 < 7 by omega)]; exact hit10 V f s hs 6 hh _ _ _ j
  · exact hit10 V f s hs 7 hh _ _ _ j

theorem slab10_read (f : S2x8x512x512.Idx → Elt F .f32) (s : Fin 2) (h : Fin 8) (j : S512x512.Idx) :
    slab10 f s h j = A10.view.read (Elt F) f (ix4 s h (j 0) (j 1)) := rfl

/-- Eight stores, one per head: each head's part is its store's value. -/
theorem slab10_writes (f : S2x8x512x512.Idx → Elt F .f32) (s : ℕ) (hs : s < 2) (v : Fin 8 → FVec F S512x512 .f32) (h : Fin 8)
    (b0 : ∀ a, (![s, 0, 0, 0] : Fin 4 → ℕ) a + S1x1x512x512.size a ≤ S2x8x512x512.size a)
    (b1 : ∀ a, (![s, 1, 0, 0] : Fin 4 → ℕ) a + S1x1x512x512.size a ≤ S2x8x512x512.size a)
    (b2 : ∀ a, (![s, 2, 0, 0] : Fin 4 → ℕ) a + S1x1x512x512.size a ≤ S2x8x512x512.size a)
    (b3 : ∀ a, (![s, 3, 0, 0] : Fin 4 → ℕ) a + S1x1x512x512.size a ≤ S2x8x512x512.size a)
    (b4 : ∀ a, (![s, 4, 0, 0] : Fin 4 → ℕ) a + S1x1x512x512.size a ≤ S2x8x512x512.size a)
    (b5 : ∀ a, (![s, 5, 0, 0] : Fin 4 → ℕ) a + S1x1x512x512.size a ≤ S2x8x512x512.size a)
    (b6 : ∀ a, (![s, 6, 0, 0] : Fin 4 → ℕ) a + S1x1x512x512.size a ≤ S2x8x512x512.size a)
    (b7 : ∀ a, (![s, 7, 0, 0] : Fin 4 → ℕ) a + S1x1x512x512.size a ≤ S2x8x512x512.size a) :
    slab10 (A10.view.writes (Elt F) f
      [⟨Rect.unit ![s, 7, 0, 0] S1x1x512x512.size b7, shapeCast S1x1x512x512 (v 7) shapeCasts_S512x512_S1x1x512x512⟩,
       ⟨Rect.unit ![s, 6, 0, 0] S1x1x512x512.size b6, shapeCast S1x1x512x512 (v 6) shapeCasts_S512x512_S1x1x512x512⟩,
       ⟨Rect.unit ![s, 5, 0, 0] S1x1x512x512.size b5, shapeCast S1x1x512x512 (v 5) shapeCasts_S512x512_S1x1x512x512⟩,
       ⟨Rect.unit ![s, 4, 0, 0] S1x1x512x512.size b4, shapeCast S1x1x512x512 (v 4) shapeCasts_S512x512_S1x1x512x512⟩,
       ⟨Rect.unit ![s, 3, 0, 0] S1x1x512x512.size b3, shapeCast S1x1x512x512 (v 3) shapeCasts_S512x512_S1x1x512x512⟩,
       ⟨Rect.unit ![s, 2, 0, 0] S1x1x512x512.size b2, shapeCast S1x1x512x512 (v 2) shapeCasts_S512x512_S1x1x512x512⟩,
       ⟨Rect.unit ![s, 1, 0, 0] S1x1x512x512.size b1, shapeCast S1x1x512x512 (v 1) shapeCasts_S512x512_S1x1x512x512⟩,
       ⟨Rect.unit ![s, 0, 0, 0] S1x1x512x512.size b0, shapeCast S1x1x512x512 (v 0) shapeCasts_S512x512_S1x1x512x512⟩]) ⟨s, hs⟩ h = v h :=
  funext fun j => (slab10_read _ ⟨s, hs⟩ h j).trans <| read10 A10.view f s hs v h j b0 b1 b2 b3 b4 b5 b6 b7

end Attn

end
-- ==== Proof.TripBase.lean ====
module

public import proofs.«01_k».proof.Proof.Spec

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

theorem off17_eq (a : BitVec 32) : k0_off17 a = ![a.toNat, 0, 0] := rfl
instance closedOff17 (a : BitVec 32) : ClosedOff (k0_off17 a) := ⟨_, off17_eq a⟩
theorem off18_eq (a : BitVec 32) : k0_off18 a = ![a.toNat, 80, 0] := rfl
instance closedOff18 (a : BitVec 32) : ClosedOff (k0_off18 a) := ⟨_, off18_eq a⟩
theorem off19_eq (a : BitVec 32) : k0_off19 a = ![a.toNat, 160, 0] := rfl
instance closedOff19 (a : BitVec 32) : ClosedOff (k0_off19 a) := ⟨_, off19_eq a⟩
theorem off20_eq (a : BitVec 32) : k0_off20 a = ![a.toNat, 240, 0] := rfl
instance closedOff20 (a : BitVec 32) : ClosedOff (k0_off20 a) := ⟨_, off20_eq a⟩
theorem off21_eq (a : BitVec 32) : k0_off21 a = ![a.toNat, 320, 0] := rfl
instance closedOff21 (a : BitVec 32) : ClosedOff (k0_off21 a) := ⟨_, off21_eq a⟩
theorem off22_eq (a : BitVec 32) : k0_off22 a = ![a.toNat, 400, 0] := rfl
instance closedOff22 (a : BitVec 32) : ClosedOff (k0_off22 a) := ⟨_, off22_eq a⟩
theorem off23_eq (a : BitVec 32) : k0_off23 a = ![a.toNat, 480, 0] := rfl
instance closedOff23 (a : BitVec 32) : ClosedOff (k0_off23 a) := ⟨_, off23_eq a⟩
theorem off24_eq (a : BitVec 32) : k0_off24 a = ![a.toNat, 560, 0] := rfl
instance closedOff24 (a : BitVec 32) : ClosedOff (k0_off24 a) := ⟨_, off24_eq a⟩
theorem off25_eq (a : BitVec 32) : k0_off25 a = ![a.toNat, 0, 0] := rfl
instance closedOff25 (a : BitVec 32) : ClosedOff (k0_off25 a) := ⟨_, off25_eq a⟩
theorem off26_eq (a : BitVec 32) : k0_off26 a = ![a.toNat, 80, 0] := rfl
instance closedOff26 (a : BitVec 32) : ClosedOff (k0_off26 a) := ⟨_, off26_eq a⟩
theorem off27_eq (a : BitVec 32) : k0_off27 a = ![a.toNat, 160, 0] := rfl
instance closedOff27 (a : BitVec 32) : ClosedOff (k0_off27 a) := ⟨_, off27_eq a⟩
theorem off28_eq (a : BitVec 32) : k0_off28 a = ![a.toNat, 240, 0] := rfl
instance closedOff28 (a : BitVec 32) : ClosedOff (k0_off28 a) := ⟨_, off28_eq a⟩
theorem off29_eq (a : BitVec 32) : k0_off29 a = ![a.toNat, 320, 0] := rfl
instance closedOff29 (a : BitVec 32) : ClosedOff (k0_off29 a) := ⟨_, off29_eq a⟩
theorem off30_eq (a : BitVec 32) : k0_off30 a = ![a.toNat, 400, 0] := rfl
instance closedOff30 (a : BitVec 32) : ClosedOff (k0_off30 a) := ⟨_, off30_eq a⟩
theorem off31_eq (a : BitVec 32) : k0_off31 a = ![a.toNat, 480, 0] := rfl
instance closedOff31 (a : BitVec 32) : ClosedOff (k0_off31 a) := ⟨_, off31_eq a⟩
theorem off32_eq (a : BitVec 32) : k0_off32 a = ![a.toNat, 560, 0] := rfl
instance closedOff32 (a : BitVec 32) : ClosedOff (k0_off32 a) := ⟨_, off32_eq a⟩
theorem off34_eq (a : BitVec 32) : k0_off34 a = ![a.toNat, 0, 0] := rfl
instance closedOff34 (a : BitVec 32) : ClosedOff (k0_off34 a) := ⟨_, off34_eq a⟩
theorem off36_eq (a : BitVec 32) : k0_off36 a = ![a.toNat, 80, 0] := rfl
instance closedOff36 (a : BitVec 32) : ClosedOff (k0_off36 a) := ⟨_, off36_eq a⟩
theorem off38_eq (a : BitVec 32) : k0_off38 a = ![a.toNat, 160, 0] := rfl
instance closedOff38 (a : BitVec 32) : ClosedOff (k0_off38 a) := ⟨_, off38_eq a⟩
theorem off40_eq (a : BitVec 32) : k0_off40 a = ![a.toNat, 240, 0] := rfl
instance closedOff40 (a : BitVec 32) : ClosedOff (k0_off40 a) := ⟨_, off40_eq a⟩
theorem off42_eq (a : BitVec 32) : k0_off42 a = ![a.toNat, 320, 0] := rfl
instance closedOff42 (a : BitVec 32) : ClosedOff (k0_off42 a) := ⟨_, off42_eq a⟩
theorem off44_eq (a : BitVec 32) : k0_off44 a = ![a.toNat, 400, 0] := rfl
instance closedOff44 (a : BitVec 32) : ClosedOff (k0_off44 a) := ⟨_, off44_eq a⟩
theorem off46_eq (a : BitVec 32) : k0_off46 a = ![a.toNat, 480, 0] := rfl
instance closedOff46 (a : BitVec 32) : ClosedOff (k0_off46 a) := ⟨_, off46_eq a⟩
theorem off48_eq (a : BitVec 32) : k0_off48 a = ![a.toNat, 560, 0] := rfl
instance closedOff48 (a : BitVec 32) : ClosedOff (k0_off48 a) := ⟨_, off48_eq a⟩
theorem off50_eq (a : BitVec 32) : k0_off50 a = ![a.toNat, 0, 0] := rfl
instance closedOff50 (a : BitVec 32) : ClosedOff (k0_off50 a) := ⟨_, off50_eq a⟩
theorem off52_eq (a : BitVec 32) : k0_off52 a = ![a.toNat, 80, 0] := rfl
instance closedOff52 (a : BitVec 32) : ClosedOff (k0_off52 a) := ⟨_, off52_eq a⟩
theorem off54_eq (a : BitVec 32) : k0_off54 a = ![a.toNat, 160, 0] := rfl
instance closedOff54 (a : BitVec 32) : ClosedOff (k0_off54 a) := ⟨_, off54_eq a⟩
theorem off56_eq (a : BitVec 32) : k0_off56 a = ![a.toNat, 240, 0] := rfl
instance closedOff56 (a : BitVec 32) : ClosedOff (k0_off56 a) := ⟨_, off56_eq a⟩
theorem off58_eq (a : BitVec 32) : k0_off58 a = ![a.toNat, 320, 0] := rfl
instance closedOff58 (a : BitVec 32) : ClosedOff (k0_off58 a) := ⟨_, off58_eq a⟩
theorem off60_eq (a : BitVec 32) : k0_off60 a = ![a.toNat, 400, 0] := rfl
instance closedOff60 (a : BitVec 32) : ClosedOff (k0_off60 a) := ⟨_, off60_eq a⟩
theorem off62_eq (a : BitVec 32) : k0_off62 a = ![a.toNat, 480, 0] := rfl
instance closedOff62 (a : BitVec 32) : ClosedOff (k0_off62 a) := ⟨_, off62_eq a⟩
theorem off64_eq (a : BitVec 32) : k0_off64 a = ![a.toNat, 560, 0] := rfl
instance closedOff64 (a : BitVec 32) : ClosedOff (k0_off64 a) := ⟨_, off64_eq a⟩
theorem off65_eq (a : BitVec 32) : k0_off65 a = ![a.toNat, 0, 0] := rfl
instance closedOff65 (a : BitVec 32) : ClosedOff (k0_off65 a) := ⟨_, off65_eq a⟩
theorem off66_eq (a : BitVec 32) : k0_off66 a = ![a.toNat, 80, 0] := rfl
instance closedOff66 (a : BitVec 32) : ClosedOff (k0_off66 a) := ⟨_, off66_eq a⟩
theorem off67_eq (a : BitVec 32) : k0_off67 a = ![a.toNat, 160, 0] := rfl
instance closedOff67 (a : BitVec 32) : ClosedOff (k0_off67 a) := ⟨_, off67_eq a⟩
theorem off68_eq (a : BitVec 32) : k0_off68 a = ![a.toNat, 240, 0] := rfl
instance closedOff68 (a : BitVec 32) : ClosedOff (k0_off68 a) := ⟨_, off68_eq a⟩
theorem off69_eq (a : BitVec 32) : k0_off69 a = ![a.toNat, 320, 0] := rfl
instance closedOff69 (a : BitVec 32) : ClosedOff (k0_off69 a) := ⟨_, off69_eq a⟩
theorem off70_eq (a : BitVec 32) : k0_off70 a = ![a.toNat, 400, 0] := rfl
instance closedOff70 (a : BitVec 32) : ClosedOff (k0_off70 a) := ⟨_, off70_eq a⟩
theorem off71_eq (a : BitVec 32) : k0_off71 a = ![a.toNat, 480, 0] := rfl
instance closedOff71 (a : BitVec 32) : ClosedOff (k0_off71 a) := ⟨_, off71_eq a⟩
theorem off72_eq (a : BitVec 32) : k0_off72 a = ![a.toNat, 560, 0] := rfl
instance closedOff72 (a : BitVec 32) : ClosedOff (k0_off72 a) := ⟨_, off72_eq a⟩
theorem off73_eq (a : BitVec 32) : k0_off73 a = ![a.toNat, 0, 0] := rfl
instance closedOff73 (a : BitVec 32) : ClosedOff (k0_off73 a) := ⟨_, off73_eq a⟩
theorem off74_eq (a : BitVec 32) : k0_off74 a = ![a.toNat, 80, 0] := rfl
instance closedOff74 (a : BitVec 32) : ClosedOff (k0_off74 a) := ⟨_, off74_eq a⟩
theorem off75_eq (a : BitVec 32) : k0_off75 a = ![a.toNat, 160, 0] := rfl
instance closedOff75 (a : BitVec 32) : ClosedOff (k0_off75 a) := ⟨_, off75_eq a⟩
theorem off76_eq (a : BitVec 32) : k0_off76 a = ![a.toNat, 240, 0] := rfl
instance closedOff76 (a : BitVec 32) : ClosedOff (k0_off76 a) := ⟨_, off76_eq a⟩
theorem off77_eq (a : BitVec 32) : k0_off77 a = ![a.toNat, 320, 0] := rfl
instance closedOff77 (a : BitVec 32) : ClosedOff (k0_off77 a) := ⟨_, off77_eq a⟩
theorem off78_eq (a : BitVec 32) : k0_off78 a = ![a.toNat, 400, 0] := rfl
instance closedOff78 (a : BitVec 32) : ClosedOff (k0_off78 a) := ⟨_, off78_eq a⟩
theorem off79_eq (a : BitVec 32) : k0_off79 a = ![a.toNat, 480, 0] := rfl
instance closedOff79 (a : BitVec 32) : ClosedOff (k0_off79 a) := ⟨_, off79_eq a⟩
theorem off80_eq (a : BitVec 32) : k0_off80 a = ![a.toNat, 560, 0] := rfl
instance closedOff80 (a : BitVec 32) : ClosedOff (k0_off80 a) := ⟨_, off80_eq a⟩
theorem off82_eq (a : BitVec 32) : k0_off82 a = ![a.toNat, 0, 0] := rfl
instance closedOff82 (a : BitVec 32) : ClosedOff (k0_off82 a) := ⟨_, off82_eq a⟩
theorem off84_eq (a : BitVec 32) : k0_off84 a = ![a.toNat, 80, 0] := rfl
instance closedOff84 (a : BitVec 32) : ClosedOff (k0_off84 a) := ⟨_, off84_eq a⟩
theorem off86_eq (a : BitVec 32) : k0_off86 a = ![a.toNat, 160, 0] := rfl
instance closedOff86 (a : BitVec 32) : ClosedOff (k0_off86 a) := ⟨_, off86_eq a⟩
theorem off88_eq (a : BitVec 32) : k0_off88 a = ![a.toNat, 240, 0] := rfl
instance closedOff88 (a : BitVec 32) : ClosedOff (k0_off88 a) := ⟨_, off88_eq a⟩
theorem off90_eq (a : BitVec 32) : k0_off90 a = ![a.toNat, 320, 0] := rfl
instance closedOff90 (a : BitVec 32) : ClosedOff (k0_off90 a) := ⟨_, off90_eq a⟩
theorem off92_eq (a : BitVec 32) : k0_off92 a = ![a.toNat, 400, 0] := rfl
instance closedOff92 (a : BitVec 32) : ClosedOff (k0_off92 a) := ⟨_, off92_eq a⟩
theorem off94_eq (a : BitVec 32) : k0_off94 a = ![a.toNat, 480, 0] := rfl
instance closedOff94 (a : BitVec 32) : ClosedOff (k0_off94 a) := ⟨_, off94_eq a⟩
theorem off96_eq (a : BitVec 32) : k0_off96 a = ![a.toNat, 560, 0] := rfl
instance closedOff96 (a : BitVec 32) : ClosedOff (k0_off96 a) := ⟨_, off96_eq a⟩
theorem off98_eq (a : BitVec 32) : k0_off98 a = ![a.toNat, 0, 0] := rfl
instance closedOff98 (a : BitVec 32) : ClosedOff (k0_off98 a) := ⟨_, off98_eq a⟩
theorem off100_eq (a : BitVec 32) : k0_off100 a = ![a.toNat, 80, 0] := rfl
instance closedOff100 (a : BitVec 32) : ClosedOff (k0_off100 a) := ⟨_, off100_eq a⟩
theorem off102_eq (a : BitVec 32) : k0_off102 a = ![a.toNat, 160, 0] := rfl
instance closedOff102 (a : BitVec 32) : ClosedOff (k0_off102 a) := ⟨_, off102_eq a⟩
theorem off104_eq (a : BitVec 32) : k0_off104 a = ![a.toNat, 240, 0] := rfl
instance closedOff104 (a : BitVec 32) : ClosedOff (k0_off104 a) := ⟨_, off104_eq a⟩
theorem off106_eq (a : BitVec 32) : k0_off106 a = ![a.toNat, 320, 0] := rfl
instance closedOff106 (a : BitVec 32) : ClosedOff (k0_off106 a) := ⟨_, off106_eq a⟩
theorem off108_eq (a : BitVec 32) : k0_off108 a = ![a.toNat, 400, 0] := rfl
instance closedOff108 (a : BitVec 32) : ClosedOff (k0_off108 a) := ⟨_, off108_eq a⟩
theorem off110_eq (a : BitVec 32) : k0_off110 a = ![a.toNat, 480, 0] := rfl
instance closedOff110 (a : BitVec 32) : ClosedOff (k0_off110 a) := ⟨_, off110_eq a⟩
theorem off112_eq (a : BitVec 32) : k0_off112 a = ![a.toNat, 560, 0] := rfl
instance closedOff112 (a : BitVec 32) : ClosedOff (k0_off112 a) := ⟨_, off112_eq a⟩

/-- The accumulators after the eight stores of a trip. -/
theorem slab11_raw (m M : Fin 8 → FVec F S1x512 .f32) (f10 : S2x8x512x512.Idx → Elt F .f32) (f8 : S16x640x512.Idx → Elt F .bf16) (f11 : S8x80x512.Idx → Elt F .f32)
    (s : ℕ) (hs : s < 2) (n : Fin 16) (h : Fin 8)
    (c0 : ∀ a, (![n.val, 0, 0] : Fin 3 → ℕ) a + S1x80x512.size a ≤ S16x640x512.size a)
    (c1 : ∀ a, (![n.val, 80, 0] : Fin 3 → ℕ) a + S1x80x512.size a ≤ S16x640x512.size a)
    (c2 : ∀ a, (![n.val, 160, 0] : Fin 3 → ℕ) a + S1x80x512.size a ≤ S16x640x512.size a)
    (c3 : ∀ a, (![n.val, 240, 0] : Fin 3 → ℕ) a + S1x80x512.size a ≤ S16x640x512.size a)
    (c4 : ∀ a, (![n.val, 320, 0] : Fin 3 → ℕ) a + S1x80x512.size a ≤ S16x640x512.size a)
    (c5 : ∀ a, (![n.val, 400, 0] : Fin 3 → ℕ) a + S1x80x512.size a ≤ S16x640x512.size a)
    (c6 : ∀ a, (![n.val, 480, 0] : Fin 3 → ℕ) a + S1x80x512.size a ≤ S16x640x512.size a)
    (c7 : ∀ a, (![n.val, 560, 0] : Fin 3 → ℕ) a + S1x80x512.size a ≤ S16x640x512.size a)
    (b0 : ∀ a, (![0, 0, 0] : Fin 3 → ℕ) a + S1x80x512.size a ≤ S8x80x512.size a)
    (b1 : ∀ a, (![1, 0, 0] : Fin 3 → ℕ) a + S1x80x512.size a ≤ S8x80x512.size a)
    (b2 : ∀ a, (![2, 0, 0] : Fin 3 → ℕ) a + S1x80x512.size a ≤ S8x80x512.size a)
    (b3 : ∀ a, (![3, 0, 0] : Fin 3 → ℕ) a + S1x80x512.size a ≤ S8x80x512.size a)
    (b4 : ∀ a, (![4, 0, 0] : Fin 3 → ℕ) a + S1x80x512.size a ≤ S8x80x512.size a)
    (b5 : ∀ a, (![5, 0, 0] : Fin 3 → ℕ) a + S1x80x512.size a ≤ S8x80x512.size a)
    (b6 : ∀ a, (![6, 0, 0] : Fin 3 → ℕ) a + S1x80x512.size a ≤ S8x80x512.size a)
    (b7 : ∀ a, (![7, 0, 0] : Fin 3 → ℕ) a + S1x80x512.size a ≤ S8x80x512.size a) :
    slab11 (A11.view.writes (Elt F) f11
      [⟨Rect.unit ![7, 0, 0] S1x80x512.size b7, k0_pay2282 (m 7) (M 7) (pCat (M 7) f10 s 7 hs (by omega)) (A8.view.readAt (Elt F) (Rect.unit (s := S16x640x512) ![n.val, 560, 0] S1x80x512.size c7).toLoadRect f8) (A11.view.readAt (Elt F) (Rect.unit (s := S8x80x512) ![7, 0, 0] S1x80x512.size b7).toLoadRect f11)⟩,
       ⟨Rect.unit ![6, 0, 0] S1x80x512.size b6, k0_pay2282 (m 6) (M 6) (pCat (M 6) f10 s 6 hs (by omega)) (A8.view.readAt (Elt F) (Rect.unit (s := S16x640x512) ![n.val, 480, 0] S1x80x512.size c6).toLoadRect f8) (A11.view.readAt (Elt F) (Rect.unit (s := S8x80x512) ![6, 0, 0] S1x80x512.size b6).toLoadRect f11)⟩,
       ⟨Rect.unit ![5, 0, 0] S1x80x512.size b5, k0_pay2282 (m 5) (M 5) (pCat (M 5) f10 s 5 hs (by omega)) (A8.view.readAt (Elt F) (Rect.unit (s := S16x640x512) ![n.val, 400, 0] S1x80x512.size c5).toLoadRect f8) (A11.view.readAt (Elt F) (Rect.unit (s := S8x80x512) ![5, 0, 0] S1x80x512.size b5).toLoadRect f11)⟩,
       ⟨Rect.unit ![4, 0, 0] S1x80x512.size b4, k0_pay2282 (m 4) (M 4) (pCat (M 4) f10 s 4 hs (by omega)) (A8.view.readAt (Elt F) (Rect.unit (s := S16x640x512) ![n.val, 320, 0] S1x80x512.size c4).toLoadRect f8) (A11.view.readAt (Elt F) (Rect.unit (s := S8x80x512) ![4, 0, 0] S1x80x512.size b4).toLoadRect f11)⟩,
       ⟨Rect.unit ![3, 0, 0] S1x80x512.size b3, k0_pay2282 (m 3) (M 3) (pCat (M 3) f10 s 3 hs (by omega)) (A8.view.readAt (Elt F) (Rect.unit (s := S16x640x512) ![n.val, 240, 0] S1x80x512.size c3).toLoadRect f8) (A11.view.readAt (Elt F) (Rect.unit (s := S8x80x512) ![3, 0, 0] S1x80x512.size b3).toLoadRect f11)⟩,
       ⟨Rect.unit ![2, 0, 0] S1x80x512.size b2, k0_pay2282 (m 2) (M 2) (pCat (M 2) f10 s 2 hs (by omega)) (A8.view.readAt (Elt F) (Rect.unit (s := S16x640x512) ![n.val, 160, 0] S1x80x512.size c2).toLoadRect f8) (A11.view.readAt (Elt F) (Rect.unit (s := S8x80x512) ![2, 0, 0] S1x80x512.size b2).toLoadRect f11)⟩,
       ⟨Rect.unit ![1, 0, 0] S1x80x512.size b1, k0_pay2282 (m 1) (M 1) (pCat (M 1) f10 s 1 hs (by omega)) (A8.view.readAt (Elt F) (Rect.unit (s := S16x640x512) ![n.val, 80, 0] S1x80x512.size c1).toLoadRect f8) (A11.view.readAt (Elt F) (Rect.unit (s := S8x80x512) ![1, 0, 0] S1x80x512.size b1).toLoadRect f11)⟩,
       ⟨Rect.unit ![0, 0, 0] S1x80x512.size b0, k0_pay2282 (m 0) (M 0) (pCat (M 0) f10 s 0 hs (by omega)) (A8.view.readAt (Elt F) (Rect.unit (s := S16x640x512) ![n.val, 0, 0] S1x80x512.size c0).toLoadRect f8) (A11.view.readAt (Elt F) (Rect.unit (s := S8x80x512) ![0, 0, 0] S1x80x512.size b0).toLoadRect f11)⟩]) h = accStep (m h) (M h) (pOf (slab10 f10 ⟨s, hs⟩ h) (M h)) (slab8 f8 n h) (slab11 f11 h) := by
  rw [acc_piece (m 7) (M 7) f10 f8 f11 s hs 7 (by omega) n 560 (by omega), acc_piece (m 6) (M 6) f10 f8 f11 s hs 6 (by omega) n 480 (by omega), acc_piece (m 5) (M 5) f10 f8 f11 s hs 5 (by omega) n 400 (by omega), acc_piece (m 4) (M 4) f10 f8 f11 s hs 4 (by omega) n 320 (by omega), acc_piece (m 3) (M 3) f10 f8 f11 s hs 3 (by omega) n 240 (by omega), acc_piece (m 2) (M 2) f10 f8 f11 s hs 2 (by omega) n 160 (by omega), acc_piece (m 1) (M 1) f10 f8 f11 s hs 1 (by omega) n 80 (by omega), acc_piece (m 0) (M 0) f10 f8 f11 s hs 0 (by omega) n 0 (by omega)]
  exact slab11_writes f11 (fun h => accStep (m h) (M h) (pOf (slab10 f10 ⟨s, hs⟩ h) (M h)) (slab8 f8 n h) (slab11 f11 h)) h b0 b1 b2 b3 b4 b5 b6 b7

/-- The scores a look-ahead leaves in the other slot. -/
theorem slab10_raw (Q : Fin 8 → FVec F S128x512 .bf16) (f7 : S16x512x1024.Idx → Elt F .bf16) (f10 : S2x8x512x512.Idx → Elt F .f32)
    (s : ℕ) (hs : s < 2) (n : Fin 16) (h : Fin 8) (o0 o1 o2 o3 o4 o5 o6 o7 : Fin 3 → ℕ) (e0 : o0 = ![n.val, 0, 0]) (e1 : o1 = ![n.val, 0, 128]) (e2 : o2 = ![n.val, 0, 256]) (e3 : o3 = ![n.val, 0, 384]) (e4 : o4 = ![n.val, 0, 512]) (e5 : o5 = ![n.val, 0, 640]) (e6 : o6 = ![n.val, 0, 768]) (e7 : o7 = ![n.val, 0, 896])
    (c0 : ∀ a, o0 a + S1x512x128.size a ≤ S16x512x1024.size a) (c1 : ∀ a, o1 a + S1x512x128.size a ≤ S16x512x1024.size a) (c2 : ∀ a, o2 a + S1x512x128.size a ≤ S16x512x1024.size a) (c3 : ∀ a, o3 a + S1x512x128.size a ≤ S16x512x1024.size a) (c4 : ∀ a, o4 a + S1x512x128.size a ≤ S16x512x1024.size a) (c5 : ∀ a, o5 a + S1x512x128.size a ≤ S16x512x1024.size a) (c6 : ∀ a, o6 a + S1x512x128.size a ≤ S16x512x1024.size a) (c7 : ∀ a, o7 a + S1x512x128.size a ≤ S16x512x1024.size a)
    (b0 : ∀ a, (![s, 0, 0, 0] : Fin 4 → ℕ) a + S1x1x512x512.size a ≤ S2x8x512x512.size a)
    (b1 : ∀ a, (![s, 1, 0, 0] : Fin 4 → ℕ) a + S1x1x512x512.size a ≤ S2x8x512x512.size a)
    (b2 : ∀ a, (![s, 2, 0, 0] : Fin 4 → ℕ) a + S1x1x512x512.size a ≤ S2x8x512x512.size a)
    (b3 : ∀ a, (![s, 3, 0, 0] : Fin 4 → ℕ) a + S1x1x512x512.size a ≤ S2x8x512x512.size a)
    (b4 : ∀ a, (![s, 4, 0, 0] : Fin 4 → ℕ) a + S1x1x512x512.size a ≤ S2x8x512x512.size a)
    (b5 : ∀ a, (![s, 5, 0, 0] : Fin 4 → ℕ) a + S1x1x512x512.size a ≤ S2x8x512x512.size a)
    (b6 : ∀ a, (![s, 6, 0, 0] : Fin 4 → ℕ) a + S1x1x512x512.size a ≤ S2x8x512x512.size a)
    (b7 : ∀ a, (![s, 7, 0, 0] : Fin 4 → ℕ) a + S1x1x512x512.size a ≤ S2x8x512x512.size a) :
    slab10 (A10.view.writes (Elt F) f10
      [⟨Rect.unit ![s, 7, 0, 0] S1x1x512x512.size b7, shapeCast S1x1x512x512 (dotQ (shapeCast S512x128 (A7.view.readAt (Elt F) (Rect.unit (s := S16x512x1024) o7 S1x512x128.size c7).toLoadRect f7) shapeCasts_S1x512x128_S512x128) (Q 7)) shapeCasts_S512x512_S1x1x512x512⟩,
       ⟨Rect.unit ![s, 6, 0, 0] S1x1x512x512.size b6, shapeCast S1x1x512x512 (dotQ (shapeCast S512x128 (A7.view.readAt (Elt F) (Rect.unit (s := S16x512x1024) o6 S1x512x128.size c6).toLoadRect f7) shapeCasts_S1x512x128_S512x128) (Q 6)) shapeCasts_S512x512_S1x1x512x512⟩,
       ⟨Rect.unit ![s, 5, 0, 0] S1x1x512x512.size b5, shapeCast S1x1x512x512 (dotQ (shapeCast S512x128 (A7.view.readAt (Elt F) (Rect.unit (s := S16x512x1024) o5 S1x512x128.size c5).toLoadRect f7) shapeCasts_S1x512x128_S512x128) (Q 5)) shapeCasts_S512x512_S1x1x512x512⟩,
       ⟨Rect.unit ![s, 4, 0, 0] S1x1x512x512.size b4, shapeCast S1x1x512x512 (dotQ (shapeCast S512x128 (A7.view.readAt (Elt F) (Rect.unit (s := S16x512x1024) o4 S1x512x128.size c4).toLoadRect f7) shapeCasts_S1x512x128_S512x128) (Q 4)) shapeCasts_S512x512_S1x1x512x512⟩,
       ⟨Rect.unit ![s, 3, 0, 0] S1x1x512x512.size b3, shapeCast S1x1x512x512 (dotQ (shapeCast S512x128 (A7.view.readAt (Elt F) (Rect.unit (s := S16x512x1024) o3 S1x512x128.size c3).toLoadRect f7) shapeCasts_S1x512x128_S512x128) (Q 3)) shapeCasts_S512x512_S1x1x512x512⟩,
       ⟨Rect.unit ![s, 2, 0, 0] S1x1x512x512.size b2, shapeCast S1x1x512x512 (dotQ (shapeCast S512x128 (A7.view.readAt (Elt F) (Rect.unit (s := S16x512x1024) o2 S1x512x128.size c2).toLoadRect f7) shapeCasts_S1x512x128_S512x128) (Q 2)) shapeCasts_S512x512_S1x1x512x512⟩,
       ⟨Rect.unit ![s, 1, 0, 0] S1x1x512x512.size b1, shapeCast S1x1x512x512 (dotQ (shapeCast S512x128 (A7.view.readAt (Elt F) (Rect.unit (s := S16x512x1024) o1 S1x512x128.size c1).toLoadRect f7) shapeCasts_S1x512x128_S512x128) (Q 1)) shapeCasts_S512x512_S1x1x512x512⟩,
       ⟨Rect.unit ![s, 0, 0, 0] S1x1x512x512.size b0, shapeCast S1x1x512x512 (dotQ (shapeCast S512x128 (A7.view.readAt (Elt F) (Rect.unit (s := S16x512x1024) o0 S1x512x128.size c0).toLoadRect f7) shapeCasts_S1x512x128_S512x128) (Q 0)) shapeCasts_S512x512_S1x1x512x512⟩]) ⟨s, hs⟩ h = dotQ (slab7 f7 n h) (Q h) := by
  subst e0 e1 e2 e3 e4 e5 e6 e7
  rw [rd7 f7 n 7 896 rfl, rd7 f7 n 6 768 rfl, rd7 f7 n 5 640 rfl, rd7 f7 n 4 512 rfl, rd7 f7 n 3 384 rfl, rd7 f7 n 2 256 rfl, rd7 f7 n 1 128 rfl, rd7 f7 n 0 0 rfl]
  exact slab10_writes f10 s hs (fun h => dotQ (slab7 f7 n h) (Q h)) h b0 b1 b2 b3 b4 b5 b6 b7

/-- The greatest score of each query, as the look-ahead computes it. -/
theorem max_raw (Q : FVec F S128x512 .bf16) (f7 : S16x512x1024.Idx → Elt F .bf16) (n : Fin 16) (h : Fin 8) (o : Fin 3 → ℕ) (e : o = ![n.val, 0, 128 * h.val])
    (c : ∀ a, o a + S1x512x128.size a ≤ S16x512x1024.size a) :
    rowMax (dotQ (shapeCast S512x128 (A7.view.readAt (Elt F) (Rect.unit (s := S16x512x1024) o S1x512x128.size c).toLoadRect f7) shapeCasts_S1x512x128_S512x128) Q) = rowMax (dotQ (slab7 f7 n h) Q) := by
  subst e
  rw [rd7 f7 n h _ rfl]

end Attn

end
-- ==== Proof.Trip0.lean ====
module

public import proofs.«01_k».proof.Proof.TripBase

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option maxHeartbeats 0 in
theorem trip0 (c : Dev nD) (i : grid0.Coords) (arg3 : Memref sig .tc .vmem S1024x512 .bf16) (harg3 : arg3.IsWhole) (arg6 : Memref sig .tc .vmem S512x512 .bf16) (harg6 : arg6.IsWhole)
    (Q : Fin 8 → FVec F S128x512 .bf16) (arg2 : BitVec 32) (v18 : BitVec 32) (v42 : FVec F S1x512 .f32) (v43 : FVec F S1x512 .f32) (v44 : FVec F S1x512 .f32) (v45 : FVec F S1x512 .f32) (v46 : FVec F S1x512 .f32) (v47 : FVec F S1x512 .f32) (v48 : FVec F S1x512 .f32) (v49 : FVec F S1x512 .f32) (v80 : FVec F S1x512 .f32) (v111 : FVec F S1x512 .f32) (v142 : FVec F S1x512 .f32) (v173 : FVec F S1x512 .f32) (v204 : FVec F S1x512 .f32) (v235 : FVec F S1x512 .f32) (v266 : FVec F S1x512 .f32) (v274 : FVec F S256x512 .f32) (v280 : FVec F S256x256 .f32) (v291 : FVec F S1x256 .f32)
    (k : Fin (k0_t1_loop i).trips) (hh2 : ¬(k0_cond2 i k = 1#1))
    (m s : Fin 8 → FVec F S1x512 .f32) (kc : BitVec 32)
    (hc : k0_chk1 i k kc) (nk nv : Fin 16) (hnk : k.val = nk.val) (hnv : kc.toNat = nv.val)
    (hn7 : ∀ a, (![k.val, 0, 0] : Fin 3 → ℕ) a + (![1, 512, 1024] : Fin 3 → ℕ) a ≤ S16x512x1024.size a)
    (hn8 : ∀ a, (![kc.toNat, 0, 0] : Fin 3 → ℕ) a + (![1, 640, 512] : Fin 3 → ℕ) a ≤ S16x640x512.size a)
    (f7 : S16x512x1024.Idx → Elt F .bf16) (f8 : S16x640x512.Idx → Elt F .bf16) (f10 : S2x8x512x512.Idx → Elt F .f32) (f11 : S8x80x512.Idx → Elt F .f32) :
    iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8) ∗ holdAll c A10 f10 ∗ holdAll c A11 f11)
      ⊢ wp (M := 𝕄) frame (wpE defs₀ 𝒱₀ (c : Thread nD τ) none) Set.univ
        (k0_t1_body (F := F) i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v18 (Q 0) (Q 1) (Q 2) (Q 3) (Q 4) (Q 5) (Q 6) (Q 7) v42 v43 v44 v45 v46 v47 v48 v49 v80 v111 v142 v173 v204 v235 v266 v274 v280 v291 k (m 0, m 1, m 2, m 3, m 4, m 5, m 6, m 7, kc, s 0, s 1, s 2, s 3, s 4, s 5, s 6, s 7))
        (fun r => iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8)
        ∗ ∃ f10' f11', holdAll c A10 f10' ∗ holdAll c A11 f11'
          ∗ ⌜r = (maximumf (m 0) (s 0), maximumf (m 1) (s 1), maximumf (m 2) (s 2), maximumf (m 3) (s 3), maximumf (m 4) (s 4), maximumf (m 5) (s 5), maximumf (m 6) (s 6), maximumf (m 7) (s 7), Scf.iv 0#32 1#32 k, rowMax (dotQ (slab7 f7 nk 0) (Q 0)), rowMax (dotQ (slab7 f7 nk 1) (Q 1)), rowMax (dotQ (slab7 f7 nk 2) (Q 2)), rowMax (dotQ (slab7 f7 nk 3) (Q 3)), rowMax (dotQ (slab7 f7 nk 4) (Q 4)), rowMax (dotQ (slab7 f7 nk 5) (Q 5)), rowMax (dotQ (slab7 f7 nk 6) (Q 6)), rowMax (dotQ (slab7 f7 nk 7) (Q 7)))⌝
          ∗ ⌜∀ h, slab11 f11' h = accStep (m h) (s h) (pOf (slab10 f10 0 h) (s h)) (slab8 f8 nv h) (slab11 f11 h)⌝
          ∗ ⌜∀ h, slab10 f10' 1 h = dotQ (slab7 f7 nk h) (Q h)⌝)) := by
  iintro ⟨H7, H8, H10, H11⟩
  unfold k0_t1_body
  sl_exec_parts
  sl_step
  isplitl [H7]; · iexact H7
  isplitl [H8]; · iexact H8
  iexists _; iexists _
  isplitl [H10]; · iexact H10
  isplitl [H11]; · iexact H11
  isplitr
  · ipureintro
    simp only [← max_raw (Q 0) f7 nk 0 (k0_off49 i k) (hnk ▸ k0_off49_eq i k) (k0_off49_inb i k hh2), ← max_raw (Q 1) f7 nk 1 (k0_off51 i k) (hnk ▸ k0_off51_eq i k) (k0_off51_inb i k hh2), ← max_raw (Q 2) f7 nk 2 (k0_off53 i k) (hnk ▸ k0_off53_eq i k) (k0_off53_inb i k hh2), ← max_raw (Q 3) f7 nk 3 (k0_off55 i k) (hnk ▸ k0_off55_eq i k) (k0_off55_inb i k hh2), ← max_raw (Q 4) f7 nk 4 (k0_off57 i k) (hnk ▸ k0_off57_eq i k) (k0_off57_inb i k hh2), ← max_raw (Q 5) f7 nk 5 (k0_off59 i k) (hnk ▸ k0_off59_eq i k) (k0_off59_inb i k hh2), ← max_raw (Q 6) f7 nk 6 (k0_off61 i k) (hnk ▸ k0_off61_eq i k) (k0_off61_inb i k hh2), ← max_raw (Q 7) f7 nk 7 (k0_off63 i k) (hnk ▸ k0_off63_eq i k) (k0_off63_inb i k hh2)]
    rfl
  isplitr
  · ipureintro
    intro h
    obtain ⟨nv, hv⟩ := nv
    simp only at hnv
    subst hnv
    exact slab11_raw m s f10 f8 f11 0 (by omega) ⟨kc.toNat, hv⟩ h _ _ _ _ _ _ _ _ _ _ _ _ _ _ _ _
  · ipureintro
    intro h
    exact slab10_raw Q f7 f10 1 (by omega) nk h _ _ _ _ _ _ _ _ (hnk ▸ k0_off49_eq i k) (hnk ▸ k0_off51_eq i k) (hnk ▸ k0_off53_eq i k) (hnk ▸ k0_off55_eq i k) (hnk ▸ k0_off57_eq i k) (hnk ▸ k0_off59_eq i k) (hnk ▸ k0_off61_eq i k) (hnk ▸ k0_off63_eq i k) _ _ _ _ _ _ _ _ _ _ _ _ _ _ _ _

end Attn

end
-- ==== Proof.Trip1.lean ====
module

public import proofs.«01_k».proof.Proof.TripBase

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option maxHeartbeats 0 in
theorem trip1 (c : Dev nD) (i : grid0.Coords) (arg3 : Memref sig .tc .vmem S1024x512 .bf16) (harg3 : arg3.IsWhole) (arg6 : Memref sig .tc .vmem S512x512 .bf16) (harg6 : arg6.IsWhole)
    (Q : Fin 8 → FVec F S128x512 .bf16) (arg2 : BitVec 32) (v18 : BitVec 32) (v42 : FVec F S1x512 .f32) (v43 : FVec F S1x512 .f32) (v44 : FVec F S1x512 .f32) (v45 : FVec F S1x512 .f32) (v46 : FVec F S1x512 .f32) (v47 : FVec F S1x512 .f32) (v48 : FVec F S1x512 .f32) (v49 : FVec F S1x512 .f32) (v80 : FVec F S1x512 .f32) (v111 : FVec F S1x512 .f32) (v142 : FVec F S1x512 .f32) (v173 : FVec F S1x512 .f32) (v204 : FVec F S1x512 .f32) (v235 : FVec F S1x512 .f32) (v266 : FVec F S1x512 .f32) (v274 : FVec F S256x512 .f32) (v280 : FVec F S256x256 .f32) (v291 : FVec F S1x256 .f32)
    (k : Fin (k0_t1_loop i).trips) (hh2 : k0_cond2 i k = 1#1) (hh3 : ¬(k0_cond3 i k = 1#1))
    (m s : Fin 8 → FVec F S1x512 .f32) (kc : BitVec 32)
    (hc : k0_chk1 i k kc) (nk nv : Fin 16) (hnk : k.val = nk.val) (hnv : kc.toNat = nv.val)
    (hn7 : ∀ a, (![k.val, 0, 0] : Fin 3 → ℕ) a + (![1, 512, 1024] : Fin 3 → ℕ) a ≤ S16x512x1024.size a)
    (hn8 : ∀ a, (![kc.toNat, 0, 0] : Fin 3 → ℕ) a + (![1, 640, 512] : Fin 3 → ℕ) a ≤ S16x640x512.size a)
    (f7 : S16x512x1024.Idx → Elt F .bf16) (f8 : S16x640x512.Idx → Elt F .bf16) (f10 : S2x8x512x512.Idx → Elt F .f32) (f11 : S8x80x512.Idx → Elt F .f32) :
    iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8) ∗ holdAll c A10 f10 ∗ holdAll c A11 f11)
      ⊢ wp (M := 𝕄) frame (wpE defs₀ 𝒱₀ (c : Thread nD τ) none) Set.univ
        (k0_t1_body (F := F) i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v18 (Q 0) (Q 1) (Q 2) (Q 3) (Q 4) (Q 5) (Q 6) (Q 7) v42 v43 v44 v45 v46 v47 v48 v49 v80 v111 v142 v173 v204 v235 v266 v274 v280 v291 k (m 0, m 1, m 2, m 3, m 4, m 5, m 6, m 7, kc, s 0, s 1, s 2, s 3, s 4, s 5, s 6, s 7))
        (fun r => iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8)
        ∗ ∃ f10' f11', holdAll c A10 f10' ∗ holdAll c A11 f11'
          ∗ ⌜r = (maximumf (m 0) (s 0), maximumf (m 1) (s 1), maximumf (m 2) (s 2), maximumf (m 3) (s 3), maximumf (m 4) (s 4), maximumf (m 5) (s 5), maximumf (m 6) (s 6), maximumf (m 7) (s 7), Scf.iv 0#32 1#32 k, rowMax (dotQ (slab7 f7 nk 0) (Q 0)), rowMax (dotQ (slab7 f7 nk 1) (Q 1)), rowMax (dotQ (slab7 f7 nk 2) (Q 2)), rowMax (dotQ (slab7 f7 nk 3) (Q 3)), rowMax (dotQ (slab7 f7 nk 4) (Q 4)), rowMax (dotQ (slab7 f7 nk 5) (Q 5)), rowMax (dotQ (slab7 f7 nk 6) (Q 6)), rowMax (dotQ (slab7 f7 nk 7) (Q 7)))⌝
          ∗ ⌜∀ h, slab11 f11' h = accStep (m h) (s h) (pOf (slab10 f10 1 h) (s h)) (slab8 f8 nv h) (slab11 f11 h)⌝
          ∗ ⌜∀ h, slab10 f10' 0 h = dotQ (slab7 f7 nk h) (Q h)⌝)) := by
  iintro ⟨H7, H8, H10, H11⟩
  unfold k0_t1_body
  sl_exec_parts
  sl_step
  isplitl [H7]; · iexact H7
  isplitl [H8]; · iexact H8
  iexists _; iexists _
  isplitl [H10]; · iexact H10
  isplitl [H11]; · iexact H11
  isplitr
  · ipureintro
    simp only [← max_raw (Q 0) f7 nk 0 (k0_off33 i k) (hnk ▸ k0_off33_eq i k) (k0_off33_inb i k hh2 hh3), ← max_raw (Q 1) f7 nk 1 (k0_off35 i k) (hnk ▸ k0_off35_eq i k) (k0_off35_inb i k hh2 hh3), ← max_raw (Q 2) f7 nk 2 (k0_off37 i k) (hnk ▸ k0_off37_eq i k) (k0_off37_inb i k hh2 hh3), ← max_raw (Q 3) f7 nk 3 (k0_off39 i k) (hnk ▸ k0_off39_eq i k) (k0_off39_inb i k hh2 hh3), ← max_raw (Q 4) f7 nk 4 (k0_off41 i k) (hnk ▸ k0_off41_eq i k) (k0_off41_inb i k hh2 hh3), ← max_raw (Q 5) f7 nk 5 (k0_off43 i k) (hnk ▸ k0_off43_eq i k) (k0_off43_inb i k hh2 hh3), ← max_raw (Q 6) f7 nk 6 (k0_off45 i k) (hnk ▸ k0_off45_eq i k) (k0_off45_inb i k hh2 hh3), ← max_raw (Q 7) f7 nk 7 (k0_off47 i k) (hnk ▸ k0_off47_eq i k) (k0_off47_inb i k hh2 hh3)]
    rfl
  isplitr
  · ipureintro
    intro h
    obtain ⟨nv, hv⟩ := nv
    simp only at hnv
    subst hnv
    exact slab11_raw m s f10 f8 f11 1 (by omega) ⟨kc.toNat, hv⟩ h _ _ _ _ _ _ _ _ _ _ _ _ _ _ _ _
  · ipureintro
    intro h
    exact slab10_raw Q f7 f10 0 (by omega) nk h _ _ _ _ _ _ _ _ (hnk ▸ k0_off33_eq i k) (hnk ▸ k0_off35_eq i k) (hnk ▸ k0_off37_eq i k) (hnk ▸ k0_off39_eq i k) (hnk ▸ k0_off41_eq i k) (hnk ▸ k0_off43_eq i k) (hnk ▸ k0_off45_eq i k) (hnk ▸ k0_off47_eq i k) _ _ _ _ _ _ _ _ _ _ _ _ _ _ _ _

end Attn

end
-- ==== Proof.Trip2.lean ====
module

public import proofs.«01_k».proof.Proof.TripBase

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option maxHeartbeats 0 in
theorem trip2 (c : Dev nD) (i : grid0.Coords) (arg3 : Memref sig .tc .vmem S1024x512 .bf16) (harg3 : arg3.IsWhole) (arg6 : Memref sig .tc .vmem S512x512 .bf16) (harg6 : arg6.IsWhole)
    (Q : Fin 8 → FVec F S128x512 .bf16) (arg2 : BitVec 32) (v18 : BitVec 32) (v42 : FVec F S1x512 .f32) (v43 : FVec F S1x512 .f32) (v44 : FVec F S1x512 .f32) (v45 : FVec F S1x512 .f32) (v46 : FVec F S1x512 .f32) (v47 : FVec F S1x512 .f32) (v48 : FVec F S1x512 .f32) (v49 : FVec F S1x512 .f32) (v80 : FVec F S1x512 .f32) (v111 : FVec F S1x512 .f32) (v142 : FVec F S1x512 .f32) (v173 : FVec F S1x512 .f32) (v204 : FVec F S1x512 .f32) (v235 : FVec F S1x512 .f32) (v266 : FVec F S1x512 .f32) (v274 : FVec F S256x512 .f32) (v280 : FVec F S256x256 .f32) (v291 : FVec F S1x256 .f32)
    (k : Fin (k0_t1_loop i).trips) (hh2 : k0_cond2 i k = 1#1) (hh3 : k0_cond3 i k = 1#1) (hh4 : ¬(k0_cond4 i k = 1#1))
    (m s : Fin 8 → FVec F S1x512 .f32) (kc : BitVec 32)
    (hc : k0_chk1 i k kc) (nk nv : Fin 16) (hnk : k.val = nk.val) (hnv : kc.toNat = nv.val)
    (hn7 : ∀ a, (![k.val, 0, 0] : Fin 3 → ℕ) a + (![1, 512, 1024] : Fin 3 → ℕ) a ≤ S16x512x1024.size a)
    (hn8 : ∀ a, (![kc.toNat, 0, 0] : Fin 3 → ℕ) a + (![1, 640, 512] : Fin 3 → ℕ) a ≤ S16x640x512.size a)
    (f7 : S16x512x1024.Idx → Elt F .bf16) (f8 : S16x640x512.Idx → Elt F .bf16) (f10 : S2x8x512x512.Idx → Elt F .f32) (f11 : S8x80x512.Idx → Elt F .f32) :
    iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8) ∗ holdAll c A10 f10 ∗ holdAll c A11 f11)
      ⊢ wp (M := 𝕄) frame (wpE defs₀ 𝒱₀ (c : Thread nD τ) none) Set.univ
        (k0_t1_body (F := F) i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v18 (Q 0) (Q 1) (Q 2) (Q 3) (Q 4) (Q 5) (Q 6) (Q 7) v42 v43 v44 v45 v46 v47 v48 v49 v80 v111 v142 v173 v204 v235 v266 v274 v280 v291 k (m 0, m 1, m 2, m 3, m 4, m 5, m 6, m 7, kc, s 0, s 1, s 2, s 3, s 4, s 5, s 6, s 7))
        (fun r => iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8)
        ∗ ∃ f10' f11', holdAll c A10 f10' ∗ holdAll c A11 f11'
          ∗ ⌜r = (maximumf (m 0) (s 0), maximumf (m 1) (s 1), maximumf (m 2) (s 2), maximumf (m 3) (s 3), maximumf (m 4) (s 4), maximumf (m 5) (s 5), maximumf (m 6) (s 6), maximumf (m 7) (s 7), Scf.iv 0#32 1#32 k, s 0, s 1, s 2, s 3, s 4, s 5, s 6, s 7)⌝
          ∗ ⌜∀ h, slab11 f11' h = accStep (m h) (s h) (pOf (slab10 f10 0 h) (s h)) (slab8 f8 nv h) (slab11 f11 h)⌝)) := by
  iintro ⟨H7, H8, H10, H11⟩
  unfold k0_t1_body
  sl_exec_parts
  sl_step
  isplitl [H7]; · iexact H7
  isplitl [H8]; · iexact H8
  iexists _; iexists _
  isplitl [H10]; · iexact H10
  isplitl [H11]; · iexact H11
  isplitr
  · ipureintro
    rfl
  · ipureintro
    intro h
    obtain ⟨nv, hv⟩ := nv
    simp only at hnv
    subst hnv
    exact slab11_raw m s f10 f8 f11 0 (by omega) ⟨kc.toNat, hv⟩ h _ _ _ _ _ _ _ _ _ _ _ _ _ _ _ _

end Attn

end
-- ==== Proof.Trip3.lean ====
module

public import proofs.«01_k».proof.Proof.TripBase

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

set_option maxHeartbeats 0 in
theorem trip3 (c : Dev nD) (i : grid0.Coords) (arg3 : Memref sig .tc .vmem S1024x512 .bf16) (harg3 : arg3.IsWhole) (arg6 : Memref sig .tc .vmem S512x512 .bf16) (harg6 : arg6.IsWhole)
    (Q : Fin 8 → FVec F S128x512 .bf16) (arg2 : BitVec 32) (v18 : BitVec 32) (v42 : FVec F S1x512 .f32) (v43 : FVec F S1x512 .f32) (v44 : FVec F S1x512 .f32) (v45 : FVec F S1x512 .f32) (v46 : FVec F S1x512 .f32) (v47 : FVec F S1x512 .f32) (v48 : FVec F S1x512 .f32) (v49 : FVec F S1x512 .f32) (v80 : FVec F S1x512 .f32) (v111 : FVec F S1x512 .f32) (v142 : FVec F S1x512 .f32) (v173 : FVec F S1x512 .f32) (v204 : FVec F S1x512 .f32) (v235 : FVec F S1x512 .f32) (v266 : FVec F S1x512 .f32) (v274 : FVec F S256x512 .f32) (v280 : FVec F S256x256 .f32) (v291 : FVec F S1x256 .f32)
    (k : Fin (k0_t1_loop i).trips) (hh2 : k0_cond2 i k = 1#1) (hh3 : k0_cond3 i k = 1#1) (hh4 : k0_cond4 i k = 1#1)
    (m s : Fin 8 → FVec F S1x512 .f32) (kc : BitVec 32)
    (hc : k0_chk1 i k kc) (nk nv : Fin 16) (hnk : k.val = nk.val) (hnv : kc.toNat = nv.val)
    (hn7 : ∀ a, (![k.val, 0, 0] : Fin 3 → ℕ) a + (![1, 512, 1024] : Fin 3 → ℕ) a ≤ S16x512x1024.size a)
    (hn8 : ∀ a, (![kc.toNat, 0, 0] : Fin 3 → ℕ) a + (![1, 640, 512] : Fin 3 → ℕ) a ≤ S16x640x512.size a)
    (f7 : S16x512x1024.Idx → Elt F .bf16) (f8 : S16x640x512.Idx → Elt F .bf16) (f10 : S2x8x512x512.Idx → Elt F .f32) (f11 : S8x80x512.Idx → Elt F .f32) :
    iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8) ∗ holdAll c A10 f10 ∗ holdAll c A11 f11)
      ⊢ wp (M := 𝕄) frame (wpE defs₀ 𝒱₀ (c : Thread nD τ) none) Set.univ
        (k0_t1_body (F := F) i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v18 (Q 0) (Q 1) (Q 2) (Q 3) (Q 4) (Q 5) (Q 6) (Q 7) v42 v43 v44 v45 v46 v47 v48 v49 v80 v111 v142 v173 v204 v235 v266 v274 v280 v291 k (m 0, m 1, m 2, m 3, m 4, m 5, m 6, m 7, kc, s 0, s 1, s 2, s 3, s 4, s 5, s 6, s 7))
        (fun r => iprop((A7.view.loc (c : Thread nD τ) ↦[A7.view.setOn (Rect.unit (s := S16x512x1024) ![k.val, 0, 0] ![1, 512, 1024] hn7).set]{fullShare} f7)
        ∗ (A8.view.loc (c : Thread nD τ) ↦[A8.view.setOn (Rect.unit (s := S16x640x512) ![kc.toNat, 0, 0] ![1, 640, 512] hn8).set]{fullShare} f8)
        ∗ ∃ f10' f11', holdAll c A10 f10' ∗ holdAll c A11 f11'
          ∗ ⌜r = (maximumf (m 0) (s 0), maximumf (m 1) (s 1), maximumf (m 2) (s 2), maximumf (m 3) (s 3), maximumf (m 4) (s 4), maximumf (m 5) (s 5), maximumf (m 6) (s 6), maximumf (m 7) (s 7), Scf.iv 0#32 1#32 k, s 0, s 1, s 2, s 3, s 4, s 5, s 6, s 7)⌝
          ∗ ⌜∀ h, slab11 f11' h = accStep (m h) (s h) (pOf (slab10 f10 1 h) (s h)) (slab8 f8 nv h) (slab11 f11 h)⌝)) := by
  iintro ⟨H7, H8, H10, H11⟩
  unfold k0_t1_body
  sl_exec_parts
  sl_step
  isplitl [H7]; · iexact H7
  isplitl [H8]; · iexact H8
  iexists _; iexists _
  isplitl [H10]; · iexact H10
  isplitl [H11]; · iexact H11
  isplitr
  · ipureintro
    rfl
  · ipureintro
    intro h
    obtain ⟨nv, hv⟩ := nv
    simp only at hnv
    subst hnv
    exact slab11_raw m s f10 f8 f11 1 (by omega) ⟨kc.toNat, hv⟩ h _ _ _ _ _ _ _ _ _ _ _ _ _ _ _ _

end Attn

end
-- ==== Proof.Loop.lean ====
module

public import proofs.«01_k».proof.Proof.Trip0
public import proofs.«01_k».proof.Proof.Trip1
public import proofs.«01_k».proof.Proof.Trip2
public import proofs.«01_k».proof.Proof.Trip3
public import Idealize.ShloMosaic.Lib.LoopRemainder

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ (Pipeline.UD sig nD τ) ℕ

/-! ### Which branch a trip takes -/

theorem k_le (i : grid0.Coords) (k : Fin (k0_t1_loop i).trips) : k.val ≤ (i 2).val := by
  have hq : (i 2).val < 16 := (i 2).isLt
  have hk := k.isLt
  revert hk
  generalize k.val = kk
  unfold k0_t1_loop
  generalize (i 2).val = q at *
  intro hk
  interval_cases q <;> exact Nat.le_of_lt_succ hk

theorem trips_eq (i : grid0.Coords) : (k0_t1_loop i).trips = (i 2).val + 1 := by
  have hq : (i 2).val < 16 := (i 2).isLt
  unfold k0_t1_loop
  generalize (i 2).val = q at *
  interval_cases q <;> rfl

theorem cond2_iff (i : grid0.Coords) (k : Fin (k0_t1_loop i).trips) : k0_cond2 i k = 1#1 ↔ ¬(k.val < (i 2).val ∧ k.val % 2 = 0) := by
  have hq : (i 2).val < 16 := (i 2).isLt
  have hk := k_le i k
  unfold k0_cond2
  generalize k.val = kk at *
  generalize (i 2).val = q at *
  interval_cases q <;> interval_cases kk <;> decide

theorem cond3_iff (i : grid0.Coords) (k : Fin (k0_t1_loop i).trips) : k0_cond3 i k = 1#1 ↔ ¬(k.val < (i 2).val ∧ k.val % 2 = 1) := by
  have hq : (i 2).val < 16 := (i 2).isLt
  have hk := k_le i k
  unfold k0_cond3
  generalize k.val = kk at *
  generalize (i 2).val = q at *
  interval_cases q <;> interval_cases kk <;> decide

theorem cond4_iff (i : grid0.Coords) (k : Fin (k0_t1_loop i).trips) : k0_cond4 i k = 1#1 ↔ ¬(k.val = (i 2).val ∧ k.val % 2 = 0) := by
  have hq : (i 2).val < 16 := (i 2).isLt
  have hk := k_le i k
  unfold k0_cond4
  generalize k.val = kk at *
  generalize (i 2).val = q at *
  interval_cases q <;> interval_cases kk <;> decide

/-! ### The run of the loop -/

def cl (j : ℕ) : Fin 16 := ⟨j % 16, Nat.mod_lt _ (by decide)⟩
def par (j : ℕ) : Fin 2 := ⟨j % 2, Nat.mod_lt _ (by decide)⟩

/-- The scores, maxima, chunk, running maximum and accumulator before trip `j`. -/
def Sc (Q : Fin 8 → FVec F S128x512 .bf16) (f7 : S16x512x1024.Idx → Elt F .bf16) (S0 : Fin 8 → FVec F S512x512 .f32) : ℕ → Fin 8 → FVec F S512x512 .f32
  | 0, h => S0 h
  | j + 1, h => dotQ (slab7 f7 (cl j) h) (Q h)
def Mx (Q : Fin 8 → FVec F S128x512 .bf16) (f7 : S16x512x1024.Idx → Elt F .bf16) (M0 : Fin 8 → FVec F S1x512 .f32) : ℕ → Fin 8 → FVec F S1x512 .f32
  | 0, h => M0 h
  | j + 1, h => rowMax (dotQ (slab7 f7 (cl j) h) (Q h))
def kcf (q : Fin 16) : ℕ → Fin 16
  | 0 => q
  | j + 1 => cl j
def mm (Q : Fin 8 → FVec F S128x512 .bf16) (f7 : S16x512x1024.Idx → Elt F .bf16) (M0 m0 : Fin 8 → FVec F S1x512 .f32) : ℕ → Fin 8 → FVec F S1x512 .f32
  | 0, h => m0 h
  | j + 1, h => maximumf (mm Q f7 M0 m0 j h) (Mx Q f7 M0 j h)
def ac (Q : Fin 8 → FVec F S128x512 .bf16) (f7 : S16x512x1024.Idx → Elt F .bf16) (f8 : S16x640x512.Idx → Elt F .bf16) (q : Fin 16) (S0 : Fin 8 → FVec F S512x512 .f32)
    (M0 m0 : Fin 8 → FVec F S1x512 .f32) (a0 : Fin 8 → FVec F S80x512 .f32) : ℕ → Fin 8 → FVec F S80x512 .f32
  | 0, h => a0 h
  | j + 1, h => accStep (mm Q f7 M0 m0 j h) (Mx Q f7 M0 j h) (pOf (Sc Q f7 S0 j h) (Mx Q f7 M0 j h)) (slab8 f8 (kcf q j) h) (ac Q f7 f8 q S0 M0 m0 a0 j h)

theorem inb7 (j : Fin 16) : ∀ a, (![j.val, 0, 0] : Fin 3 → ℕ) a + (![1, 512, 1024] : Fin 3 → ℕ) a ≤ S16x512x1024.size a := by
  intro a; fin_cases a <;> simp <;> omega
theorem inb8 (j : Fin 16) : ∀ a, (![j.val, 0, 0] : Fin 3 → ℕ) a + (![1, 640, 512] : Fin 3 → ℕ) a ≤ S16x640x512.size a := by
  intro a; fin_cases a <;> simp <;> omega

theorem take7 {i : Fin 16} {s : Finset (Fin 16)} {Φ : Fin 16 → sProp 𝕄} (h : i ∈ s) : bigSep s Φ ⊢ iprop(Φ i ∗ bigSep (s.erase i) Φ) :=
  Entails.of_eq (bigSep_erase h)
theorem put7 {i : Fin 16} {s : Finset (Fin 16)} {Φ : Fin 16 → sProp 𝕄} (h : i ∈ s) : iprop(Φ i ∗ bigSep (s.erase i) Φ) ⊢ bigSep s Φ :=
  Entails.of_eq (bigSep_erase h).symm

/-- A chunk's slot of the resident keys (of the values), held at the buffer's contents there. -/
def hold7 (c : Dev nD) (f7 : S16x512x1024.Idx → Elt F .bf16) (j : Fin 16) : sProp 𝕄 :=
  A7.view.loc (c : Thread nD τ) ↦[A7.view.setOn (Rect.unit (s := S16x512x1024) ![j.val, 0, 0] ![1, 512, 1024] (inb7 j)).set]{fullShare} f7
def hold8 (c : Dev nD) (f8 : S16x640x512.Idx → Elt F .bf16) (j : Fin 16) : sProp 𝕄 :=
  A8.view.loc (c : Thread nD τ) ↦[A8.view.setOn (Rect.unit (s := S16x640x512) ![j.val, 0, 0] ![1, 640, 512] (inb8 j)).set]{fullShare} f8

/-- Before trip `j`: the chunks landed so far, the scores of the trip's chunk in slot `j mod 2`, the accumulators. -/
def inv (c : Dev nD) (Q : Fin 8 → FVec F S128x512 .bf16) (f7 : S16x512x1024.Idx → Elt F .bf16) (f8 : S16x640x512.Idx → Elt F .bf16) (q : Fin 16) (S0 : Fin 8 → FVec F S512x512 .f32) (M0 m0 : Fin 8 → FVec F S1x512 .f32) (a0 : Fin 8 → FVec F S80x512 .f32) (j : ℕ) (acc : FVec F S1x512 .f32 × FVec F S1x512 .f32 × FVec F S1x512 .f32 × FVec F S1x512 .f32 × FVec F S1x512 .f32 × FVec F S1x512 .f32 × FVec F S1x512 .f32 × FVec F S1x512 .f32 × BitVec 32 × FVec F S1x512 .f32 × FVec F S1x512 .f32 × FVec F S1x512 .f32 × FVec F S1x512 .f32 × FVec F S1x512 .f32 × FVec F S1x512 .f32 × FVec F S1x512 .f32 × FVec F S1x512 .f32) : sProp 𝕄 :=
  iprop(bigSep (rangeSet 16 0 (q.val + 1)) (hold7 c f7) ∗ bigSep (rangeSet 16 0 (q.val + 1)) (hold8 c f8)
    ∗ ∃ (f10 : S2x8x512x512.Idx → Elt F .f32) (f11 : S8x80x512.Idx → Elt F .f32) (kc : BitVec 32) (s : Fin 8 → FVec F S1x512 .f32), holdAll c A10 f10 ∗ holdAll c A11 f11
      ∗ ⌜acc = (mm Q f7 M0 m0 j 0, mm Q f7 M0 m0 j 1, mm Q f7 M0 m0 j 2, mm Q f7 M0 m0 j 3, mm Q f7 M0 m0 j 4, mm Q f7 M0 m0 j 5, mm Q f7 M0 m0 j 6, mm Q f7 M0 m0 j 7, kc, s 0, s 1, s 2, s 3, s 4, s 5, s 6, s 7)⌝
      ∗ ⌜∀ h, slab11 f11 h = ac Q f7 f8 q S0 M0 m0 a0 j h⌝
      ∗ ⌜j ≤ q.val → kc.toNat = (kcf q j).val ∧ (∀ h, s h = Mx Q f7 M0 j h) ∧ ∀ h, slab10 f10 (par j) h = Sc Q f7 S0 j h⌝)

theorem chk_of (i : grid0.Coords) (k : Fin (k0_t1_loop i).trips) (kc : BitVec 32) (h : kc.toNat < 16) : k0_chk1 i k kc := by
  unfold k0_chk1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> intros <;> rename_i a <;> fin_cases a <;> first | (show kc.toNat + 1 ≤ 16; omega) | exact Nat.le_of_ble_eq_true rfl

set_option maxHeartbeats 0 in
theorem loop_step (c : Dev nD) (i : grid0.Coords) (arg3 : Memref sig .tc .vmem S1024x512 .bf16) (harg3 : arg3.IsWhole) (arg6 : Memref sig .tc .vmem S512x512 .bf16) (harg6 : arg6.IsWhole)
    (arg2 : BitVec 32) (v18 : BitVec 32) (v42 : FVec F S1x512 .f32) (v43 : FVec F S1x512 .f32) (v44 : FVec F S1x512 .f32) (v45 : FVec F S1x512 .f32) (v46 : FVec F S1x512 .f32) (v47 : FVec F S1x512 .f32) (v48 : FVec F S1x512 .f32) (v49 : FVec F S1x512 .f32) (v80 : FVec F S1x512 .f32) (v111 : FVec F S1x512 .f32) (v142 : FVec F S1x512 .f32) (v173 : FVec F S1x512 .f32) (v204 : FVec F S1x512 .f32) (v235 : FVec F S1x512 .f32) (v266 : FVec F S1x512 .f32) (v274 : FVec F S256x512 .f32) (v280 : FVec F S256x256 .f32) (v291 : FVec F S1x256 .f32)
    (Q : Fin 8 → FVec F S128x512 .bf16) (f7 : S16x512x1024.Idx → Elt F .bf16) (f8 : S16x640x512.Idx → Elt F .bf16) (q : Fin 16) (S0 : Fin 8 → FVec F S512x512 .f32) (M0 m0 : Fin 8 → FVec F S1x512 .f32) (a0 : Fin 8 → FVec F S80x512 .f32) (hqi : q.val = (i 2).val)
    (k : Fin (k0_t1_loop i).trips) (acc : FVec F S1x512 .f32 × FVec F S1x512 .f32 × FVec F S1x512 .f32 × FVec F S1x512 .f32 × FVec F S1x512 .f32 × FVec F S1x512 .f32 × FVec F S1x512 .f32 × FVec F S1x512 .f32 × BitVec 32 × FVec F S1x512 .f32 × FVec F S1x512 .f32 × FVec F S1x512 .f32 × FVec F S1x512 .f32 × FVec F S1x512 .f32 × FVec F S1x512 .f32 × FVec F S1x512 .f32 × FVec F S1x512 .f32) :
    inv c Q f7 f8 q S0 M0 m0 a0 k.val acc ⊢ wp (M := 𝕄) frame (wpE defs₀ 𝒱₀ (c : Thread nD τ) none) Set.univ (k0_t1_body (F := F) i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v18 (Q 0) (Q 1) (Q 2) (Q 3) (Q 4) (Q 5) (Q 6) (Q 7) v42 v43 v44 v45 v46 v47 v48 v49 v80 v111 v142 v173 v204 v235 v266 v274 v280 v291 k acc) (inv c Q f7 f8 q S0 M0 m0 a0 (k.val + 1)) := by
  have hkq := k_le i k
  have hq := q.isLt
  unfold inv
  iintro ⟨H7, H8, %f10, %f11, %kc, %s, H10, H11, %hacc, %hac, %hj⟩
  obtain ⟨hkc, hs, hsl⟩ := hj (by omega)
  subst hacc
  obtain rfl : s = Mx Q f7 M0 k.val := funext hs
  have hk16 : k.val < 16 := by omega
  have hkcq : (kcf q k.val).val ≤ q.val := by
    rcases hk0 : k.val with _ | j
    · exact Nat.le_refl _
    · show j % 16 ≤ q.val; omega
  have hkc16 : kc.toNat < 16 := by omega
  have hnv : (⟨kc.toNat, hkc16⟩ : Fin 16) = kcf q k.val := Fin.ext hkc
  have hcl : (⟨k.val, hk16⟩ : Fin 16) = cl k.val := Fin.ext (Nat.mod_eq_of_lt hk16).symm
  have m7 : (⟨k.val, hk16⟩ : Fin 16) ∈ rangeSet 16 0 (q.val + 1) := (mem_rangeSet _ _ _).mpr ⟨Nat.zero_le _, by show k.val < _; omega⟩
  have m8 : (⟨kc.toNat, hkc16⟩ : Fin 16) ∈ rangeSet 16 0 (q.val + 1) := (mem_rangeSet _ _ _).mpr ⟨Nat.zero_le _, by show kc.toNat < _; omega⟩
  ihave H7 := (take7 m7) $$ H7
  ihave H8 := (take7 m8) $$ H8
  icases H7 with ⟨H7, R7⟩
  icases H8 with ⟨H8, R8⟩
  have hc := chk_of i k kc hkc16
  have ivk : (Scf.iv 0#32 1#32 k.val).toNat = k.val := by
    generalize k.val = kk at hk16
    interval_cases kk <;> rfl
  have hkc' : (Scf.iv 0#32 1#32 k.val).toNat = (kcf q (k.val + 1)).val := by
    rw [ivk]; exact (Nat.mod_eq_of_lt hk16).symm
  by_cases h2 : k0_cond2 i k = 1#1
  · by_cases h3 : k0_cond3 i k = 1#1
    · have hlast : k.val = (i 2).val := by
        have a := (cond2_iff i k).mp h2
        have b := (cond3_iff i k).mp h3
        omega
      by_cases h4 : k0_cond4 i k = 1#1
      · have hpar : par k.val = 1 := Fin.ext (by
          have := (cond4_iff i k).mp h4
          show k.val % 2 = 1; omega)
        rw [hpar] at hsl
        iapply (wp_wand_r Idealize.ShloMosaic.frame (wpE (defs₀ (F := F)) 𝒱₀ (c : Thread nD τ) none) Set.univ)
        isplitl [H7 H8 H10 H11]
        · iapply (trip3 c i arg3 harg3 arg6 harg6 Q arg2 v18 v42 v43 v44 v45 v46 v47 v48 v49 v80 v111 v142 v173 v204 v235 v266 v274 v280 v291 k h2 h3 h4 (mm Q f7 M0 m0 k.val) (Mx Q f7 M0 k.val) kc hc ⟨k.val, hk16⟩ ⟨kc.toNat, hkc16⟩ rfl rfl (inb7 ⟨k.val, hk16⟩) (inb8 ⟨kc.toNat, hkc16⟩) f7 f8 f10 f11)
          unfold hold7 hold8
          isplitl [H7]; · iexact H7
          isplitl [H8]; · iexact H8
          isplitl [H10]; · iexact H10
          iexact H11
        iintro %r ⟨H7, H8, %f10', %f11', H10, H11, %hr, %hac'⟩
        isplitl [H7 R7]
        · iapply (put7 m7)
          isplitl [H7]; · (unfold hold7; iexact H7)
          iexact R7
        isplitl [H8 R8]
        · iapply (put7 m8)
          isplitl [H8]; · (unfold hold8; iexact H8)
          iexact R8
        iexists f10'; iexists f11'; iexists _; iexists (Mx Q f7 M0 k.val)
        isplitl [H10]; · iexact H10
        isplitl [H11]; · iexact H11
        isplitr
        · ipureintro; exact hr
        isplitr
        · ipureintro
          intro h
          rw [hac' h, hnv, hsl h, hac h]
          rfl
        · ipureintro
          intro hle
          omega
      · have hpar : par k.val = 0 := Fin.ext (by
          have := mt (cond4_iff i k).mpr h4
          show k.val % 2 = 0; omega)
        rw [hpar] at hsl
        iapply (wp_wand_r Idealize.ShloMosaic.frame (wpE (defs₀ (F := F)) 𝒱₀ (c : Thread nD τ) none) Set.univ)
        isplitl [H7 H8 H10 H11]
        · iapply (trip2 c i arg3 harg3 arg6 harg6 Q arg2 v18 v42 v43 v44 v45 v46 v47 v48 v49 v80 v111 v142 v173 v204 v235 v266 v274 v280 v291 k h2 h3 h4 (mm Q f7 M0 m0 k.val) (Mx Q f7 M0 k.val) kc hc ⟨k.val, hk16⟩ ⟨kc.toNat, hkc16⟩ rfl rfl (inb7 ⟨k.val, hk16⟩) (inb8 ⟨kc.toNat, hkc16⟩) f7 f8 f10 f11)
          unfold hold7 hold8
          isplitl [H7]; · iexact H7
          isplitl [H8]; · iexact H8
          isplitl [H10]; · iexact H10
          iexact H11
        iintro %r ⟨H7, H8, %f10', %f11', H10, H11, %hr, %hac'⟩
        isplitl [H7 R7]
        · iapply (put7 m7)
          isplitl [H7]; · (unfold hold7; iexact H7)
          iexact R7
        isplitl [H8 R8]
        · iapply (put7 m8)
          isplitl [H8]; · (unfold hold8; iexact H8)
          iexact R8
        iexists f10'; iexists f11'; iexists _; iexists (Mx Q f7 M0 k.val)
        isplitl [H10]; · iexact H10
        isplitl [H11]; · iexact H11
        isplitr
        · ipureintro; exact hr
        isplitr
        · ipureintro
          intro h
          rw [hac' h, hnv, hsl h, hac h]
          rfl
        · ipureintro
          intro hle
          omega
    · have hlt := not_not.mp (mt (cond3_iff i k).mpr h3)
      have hpar : par k.val = 1 := Fin.ext hlt.2
      have hpar' : par (k.val + 1) = 0 := Fin.ext (by show (k.val + 1) % 2 = 0; omega)
      rw [hpar] at hsl
      iapply (wp_wand_r Idealize.ShloMosaic.frame (wpE (defs₀ (F := F)) 𝒱₀ (c : Thread nD τ) none) Set.univ)
      isplitl [H7 H8 H10 H11]
      · iapply (trip1 c i arg3 harg3 arg6 harg6 Q arg2 v18 v42 v43 v44 v45 v46 v47 v48 v49 v80 v111 v142 v173 v204 v235 v266 v274 v280 v291 k h2 h3 (mm Q f7 M0 m0 k.val) (Mx Q f7 M0 k.val) kc hc ⟨k.val, hk16⟩ ⟨kc.toNat, hkc16⟩ rfl rfl (inb7 ⟨k.val, hk16⟩) (inb8 ⟨kc.toNat, hkc16⟩) f7 f8 f10 f11)
        unfold hold7 hold8
        isplitl [H7]; · iexact H7
        isplitl [H8]; · iexact H8
        isplitl [H10]; · iexact H10
        iexact H11
      iintro %r ⟨H7, H8, %f10', %f11', H10, H11, %hr, %hac', %hsc⟩
      isplitl [H7 R7]
      · iapply (put7 m7)
        isplitl [H7]; · (unfold hold7; iexact H7)
        iexact R7
      isplitl [H8 R8]
      · iapply (put7 m8)
        isplitl [H8]; · (unfold hold8; iexact H8)
        iexact R8
      iexists f10'; iexists f11'; iexists _; iexists (fun h => rowMax (dotQ (slab7 f7 (cl k.val) h) (Q h)))
      isplitl [H10]; · iexact H10
      isplitl [H11]; · iexact H11
      isplitr
      · ipureintro; rw [hr, hcl]; rfl
      isplitr
      · ipureintro
        intro h
        rw [hac' h, hnv, hsl h, hac h]
        rfl
      · ipureintro
        intro _
        refine ⟨hkc', fun h => rfl, fun h => ?_⟩
        rw [hpar', hsc h, hcl]
        rfl
  · have hlt := not_not.mp (mt (cond2_iff i k).mpr h2)
    have hpar : par k.val = 0 := Fin.ext hlt.2
    have hpar' : par (k.val + 1) = 1 := Fin.ext (by show (k.val + 1) % 2 = 1; omega)
    rw [hpar] at hsl
    iapply (wp_wand_r Idealize.ShloMosaic.frame (wpE (defs₀ (F := F)) 𝒱₀ (c : Thread nD τ) none) Set.univ)
    isplitl [H7 H8 H10 H11]
    · iapply (trip0 c i arg3 harg3 arg6 harg6 Q arg2 v18 v42 v43 v44 v45 v46 v47 v48 v49 v80 v111 v142 v173 v204 v235 v266 v274 v280 v291 k h2 (mm Q f7 M0 m0 k.val) (Mx Q f7 M0 k.val) kc hc ⟨k.val, hk16⟩ ⟨kc.toNat, hkc16⟩ rfl rfl (inb7 ⟨k.val, hk16⟩) (inb8 ⟨kc.toNat, hkc16⟩) f7 f8 f10 f11)
      unfold hold7 hold8
      isplitl [H7]; · iexact H7
      isplitl [H8]; · iexact H8
      isplitl [H10]; · iexact H10
      iexact H11
    iintro %r ⟨H7, H8, %f10', %f11', H10, H11, %hr, %hac', %hsc⟩
    isplitl [H7 R7]
    · iapply (put7 m7)
      isplitl [H7]; · (unfold hold7; iexact H7)
      iexact R7
    isplitl [H8 R8]
    · iapply (put7 m8)
      isplitl [H8]; · (unfold hold8; iexact H8)
      iexact R8
    iexists f10'; iexists f11'; iexists _; iexists (fun h => rowMax (dotQ (slab7 f7 (cl k.val) h) (Q h)))
    isplitl [H10]; · iexact H10
    isplitl [H11]; · iexact H11
    isplitr
    · ipureintro; rw [hr, hcl]; rfl
    isplitr
    · ipureintro
      intro h
      rw [hac' h, hnv, hsl h, hac h]
      rfl
    · ipureintro
      intro _
      refine ⟨hkc', fun h => rfl, fun h => ?_⟩
      rw [hpar', hsc h, hcl]
      rfl

end Attn

end
-- ==== Proof.Start.lean ====
module

public import proofs.«01_k».proof.Proof.Loop

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ (Pipeline.UD sig nD τ) ℕ

/-! ### One chunk's two transfers, from start to landing -/

theorem inb14 (p : Fin 32) : ∀ a, (![p.val, 0, 0] : Fin 3 → ℕ) a + S1x512x1024.size a ≤ S32x512x1024.size a := by
  intro a; fin_cases a <;> simp <;> omega
theorem inb20 (p : Fin 32) : ∀ a, (![p.val, 0, 0] : Fin 3 → ℕ) a + S1x640x512.size a ≤ S32x640x512.size a := by
  intro a; fin_cases a <;> simp <;> omega
theorem inbC (s : Fin 2) (j : Fin 16) : ∀ a, (![s.val, j.val] : Fin 2 → ℕ) a + S1x1.size a ≤ S2x16.size a := by
  intro a; fin_cases a <;> simp <;> omega

/-- Chunk `j` of batch `b`, among the blocks in HBM. -/
def blk (b : Fin 2) (j : Fin 16) : Fin 32 := ⟨16 * b.val + j.val, by omega⟩

/-- The resident keys (values) of batch `b`. -/
def KB (b : Fin 2) (f : S32x512x1024.Idx → Elt F .bf16) : S16x512x1024.Idx → Elt F .bf16 := fun x => f (ix3 (blk b (x 0)) (x 1) (x 2))
def VB (b : Fin 2) (f : S32x640x512.Idx → Elt F .bf16) : S16x640x512.Idx → Elt F .bf16 := fun x => f (ix3 (blk b (x 0)) (x 1) (x 2))

/-- A block in HBM, at home. -/
def homeK (c : Dev nD) (f : S32x512x1024.Idx → Elt F .bf16) (p : Fin 32) : sProp 𝕄 := own c (srcK ![p.val, 0, 0] (inb14 p)) f
def homeV (c : Dev nD) (f : S32x640x512.Idx → Elt F .bf16) (p : Fin 32) : sProp 𝕄 := own c (srcV ![p.val, 0, 0] (inb20 p)) f

/-- The transfer of chunk `j`'s keys (values) in flight. -/
def flyK (c : Dev nD) (f : S32x512x1024.Idx → Elt F .bf16) (b : Fin 2) (j : Fin 16) : sProp 𝕄 :=
  Transfers.Flight countersEmb (c : Thread nD τ) (SemLoc.dma (cellOf ![(0 : Fin 2).val, j.val] (inbC 0 j)).sem) default 32768 iprop(hold7 c (KB b f) j ∗ homeK c f (blk b j))
def flyV (c : Dev nD) (f : S32x640x512.Idx → Elt F .bf16) (b : Fin 2) (j : Fin 16) : sProp 𝕄 :=
  Transfers.Flight countersEmb (c : Thread nD τ) (SemLoc.dma (cellOf ![(1 : Fin 2).val, j.val] (inbC 1 j)).sem) default 20480 iprop(hold8 c (VB b f) j ∗ homeV c f (blk b j))

theorem landedK (c : Dev nD) (f : S32x512x1024.Idx → Elt F .bf16) (d : S16x512x1024.Idx → Elt F .bf16) (b : Fin 2) (j : Fin 16) (o : Fin 3 → ℕ) (h : ∀ a, o a + S1x512x1024.size a ≤ S16x512x1024.size a)
    (ho : o = ![j.val, 0, 0]) (o' : Fin 3 → ℕ) (h' : ∀ a, o' a + S1x512x1024.size a ≤ S32x512x1024.size a) (ho' : o' = ![(blk b j).val, 0, 0])
    (x : S512x1024.Idx → Elt F .bf16) (hx : x = (srcK o' h').view.read (Elt F) f) :
    iprop(own (F := F) c (slotK o h) ((slotK o h).view.writes (Elt F) d [⟨Rect.whole S512x1024, x⟩]) ∗ own c (srcK o' h') f) ⊢ iprop(hold7 c (KB b f) j ∗ homeK c f (blk b j)) := by
  subst hx
  subst ho; subst ho'
  iintro ⟨H, G⟩
  isplitl [H]
  · have e : (slotK ![j.val, 0, 0] h).view.set = A7.view.setOn (Rect.unit (s := S16x512x1024) ![j.val, 0, 0] S1x512x1024.size (inb7 j)).set :=
      (View.set_reshape _ _).trans (View.set_slice _ _)
    have e2 : own (F := F) c (slotK ![j.val, 0, 0] h) ((slotK ![j.val, 0, 0] h).view.writes (Elt F) d [⟨Rect.whole S512x1024, (srcK ![(blk b j).val, 0, 0] h').view.read (Elt F) f⟩]) ⊢ hold7 c (KB b f) j := by
      unfold hold7
      refine (Entails.of_eq ?_).trans (Entails.of_eq (congrArg (fun I => (A7.view.loc (c : Thread nD τ) ↦[I]{fullShare} KB b f : sProp 𝕄)) e))
      refine pointsTo_congr fun i hi => ?_
      obtain ⟨x, -, rfl⟩ := Finset.mem_map.mp hi
      have hx : (slotK ![j.val, 0, 0] h).view.emb x = ((slotK ![j.val, 0, 0] h).view.slice (Rect.whole S512x1024)).emb x :=
        congrArg (slotK ![j.val, 0, 0] h).view.emb (Rect.emb_whole_apply S512x1024 x).symm
      refine (congrArg _ hx).trans ((View.write_emb_of_mem _ _ (Finset.mem_univ x)).trans ?_)
      show f ((srcK ![(blk b j).val, 0, 0] h').view.emb x) = f (ix3 (blk b ((slotK ![j.val, 0, 0] h).view.emb x 0)) ((slotK ![j.val, 0, 0] h).view.emb x 1) ((slotK ![j.val, 0, 0] h).view.emb x 2))
      refine congrArg f (funext fun a => Fin.ext ?_)
      fin_cases a
      · exact Nat.add_assoc _ _ _
      · rfl
      · rfl
    iapply e2; iexact H
  · unfold homeK; iexact G

theorem landedV (c : Dev nD) (f : S32x640x512.Idx → Elt F .bf16) (d : S16x640x512.Idx → Elt F .bf16) (b : Fin 2) (j : Fin 16) (o : Fin 3 → ℕ) (h : ∀ a, o a + S1x640x512.size a ≤ S16x640x512.size a)
    (ho : o = ![j.val, 0, 0]) (o' : Fin 3 → ℕ) (h' : ∀ a, o' a + S1x640x512.size a ≤ S32x640x512.size a) (ho' : o' = ![(blk b j).val, 0, 0])
    (x : S640x512.Idx → Elt F .bf16) (hx : x = (srcV o' h').view.read (Elt F) f) :
    iprop(own (F := F) c (slotV o h) ((slotV o h).view.writes (Elt F) d [⟨Rect.whole S640x512, x⟩]) ∗ own c (srcV o' h') f) ⊢ iprop(hold8 c (VB b f) j ∗ homeV c f (blk b j)) := by
  subst hx
  subst ho; subst ho'
  iintro ⟨H, G⟩
  isplitl [H]
  · have e : (slotV ![j.val, 0, 0] h).view.set = A8.view.setOn (Rect.unit (s := S16x640x512) ![j.val, 0, 0] S1x640x512.size (inb8 j)).set :=
      (View.set_reshape _ _).trans (View.set_slice _ _)
    have e2 : own (F := F) c (slotV ![j.val, 0, 0] h) ((slotV ![j.val, 0, 0] h).view.writes (Elt F) d [⟨Rect.whole S640x512, (srcV ![(blk b j).val, 0, 0] h').view.read (Elt F) f⟩]) ⊢ hold8 c (VB b f) j := by
      unfold hold8
      refine (Entails.of_eq ?_).trans (Entails.of_eq (congrArg (fun I => (A8.view.loc (c : Thread nD τ) ↦[I]{fullShare} VB b f : sProp 𝕄)) e))
      refine pointsTo_congr fun i hi => ?_
      obtain ⟨x, -, rfl⟩ := Finset.mem_map.mp hi
      have hx : (slotV ![j.val, 0, 0] h).view.emb x = ((slotV ![j.val, 0, 0] h).view.slice (Rect.whole S640x512)).emb x :=
        congrArg (slotV ![j.val, 0, 0] h).view.emb (Rect.emb_whole_apply S640x512 x).symm
      refine (congrArg _ hx).trans ((View.write_emb_of_mem _ _ (Finset.mem_univ x)).trans ?_)
      show f ((srcV ![(blk b j).val, 0, 0] h').view.emb x) = f (ix3 (blk b ((slotV ![j.val, 0, 0] h).view.emb x 0)) ((slotV ![j.val, 0, 0] h).view.emb x 1) ((slotV ![j.val, 0, 0] h).view.emb x 2))
      refine congrArg f (funext fun a => Fin.ext ?_)
      fin_cases a
      · exact Nat.add_assoc _ _ _
      · rfl
      · rfl
    iapply e2; iexact H
  · unfold homeV; iexact G

/-- The starts of one batch's transfers: both halves of the sixteen chunks. -/
def starts (i : grid0.Coords) (arg3 : Memref sig .tc .vmem S1024x512 .bf16) (harg3 : arg3.IsWhole) (arg6 : Memref sig .tc .vmem S512x512 .bf16) (harg6 : arg6.IsWhole)
    (h1 : k0_cond1 i = 1#1) : Prog (TpuEff nD τ sig (Elt F) Λ₀ .tc) PUnit := do
    k0_part1 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    k0_part2 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    k0_part3 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    k0_part4 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    k0_part5 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    k0_part6 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    k0_part7 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    k0_part8 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) (Scalar.muli (BitVec.ofNat 32 (i 0).val) 16#32) h1
    let v568 : DmaSems sig S1x1 := cc0_scratch2.slice (Rect.unit (s := S2x16) ![0, 15] S1x1.size inb_S2x16_S1x1_0_15)
    let v569 : DmaSems sig S_ := v568.squeeze S_ squeezes_S1x1_S_
    let v570 : Memref sig .tc .vmem S1x512x1024 .bf16 := A7.slice (Rect.unit (s := S16x512x1024) ![15, 0, 0] S1x512x1024.size inb_S16x512x1024_S1x512x1024_15_0_0) (fun _ => rfl)
    let v571 : Memref sig .tc .vmem S512x1024 .bf16 := v570.squeeze S512x1024 squeezes_S1x512x1024_S512x1024
    let v572 : Memref sig .tc .hbm S1x512x1024 .bf16 := HK.slice (Rect.unit (s := S32x512x1024) (k0_off1 i 15#32) S1x512x1024.size (k0_off1_inb i h1 15)) (fun _ => rfl)
    let v573 : Memref sig .tc .hbm S512x1024 .bf16 := v572.squeeze S512x1024 squeezes_S1x512x1024_S512x1024
    Prog.lift (.enqueueDma v573 (.here v571) (.dma v569.sem) (((Memref.isWhole_whole main_v14).wordExact_slice rfl _ (k0_off1_wordsbf16 i h1 15)).reshape _ _) (((Memref.isWhole_whole cc0_scratch0).wordExact_slice rfl _ wordsbf16_S16x512x1024_S1x512x1024_15_0_0).reshape _ _) ⟨Or.inl rfl, trivial⟩)
    let v574 : DmaSems sig S1x1 := cc0_scratch2.slice (Rect.unit (s := S2x16) ![1, 15] S1x1.size inb_S2x16_S1x1_1_15)
    let v575 : DmaSems sig S_ := v574.squeeze S_ squeezes_S1x1_S_
    let v576 : Memref sig .tc .vmem S1x640x512 .bf16 := A8.slice (Rect.unit (s := S16x640x512) ![15, 0, 0] S1x640x512.size inb_S16x640x512_S1x640x512_15_0_0) (fun _ => rfl)
    let v577 : Memref sig .tc .vmem S640x512 .bf16 := v576.squeeze S640x512 squeezes_S1x640x512_S640x512
    let v578 : Memref sig .tc .hbm S1x640x512 .bf16 := HV.slice (Rect.unit (s := S32x640x512) (k0_off2 i 15#32) S1x640x512.size (k0_off2_inb i h1 15)) (fun _ => rfl)
    let v579 : Memref sig .tc .hbm S640x512 .bf16 := v578.squeeze S640x512 squeezes_S1x640x512_S640x512
    Prog.lift (.enqueueDma v579 (.here v577) (.dma v575.sem) (((Memref.isWhole_whole main_v20).wordExact_slice rfl _ (k0_off2_wordsbf16 i h1 15)).reshape _ _) (((Memref.isWhole_whole cc0_scratch1).wordExact_slice rfl _ wordsbf16_S16x640x512_S1x640x512_15_0_0).reshape _ _) ⟨Or.inl rfl, trivial⟩)
    pure ⟨⟩

/-- What the start of chunk `j`'s two transfers takes. -/
def ready (c : Dev nD) (dK : S16x512x1024.Idx → Elt F .bf16) (dV : S16x640x512.Idx → Elt F .bf16) (f : S32x512x1024.Idx → Elt F .bf16) (g : S32x640x512.Idx → Elt F .bf16)
    (b : Fin 2) (j : Fin 16) : sProp 𝕄 :=
  iprop(own c (slotK ![j.val, 0, 0] (inb7 j)) dK ∗ own c (slotV ![j.val, 0, 0] (inb8 j)) dV ∗ homeK c f (blk b j) ∗ homeV c g (blk b j)
    ∗ zeroCell c ![(0 : Fin 2).val, j.val] (inbC 0 j) ∗ zeroCell c ![(1 : Fin 2).val, j.val] (inbC 1 j))

theorem ready_at (c : Dev nD) (dK : S16x512x1024.Idx → Elt F .bf16) (dV : S16x640x512.Idx → Elt F .bf16) (f : S32x512x1024.Idx → Elt F .bf16) (g : S32x640x512.Idx → Elt F .bf16)
    (b : Fin 2) (j : Fin 16) (oK : Fin 3 → ℕ) (hK) (eK : oK = ![j.val, 0, 0]) (oV : Fin 3 → ℕ) (hV) (eV : oV = ![j.val, 0, 0])
    (pK : Fin 3 → ℕ) (hpK) (epK : pK = ![(blk b j).val, 0, 0]) (pV : Fin 3 → ℕ) (hpV) (epV : pV = ![(blk b j).val, 0, 0])
    (c0 : Fin 2 → ℕ) (h0) (e0 : c0 = ![(0 : Fin 2).val, j.val]) (c1 : Fin 2 → ℕ) (h1) (e1 : c1 = ![(1 : Fin 2).val, j.val]) :
    ready c dK dV f g b j ⊢ iprop(own c (slotK oK hK) dK ∗ own c (slotV oV hV) dV ∗ own c (srcK pK hpK) f ∗ own c (srcV pV hpV) g ∗ zeroCell c c0 h0 ∗ zeroCell c c1 h1) := by
  subst eK eV epK epV e0 e1
  exact .rfl

theorem all16 (Φ : Fin 16 → sProp 𝕄) : bigSep Finset.univ Φ ⊣⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_eq_bigSepL_of_eq [0, 1, 2, 3, 4, 5, 6, 7, 8, 9, 10, 11, 12, 13, 14, 15] (by decide) (by decide)]
  exact ⟨.rfl, .rfl⟩

set_option maxHeartbeats 0 in
theorem starts_run (c : Dev nD) (i : grid0.Coords) (arg3 : Memref sig .tc .vmem S1024x512 .bf16) (harg3 : arg3.IsWhole) (arg6 : Memref sig .tc .vmem S512x512 .bf16) (harg6 : arg6.IsWhole)
    (h1 : k0_cond1 i = 1#1) (dK : S16x512x1024.Idx → Elt F .bf16) (dV : S16x640x512.Idx → Elt F .bf16) (f : S32x512x1024.Idx → Elt F .bf16) (g : S32x640x512.Idx → Elt F .bf16)
    (b : Fin 2) (hb : (i 0).val = b.val) (W : Waits sig Unit) :
    iprop(bigSep Finset.univ (ready c dK dV f g b) ∗ owes (c : Thread nD τ) 0 W)
      ⊢ wp (M := 𝕄) frame (wpE defs₀ 𝒱₀ (c : Thread nD τ) none) Set.univ (starts (F := F) i arg3 harg3 arg6 harg6 h1)
        (fun _ => iprop(bigSep Finset.univ (fun j => iprop(flyK c f b j ∗ flyV c g b j)) ∗ ∃ W', owes (c : Thread nD τ) 0 W')) := by
  iintro ⟨H, O⟩
  ihave H := (all16 _).1 $$ H
  icases H with ⟨P0, P1, P2, P3, P4, P5, P6, P7, P8, P9, P10, P11, P12, P13, P14, P15⟩
  ihave P0 := (ready_at c dK dV f g b 0 ![0, 0, 0] inb_S16x512x1024_S1x512x1024_0_0_0 rfl ![0, 0, 0] inb_S16x640x512_S1x640x512_0_0_0 rfl (k0_off1 i 0#32) (k0_off1_inb i h1 0) ((k0_off1_eq i 0).trans (by rw [hb]; rfl)) (k0_off2 i 0#32) (k0_off2_inb i h1 0) ((k0_off2_eq i 0).trans (by rw [hb]; rfl)) ![0, 0] inb_S2x16_S1x1_0_0 rfl ![1, 0] inb_S2x16_S1x1_1_0 rfl) $$ P0
  icases P0 with ⟨K0, V0, SK0, SV0, CK0, CV0⟩
  ihave P1 := (ready_at c dK dV f g b 1 ![1, 0, 0] inb_S16x512x1024_S1x512x1024_1_0_0 rfl ![1, 0, 0] inb_S16x640x512_S1x640x512_1_0_0 rfl (k0_off1 i 1#32) (k0_off1_inb i h1 1) ((k0_off1_eq i 1).trans (by rw [hb]; rfl)) (k0_off2 i 1#32) (k0_off2_inb i h1 1) ((k0_off2_eq i 1).trans (by rw [hb]; rfl)) ![0, 1] inb_S2x16_S1x1_0_1 rfl ![1, 1] inb_S2x16_S1x1_1_1 rfl) $$ P1
  icases P1 with ⟨K1, V1, SK1, SV1, CK1, CV1⟩
  ihave P2 := (ready_at c dK dV f g b 2 ![2, 0, 0] inb_S16x512x1024_S1x512x1024_2_0_0 rfl ![2, 0, 0] inb_S16x640x512_S1x640x512_2_0_0 rfl (k0_off1 i 2#32) (k0_off1_inb i h1 2) ((k0_off1_eq i 2).trans (by rw [hb]; rfl)) (k0_off2 i 2#32) (k0_off2_inb i h1 2) ((k0_off2_eq i 2).trans (by rw [hb]; rfl)) ![0, 2] inb_S2x16_S1x1_0_2 rfl ![1, 2] inb_S2x16_S1x1_1_2 rfl) $$ P2
  icases P2 with ⟨K2, V2, SK2, SV2, CK2, CV2⟩
  ihave P3 := (ready_at c dK dV f g b 3 ![3, 0, 0] inb_S16x512x1024_S1x512x1024_3_0_0 rfl ![3, 0, 0] inb_S16x640x512_S1x640x512_3_0_0 rfl (k0_off1 i 3#32) (k0_off1_inb i h1 3) ((k0_off1_eq i 3).trans (by rw [hb]; rfl)) (k0_off2 i 3#32) (k0_off2_inb i h1 3) ((k0_off2_eq i 3).trans (by rw [hb]; rfl)) ![0, 3] inb_S2x16_S1x1_0_3 rfl ![1, 3] inb_S2x16_S1x1_1_3 rfl) $$ P3
  icases P3 with ⟨K3, V3, SK3, SV3, CK3, CV3⟩
  ihave P4 := (ready_at c dK dV f g b 4 ![4, 0, 0] inb_S16x512x1024_S1x512x1024_4_0_0 rfl ![4, 0, 0] inb_S16x640x512_S1x640x512_4_0_0 rfl (k0_off1 i 4#32) (k0_off1_inb i h1 4) ((k0_off1_eq i 4).trans (by rw [hb]; rfl)) (k0_off2 i 4#32) (k0_off2_inb i h1 4) ((k0_off2_eq i 4).trans (by rw [hb]; rfl)) ![0, 4] inb_S2x16_S1x1_0_4 rfl ![1, 4] inb_S2x16_S1x1_1_4 rfl) $$ P4
  icases P4 with ⟨K4, V4, SK4, SV4, CK4, CV4⟩
  ihave P5 := (ready_at c dK dV f g b 5 ![5, 0, 0] inb_S16x512x1024_S1x512x1024_5_0_0 rfl ![5, 0, 0] inb_S16x640x512_S1x640x512_5_0_0 rfl (k0_off1 i 5#32) (k0_off1_inb i h1 5) ((k0_off1_eq i 5).trans (by rw [hb]; rfl)) (k0_off2 i 5#32) (k0_off2_inb i h1 5) ((k0_off2_eq i 5).trans (by rw [hb]; rfl)) ![0, 5] inb_S2x16_S1x1_0_5 rfl ![1, 5] inb_S2x16_S1x1_1_5 rfl) $$ P5
  icases P5 with ⟨K5, V5, SK5, SV5, CK5, CV5⟩
  ihave P6 := (ready_at c dK dV f g b 6 ![6, 0, 0] inb_S16x512x1024_S1x512x1024_6_0_0 rfl ![6, 0, 0] inb_S16x640x512_S1x640x512_6_0_0 rfl (k0_off1 i 6#32) (k0_off1_inb i h1 6) ((k0_off1_eq i 6).trans (by rw [hb]; rfl)) (k0_off2 i 6#32) (k0_off2_inb i h1 6) ((k0_off2_eq i 6).trans (by rw [hb]; rfl)) ![0, 6] inb_S2x16_S1x1_0_6 rfl ![1, 6] inb_S2x16_S1x1_1_6 rfl) $$ P6
  icases P6 with ⟨K6, V6, SK6, SV6, CK6, CV6⟩
  ihave P7 := (ready_at c dK dV f g b 7 ![7, 0, 0] inb_S16x512x1024_S1x512x1024_7_0_0 rfl ![7, 0, 0] inb_S16x640x512_S1x640x512_7_0_0 rfl (k0_off1 i 7#32) (k0_off1_inb i h1 7) ((k0_off1_eq i 7).trans (by rw [hb]; rfl)) (k0_off2 i 7#32) (k0_off2_inb i h1 7) ((k0_off2_eq i 7).trans (by rw [hb]; rfl)) ![0, 7] inb_S2x16_S1x1_0_7 rfl ![1, 7] inb_S2x16_S1x1_1_7 rfl) $$ P7
  icases P7 with ⟨K7, V7, SK7, SV7, CK7, CV7⟩
  ihave P8 := (ready_at c dK dV f g b 8 ![8, 0, 0] inb_S16x512x1024_S1x512x1024_8_0_0 rfl ![8, 0, 0] inb_S16x640x512_S1x640x512_8_0_0 rfl (k0_off1 i 8#32) (k0_off1_inb i h1 8) ((k0_off1_eq i 8).trans (by rw [hb]; rfl)) (k0_off2 i 8#32) (k0_off2_inb i h1 8) ((k0_off2_eq i 8).trans (by rw [hb]; rfl)) ![0, 8] inb_S2x16_S1x1_0_8 rfl ![1, 8] inb_S2x16_S1x1_1_8 rfl) $$ P8
  icases P8 with ⟨K8, V8, SK8, SV8, CK8, CV8⟩
  ihave P9 := (ready_at c dK dV f g b 9 ![9, 0, 0] inb_S16x512x1024_S1x512x1024_9_0_0 rfl ![9, 0, 0] inb_S16x640x512_S1x640x512_9_0_0 rfl (k0_off1 i 9#32) (k0_off1_inb i h1 9) ((k0_off1_eq i 9).trans (by rw [hb]; rfl)) (k0_off2 i 9#32) (k0_off2_inb i h1 9) ((k0_off2_eq i 9).trans (by rw [hb]; rfl)) ![0, 9] inb_S2x16_S1x1_0_9 rfl ![1, 9] inb_S2x16_S1x1_1_9 rfl) $$ P9
  icases P9 with ⟨K9, V9, SK9, SV9, CK9, CV9⟩
  ihave P10 := (ready_at c dK dV f g b 10 ![10, 0, 0] inb_S16x512x1024_S1x512x1024_10_0_0 rfl ![10, 0, 0] inb_S16x640x512_S1x640x512_10_0_0 rfl (k0_off1 i 10#32) (k0_off1_inb i h1 10) ((k0_off1_eq i 10).trans (by rw [hb]; rfl)) (k0_off2 i 10#32) (k0_off2_inb i h1 10) ((k0_off2_eq i 10).trans (by rw [hb]; rfl)) ![0, 10] inb_S2x16_S1x1_0_10 rfl ![1, 10] inb_S2x16_S1x1_1_10 rfl) $$ P10
  icases P10 with ⟨K10, V10, SK10, SV10, CK10, CV10⟩
  ihave P11 := (ready_at c dK dV f g b 11 ![11, 0, 0] inb_S16x512x1024_S1x512x1024_11_0_0 rfl ![11, 0, 0] inb_S16x640x512_S1x640x512_11_0_0 rfl (k0_off1 i 11#32) (k0_off1_inb i h1 11) ((k0_off1_eq i 11).trans (by rw [hb]; rfl)) (k0_off2 i 11#32) (k0_off2_inb i h1 11) ((k0_off2_eq i 11).trans (by rw [hb]; rfl)) ![0, 11] inb_S2x16_S1x1_0_11 rfl ![1, 11] inb_S2x16_S1x1_1_11 rfl) $$ P11
  icases P11 with ⟨K11, V11, SK11, SV11, CK11, CV11⟩
  ihave P12 := (ready_at c dK dV f g b 12 ![12, 0, 0] inb_S16x512x1024_S1x512x1024_12_0_0 rfl ![12, 0, 0] inb_S16x640x512_S1x640x512_12_0_0 rfl (k0_off1 i 12#32) (k0_off1_inb i h1 12) ((k0_off1_eq i 12).trans (by rw [hb]; rfl)) (k0_off2 i 12#32) (k0_off2_inb i h1 12) ((k0_off2_eq i 12).trans (by rw [hb]; rfl)) ![0, 12] inb_S2x16_S1x1_0_12 rfl ![1, 12] inb_S2x16_S1x1_1_12 rfl) $$ P12
  icases P12 with ⟨K12, V12, SK12, SV12, CK12, CV12⟩
  ihave P13 := (ready_at c dK dV f g b 13 ![13, 0, 0] inb_S16x512x1024_S1x512x1024_13_0_0 rfl ![13, 0, 0] inb_S16x640x512_S1x640x512_13_0_0 rfl (k0_off1 i 13#32) (k0_off1_inb i h1 13) ((k0_off1_eq i 13).trans (by rw [hb]; rfl)) (k0_off2 i 13#32) (k0_off2_inb i h1 13) ((k0_off2_eq i 13).trans (by rw [hb]; rfl)) ![0, 13] inb_S2x16_S1x1_0_13 rfl ![1, 13] inb_S2x16_S1x1_1_13 rfl) $$ P13
  icases P13 with ⟨K13, V13, SK13, SV13, CK13, CV13⟩
  ihave P14 := (ready_at c dK dV f g b 14 ![14, 0, 0] inb_S16x512x1024_S1x512x1024_14_0_0 rfl ![14, 0, 0] inb_S16x640x512_S1x640x512_14_0_0 rfl (k0_off1 i 14#32) (k0_off1_inb i h1 14) ((k0_off1_eq i 14).trans (by rw [hb]; rfl)) (k0_off2 i 14#32) (k0_off2_inb i h1 14) ((k0_off2_eq i 14).trans (by rw [hb]; rfl)) ![0, 14] inb_S2x16_S1x1_0_14 rfl ![1, 14] inb_S2x16_S1x1_1_14 rfl) $$ P14
  icases P14 with ⟨K14, V14, SK14, SV14, CK14, CV14⟩
  ihave P15 := (ready_at c dK dV f g b 15 ![15, 0, 0] inb_S16x512x1024_S1x512x1024_15_0_0 rfl ![15, 0, 0] inb_S16x640x512_S1x640x512_15_0_0 rfl (k0_off1 i 15#32) (k0_off1_inb i h1 15) ((k0_off1_eq i 15).trans (by rw [hb]; rfl)) (k0_off2 i 15#32) (k0_off2_inb i h1 15) ((k0_off2_eq i 15).trans (by rw [hb]; rfl)) ![0, 15] inb_S2x16_S1x1_0_15 rfl ![1, 15] inb_S2x16_S1x1_1_15 rfl) $$ P15
  icases P15 with ⟨K15, V15, SK15, SV15, CK15, CV15⟩
  unfold starts
  sl_exec_parts
  ihave CK0 := (Transfers.Flight_mono countersEmb (c : Thread nD τ) (landedK c f dK b 0 ![0, 0, 0] inb_S16x512x1024_S1x512x1024_0_0_0 rfl (k0_off1 i 0#32) (k0_off1_inb i h1 0) ((k0_off1_eq i 0).trans (by rw [hb]; rfl)) (starts_run.sl.dma0 i h1 f) rfl)) $$ CK0
  ihave CV0 := (Transfers.Flight_mono countersEmb (c : Thread nD τ) (landedV c g dV b 0 ![0, 0, 0] inb_S16x640x512_S1x640x512_0_0_0 rfl (k0_off2 i 0#32) (k0_off2_inb i h1 0) ((k0_off2_eq i 0).trans (by rw [hb]; rfl)) (starts_run.sl.dma0_1 i h1 g) rfl)) $$ CV0
  ihave CK1 := (Transfers.Flight_mono countersEmb (c : Thread nD τ) (landedK c f dK b 1 ![1, 0, 0] inb_S16x512x1024_S1x512x1024_1_0_0 rfl (k0_off1 i 1#32) (k0_off1_inb i h1 1) ((k0_off1_eq i 1).trans (by rw [hb]; rfl)) (starts_run.sl.dma0_2 i h1 f) rfl)) $$ CK1
  ihave CV1 := (Transfers.Flight_mono countersEmb (c : Thread nD τ) (landedV c g dV b 1 ![1, 0, 0] inb_S16x640x512_S1x640x512_1_0_0 rfl (k0_off2 i 1#32) (k0_off2_inb i h1 1) ((k0_off2_eq i 1).trans (by rw [hb]; rfl)) (starts_run.sl.dma0_3 i h1 g) rfl)) $$ CV1
  ihave CK2 := (Transfers.Flight_mono countersEmb (c : Thread nD τ) (landedK c f dK b 2 ![2, 0, 0] inb_S16x512x1024_S1x512x1024_2_0_0 rfl (k0_off1 i 2#32) (k0_off1_inb i h1 2) ((k0_off1_eq i 2).trans (by rw [hb]; rfl)) (starts_run.sl.dma0_4 i h1 f) rfl)) $$ CK2
  ihave CV2 := (Transfers.Flight_mono countersEmb (c : Thread nD τ) (landedV c g dV b 2 ![2, 0, 0] inb_S16x640x512_S1x640x512_2_0_0 rfl (k0_off2 i 2#32) (k0_off2_inb i h1 2) ((k0_off2_eq i 2).trans (by rw [hb]; rfl)) (starts_run.sl.dma0_5 i h1 g) rfl)) $$ CV2
  ihave CK3 := (Transfers.Flight_mono countersEmb (c : Thread nD τ) (landedK c f dK b 3 ![3, 0, 0] inb_S16x512x1024_S1x512x1024_3_0_0 rfl (k0_off1 i 3#32) (k0_off1_inb i h1 3) ((k0_off1_eq i 3).trans (by rw [hb]; rfl)) (starts_run.sl.dma0_6 i h1 f) rfl)) $$ CK3
  ihave CV3 := (Transfers.Flight_mono countersEmb (c : Thread nD τ) (landedV c g dV b 3 ![3, 0, 0] inb_S16x640x512_S1x640x512_3_0_0 rfl (k0_off2 i 3#32) (k0_off2_inb i h1 3) ((k0_off2_eq i 3).trans (by rw [hb]; rfl)) (starts_run.sl.dma0_7 i h1 g) rfl)) $$ CV3
  ihave CK4 := (Transfers.Flight_mono countersEmb (c : Thread nD τ) (landedK c f dK b 4 ![4, 0, 0] inb_S16x512x1024_S1x512x1024_4_0_0 rfl (k0_off1 i 4#32) (k0_off1_inb i h1 4) ((k0_off1_eq i 4).trans (by rw [hb]; rfl)) (starts_run.sl.dma0_8 i h1 f) rfl)) $$ CK4
  ihave CV4 := (Transfers.Flight_mono countersEmb (c : Thread nD τ) (landedV c g dV b 4 ![4, 0, 0] inb_S16x640x512_S1x640x512_4_0_0 rfl (k0_off2 i 4#32) (k0_off2_inb i h1 4) ((k0_off2_eq i 4).trans (by rw [hb]; rfl)) (starts_run.sl.dma0_9 i h1 g) rfl)) $$ CV4
  ihave CK5 := (Transfers.Flight_mono countersEmb (c : Thread nD τ) (landedK c f dK b 5 ![5, 0, 0] inb_S16x512x1024_S1x512x1024_5_0_0 rfl (k0_off1 i 5#32) (k0_off1_inb i h1 5) ((k0_off1_eq i 5).trans (by rw [hb]; rfl)) (starts_run.sl.dma0_10 i h1 f) rfl)) $$ CK5
  ihave CV5 := (Transfers.Flight_mono countersEmb (c : Thread nD τ) (landedV c g dV b 5 ![5, 0, 0] inb_S16x640x512_S1x640x512_5_0_0 rfl (k0_off2 i 5#32) (k0_off2_inb i h1 5) ((k0_off2_eq i 5).trans (by rw [hb]; rfl)) (starts_run.sl.dma0_11 i h1 g) rfl)) $$ CV5
  ihave CK6 := (Transfers.Flight_mono countersEmb (c : Thread nD τ) (landedK c f dK b 6 ![6, 0, 0] inb_S16x512x1024_S1x512x1024_6_0_0 rfl (k0_off1 i 6#32) (k0_off1_inb i h1 6) ((k0_off1_eq i 6).trans (by rw [hb]; rfl)) (starts_run.sl.dma0_12 i h1 f) rfl)) $$ CK6
  ihave CV6 := (Transfers.Flight_mono countersEmb (c : Thread nD τ) (landedV c g dV b 6 ![6, 0, 0] inb_S16x640x512_S1x640x512_6_0_0 rfl (k0_off2 i 6#32) (k0_off2_inb i h1 6) ((k0_off2_eq i 6).trans (by rw [hb]; rfl)) (starts_run.sl.dma0_13 i h1 g) rfl)) $$ CV6
  ihave CK7 := (Transfers.Flight_mono countersEmb (c : Thread nD τ) (landedK c f dK b 7 ![7, 0, 0] inb_S16x512x1024_S1x512x1024_7_0_0 rfl (k0_off1 i 7#32) (k0_off1_inb i h1 7) ((k0_off1_eq i 7).trans (by rw [hb]; rfl)) (starts_run.sl.dma0_14 i h1 f) rfl)) $$ CK7
  ihave CV7 := (Transfers.Flight_mono countersEmb (c : Thread nD τ) (landedV c g dV b 7 ![7, 0, 0] inb_S16x640x512_S1x640x512_7_0_0 rfl (k0_off2 i 7#32) (k0_off2_inb i h1 7) ((k0_off2_eq i 7).trans (by rw [hb]; rfl)) (starts_run.sl.dma0_15 i h1 g) rfl)) $$ CV7
  ihave CK8 := (Transfers.Flight_mono countersEmb (c : Thread nD τ) (landedK c f dK b 8 ![8, 0, 0] inb_S16x512x1024_S1x512x1024_8_0_0 rfl (k0_off1 i 8#32) (k0_off1_inb i h1 8) ((k0_off1_eq i 8).trans (by rw [hb]; rfl)) (starts_run.sl.dma0_16 i h1 f) rfl)) $$ CK8
  ihave CV8 := (Transfers.Flight_mono countersEmb (c : Thread nD τ) (landedV c g dV b 8 ![8, 0, 0] inb_S16x640x512_S1x640x512_8_0_0 rfl (k0_off2 i 8#32) (k0_off2_inb i h1 8) ((k0_off2_eq i 8).trans (by rw [hb]; rfl)) (starts_run.sl.dma0_17 i h1 g) rfl)) $$ CV8
  ihave CK9 := (Transfers.Flight_mono countersEmb (c : Thread nD τ) (landedK c f dK b 9 ![9, 0, 0] inb_S16x512x1024_S1x512x1024_9_0_0 rfl (k0_off1 i 9#32) (k0_off1_inb i h1 9) ((k0_off1_eq i 9).trans (by rw [hb]; rfl)) (starts_run.sl.dma0_18 i h1 f) rfl)) $$ CK9
  ihave CV9 := (Transfers.Flight_mono countersEmb (c : Thread nD τ) (landedV c g dV b 9 ![9, 0, 0] inb_S16x640x512_S1x640x512_9_0_0 rfl (k0_off2 i 9#32) (k0_off2_inb i h1 9) ((k0_off2_eq i 9).trans (by rw [hb]; rfl)) (starts_run.sl.dma0_19 i h1 g) rfl)) $$ CV9
  ihave CK10 := (Transfers.Flight_mono countersEmb (c : Thread nD τ) (landedK c f dK b 10 ![10, 0, 0] inb_S16x512x1024_S1x512x1024_10_0_0 rfl (k0_off1 i 10#32) (k0_off1_inb i h1 10) ((k0_off1_eq i 10).trans (by rw [hb]; rfl)) (starts_run.sl.dma0_20 i h1 f) rfl)) $$ CK10
  ihave CV10 := (Transfers.Flight_mono countersEmb (c : Thread nD τ) (landedV c g dV b 10 ![10, 0, 0] inb_S16x640x512_S1x640x512_10_0_0 rfl (k0_off2 i 10#32) (k0_off2_inb i h1 10) ((k0_off2_eq i 10).trans (by rw [hb]; rfl)) (starts_run.sl.dma0_21 i h1 g) rfl)) $$ CV10
  ihave CK11 := (Transfers.Flight_mono countersEmb (c : Thread nD τ) (landedK c f dK b 11 ![11, 0, 0] inb_S16x512x1024_S1x512x1024_11_0_0 rfl (k0_off1 i 11#32) (k0_off1_inb i h1 11) ((k0_off1_eq i 11).trans (by rw [hb]; rfl)) (starts_run.sl.dma0_22 i h1 f) rfl)) $$ CK11
  ihave CV11 := (Transfers.Flight_mono countersEmb (c : Thread nD τ) (landedV c g dV b 11 ![11, 0, 0] inb_S16x640x512_S1x640x512_11_0_0 rfl (k0_off2 i 11#32) (k0_off2_inb i h1 11) ((k0_off2_eq i 11).trans (by rw [hb]; rfl)) (starts_run.sl.dma0_23 i h1 g) rfl)) $$ CV11
  ihave CK12 := (Transfers.Flight_mono countersEmb (c : Thread nD τ) (landedK c f dK b 12 ![12, 0, 0] inb_S16x512x1024_S1x512x1024_12_0_0 rfl (k0_off1 i 12#32) (k0_off1_inb i h1 12) ((k0_off1_eq i 12).trans (by rw [hb]; rfl)) (starts_run.sl.dma0_24 i h1 f) rfl)) $$ CK12
  ihave CV12 := (Transfers.Flight_mono countersEmb (c : Thread nD τ) (landedV c g dV b 12 ![12, 0, 0] inb_S16x640x512_S1x640x512_12_0_0 rfl (k0_off2 i 12#32) (k0_off2_inb i h1 12) ((k0_off2_eq i 12).trans (by rw [hb]; rfl)) (starts_run.sl.dma0_25 i h1 g) rfl)) $$ CV12
  ihave CK13 := (Transfers.Flight_mono countersEmb (c : Thread nD τ) (landedK c f dK b 13 ![13, 0, 0] inb_S16x512x1024_S1x512x1024_13_0_0 rfl (k0_off1 i 13#32) (k0_off1_inb i h1 13) ((k0_off1_eq i 13).trans (by rw [hb]; rfl)) (starts_run.sl.dma0_26 i h1 f) rfl)) $$ CK13
  ihave CV13 := (Transfers.Flight_mono countersEmb (c : Thread nD τ) (landedV c g dV b 13 ![13, 0, 0] inb_S16x640x512_S1x640x512_13_0_0 rfl (k0_off2 i 13#32) (k0_off2_inb i h1 13) ((k0_off2_eq i 13).trans (by rw [hb]; rfl)) (starts_run.sl.dma0_27 i h1 g) rfl)) $$ CV13
  ihave CK14 := (Transfers.Flight_mono countersEmb (c : Thread nD τ) (landedK c f dK b 14 ![14, 0, 0] inb_S16x512x1024_S1x512x1024_14_0_0 rfl (k0_off1 i 14#32) (k0_off1_inb i h1 14) ((k0_off1_eq i 14).trans (by rw [hb]; rfl)) (starts_run.sl.dma0_28 i h1 f) rfl)) $$ CK14
  ihave CV14 := (Transfers.Flight_mono countersEmb (c : Thread nD τ) (landedV c g dV b 14 ![14, 0, 0] inb_S16x640x512_S1x640x512_14_0_0 rfl (k0_off2 i 14#32) (k0_off2_inb i h1 14) ((k0_off2_eq i 14).trans (by rw [hb]; rfl)) (starts_run.sl.dma0_29 i h1 g) rfl)) $$ CV14
  ihave CK15 := (Transfers.Flight_mono countersEmb (c : Thread nD τ) (landedK c f dK b 15 ![15, 0, 0] inb_S16x512x1024_S1x512x1024_15_0_0 rfl (k0_off1 i 15#32) (k0_off1_inb i h1 15) ((k0_off1_eq i 15).trans (by rw [hb]; rfl)) (starts_run.sl.dma0_30 i h1 f) rfl)) $$ CK15
  ihave CV15 := (Transfers.Flight_mono countersEmb (c : Thread nD τ) (landedV c g dV b 15 ![15, 0, 0] inb_S16x640x512_S1x640x512_15_0_0 rfl (k0_off2 i 15#32) (k0_off2_inb i h1 15) ((k0_off2_eq i 15).trans (by rw [hb]; rfl)) (starts_run.sl.dma0_31 i h1 g) rfl)) $$ CV15
  sl_step
  isplitl [CK0 CV0 CK1 CV1 CK2 CV2 CK3 CV3 CK4 CV4 CK5 CV5 CK6 CV6 CK7 CV7 CK8 CV8 CK9 CV9 CK10 CV10 CK11 CV11 CK12 CV12 CK13 CV13 CK14 CV14 CK15 CV15]
  · iapply (all16 _).2
    isplitl [CK0 CV0]
    · isplitl [CK0]; · (unfold flyK; iexact CK0)
      unfold flyV; iexact CV0
    isplitl [CK1 CV1]
    · isplitl [CK1]; · (unfold flyK; iexact CK1)
      unfold flyV; iexact CV1
    isplitl [CK2 CV2]
    · isplitl [CK2]; · (unfold flyK; iexact CK2)
      unfold flyV; iexact CV2
    isplitl [CK3 CV3]
    · isplitl [CK3]; · (unfold flyK; iexact CK3)
      unfold flyV; iexact CV3
    isplitl [CK4 CV4]
    · isplitl [CK4]; · (unfold flyK; iexact CK4)
      unfold flyV; iexact CV4
    isplitl [CK5 CV5]
    · isplitl [CK5]; · (unfold flyK; iexact CK5)
      unfold flyV; iexact CV5
    isplitl [CK6 CV6]
    · isplitl [CK6]; · (unfold flyK; iexact CK6)
      unfold flyV; iexact CV6
    isplitl [CK7 CV7]
    · isplitl [CK7]; · (unfold flyK; iexact CK7)
      unfold flyV; iexact CV7
    isplitl [CK8 CV8]
    · isplitl [CK8]; · (unfold flyK; iexact CK8)
      unfold flyV; iexact CV8
    isplitl [CK9 CV9]
    · isplitl [CK9]; · (unfold flyK; iexact CK9)
      unfold flyV; iexact CV9
    isplitl [CK10 CV10]
    · isplitl [CK10]; · (unfold flyK; iexact CK10)
      unfold flyV; iexact CV10
    isplitl [CK11 CV11]
    · isplitl [CK11]; · (unfold flyK; iexact CK11)
      unfold flyV; iexact CV11
    isplitl [CK12 CV12]
    · isplitl [CK12]; · (unfold flyK; iexact CK12)
      unfold flyV; iexact CV12
    isplitl [CK13 CV13]
    · isplitl [CK13]; · (unfold flyK; iexact CK13)
      unfold flyV; iexact CV13
    isplitl [CK14 CV14]
    · isplitl [CK14]; · (unfold flyK; iexact CK14)
      unfold flyV; iexact CV14
    isplitl [CK15]; · (unfold flyK; iexact CK15)
    unfold flyV; iexact CV15
  iexists _; iexact O

end Attn

end
-- ==== Proof.Diag.lean ====
module

public import proofs.«01_k».proof.Proof.Start

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ (Pipeline.UD sig nD τ) ℕ

/-! ### The chunk on the diagonal -/

def NEG : F .f32 := Named.named κ "mask" 0xF149F2CA#32

/-- Its scores, masked: the upper half of the rows; of the lower half the right half of the columns; -/
def dTop (K : FVec F S512x128 .bf16) (Q : FVec F S128x512 .bf16) : FVec F S256x512 .f32 :=
  select (extractStridedSlice S256x512 ![0, 0] k0_pay2205 slices_S512x512_o0_0_S256x512)
    (matmul dot_S256x128_S128x512_S256x512_1_0_0_1_n_n none (extractStridedSlice S256x128 ![0, 0] K slices_S512x128_o0_0_S256x128) Q (constant S256x512 .f32 0x00000000#32))
    (broadcast S256x512 NEG)
def dLow (K : FVec F S512x128 .bf16) (Q : FVec F S128x512 .bf16) : FVec F S256x256 .f32 :=
  select (extractStridedSlice S256x256 ![256, 256] k0_pay2205 slices_S512x512_o256_256_S256x256)
    (matmul dot_S256x128_S128x256_S256x256_1_0_0_1_n_n none (extractStridedSlice S256x128 ![256, 0] K slices_S512x128_o256_0_S256x128) (extractStridedSlice S128x256 ![0, 256] Q slices_S128x512_o0_256_S128x256) (constant S256x256 .f32 0x00000000#32))
    (broadcast S256x256 NEG)
/-- the rest is the mask value. -/
def dSc (K : FVec F S512x128 .bf16) (Q : FVec F S128x512 .bf16) : FVec F S512x512 .f32 := fun x =>
  if h : (x 0).val < 256 then dTop K Q (ix2 ⟨(x 0).val, h⟩ (x 1))
  else if h' : (x 1).val < 256 then NEG
  else dLow K Q (ix2 ⟨(x 0).val - 256, by have : (x 0).val < 512 := (x 0).isLt; omega⟩ ⟨(x 1).val - 256, by have : (x 1).val < 512 := (x 1).isLt; omega⟩)
/-- Their maxima. -/
def dMax (K : FVec F S512x128 .bf16) (Q : FVec F S128x512 .bf16) : FVec F S1x512 .f32 := k0_pay2229 (dTop K Q) (dLow K Q)

def Z11 : FVec F S80x512 .f32 := broadcast S80x512 (Scalar.ofBits .f32 0x00000000#32)
def m00 : FVec F S1x512 .f32 := broadcast S1x512 NEG

section
variable {sp : Space} (V : View sig .tc sp S2x8x512x512 .f32) (f : V.ty.Contents (Elt F)) (L : List (View.Piece (Elt F) S2x8x512x512 .f32))

theorem hitD (k : ℕ) (hk : k < 8) (b1) (b2) (b3) (K : FVec F S512x128 .bf16) (Q : FVec F S128x512 .bf16) (j : S512x512.Idx) :
    V.read (Elt F) (V.writes (Elt F) f (⟨Rect.unit (s := S2x8x512x512) ![0, k, 256, 0] S1x1x256x256.size b3, shapeCast S1x1x256x256 (broadcast S256x256 (NEG : F .f32)) shapeCasts_S256x256_S1x1x256x256⟩
      :: ⟨Rect.unit (s := S2x8x512x512) ![0, k, 256, 256] S1x1x256x256.size b2, shapeCast S1x1x256x256 (dLow K Q) shapeCasts_S256x256_S1x1x256x256⟩
      :: ⟨Rect.unit (s := S2x8x512x512) ![0, k, 0, 0] S1x1x256x512.size b1, shapeCast S1x1x256x512 (dTop K Q) shapeCasts_S256x512_S1x1x256x512⟩ :: L)) (ix4 0 ⟨k, hk⟩ (j 0) (j 1)) = dSc K Q j := by
  have h0 : (j 0).val < 512 := (j 0).isLt
  have h1 : (j 1).val < 512 := (j 1).isLt
  unfold dSc
  by_cases h : (j 0).val < 256
  · rw [dif_pos h, View.read_writes_cons_unit_of_not_mem V f b3 _ _ _ rfl 2 (.inl h), View.read_writes_cons_unit_of_not_mem V f b2 _ _ _ rfl 2 (.inl h),
      View.read_writes_cons_unit_of_mem V f b1 _ L _ (ix4 0 0 ⟨(j 0).val, h⟩ (j 1) : S1x1x256x512.Idx) rfl (by intro a; fin_cases a <;> simp [ix4])]
    simp only [pointwise]
  · rw [dif_neg h]
    by_cases h' : (j 1).val < 256
    · rw [dif_pos h', View.read_writes_cons_unit_of_mem V f b3 _ _ _ (ix4 0 0 ⟨(j 0).val - 256, by omega⟩ ⟨(j 1).val, h'⟩ : S1x1x256x256.Idx) rfl (by intro a; fin_cases a <;> simp [ix4]; omega)]
      simp only [pointwise]
    · rw [dif_neg h', View.read_writes_cons_unit_of_not_mem V f b3 _ _ _ rfl 3 (.inr (by show 0 + 256 ≤ (j 1).val; omega)),
        View.read_writes_cons_unit_of_mem V f b2 _ _ _ (ix4 0 0 ⟨(j 0).val - 256, by omega⟩ ⟨(j 1).val - 256, by omega⟩ : S1x1x256x256.Idx) rfl (by intro a; fin_cases a <;> simp [ix4] <;> omega)]
      simp only [pointwise]

theorem missD (k : ℕ) (b1) (b2) (b3) (w1) (w2) (w3) (h : Fin 8) (j : S512x512.Idx) (hne : h.val < k) :
    V.read (Elt F) (V.writes (Elt F) f (⟨Rect.unit (s := S2x8x512x512) ![0, k, 256, 0] S1x1x256x256.size b3, w3⟩ :: ⟨Rect.unit (s := S2x8x512x512) ![0, k, 256, 256] S1x1x256x256.size b2, w2⟩
      :: ⟨Rect.unit (s := S2x8x512x512) ![0, k, 0, 0] S1x1x256x512.size b1, w1⟩ :: L)) (ix4 0 h (j 0) (j 1)) = V.read (Elt F) (V.writes (Elt F) f L) (ix4 0 h (j 0) (j 1)) := by
  rw [View.read_writes_cons_unit_of_not_mem V f b3 _ _ _ rfl 1 (.inl hne), View.read_writes_cons_unit_of_not_mem V f b2 _ _ _ rfl 1 (.inl hne), View.read_writes_cons_unit_of_not_mem V f b1 _ _ _ rfl 1 (.inl hne)]
end

set_option maxHeartbeats 0 in
theorem readD {sp : Space} (V : View sig .tc sp S2x8x512x512 .f32) (f : V.ty.Contents (Elt F)) (K : Fin 8 → FVec F S512x128 .bf16) (Q : Fin 8 → FVec F S128x512 .bf16) (h : Fin 8) (j : S512x512.Idx)
    (a0) (b0) (c0) (a1) (b1) (c1) (a2) (b2) (c2) (a3) (b3) (c3) (a4) (b4) (c4) (a5) (b5) (c5) (a6) (b6) (c6) (a7) (b7) (c7) :
    V.read (Elt F) (V.writes (Elt F) f [⟨Rect.unit (s := S2x8x512x512) ![0, 7, 256, 0] S1x1x256x256.size c7, shapeCast S1x1x256x256 (broadcast S256x256 (NEG : F .f32)) shapeCasts_S256x256_S1x1x256x256⟩,
       ⟨Rect.unit (s := S2x8x512x512) ![0, 7, 256, 256] S1x1x256x256.size b7, shapeCast S1x1x256x256 (dLow (K 7) (Q 7)) shapeCasts_S256x256_S1x1x256x256⟩,
       ⟨Rect.unit (s := S2x8x512x512) ![0, 7, 0, 0] S1x1x256x512.size a7, shapeCast S1x1x256x512 (dTop (K 7) (Q 7)) shapeCasts_S256x512_S1x1x256x512⟩,
       ⟨Rect.unit (s := S2x8x512x512) ![0, 6, 256, 0] S1x1x256x256.size c6, shapeCast S1x1x256x256 (broadcast S256x256 (NEG : F .f32)) shapeCasts_S256x256_S1x1x256x256⟩,
       ⟨Rect.unit (s := S2x8x512x512) ![0, 6, 256, 256] S1x1x256x256.size b6, shapeCast S1x1x256x256 (dLow (K 6) (Q 6)) shapeCasts_S256x256_S1x1x256x256⟩,
       ⟨Rect.unit (s := S2x8x512x512) ![0, 6, 0, 0] S1x1x256x512.size a6, shapeCast S1x1x256x512 (dTop (K 6) (Q 6)) shapeCasts_S256x512_S1x1x256x512⟩,
       ⟨Rect.unit (s := S2x8x512x512) ![0, 5, 256, 0] S1x1x256x256.size c5, shapeCast S1x1x256x256 (broadcast S256x256 (NEG : F .f32)) shapeCasts_S256x256_S1x1x256x256⟩,
       ⟨Rect.unit (s := S2x8x512x512) ![0, 5, 256, 256] S1x1x256x256.size b5, shapeCast S1x1x256x256 (dLow (K 5) (Q 5)) shapeCasts_S256x256_S1x1x256x256⟩,
       ⟨Rect.unit (s := S2x8x512x512) ![0, 5, 0, 0] S1x1x256x512.size a5, shapeCast S1x1x256x512 (dTop (K 5) (Q 5)) shapeCasts_S256x512_S1x1x256x512⟩,
       ⟨Rect.unit (s := S2x8x512x512) ![0, 4, 256, 0] S1x1x256x256.size c4, shapeCast S1x1x256x256 (broadcast S256x256 (NEG : F .f32)) shapeCasts_S256x256_S1x1x256x256⟩,
       ⟨Rect.unit (s := S2x8x512x512) ![0, 4, 256, 256] S1x1x256x256.size b4, shapeCast S1x1x256x256 (dLow (K 4) (Q 4)) shapeCasts_S256x256_S1x1x256x256⟩,
       ⟨Rect.unit (s := S2x8x512x512) ![0, 4, 0, 0] S1x1x256x512.size a4, shapeCast S1x1x256x512 (dTop (K 4) (Q 4)) shapeCasts_S256x512_S1x1x256x512⟩,
       ⟨Rect.unit (s := S2x8x512x512) ![0, 3, 256, 0] S1x1x256x256.size c3, shapeCast S1x1x256x256 (broadcast S256x256 (NEG : F .f32)) shapeCasts_S256x256_S1x1x256x256⟩,
       ⟨Rect.unit (s := S2x8x512x512) ![0, 3, 256, 256] S1x1x256x256.size b3, shapeCast S1x1x256x256 (dLow (K 3) (Q 3)) shapeCasts_S256x256_S1x1x256x256⟩,
       ⟨Rect.unit (s := S2x8x512x512) ![0, 3, 0, 0] S1x1x256x512.size a3, shapeCast S1x1x256x512 (dTop (K 3) (Q 3)) shapeCasts_S256x512_S1x1x256x512⟩,
       ⟨Rect.unit (s := S2x8x512x512) ![0, 2, 256, 0] S1x1x256x256.size c2, shapeCast S1x1x256x256 (broadcast S256x256 (NEG : F .f32)) shapeCasts_S256x256_S1x1x256x256⟩,
       ⟨Rect.unit (s := S2x8x512x512) ![0, 2, 256, 256] S1x1x256x256.size b2, shapeCast S1x1x256x256 (dLow (K 2) (Q 2)) shapeCasts_S256x256_S1x1x256x256⟩,
       ⟨Rect.unit (s := S2x8x512x512) ![0, 2, 0, 0] S1x1x256x512.size a2, shapeCast S1x1x256x512 (dTop (K 2) (Q 2)) shapeCasts_S256x512_S1x1x256x512⟩,
       ⟨Rect.unit (s := S2x8x512x512) ![0, 1, 256, 0] S1x1x256x256.size c1, shapeCast S1x1x256x256 (broadcast S256x256 (NEG : F .f32)) shapeCasts_S256x256_S1x1x256x256⟩,
       ⟨Rect.unit (s := S2x8x512x512) ![0, 1, 256, 256] S1x1x256x256.size b1, shapeCast S1x1x256x256 (dLow (K 1) (Q 1)) shapeCasts_S256x256_S1x1x256x256⟩,
       ⟨Rect.unit (s := S2x8x512x512) ![0, 1, 0, 0] S1x1x256x512.size a1, shapeCast S1x1x256x512 (dTop (K 1) (Q 1)) shapeCasts_S256x512_S1x1x256x512⟩,
       ⟨Rect.unit (s := S2x8x512x512) ![0, 0, 256, 0] S1x1x256x256.size c0, shapeCast S1x1x256x256 (broadcast S256x256 (NEG : F .f32)) shapeCasts_S256x256_S1x1x256x256⟩,
       ⟨Rect.unit (s := S2x8x512x512) ![0, 0, 256, 256] S1x1x256x256.size b0, shapeCast S1x1x256x256 (dLow (K 0) (Q 0)) shapeCasts_S256x256_S1x1x256x256⟩,
       ⟨Rect.unit (s := S2x8x512x512) ![0, 0, 0, 0] S1x1x256x512.size a0, shapeCast S1x1x256x512 (dTop (K 0) (Q 0)) shapeCasts_S256x512_S1x1x256x512⟩]) (ix4 0 h (j 0) (j 1)) = dSc (K h) (Q h) j := by
  obtain ⟨h, hh⟩ := h
  interval_cases h
  · rw [missD V f _ 7 _ _ _ _ _ _ _ j (show 0 < 7 by omega), missD V f _ 6 _ _ _ _ _ _ _ j (show 0 < 6 by omega), missD V f _ 5 _ _ _ _ _ _ _ j (show 0 < 5 by omega), missD V f _ 4 _ _ _ _ _ _ _ j (show 0 < 4 by omega), missD V f _ 3 _ _ _ _ _ _ _ j (show 0 < 3 by omega), missD V f _ 2 _ _ _ _ _ _ _ j (show 0 < 2 by omega), missD V f _ 1 _ _ _ _ _ _ _ j (show 0 < 1 by omega)]; exact hitD V f _ 0 hh _ _ _ (K 0) (Q 0) j
  · rw [missD V f _ 7 _ _ _ _ _ _ _ j (show 1 < 7 by omega), missD V f _ 6 _ _ _ _ _ _ _ j (show 1 < 6 by omega), missD V f _ 5 _ _ _ _ _ _ _ j (show 1 < 5 by omega), missD V f _ 4 _ _ _ _ _ _ _ j (show 1 < 4 by omega), missD V f _ 3 _ _ _ _ _ _ _ j (show 1 < 3 by omega), missD V f _ 2 _ _ _ _ _ _ _ j (show 1 < 2 by omega)]; exact hitD V f _ 1 hh _ _ _ (K 1) (Q 1) j
  · rw [missD V f _ 7 _ _ _ _ _ _ _ j (show 2 < 7 by omega), missD V f _ 6 _ _ _ _ _ _ _ j (show 2 < 6 by omega), missD V f _ 5 _ _ _ _ _ _ _ j (show 2 < 5 by omega), missD V f _ 4 _ _ _ _ _ _ _ j (show 2 < 4 by omega), missD V f _ 3 _ _ _ _ _ _ _ j (show 2 < 3 by omega)]; exact hitD V f _ 2 hh _ _ _ (K 2) (Q 2) j
  · rw [missD V f _ 7 _ _ _ _ _ _ _ j (show 3 < 7 by omega), missD V f _ 6 _ _ _ _ _ _ _ j (show 3 < 6 by omega), missD V f _ 5 _ _ _ _ _ _ _ j (show 3 < 5 by omega), missD V f _ 4 _ _ _ _ _ _ _ j (show 3 < 4 by omega)]; exact hitD V f _ 3 hh _ _ _ (K 3) (Q 3) j
  · rw [missD V f _ 7 _ _ _ _ _ _ _ j (show 4 < 7 by omega), missD V f _ 6 _ _ _ _ _ _ _ j (show 4 < 6 by omega), missD V f _ 5 _ _ _ _ _ _ _ j (show 4 < 5 by omega)]; exact hitD V f _ 4 hh _ _ _ (K 4) (Q 4) j
  · rw [missD V f _ 7 _ _ _ _ _ _ _ j (show 5 < 7 by omega), missD V f _ 6 _ _ _ _ _ _ _ j (show 5 < 6 by omega)]; exact hitD V f _ 5 hh _ _ _ (K 5) (Q 5) j
  · rw [missD V f _ 7 _ _ _ _ _ _ _ j (show 6 < 7 by omega)]; exact hitD V f _ 6 hh _ _ _ (K 6) (Q 6) j
  · exact hitD V f _ 7 hh _ _ _ (K 7) (Q 7) j

theorem slabD_raw (Q : Fin 8 → FVec F S128x512 .bf16) (f7 : S16x512x1024.Idx → Elt F .bf16) (f : S2x8x512x512.Idx → Elt F .f32) (n : Fin 16) (h : Fin 8)
    (o0 : Fin 3 → ℕ) (e0 : o0 = ![n.val, 0, 0]) (o1 : Fin 3 → ℕ) (e1 : o1 = ![n.val, 0, 128]) (o2 : Fin 3 → ℕ) (e2 : o2 = ![n.val, 0, 256]) (o3 : Fin 3 → ℕ) (e3 : o3 = ![n.val, 0, 384]) (o4 : Fin 3 → ℕ) (e4 : o4 = ![n.val, 0, 512]) (o5 : Fin 3 → ℕ) (e5 : o5 = ![n.val, 0, 640]) (o6 : Fin 3 → ℕ) (e6 : o6 = ![n.val, 0, 768]) (o7 : Fin 3 → ℕ) (e7 : o7 = ![n.val, 0, 896]) (d0) (d1) (d2) (d3) (d4) (d5) (d6) (d7)
    (a0) (b0) (c0) (a1) (b1) (c1) (a2) (b2) (c2) (a3) (b3) (c3) (a4) (b4) (c4) (a5) (b5) (c5) (a6) (b6) (c6) (a7) (b7) (c7) :
    slab10 (A10.view.writes (Elt F) f [⟨Rect.unit (s := S2x8x512x512) ![0, 7, 256, 0] S1x1x256x256.size c7, shapeCast S1x1x256x256 (broadcast S256x256 (NEG : F .f32)) shapeCasts_S256x256_S1x1x256x256⟩,
       ⟨Rect.unit (s := S2x8x512x512) ![0, 7, 256, 256] S1x1x256x256.size b7, shapeCast S1x1x256x256 (dLow (shapeCast S512x128 (A7.view.readAt (Elt F) (Rect.unit (s := S16x512x1024) o7 S1x512x128.size d7).toLoadRect f7) shapeCasts_S1x512x128_S512x128) (Q 7)) shapeCasts_S256x256_S1x1x256x256⟩,
       ⟨Rect.unit (s := S2x8x512x512) ![0, 7, 0, 0] S1x1x256x512.size a7, shapeCast S1x1x256x512 (dTop (shapeCast S512x128 (A7.view.readAt (Elt F) (Rect.unit (s := S16x512x1024) o7 S1x512x128.size d7).toLoadRect f7) shapeCasts_S1x512x128_S512x128) (Q 7)) shapeCasts_S256x512_S1x1x256x512⟩,
       ⟨Rect.unit (s := S2x8x512x512) ![0, 6, 256, 0] S1x1x256x256.size c6, shapeCast S1x1x256x256 (broadcast S256x256 (NEG : F .f32)) shapeCasts_S256x256_S1x1x256x256⟩,
       ⟨Rect.unit (s := S2x8x512x512) ![0, 6, 256, 256] S1x1x256x256.size b6, shapeCast S1x1x256x256 (dLow (shapeCast S512x128 (A7.view.readAt (Elt F) (Rect.unit (s := S16x512x1024) o6 S1x512x128.size d6).toLoadRect f7) shapeCasts_S1x512x128_S512x128) (Q 6)) shapeCasts_S256x256_S1x1x256x256⟩,
       ⟨Rect.unit (s := S2x8x512x512) ![0, 6, 0, 0] S1x1x256x512.size a6, shapeCast S1x1x256x512 (dTop (shapeCast S512x128 (A7.view.readAt (Elt F) (Rect.unit (s := S16x512x1024) o6 S1x512x128.size d6).toLoadRect f7) shapeCasts_S1x512x128_S512x128) (Q 6)) shapeCasts_S256x512_S1x1x256x512⟩,
       ⟨Rect.unit (s := S2x8x512x512) ![0, 5, 256, 0] S1x1x256x256.size c5, shapeCast S1x1x256x256 (broadcast S256x256 (NEG : F .f32)) shapeCasts_S256x256_S1x1x256x256⟩,
       ⟨Rect.unit (s := S2x8x512x512) ![0, 5, 256, 256] S1x1x256x256.size b5, shapeCast S1x1x256x256 (dLow (shapeCast S512x128 (A7.view.readAt (Elt F) (Rect.unit (s := S16x512x1024) o5 S1x512x128.size d5).toLoadRect f7) shapeCasts_S1x512x128_S512x128) (Q 5)) shapeCasts_S256x256_S1x1x256x256⟩,
       ⟨Rect.unit (s := S2x8x512x512) ![0, 5, 0, 0] S1x1x256x512.size a5, shapeCast S1x1x256x512 (dTop (shapeCast S512x128 (A7.view.readAt (Elt F) (Rect.unit (s := S16x512x1024) o5 S1x512x128.size d5).toLoadRect f7) shapeCasts_S1x512x128_S512x128) (Q 5)) shapeCasts_S256x512_S1x1x256x512⟩,
       ⟨Rect.unit (s := S2x8x512x512) ![0, 4, 256, 0] S1x1x256x256.size c4, shapeCast S1x1x256x256 (broadcast S256x256 (NEG : F .f32)) shapeCasts_S256x256_S1x1x256x256⟩,
       ⟨Rect.unit (s := S2x8x512x512) ![0, 4, 256, 256] S1x1x256x256.size b4, shapeCast S1x1x256x256 (dLow (shapeCast S512x128 (A7.view.readAt (Elt F) (Rect.unit (s := S16x512x1024) o4 S1x512x128.size d4).toLoadRect f7) shapeCasts_S1x512x128_S512x128) (Q 4)) shapeCasts_S256x256_S1x1x256x256⟩,
       ⟨Rect.unit (s := S2x8x512x512) ![0, 4, 0, 0] S1x1x256x512.size a4, shapeCast S1x1x256x512 (dTop (shapeCast S512x128 (A7.view.readAt (Elt F) (Rect.unit (s := S16x512x1024) o4 S1x512x128.size d4).toLoadRect f7) shapeCasts_S1x512x128_S512x128) (Q 4)) shapeCasts_S256x512_S1x1x256x512⟩,
       ⟨Rect.unit (s := S2x8x512x512) ![0, 3, 256, 0] S1x1x256x256.size c3, shapeCast S1x1x256x256 (broadcast S256x256 (NEG : F .f32)) shapeCasts_S256x256_S1x1x256x256⟩,
       ⟨Rect.unit (s := S2x8x512x512) ![0, 3, 256, 256] S1x1x256x256.size b3, shapeCast S1x1x256x256 (dLow (shapeCast S512x128 (A7.view.readAt (Elt F) (Rect.unit (s := S16x512x1024) o3 S1x512x128.size d3).toLoadRect f7) shapeCasts_S1x512x128_S512x128) (Q 3)) shapeCasts_S256x256_S1x1x256x256⟩,
       ⟨Rect.unit (s := S2x8x512x512) ![0, 3, 0, 0] S1x1x256x512.size a3, shapeCast S1x1x256x512 (dTop (shapeCast S512x128 (A7.view.readAt (Elt F) (Rect.unit (s := S16x512x1024) o3 S1x512x128.size d3).toLoadRect f7) shapeCasts_S1x512x128_S512x128) (Q 3)) shapeCasts_S256x512_S1x1x256x512⟩,
       ⟨Rect.unit (s := S2x8x512x512) ![0, 2, 256, 0] S1x1x256x256.size c2, shapeCast S1x1x256x256 (broadcast S256x256 (NEG : F .f32)) shapeCasts_S256x256_S1x1x256x256⟩,
       ⟨Rect.unit (s := S2x8x512x512) ![0, 2, 256, 256] S1x1x256x256.size b2, shapeCast S1x1x256x256 (dLow (shapeCast S512x128 (A7.view.readAt (Elt F) (Rect.unit (s := S16x512x1024) o2 S1x512x128.size d2).toLoadRect f7) shapeCasts_S1x512x128_S512x128) (Q 2)) shapeCasts_S256x256_S1x1x256x256⟩,
       ⟨Rect.unit (s := S2x8x512x512) ![0, 2, 0, 0] S1x1x256x512.size a2, shapeCast S1x1x256x512 (dTop (shapeCast S512x128 (A7.view.readAt (Elt F) (Rect.unit (s := S16x512x1024) o2 S1x512x128.size d2).toLoadRect f7) shapeCasts_S1x512x128_S512x128) (Q 2)) shapeCasts_S256x512_S1x1x256x512⟩,
       ⟨Rect.unit (s := S2x8x512x512) ![0, 1, 256, 0] S1x1x256x256.size c1, shapeCast S1x1x256x256 (broadcast S256x256 (NEG : F .f32)) shapeCasts_S256x256_S1x1x256x256⟩,
       ⟨Rect.unit (s := S2x8x512x512) ![0, 1, 256, 256] S1x1x256x256.size b1, shapeCast S1x1x256x256 (dLow (shapeCast S512x128 (A7.view.readAt (Elt F) (Rect.unit (s := S16x512x1024) o1 S1x512x128.size d1).toLoadRect f7) shapeCasts_S1x512x128_S512x128) (Q 1)) shapeCasts_S256x256_S1x1x256x256⟩,
       ⟨Rect.unit (s := S2x8x512x512) ![0, 1, 0, 0] S1x1x256x512.size a1, shapeCast S1x1x256x512 (dTop (shapeCast S512x128 (A7.view.readAt (Elt F) (Rect.unit (s := S16x512x1024) o1 S1x512x128.size d1).toLoadRect f7) shapeCasts_S1x512x128_S512x128) (Q 1)) shapeCasts_S256x512_S1x1x256x512⟩,
       ⟨Rect.unit (s := S2x8x512x512) ![0, 0, 256, 0] S1x1x256x256.size c0, shapeCast S1x1x256x256 (broadcast S256x256 (NEG : F .f32)) shapeCasts_S256x256_S1x1x256x256⟩,
       ⟨Rect.unit (s := S2x8x512x512) ![0, 0, 256, 256] S1x1x256x256.size b0, shapeCast S1x1x256x256 (dLow (shapeCast S512x128 (A7.view.readAt (Elt F) (Rect.unit (s := S16x512x1024) o0 S1x512x128.size d0).toLoadRect f7) shapeCasts_S1x512x128_S512x128) (Q 0)) shapeCasts_S256x256_S1x1x256x256⟩,
       ⟨Rect.unit (s := S2x8x512x512) ![0, 0, 0, 0] S1x1x256x512.size a0, shapeCast S1x1x256x512 (dTop (shapeCast S512x128 (A7.view.readAt (Elt F) (Rect.unit (s := S16x512x1024) o0 S1x512x128.size d0).toLoadRect f7) shapeCasts_S1x512x128_S512x128) (Q 0)) shapeCasts_S256x512_S1x1x256x512⟩]) 0 h = dSc (slab7 f7 n h) (Q h) := by
  subst e0 e1 e2 e3 e4 e5 e6 e7
  rw [rd7 f7 n 0 0 rfl, rd7 f7 n 1 128 rfl, rd7 f7 n 2 256 rfl, rd7 f7 n 3 384 rfl, rd7 f7 n 4 512 rfl, rd7 f7 n 5 640 rfl, rd7 f7 n 6 768 rfl, rd7 f7 n 7 896 rfl]
  exact funext fun j => (slab10_read _ 0 h j).trans <| readD A10.view f (fun h => slab7 f7 n h) Q h j a0 b0 c0 a1 b1 c1 a2 b2 c2 a3 b3 c3 a4 b4 c4 a5 b5 c5 a6 b6 c6 a7 b7 c7

theorem zeroD {sp : Space} (V : View sig .tc sp S8x80x512 .f32) (f : V.ty.Contents (Elt F)) (b) (h : Fin 8) (j : S80x512.Idx) :
    V.read (Elt F) (V.writes (Elt F) f [⟨Rect.unit (s := S8x80x512) ![0, 0, 0] S8x80x512.size b, k0_pay2214⟩]) (ix3 h (j 0) (j 1)) = Z11 j := by
  rw [View.read_writes_cons_unit_of_mem V f b _ [] _ (ix3 h (j 0) (j 1) : S8x80x512.Idx) rfl (by intro a; fin_cases a <;> simp [ix3])]
  unfold k0_pay2214 Z11
  simp only [pointwise]

theorem rd7e (f : S16x512x1024.Idx → Elt F .bf16) (n : Fin 16) (h : Fin 8) (o : Fin 3 → ℕ) (ho : o = ![n.val, 0, 128 * h.val]) (hb) :
    shapeCast S512x128 (A7.view.readAt (Elt F) (Rect.unit (s := S16x512x1024) o S1x512x128.size hb).toLoadRect f) shapeCasts_S1x512x128_S512x128 = slab7 f n h := by
  subst ho; exact rd7 f n h _ rfl _

/-- Head `h`'s queries in the block. -/
def qOf (arg3 : Memref sig .tc .vmem S1024x512 .bf16) (f : arg3.view.ty.Contents (Elt F)) (h : Fin 8) : FVec F S128x512 .bf16 :=
  fun j => arg3.view.read (Elt F) f (ix2 ⟨128 * h.val + (j 0).val, by have : (j 0).val < 128 := (j 0).isLt; omega⟩ (j 1))

theorem q_raw (arg3 : Memref sig .tc .vmem S1024x512 .bf16) (f : arg3.view.ty.Contents (Elt F)) (h : Fin 8) (o : ℕ) (e : o = 128 * h.val) (b) :
    shapeCast S128x512 (arg3.view.readAt (Elt F) (Rect.unit (s := S1024x512) ![o, 0] S128x512.size b).toLoadRect f) shapeCasts_S128x512_S128x512 = qOf arg3 f h := by
  subst e
  funext j
  simp only [pointwise]
  unfold qOf
  refine congrArg (arg3.view.read (Elt F) f) (funext fun a => Fin.ext ?_)
  fin_cases a
  · show 128 * h.val + 1 * (j 0).val = 128 * h.val + (j 0).val; omega
  · show 0 + 1 * (j 1).val = (j 1).val; omega

/-- The stretch of the body from the diagonal's scores to the loop. -/
def front (i : grid0.Coords) (arg3 : Memref sig .tc .vmem S1024x512 .bf16) (harg3 : arg3.IsWhole) (arg6 : Memref sig .tc .vmem S512x512 .bf16) (harg6 : arg6.IsWhole)
    (arg2 : BitVec 32) (v21 : IVec S512x512 1) (v23 v25 v27 v29 : FVec F S128x512 .bf16) : Prog (TpuEff nD τ sig (Elt F) Λ₀ .tc) (Σ' (v31 : FVec F S128x512 .bf16) (v33 : FVec F S128x512 .bf16) (v35 : FVec F S128x512 .bf16) (v37 : FVec F S128x512 .bf16) (v42 : FVec F S1x512 .f32) (v43 : FVec F S1x512 .f32) (v44 : FVec F S1x512 .f32) (v45 : FVec F S1x512 .f32) (v46 : FVec F S1x512 .f32) (v47 : FVec F S1x512 .f32) (v48 : FVec F S1x512 .f32) (v49 : FVec F S1x512 .f32) (v80 : FVec F S1x512 .f32) (v111 : FVec F S1x512 .f32) (v142 : FVec F S1x512 .f32) (v173 : FVec F S1x512 .f32) (v204 : FVec F S1x512 .f32) (v235 : FVec F S1x512 .f32) (v266 : FVec F S1x512 .f32) (v274 : FVec F S256x512 .f32) (v280 : FVec F S256x256 .f32), FVec F S1x256 .f32) := do
  let ⟨v31, v33, v35, v37, v42, v43, v44, v45, v46, v47, v48, v49, v57, v63⟩ : Σ' (v31 : FVec F S128x512 .bf16) (v33 : FVec F S128x512 .bf16) (v35 : FVec F S128x512 .bf16) (v37 : FVec F S128x512 .bf16) (v42 : FVec F S1x512 .f32) (v43 : FVec F S1x512 .f32) (v44 : FVec F S1x512 .f32) (v45 : FVec F S1x512 .f32) (v46 : FVec F S1x512 .f32) (v47 : FVec F S1x512 .f32) (v48 : FVec F S1x512 .f32) (v49 : FVec F S1x512 .f32) (v57 : FVec F S256x512 .f32), FVec F S256x256 .f32 ← k0_part394 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v23
  let ⟨v80, v88, v94, v95⟩ : Σ' (v80 : FVec F S1x512 .f32) (v88 : FVec F S256x512 .f32) (v94 : FVec F S256x256 .f32), Vec F S1x1x256x512 .f32 ← k0_part395 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v25 v57 v63
  let ⟨v111, v119, v125⟩ : Σ' (v111 : FVec F S1x512 .f32) (v119 : FVec F S256x512 .f32), FVec F S256x256 .f32 ← k0_part396 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v27 v88 v94 v95
  let ⟨v142, v150, v156, v160⟩ : Σ' (v142 : FVec F S1x512 .f32) (v150 : FVec F S256x512 .f32) (v156 : FVec F S256x256 .f32), Vec F S1x1x256x256 .f32 ← k0_part397 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v29 v119 v125
  let ⟨v173, v181, v187, cst_128⟩ : Σ' (v173 : FVec F S1x512 .f32) (v181 : FVec F S256x512 .f32) (v187 : FVec F S256x256 .f32), F .f32 ← k0_part398 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v31 v150 v156 v160
  let ⟨v204, v212, v218, v225⟩ : Σ' (v204 : FVec F S1x512 .f32) (v212 : FVec F S256x512 .f32) (v218 : FVec F S256x256 .f32), FVec F S256x256 .f32 ← k0_part399 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v33 v181 v187 cst_128
  let ⟨v235, v243, v249, v259⟩ : Σ' (v235 : FVec F S1x512 .f32) (v243 : FVec F S256x512 .f32) (v249 : FVec F S256x256 .f32), FVec F S1x1x256x256 .f32 ← k0_part400 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v35 v212 v218 v225
  let ⟨v266, v274, v280, v291⟩ : Σ' (v266 : FVec F S1x512 .f32) (v274 : FVec F S256x512 .f32) (v280 : FVec F S256x256 .f32), FVec F S1x256 .f32 ← k0_part401 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v21 v37 v243 v249 v259
  pure ⟨v31, v33, v35, v37, v42, v43, v44, v45, v46, v47, v48, v49, v80, v111, v142, v173, v204, v235, v266, v274, v280, v291⟩

set_option maxHeartbeats 0 in
theorem front_run (c : Dev nD) (i : grid0.Coords) (arg3 : Memref sig .tc .vmem S1024x512 .bf16) (harg3 : arg3.IsWhole) (arg6 : Memref sig .tc .vmem S512x512 .bf16) (harg6 : arg6.IsWhole) (arg2 : BitVec 32) (f3 : arg3.view.ty.Contents (Elt F))
    (n : Fin 16) (hn : (i 2).val = n.val)
    (hn7 : ∀ a, (![(i 2).val, 0, 0] : Fin 3 → ℕ) a + (![1, 512, 1024] : Fin 3 → ℕ) a ≤ S16x512x1024.size a)
    (f7 : S16x512x1024.Idx → Elt F .bf16) (f10 : S2x8x512x512.Idx → Elt F .f32) (f11 : S8x80x512.Idx → Elt F .f32) :
    iprop(own c arg3 f3 ∗ (A7.view.loc (c : Thread nD τ) ↦[A7.view.setOn (Rect.unit (s := S16x512x1024) ![(i 2).val, 0, 0] ![1, 512, 1024] hn7).set]{fullShare} f7) ∗ holdAll c A10 f10 ∗ holdAll c A11 f11)
      ⊢ wp (M := 𝕄) frame (wpE defs₀ 𝒱₀ (c : Thread nD τ) none) Set.univ (front (F := F) i arg3 harg3 arg6 harg6 arg2 k0_pay2205 (qOf arg3 f3 0) (qOf arg3 f3 1) (qOf arg3 f3 2) (qOf arg3 f3 3))
        (fun r => iprop(own c arg3 f3 ∗ (A7.view.loc (c : Thread nD τ) ↦[A7.view.setOn (Rect.unit (s := S16x512x1024) ![(i 2).val, 0, 0] ![1, 512, 1024] hn7).set]{fullShare} f7)
          ∗ ∃ f10' f11', holdAll c A10 f10' ∗ holdAll c A11 f11'
          ∗ ⌜r = ⟨qOf arg3 f3 4, qOf arg3 f3 5, qOf arg3 f3 6, qOf arg3 f3 7, m00, m00, m00, m00, m00, m00, m00, m00, dMax (slab7 f7 n 0) (qOf arg3 f3 0), dMax (slab7 f7 n 1) (qOf arg3 f3 1), dMax (slab7 f7 n 2) (qOf arg3 f3 2), dMax (slab7 f7 n 3) (qOf arg3 f3 3), dMax (slab7 f7 n 4) (qOf arg3 f3 4), dMax (slab7 f7 n 5) (qOf arg3 f3 5), dMax (slab7 f7 n 6) (qOf arg3 f3 6), dTop (slab7 f7 n 7) (qOf arg3 f3 7), dLow (slab7 f7 n 7) (qOf arg3 f3 7), broadcast S1x256 NEG⟩⌝
          ∗ ⌜∀ h, slab11 f11' h = Z11⌝ ∗ ⌜∀ h, slab10 f10' 0 h = dSc (slab7 f7 n h) (qOf arg3 f3 h)⌝)) := by
  iintro ⟨H3, H7, H10, H11⟩
  unfold front
  sl_exec_parts
  sl_step
  isplitl [H3]; · iexact H3
  isplitl [H7]; · iexact H7
  iexists _; iexists _
  isplitl [H10]; · iexact H10
  isplitl [H11]; · iexact H11
  isplitr
  · ipureintro
    simp only [← q_raw arg3 f3 4 512 rfl inb_S1024x512_S128x512_512_0, ← q_raw arg3 f3 5 640 rfl inb_S1024x512_S128x512_640_0, ← q_raw arg3 f3 6 768 rfl inb_S1024x512_S128x512_768_0, ← q_raw arg3 f3 7 896 rfl inb_S1024x512_S128x512_896_0, ← rd7e f7 n 0 (k0_off9 i) (hn ▸ k0_off9_eq i) (k0_off9_inb i), ← rd7e f7 n 1 (k0_off10 i) (hn ▸ k0_off10_eq i) (k0_off10_inb i), ← rd7e f7 n 2 (k0_off11 i) (hn ▸ k0_off11_eq i) (k0_off11_inb i), ← rd7e f7 n 3 (k0_off12 i) (hn ▸ k0_off12_eq i) (k0_off12_inb i), ← rd7e f7 n 4 (k0_off13 i) (hn ▸ k0_off13_eq i) (k0_off13_inb i), ← rd7e f7 n 5 (k0_off14 i) (hn ▸ k0_off14_eq i) (k0_off14_inb i), ← rd7e f7 n 6 (k0_off15 i) (hn ▸ k0_off15_eq i) (k0_off15_inb i), ← rd7e f7 n 7 (k0_off16 i) (hn ▸ k0_off16_eq i) (k0_off16_inb i)]
    rfl
  isplitr
  · ipureintro
    intro h
    show slab11 (A11.view.writes (Elt F) f11 [⟨Rect.unit (s := S8x80x512) ![0, 0, 0] S8x80x512.size inb_S8x80x512_S8x80x512_0_0_0, k0_pay2214⟩]) h = Z11
    exact funext fun j => (slab11_read _ h j).trans (zeroD A11.view f11 _ h j)
  · ipureintro
    intro h
    rw [show qOf arg3 f3 h = (![qOf arg3 f3 0, qOf arg3 f3 1, qOf arg3 f3 2, qOf arg3 f3 3, shapeCast S128x512 (arg3.view.readAt (Elt F) (Rect.unit (s := S1024x512) ![512, 0] S128x512.size inb_S1024x512_S128x512_512_0).toLoadRect f3) shapeCasts_S128x512_S128x512, shapeCast S128x512 (arg3.view.readAt (Elt F) (Rect.unit (s := S1024x512) ![640, 0] S128x512.size inb_S1024x512_S128x512_640_0).toLoadRect f3) shapeCasts_S128x512_S128x512, shapeCast S128x512 (arg3.view.readAt (Elt F) (Rect.unit (s := S1024x512) ![768, 0] S128x512.size inb_S1024x512_S128x512_768_0).toLoadRect f3) shapeCasts_S128x512_S128x512, shapeCast S128x512 (arg3.view.readAt (Elt F) (Rect.unit (s := S1024x512) ![896, 0] S128x512.size inb_S1024x512_S128x512_896_0).toLoadRect f3) shapeCasts_S128x512_S128x512] : Fin 8 → FVec F S128x512 .bf16) h by
      fin_cases h <;> first | rfl | exact (q_raw arg3 f3 _ _ rfl _).symm]
    exact slabD_raw (![qOf arg3 f3 0, qOf arg3 f3 1, qOf arg3 f3 2, qOf arg3 f3 3, shapeCast S128x512 (arg3.view.readAt (Elt F) (Rect.unit (s := S1024x512) ![512, 0] S128x512.size inb_S1024x512_S128x512_512_0).toLoadRect f3) shapeCasts_S128x512_S128x512, shapeCast S128x512 (arg3.view.readAt (Elt F) (Rect.unit (s := S1024x512) ![640, 0] S128x512.size inb_S1024x512_S128x512_640_0).toLoadRect f3) shapeCasts_S128x512_S128x512, shapeCast S128x512 (arg3.view.readAt (Elt F) (Rect.unit (s := S1024x512) ![768, 0] S128x512.size inb_S1024x512_S128x512_768_0).toLoadRect f3) shapeCasts_S128x512_S128x512, shapeCast S128x512 (arg3.view.readAt (Elt F) (Rect.unit (s := S1024x512) ![896, 0] S128x512.size inb_S1024x512_S128x512_896_0).toLoadRect f3) shapeCasts_S128x512_S128x512] : Fin 8 → FVec F S128x512 .bf16) f7 f10 n h _ (hn ▸ k0_off9_eq i) _ (hn ▸ k0_off10_eq i) _ (hn ▸ k0_off11_eq i) _ (hn ▸ k0_off12_eq i) _ (hn ▸ k0_off13_eq i) _ (hn ▸ k0_off14_eq i) _ (hn ▸ k0_off15_eq i) _ (hn ▸ k0_off16_eq i) _ _ _ _ _ _ _ _ _ _ _ _ _ _ _ _ _ _ _ _ _ _ _ _ _ _ _ _ _ _ _ _

end Attn

end
-- ==== Proof.Back.lean ====
module

public import Idealize.ShloMosaic.Lib.LoopRemainder
public import proofs.«01_k».proof.Proof.Diag

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ (Pipeline.UD sig nD τ) ℕ

/-! ### The loop, the division and the store -/

/-- A head's accumulated values over its accumulated weights (row 64). -/
def normH (a : FVec F S80x512 .f32) : FVec F S64x512 .f32 :=
  divf (fun x : S64x512.Idx => a (ix2 ⟨(x 0).val, by have : (x 0).val < 64 := (x 0).isLt; omega⟩ (x 1))) (fun x : S64x512.Idx => a (ix2 64 (x 1)))

/-- The block stored. -/
def outOf (a : Fin 8 → FVec F S80x512 .f32) : FVec F S512x512 .bf16 :=
  truncf .bf16 (concatenate S512x512 0 [⟨S64x512, normH (a 0)⟩, ⟨S64x512, normH (a 1)⟩, ⟨S64x512, normH (a 2)⟩, ⟨S64x512, normH (a 3)⟩, ⟨S64x512, normH (a 4)⟩, ⟨S64x512, normH (a 5)⟩, ⟨S64x512, normH (a 6)⟩, ⟨S64x512, normH (a 7)⟩] concatenates_S64x512_S64x512_S64x512_S64x512_S64x512_S64x512_S64x512_S64x512_S512x512_d0) bitsLt_bf16_f32

theorem num_raw (f : S8x80x512.Idx → Elt F .f32) (h : Fin 8) (o : ℕ) (ho : o = h.val) (b) :
    shapeCast S64x512 (A11.view.readAt (Elt F) (Rect.unit (s := S8x80x512) ![o, 0, 0] S1x64x512.size b).toLoadRect f) shapeCasts_S1x64x512_S64x512
      = fun x : S64x512.Idx => slab11 f h (ix2 ⟨(x 0).val, by have : (x 0).val < 64 := (x 0).isLt; omega⟩ (x 1)) := by
  subst ho
  funext x
  simp only [pointwise]
  unfold slab11
  refine congrArg f (funext fun a => Fin.ext ?_)
  fin_cases a
  · show h.val + 1 * 0 = h.val; omega
  · show 0 + 1 * (x 0).val = (x 0).val; omega
  · show 0 + 1 * (x 1).val = (x 1).val; omega

theorem den_raw (f : S8x80x512.Idx → Elt F .f32) (h : Fin 8) (o : ℕ) (ho : o = h.val) (b) :
    broadcastTo S64x512 (shapeCast S1x512 (A11.view.readAt (Elt F) (Rect.unit (s := S8x80x512) ![o, 64, 0] S1x1x512.size b).toLoadRect f) shapeCasts_S1x1x512_S1x512) broadcasts_S1x512_S64x512
      = fun x : S64x512.Idx => slab11 f h (ix2 64 (x 1)) := by
  subst ho
  funext x
  simp only [pointwise]
  unfold slab11
  refine congrArg f (funext fun a => Fin.ext ?_)
  fin_cases a
  · show h.val + 1 * 0 = h.val; omega
  · show 64 + 1 * 0 = 64; omega
  · show 0 + 1 * (x 1).val = (x 1).val; omega

theorem norm_raw (f : S8x80x512.Idx → Elt F .f32) (h : Fin 8) (o : ℕ) (ho : o = h.val) (b) (b') :
    divf (shapeCast S64x512 (A11.view.readAt (Elt F) (Rect.unit (s := S8x80x512) ![o, 0, 0] S1x64x512.size b).toLoadRect f) shapeCasts_S1x64x512_S64x512)
      (broadcastTo S64x512 (shapeCast S1x512 (A11.view.readAt (Elt F) (Rect.unit (s := S8x80x512) ![o, 64, 0] S1x1x512.size b').toLoadRect f) shapeCasts_S1x1x512_S1x512) broadcasts_S1x512_S64x512)
      = normH (slab11 f h) := by
  rw [num_raw f h o ho, den_raw f h o ho]
  rfl

theorem store6 {sp : Space} (V : View sig .tc sp S512x512 .bf16) (f : V.ty.Contents (Elt F)) (b) (w : FVec F S512x512 .bf16) :
    V.read (Elt F) (V.writes (Elt F) f [⟨Rect.unit (s := S512x512) ![0, 0] S512x512.size b, w⟩]) = w := by
  funext j
  rw [View.read_writes_cons_unit_of_mem V f b _ [] _ (j : S512x512.Idx) rfl (by intro a; fin_cases a <;> simp)]

def back (i : grid0.Coords) (arg3 : Memref sig .tc .vmem S1024x512 .bf16) (harg3 : arg3.IsWhole) (arg6 : Memref sig .tc .vmem S512x512 .bf16) (harg6 : arg6.IsWhole) (arg2 v18 : BitVec 32) (Q : Fin 8 → FVec F S128x512 .bf16) (m0 M0 : Fin 8 → FVec F S1x512 .f32)
    (v274 : FVec F S256x512 .f32) (v280 : FVec F S256x256 .f32) (v291 : FVec F S1x256 .f32) : Prog (TpuEff nD τ sig (Elt F) Λ₀ .tc) PUnit := do
  let ⟨v310, v316, v322, v324⟩ ← k0_part402 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) arg2 v18 (Q 0) (Q 1) (Q 2) (Q 3) (Q 4) (Q 5) (Q 6) (Q 7) (m0 0) (m0 1) (m0 2) (m0 3) (m0 4) (m0 5) (m0 6) (m0 7) (M0 0) (M0 1) (M0 2) (M0 3) (M0 4) (M0 5) (M0 6) v274 v280 v291
  k0_part403 i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) v310 v316 v322 v324

set_option maxHeartbeats 0 in
theorem back_run (c : Dev nD) (i : grid0.Coords) (arg3 : Memref sig .tc .vmem S1024x512 .bf16) (harg3 : arg3.IsWhole) (arg6 : Memref sig .tc .vmem S512x512 .bf16) (harg6 : arg6.IsWhole) (arg2 v18 : BitVec 32)
    (Q : Fin 8 → FVec F S128x512 .bf16) (f7 : S16x512x1024.Idx → Elt F .bf16) (f8 : S16x640x512.Idx → Elt F .bf16) (q : Fin 16) (S0 : Fin 8 → FVec F S512x512 .f32) (M0 m0 : Fin 8 → FVec F S1x512 .f32) (a0 : Fin 8 → FVec F S80x512 .f32) (hqi : q.val = (i 2).val)
    (v274 : FVec F S256x512 .f32) (v280 : FVec F S256x256 .f32) (v291 : FVec F S1x256 .f32) (f6 : arg6.view.ty.Contents (Elt F)) :
    iprop(inv c Q f7 f8 q S0 M0 m0 a0 0 (m0 0, m0 1, m0 2, m0 3, m0 4, m0 5, m0 6, m0 7, arg2, M0 0, M0 1, M0 2, M0 3, M0 4, M0 5, M0 6, k0_pay2280 v274 v280 v291) ∗ own c arg6 f6)
      ⊢ wp (M := 𝕄) frame (wpE defs₀ 𝒱₀ (c : Thread nD τ) none) Set.univ (back (F := F) i arg3 harg3 arg6 harg6 arg2 v18 Q m0 M0 v274 v280 v291)
        (fun _ => iprop(bigSep (rangeSet 16 0 (q.val + 1)) (hold7 c f7) ∗ bigSep (rangeSet 16 0 (q.val + 1)) (hold8 c f8)
          ∗ (∃ f10, holdAll c A10 f10) ∗ (∃ f11, holdAll c A11 f11) ∗ ∃ f6', own c arg6 f6' ∗ ⌜arg6.view.read (Elt F) f6' = outOf (ac Q f7 f8 q S0 M0 m0 a0 (q.val + 1))⌝)) := by
  iintro ⟨HI, H6⟩
  unfold back
  rw [k0_part402_eq_skeleton]
  unfold k0_part402_skel
  simp only [bind_assoc]
  iapply (Scf.wp_for_bind (M := 𝕄) frame (wpE (defs₀ (F := F)) 𝒱₀ (c : Thread nD τ) none) Set.univ _ _ _ _ _ _ (inv c Q f7 f8 q S0 M0 m0 a0) (fun k acc => loop_step c i arg3 harg3 arg6 harg6 arg2 v18 (m0 0) (m0 1) (m0 2) (m0 3) (m0 4) (m0 5) (m0 6) (m0 7) (M0 0) (M0 1) (M0 2) (M0 3) (M0 4) (M0 5) (M0 6) v274 v280 v291 Q f7 f8 q S0 M0 m0 a0 hqi k acc)) $$ HI
  iintro %acc HI
  rw [show Scf.trips _ _ _ = q.val + 1 from (trips_eq i).trans (by rw [hqi])]
  unfold inv
  icases HI with ⟨H7, H8, %f10, %f11, %kc, %s, H10, H11, %hacc, %ha, -⟩
  subst hacc
  sl_exec_parts
  sl_step
  isplitl [H7]; · iexact H7
  isplitl [H8]; · iexact H8
  isplitl [H10]; · iexists _; iexact H10
  isplitl [H11]; · iexists _; iexact H11
  iexists _
  isplitl [H6]; · iexact H6
  ipureintro
  rw [← funext ha]
  refine (store6 arg6.view f6 _ _).trans ?_
  unfold outOf
  rw [← norm_raw f11 0 0 rfl inb_S8x80x512_S1x64x512_0_0_0 inb_S8x80x512_S1x1x512_0_64_0, ← norm_raw f11 1 1 rfl inb_S8x80x512_S1x64x512_1_0_0 inb_S8x80x512_S1x1x512_1_64_0, ← norm_raw f11 2 2 rfl inb_S8x80x512_S1x64x512_2_0_0 inb_S8x80x512_S1x1x512_2_64_0, ← norm_raw f11 3 3 rfl inb_S8x80x512_S1x64x512_3_0_0 inb_S8x80x512_S1x1x512_3_64_0, ← norm_raw f11 4 4 rfl inb_S8x80x512_S1x64x512_4_0_0 inb_S8x80x512_S1x1x512_4_64_0, ← norm_raw f11 5 5 rfl inb_S8x80x512_S1x64x512_5_0_0 inb_S8x80x512_S1x1x512_5_64_0, ← norm_raw f11 6 6 rfl inb_S8x80x512_S1x64x512_6_0_0 inb_S8x80x512_S1x1x512_6_64_0, ← norm_raw f11 7 7 rfl inb_S8x80x512_S1x64x512_7_0_0 inb_S8x80x512_S1x1x512_7_64_0]
  rfl

end Attn

end
-- ==== Proof.Body.lean ====
module

public import proofs.«01_k».proof.Proof.Back

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ (Pipeline.UD sig nD τ) ℕ

/-! ### The body at one point -/

/-- After the starts: the chunk on the diagonal has landed; the first four heads' queries are read. -/
def lead (i : grid0.Coords) (arg3 : Memref sig .tc .vmem S1024x512 .bf16) (harg3 : arg3.IsWhole) (arg6 : Memref sig .tc .vmem S512x512 .bf16) (harg6 : arg6.IsWhole) : Prog (TpuEff nD τ sig (Elt F) Λ₀ .tc) (Σ' (arg2 : BitVec 32) (v18 : BitVec 32) (v21 : IVec S512x512 1) (v23 : FVec F S128x512 .bf16) (v25 : FVec F S128x512 .bf16) (v27 : FVec F S128x512 .bf16), FVec F S128x512 .bf16) := do
  let arg2 : BitVec 32 := BitVec.ofNat 32 (i 2).val
  let v6 : DmaSems sig S1x1 := cc0_scratch2.slice (Rect.unit (s := S2x16) (k0_off3 i) S1x1.size (k0_off3_inb i))
  let v7 : DmaSems sig S_ := v6.squeeze S_ squeezes_S1x1_S_
  let v8 : Memref sig .tc .vmem S1x512x1024 .bf16 := A7.slice (Rect.unit (s := S16x512x1024) (k0_off4 i) S1x512x1024.size (k0_off4_inb i)) (fun _ => rfl)
  let v9 : Memref sig .tc .vmem S512x1024 .bf16 := v8.squeeze S512x1024 squeezes_S1x512x1024_S512x1024
  let v10 : Memref sig .tc .hbm S1x512x1024 .bf16 := HK.slice (Rect.unit (s := S32x512x1024) (k0_off5 i) S1x512x1024.size (k0_off5_inb i)) (fun _ => rfl)
  let v11 : Memref sig .tc .hbm S512x1024 .bf16 := v10.squeeze S512x1024 squeezes_S1x512x1024_S512x1024
  Prog.lift (.waitDma2 v7.sem v11 v9 (((Memref.isWhole_whole _ : (HK).IsWhole).wordExact_slice rfl _ (k0_off5_wordsbf16 i)).reshape _ _) (((Memref.isWhole_whole _ : (A7).IsWhole).wordExact_slice rfl _ (k0_off4_wordsbf16 i)).reshape _ _))
  let v12 : DmaSems sig S1x1 := cc0_scratch2.slice (Rect.unit (s := S2x16) (k0_off6 i) S1x1.size (k0_off6_inb i))
  let v13 : DmaSems sig S_ := v12.squeeze S_ squeezes_S1x1_S_
  let v14 : Memref sig .tc .vmem S1x640x512 .bf16 := A8.slice (Rect.unit (s := S16x640x512) (k0_off7 i) S1x640x512.size (k0_off7_inb i)) (fun _ => rfl)
  let v15 : Memref sig .tc .vmem S640x512 .bf16 := v14.squeeze S640x512 squeezes_S1x640x512_S640x512
  let v16 : Memref sig .tc .hbm S1x640x512 .bf16 := HV.slice (Rect.unit (s := S32x640x512) (k0_off8 i) S1x640x512.size (k0_off8_inb i)) (fun _ => rfl)
  let v17 : Memref sig .tc .hbm S640x512 .bf16 := v16.squeeze S640x512 squeezes_S1x640x512_S640x512
  Prog.lift (.waitDma2 v13.sem v17 v15 (((Memref.isWhole_whole _ : (HV).IsWhole).wordExact_slice rfl _ (k0_off8_wordsbf16 i)).reshape _ _) (((Memref.isWhole_whole _ : (A8).IsWhole).wordExact_slice rfl _ (k0_off7_wordsbf16 i)).reshape _ _))
  let v18 : BitVec 32 := Scalar.addi arg2 1#32
  let v22 : Vec F S128x512 .bf16 ← Prog.lift (.load arg3 (Rect.unit (s := S1024x512) ![0, 0] S128x512.size inb_S1024x512_S128x512_0_0).toLoadRect (View.loadsAt_vmem h_S128x512))
  let v24 : Vec F S128x512 .bf16 ← Prog.lift (.load arg3 (Rect.unit (s := S1024x512) ![128, 0] S128x512.size inb_S1024x512_S128x512_128_0).toLoadRect (View.loadsAt_vmem h_S128x512))
  let v26 : Vec F S128x512 .bf16 ← Prog.lift (.load arg3 (Rect.unit (s := S1024x512) ![256, 0] S128x512.size inb_S1024x512_S128x512_256_0).toLoadRect (View.loadsAt_vmem h_S128x512))
  let v28 : Vec F S128x512 .bf16 ← Prog.lift (.load arg3 (Rect.unit (s := S1024x512) ![384, 0] S128x512.size inb_S1024x512_S128x512_384_0).toLoadRect (View.loadsAt_vmem h_S128x512))
  pure ⟨arg2, v18, k0_pay2205, k0_pay2206 v22, k0_pay2207 v24, k0_pay2208 v26, k0_pay2209 v28⟩

/-- The body, cut. -/
def bodyOf (i : grid0.Coords) (arg3 : Memref sig .tc .vmem S1024x512 .bf16) (harg3 : arg3.IsWhole) (arg6 : Memref sig .tc .vmem S512x512 .bf16) (harg6 : arg6.IsWhole) : Prog (TpuEff nD τ sig (Elt F) Λ₀ .tc) PUnit :=
  (if h1 : k0_cond1 i = 1#1 then starts i arg3 harg3 arg6 harg6 h1 else pure ⟨⟩) >>= fun _ =>
  lead i arg3 harg3 arg6 harg6 >>= fun r =>
  front i arg3 harg3 arg6 harg6 r.1 r.2.2.1 r.2.2.2.1 r.2.2.2.2.1 r.2.2.2.2.2.1 r.2.2.2.2.2.2 >>= fun s =>
  back i arg3 harg3 arg6 harg6 r.1 r.2.1 (![r.2.2.2.1, r.2.2.2.2.1, r.2.2.2.2.2.1, r.2.2.2.2.2.2, s.1, s.2.1, s.2.2.1, s.2.2.2.1])
    (![s.2.2.2.2.1, s.2.2.2.2.2.1, s.2.2.2.2.2.2.1, s.2.2.2.2.2.2.2.1, s.2.2.2.2.2.2.2.2.1, s.2.2.2.2.2.2.2.2.2.1, s.2.2.2.2.2.2.2.2.2.2.1, s.2.2.2.2.2.2.2.2.2.2.2.1])
    (![s.2.2.2.2.2.2.2.2.2.2.2.2.1, s.2.2.2.2.2.2.2.2.2.2.2.2.2.1, s.2.2.2.2.2.2.2.2.2.2.2.2.2.2.1, s.2.2.2.2.2.2.2.2.2.2.2.2.2.2.2.1, s.2.2.2.2.2.2.2.2.2.2.2.2.2.2.2.2.1, s.2.2.2.2.2.2.2.2.2.2.2.2.2.2.2.2.2.1, s.2.2.2.2.2.2.2.2.2.2.2.2.2.2.2.2.2.2.1, k0_pay2280 s.2.2.2.2.2.2.2.2.2.2.2.2.2.2.2.2.2.2.2.1 s.2.2.2.2.2.2.2.2.2.2.2.2.2.2.2.2.2.2.2.2.1 s.2.2.2.2.2.2.2.2.2.2.2.2.2.2.2.2.2.2.2.2.2])
    s.2.2.2.2.2.2.2.2.2.2.2.2.2.2.2.2.2.2.2.1 s.2.2.2.2.2.2.2.2.2.2.2.2.2.2.2.2.2.2.2.2.1 s.2.2.2.2.2.2.2.2.2.2.2.2.2.2.2.2.2.2.2.2.2

set_option maxHeartbeats 0 in
theorem body_eq (i : grid0.Coords) (arg3 : Memref sig .tc .vmem S1024x512 .bf16) (harg3 : arg3.IsWhole) (arg6 : Memref sig .tc .vmem S512x512 .bf16) (harg6 : arg6.IsWhole) : cc0_mla_attention (F := F) i arg3 harg3 HK (Memref.isWhole_whole _) HV (Memref.isWhole_whole _) arg6 harg6 A7 (Memref.isWhole_whole _) A8 (Memref.isWhole_whole _) cc0_scratch2 A10 (Memref.isWhole_whole _) A11 (Memref.isWhole_whole _) = bodyOf i arg3 harg3 arg6 harg6 := by
  rw [cc0_mla_attention_eq_skeleton]
  unfold cc0_mla_attention_skel bodyOf
  rw [k0_part393_eq_skeleton]
  unfold k0_part393_skel
  by_cases h1 : k0_cond1 i = 1#1
  · simp only [dif_pos h1]
    unfold starts lead front back
    simp only [bind_assoc, pure_bind, bind_pure_unit]
    rfl
  · simp only [dif_neg h1]
    unfold lead front back
    simp only [bind_assoc, pure_bind, bind_pure_unit]
    rfl

/-- The chunk's transfers on cells given otherwise. -/
theorem fly_at (c : Dev nD) (f : S32x512x1024.Idx → Elt F .bf16) (g : S32x640x512.Idx → Elt F .bf16) (b : Fin 2) (j : Fin 16)
    (c0 : Fin 2 → ℕ) (h0) (e0 : c0 = ![0, j.val]) (c1 : Fin 2 → ℕ) (h1) (e1 : c1 = ![1, j.val]) :
    iprop(flyK c f b j ∗ flyV c g b j) ⊢ iprop(Transfers.Flight countersEmb (c : Thread nD τ) (SemLoc.dma ((cc0_scratch2.slice (Rect.unit (s := S2x16) c0 S1x1.size h0)).squeeze S_ squeezes_S1x1_S_).sem) default 32768 iprop((A7.view.loc (c : Thread nD τ) ↦[A7.view.setOn (Rect.unit (s := S16x512x1024) ![j.val, 0, 0] ![1, 512, 1024] (inb7 j)).set]{fullShare} KB b f) ∗ own c (srcK ![(blk b j).val, 0, 0] (inb14 _)) f)
      ∗ Transfers.Flight countersEmb (c : Thread nD τ) (SemLoc.dma ((cc0_scratch2.slice (Rect.unit (s := S2x16) c1 S1x1.size h1)).squeeze S_ squeezes_S1x1_S_).sem) default 20480 iprop((A8.view.loc (c : Thread nD τ) ↦[A8.view.setOn (Rect.unit (s := S16x640x512) ![j.val, 0, 0] ![1, 640, 512] (inb8 j)).set]{fullShare} VB b g) ∗ own c (srcV ![(blk b j).val, 0, 0] (inb20 _)) g)) := by
  subst e0 e1
  exact .rfl
theorem zero_at (c : Dev nD) (j : Fin 16) (c0 : Fin 2 → ℕ) (h0) (e0 : c0 = ![0, j.val]) (c1 : Fin 2 → ℕ) (h1) (e1 : c1 = ![1, j.val]) :
    iprop(zeroCell (F := F) c c0 h0 ∗ zeroCell c c1 h1) ⊢ iprop(zeroCell c ![(0 : Fin 2).val, j.val] (inbC 0 j) ∗ zeroCell c ![(1 : Fin 2).val, j.val] (inbC 1 j)) := by
  subst e0 e1
  exact .rfl

/-- A chunk that has landed: its blocks in HBM at home again, its two cells clear. -/
def done (c : Dev nD) (f : S32x512x1024.Idx → Elt F .bf16) (g : S32x640x512.Idx → Elt F .bf16) (b : Fin 2) (j : Fin 16) : sProp 𝕄 :=
  iprop(homeK c f (blk b j) ∗ homeV c g (blk b j) ∗ zeroCell c ![(0 : Fin 2).val, j.val] (inbC 0 j) ∗ zeroCell c ![(1 : Fin 2).val, j.val] (inbC 1 j))

set_option maxHeartbeats 0 in
theorem lead_run (c : Dev nD) (i : grid0.Coords) (arg3 : Memref sig .tc .vmem S1024x512 .bf16) (harg3 : arg3.IsWhole) (arg6 : Memref sig .tc .vmem S512x512 .bf16) (harg6 : arg6.IsWhole) (f3 : arg3.view.ty.Contents (Elt F)) (f : S32x512x1024.Idx → Elt F .bf16) (g : S32x640x512.Idx → Elt F .bf16)
    (b : Fin 2) (q : Fin 16) (hq : q.val = (i 2).val) (W : Waits sig Unit) :
    iprop((flyK c f b q ∗ flyV c g b q) ∗ own c arg3 f3 ∗ owes (c : Thread nD τ) 0 W)
      ⊢ wp (M := 𝕄) frame (wpE defs₀ 𝒱₀ (c : Thread nD τ) none) Set.univ (lead (F := F) i arg3 harg3 arg6 harg6)
        (fun r => iprop((hold7 c (KB b f) q ∗ hold8 c (VB b g) q ∗ done c f g b q) ∗ own c arg3 f3 ∗ (∃ W', owes (c : Thread nD τ) 0 W')
          ∗ ⌜r = ⟨BitVec.ofNat 32 (i 2).val, Scalar.addi (BitVec.ofNat 32 (i 2).val) 1#32, k0_pay2205, qOf arg3 f3 0, qOf arg3 f3 1, qOf arg3 f3 2, qOf arg3 f3 3⟩⌝)) := by
  iintro ⟨HF, H3, O⟩
  ihave HF := (fly_at c f g b q (k0_off3 i) (k0_off3_inb i) ((k0_off3_eq i).trans (by rw [hq])) (k0_off6 i) (k0_off6_inb i) ((k0_off6_eq i).trans (by rw [hq]))) $$ HF
  icases HF with ⟨HK, HV⟩
  unfold lead
  sl_exec
  sl_exec
  sl_step
  isplitl [HK_dst HK_src HK HV_dst HV_src HV]
  · unfold hold7 hold8 done homeK homeV
    isplitl [HK_dst]; · iexact HK_dst
    isplitl [HV_dst]; · iexact HV_dst
    isplitl [HK_src]; · iexact HK_src
    isplitl [HV_src]; · iexact HV_src
    iapply (zero_at c q (k0_off3 i) (k0_off3_inb i) ((k0_off3_eq i).trans (by rw [hq])) (k0_off6 i) (k0_off6_inb i) ((k0_off6_eq i).trans (by rw [hq])))
    isplitl [HK]; · iexact HK
    iexact HV
  isplitl [H3]; · iexact H3
  isplitl [O]; · iexists _; iexact O
  ipureintro
  rw [← q_raw arg3 f3 0 0 rfl inb_S1024x512_S128x512_0_0, ← q_raw arg3 f3 1 128 rfl inb_S1024x512_S128x512_128_0, ← q_raw arg3 f3 2 256 rfl inb_S1024x512_S128x512_256_0, ← q_raw arg3 f3 3 384 rfl inb_S1024x512_S128x512_384_0]
  rfl

/-- The state between two points of a batch: the first `n` chunks landed, the others in flight. -/
def Mid (c : Dev nD) (f : S32x512x1024.Idx → Elt F .bf16) (g : S32x640x512.Idx → Elt F .bf16) (b : Fin 2) (n : ℕ) : sProp 𝕄 :=
  iprop(bigSep (rangeSet 16 0 n) (hold7 c (KB b f)) ∗ bigSep (rangeSet 16 0 n) (hold8 c (VB b g)) ∗ bigSep (rangeSet 16 0 n) (done c f g b)
    ∗ bigSep (rangeSet 16 n 16) (fun j => iprop(flyK c f b j ∗ flyV c g b j)) ∗ (∃ f10, holdAll c A10 f10) ∗ (∃ f11, holdAll c A11 f11))

/-- Head `h`'s queries, of the block's. -/
def Qx (x : FVec F S1024x512 .bf16) (h : Fin 8) : FVec F S128x512 .bf16 :=
  fun j => x (ix2 ⟨128 * h.val + (j 0).val, by have : (j 0).val < 128 := (j 0).isLt; omega⟩ (j 1))

/-- What a head has accumulated once the block is done: numerators, and in row 64 the denominators. -/
def accOf (x : FVec F S1024x512 .bf16) (k7 : S16x512x1024.Idx → Elt F .bf16) (v8 : S16x640x512.Idx → Elt F .bf16) (q : Fin 16) (h : Fin 8) : FVec F S80x512 .f32 :=
  ac (Qx x) k7 v8 q (fun h => dSc (slab7 k7 q h) (Qx x h)) (fun h => dMax (slab7 k7 q h) (Qx x h)) (fun _ => m00) (fun _ => Z11) (q.val + 1) h

theorem grow {Φ : Fin 16 → sProp 𝕄} (q : Fin 16) : iprop(Φ q ∗ bigSep (rangeSet 16 0 q.val) Φ) ⊢ bigSep (rangeSet 16 0 (q.val + 1)) Φ :=
  Entails.of_eq (bigSep_rangeSet_last (lo := 0) (hi := q.val + 1) (Nat.succ_pos _) (by omega)).symm
theorem pop {Φ : Fin 16 → sProp 𝕄} (q : Fin 16) : bigSep (rangeSet 16 q.val 16) Φ ⊢ iprop(Φ q ∗ bigSep (rangeSet 16 (q.val + 1) 16) Φ) :=
  Entails.of_eq (bigSep_rangeSet_head q.isLt q.isLt)

def M0x (x : FVec F S1024x512 .bf16) (k7 : S16x512x1024.Idx → Elt F .bf16) (q : Fin 16) (h : Fin 8) : FVec F S1x512 .f32 := dMax (slab7 k7 q h) (Qx x h)

theorem hold7_at (c : Dev nD) (f7 : S16x512x1024.Idx → Elt F .bf16) (q : Fin 16) (o : Fin 3 → ℕ) (h : ∀ a, o a + (![1, 512, 1024] : Fin 3 → ℕ) a ≤ S16x512x1024.size a) (e : o = ![q.val, 0, 0]) :
    (A7.view.loc (c : Thread nD τ) ↦[A7.view.setOn (Rect.unit (s := S16x512x1024) o ![1, 512, 1024] h).set]{fullShare} f7 : sProp 𝕄) = hold7 c f7 q := by
  subst e; rfl

theorem eQ (arg3 : Memref sig .tc .vmem S1024x512 .bf16) (f3 : arg3.view.ty.Contents (Elt F)) :
    (![qOf arg3 f3 0, qOf arg3 f3 1, qOf arg3 f3 2, qOf arg3 f3 3, qOf arg3 f3 4, qOf arg3 f3 5, qOf arg3 f3 6, qOf arg3 f3 7] : Fin 8 → FVec F S128x512 .bf16) = Qx (arg3.view.read (Elt F) f3) := by
  funext h; fin_cases h <;> rfl
theorem em : (![m00, m00, m00, m00, m00, m00, m00, m00] : Fin 8 → FVec F S1x512 .f32) = fun _ => m00 := by
  funext h; fin_cases h <;> rfl
theorem eM (arg3 : Memref sig .tc .vmem S1024x512 .bf16) (f3 : arg3.view.ty.Contents (Elt F)) (k7 : S16x512x1024.Idx → Elt F .bf16) (q : Fin 16) :
    (![dMax (slab7 k7 q 0) (qOf arg3 f3 0), dMax (slab7 k7 q 1) (qOf arg3 f3 1), dMax (slab7 k7 q 2) (qOf arg3 f3 2), dMax (slab7 k7 q 3) (qOf arg3 f3 3), dMax (slab7 k7 q 4) (qOf arg3 f3 4), dMax (slab7 k7 q 5) (qOf arg3 f3 5), dMax (slab7 k7 q 6) (qOf arg3 f3 6),
      k0_pay2280 (dTop (slab7 k7 q 7) (qOf arg3 f3 7)) (dLow (slab7 k7 q 7) (qOf arg3 f3 7)) (broadcast S1x256 NEG)] : Fin 8 → FVec F S1x512 .f32) = M0x (arg3.view.read (Elt F) f3) k7 q := by
  funext h; fin_cases h <;> rfl
theorem eM7 (arg3 : Memref sig .tc .vmem S1024x512 .bf16) (f3 : arg3.view.ty.Contents (Elt F)) (k7 : S16x512x1024.Idx → Elt F .bf16) (q : Fin 16) :
    k0_pay2280 (dTop (slab7 k7 q 7) (qOf arg3 f3 7)) (dLow (slab7 k7 q 7) (qOf arg3 f3 7)) (broadcast S1x256 (NEG : F .f32)) = M0x (arg3.view.read (Elt F) f3) k7 q 7 := rfl

set_option maxHeartbeats 0 in
theorem tail_run (c : Dev nD) (i : grid0.Coords) (arg3 : Memref sig .tc .vmem S1024x512 .bf16) (harg3 : arg3.IsWhole) (arg6 : Memref sig .tc .vmem S512x512 .bf16) (harg6 : arg6.IsWhole)
    (f3 : arg3.view.ty.Contents (Elt F)) (f6 : arg6.view.ty.Contents (Elt F)) (k7 : S16x512x1024.Idx → Elt F .bf16) (v8 : S16x640x512.Idx → Elt F .bf16)
    (q : Fin 16) (hq : q.val = (i 2).val) (f10 : S2x8x512x512.Idx → Elt F .f32) (f11 : S8x80x512.Idx → Elt F .f32)
    (h11 : ∀ h, slab11 f11 h = Z11) (h10 : ∀ h, slab10 f10 0 h = dSc (slab7 k7 q h) (Qx (arg3.view.read (Elt F) f3) h)) (v18 : BitVec 32) :
    iprop(bigSep (rangeSet 16 0 (q.val + 1)) (hold7 c k7) ∗ bigSep (rangeSet 16 0 (q.val + 1)) (hold8 c v8) ∗ holdAll c A10 f10 ∗ holdAll c A11 f11 ∗ own c arg6 f6)
      ⊢ wp (M := 𝕄) frame (wpE defs₀ 𝒱₀ (c : Thread nD τ) none) Set.univ (back (F := F) i arg3 harg3 arg6 harg6 (BitVec.ofNat 32 (i 2).val) v18
          ![qOf arg3 f3 0, qOf arg3 f3 1, qOf arg3 f3 2, qOf arg3 f3 3, qOf arg3 f3 4, qOf arg3 f3 5, qOf arg3 f3 6, qOf arg3 f3 7]
          ![m00, m00, m00, m00, m00, m00, m00, m00]
          ![dMax (slab7 k7 q 0) (qOf arg3 f3 0), dMax (slab7 k7 q 1) (qOf arg3 f3 1), dMax (slab7 k7 q 2) (qOf arg3 f3 2), dMax (slab7 k7 q 3) (qOf arg3 f3 3), dMax (slab7 k7 q 4) (qOf arg3 f3 4), dMax (slab7 k7 q 5) (qOf arg3 f3 5), dMax (slab7 k7 q 6) (qOf arg3 f3 6),
            k0_pay2280 (dTop (slab7 k7 q 7) (qOf arg3 f3 7)) (dLow (slab7 k7 q 7) (qOf arg3 f3 7)) (broadcast S1x256 NEG)]
          (dTop (slab7 k7 q 7) (qOf arg3 f3 7)) (dLow (slab7 k7 q 7) (qOf arg3 f3 7)) (broadcast S1x256 NEG))
        (fun _ => iprop(bigSep (rangeSet 16 0 (q.val + 1)) (hold7 c k7) ∗ bigSep (rangeSet 16 0 (q.val + 1)) (hold8 c v8)
          ∗ (∃ f10, holdAll c A10 f10) ∗ (∃ f11, holdAll c A11 f11) ∗ ∃ f6', own c arg6 f6' ∗ ⌜arg6.view.read (Elt F) f6' = outOf (accOf (arg3.view.read (Elt F) f3) k7 v8 q)⌝)) := by
  rw [eQ, em, eM]
  refine BIBase.Entails.trans ?_ (back_run c i arg3 harg3 arg6 harg6 (BitVec.ofNat 32 (i 2).val) v18 (Qx (arg3.view.read (Elt F) f3)) k7 v8 q (fun h => dSc (slab7 k7 q h) (Qx (arg3.view.read (Elt F) f3) h)) (M0x (arg3.view.read (Elt F) f3) k7 q) (fun _ => m00) (fun _ => Z11) hq _ _ _ f6)
  iintro ⟨H7, H8, H10, H11, H6⟩
  isplitl [H7 H8 H10 H11]
  · unfold inv
    isplitl [H7]; · iexact H7
    isplitl [H8]; · iexact H8
    iexists f10; iexists f11; iexists (BitVec.ofNat 32 (i 2).val); iexists (M0x (arg3.view.read (Elt F) f3) k7 q)
    isplitl [H10]; · iexact H10
    isplitl [H11]; · iexact H11
    isplitr
    · ipureintro
      rw [eM7]
      rfl
    isplitr
    · ipureintro; exact h11
    · ipureintro
      intro _
      refine ⟨?_, fun _ => rfl, h10⟩
      rw [BitVec.toNat_ofNat, ← hq, Nat.mod_eq_of_lt (by omega)]
      rfl
  iexact H6

set_option maxHeartbeats 400000 in
theorem rest_run (c : Dev nD) (i : grid0.Coords) (arg3 : Memref sig .tc .vmem S1024x512 .bf16) (harg3 : arg3.IsWhole) (arg6 : Memref sig .tc .vmem S512x512 .bf16) (harg6 : arg6.IsWhole) (f3 : arg3.view.ty.Contents (Elt F)) (f6 : arg6.view.ty.Contents (Elt F)) (f : S32x512x1024.Idx → Elt F .bf16) (g : S32x640x512.Idx → Elt F .bf16)
    (b : Fin 2) (q : Fin 16) (hq : q.val = (i 2).val) (W : Waits sig Unit) :
    iprop(Mid c f g b q.val ∗ own c arg3 f3 ∗ own c arg6 f6 ∗ owes (c : Thread nD τ) 0 W)
      ⊢ wp (M := 𝕄) frame (wpE defs₀ 𝒱₀ (c : Thread nD τ) none) Set.univ (lead i arg3 harg3 arg6 harg6 >>= fun r =>
  front i arg3 harg3 arg6 harg6 r.1 r.2.2.1 r.2.2.2.1 r.2.2.2.2.1 r.2.2.2.2.2.1 r.2.2.2.2.2.2 >>= fun s =>
  back i arg3 harg3 arg6 harg6 r.1 r.2.1 (![r.2.2.2.1, r.2.2.2.2.1, r.2.2.2.2.2.1, r.2.2.2.2.2.2, s.1, s.2.1, s.2.2.1, s.2.2.2.1])
    (![s.2.2.2.2.1, s.2.2.2.2.2.1, s.2.2.2.2.2.2.1, s.2.2.2.2.2.2.2.1, s.2.2.2.2.2.2.2.2.1, s.2.2.2.2.2.2.2.2.2.1, s.2.2.2.2.2.2.2.2.2.2.1, s.2.2.2.2.2.2.2.2.2.2.2.1])
    (![s.2.2.2.2.2.2.2.2.2.2.2.2.1, s.2.2.2.2.2.2.2.2.2.2.2.2.2.1, s.2.2.2.2.2.2.2.2.2.2.2.2.2.2.1, s.2.2.2.2.2.2.2.2.2.2.2.2.2.2.2.1, s.2.2.2.2.2.2.2.2.2.2.2.2.2.2.2.2.1, s.2.2.2.2.2.2.2.2.2.2.2.2.2.2.2.2.2.1, s.2.2.2.2.2.2.2.2.2.2.2.2.2.2.2.2.2.2.1, k0_pay2280 s.2.2.2.2.2.2.2.2.2.2.2.2.2.2.2.2.2.2.2.1 s.2.2.2.2.2.2.2.2.2.2.2.2.2.2.2.2.2.2.2.2.1 s.2.2.2.2.2.2.2.2.2.2.2.2.2.2.2.2.2.2.2.2.2])
    s.2.2.2.2.2.2.2.2.2.2.2.2.2.2.2.2.2.2.2.1 s.2.2.2.2.2.2.2.2.2.2.2.2.2.2.2.2.2.2.2.2.1 s.2.2.2.2.2.2.2.2.2.2.2.2.2.2.2.2.2.2.2.2.2)
        (fun _ => iprop(Mid c f g b (q.val + 1) ∗ own c arg3 f3 ∗ (∃ f6', own c arg6 f6' ∗ ⌜arg6.view.read (Elt F) f6' = outOf (accOf (arg3.view.read (Elt F) f3) (KB b f) (VB b g) q)⌝) ∗ ∃ W', owes (c : Thread nD τ) 0 W')) := by
  have hn7 : ∀ a, (![(i 2).val, 0, 0] : Fin 3 → ℕ) a + (![1, 512, 1024] : Fin 3 → ℕ) a ≤ S16x512x1024.size a := by
    rw [← hq]; exact inb7 q
  have e7 := hold7_at c (KB b f) q ![(i 2).val, 0, 0] hn7 (by rw [hq])
  rw [wp_bind]
  unfold Mid
  iintro ⟨⟨H7, H8, HD, HF, H10, H11⟩, H3, H6, O⟩
  icases H10 with ⟨%f10, H10⟩
  icases H11 with ⟨%f11, H11⟩
  ihave HF := (pop q) $$ HF
  icases HF with ⟨F0, HF⟩
  iapply (wp_wand_r Idealize.ShloMosaic.frame (wpE (defs₀ (F := F)) 𝒱₀ (c : Thread nD τ) none) Set.univ)
  isplitl [F0 H3 O]
  · iapply (lead_run c i arg3 harg3 arg6 harg6 f3 f g b q hq W)
    isplitl [F0]; · iexact F0
    isplitl [H3]; · iexact H3
    iexact O
  iintro %r ⟨⟨N7, N8, ND⟩, H3, O, %hr⟩
  subst hr
  rw [wp_bind]
  iapply (wp_wand_r Idealize.ShloMosaic.frame (wpE (defs₀ (F := F)) 𝒱₀ (c : Thread nD τ) none) Set.univ)
  isplitl [N7 H3 H10 H11]
  · iapply (front_run c i arg3 harg3 arg6 harg6 (BitVec.ofNat 32 (i 2).val) f3 q hq.symm hn7 (KB b f) f10 f11)
    isplitl [H3]; · iexact H3
    isplitl [N7]; · iapply (BIBase.Entails.of_eq e7.symm); iexact N7
    isplitl [H10]; · iexact H10
    iexact H11
  iintro %s ⟨H3, N7, %g10, %g11, H10, H11, %hs, %h11, %h10⟩
  subst hs
  ihave N7 := (BIBase.Entails.of_eq e7) $$ N7
  ihave H7 := (grow q) $$ [N7 H7]
  · isplitl [N7]; · iexact N7
    iexact H7
  ihave H8 := (grow q) $$ [N8 H8]
  · isplitl [N8]; · iexact N8
    iexact H8
  ihave HD := (grow q) $$ [ND HD]
  · isplitl [ND]; · iexact ND
    iexact HD
  iapply (wp_wand_r Idealize.ShloMosaic.frame (wpE (defs₀ (F := F)) 𝒱₀ (c : Thread nD τ) none) Set.univ)
  isplitl [H7 H8 H10 H11 H6]
  · iapply (tail_run c i arg3 harg3 arg6 harg6 f3 f6 (KB b f) (VB b g) q hq g10 g11 h11 h10 (Scalar.addi (BitVec.ofNat 32 (i 2).val) 1#32))
    isplitl [H7]; · iexact H7
    isplitl [H8]; · iexact H8
    isplitl [H10]; · iexact H10
    isplitl [H11]; · iexact H11
    iexact H6
  iintro %_ ⟨H7, H8, H10, H11, H6⟩
  isplitl [H7 H8 HD HF H10 H11]
  · isplitl [H7]; · iexact H7
    isplitl [H8]; · iexact H8
    isplitl [HD]; · iexact HD
    isplitl [HF]; · iexact HF
    isplitl [H10]; · iexact H10
    iexact H11
  isplitl [H3]; · iexact H3
  isplitl [H6]; · iexact H6
  iexact O

theorem cond1_iff (i : grid0.Coords) : k0_cond1 i = 1#1 ↔ (i 2).val = 0 := by
  have h : ∀ x : Fin 16, (Scalar.cmpi .ne (Scalar.extui (Scalar.cmpi .eq (BitVec.ofNat 32 x.val) 0#32) : BitVec 32) 0#32 = 1#1 ↔ x.val = 0) := by decide
  exact h (i 2)

/-- The body at the first point of a batch, and at a later one. -/
theorem first_run (c : Dev nD) (i : grid0.Coords) (arg3 : Memref sig .tc .vmem S1024x512 .bf16) (harg3 : arg3.IsWhole) (arg6 : Memref sig .tc .vmem S512x512 .bf16) (harg6 : arg6.IsWhole)
    (f3 : arg3.view.ty.Contents (Elt F)) (f6 : arg6.view.ty.Contents (Elt F)) (f : S32x512x1024.Idx → Elt F .bf16) (g : S32x640x512.Idx → Elt F .bf16)
    (dK : S16x512x1024.Idx → Elt F .bf16) (dV : S16x640x512.Idx → Elt F .bf16) (b : Fin 2) (q : Fin 16) (hb : (i 0).val = b.val) (hq : q.val = (i 2).val) (h0 : q.val = 0) (W : Waits sig Unit) :
    iprop(bigSep Finset.univ (ready c dK dV f g b) ∗ (∃ f10, holdAll c A10 f10) ∗ (∃ f11, holdAll c A11 f11) ∗ own c arg3 f3 ∗ own c arg6 f6 ∗ owes (c : Thread nD τ) 0 W)
      ⊢ wp (M := 𝕄) frame (wpE defs₀ 𝒱₀ (c : Thread nD τ) none) Set.univ (bodyOf (F := F) i arg3 harg3 arg6 harg6)
        (fun _ => iprop(Mid c f g b (q.val + 1) ∗ own c arg3 f3 ∗ (∃ f6', own c arg6 f6' ∗ ⌜arg6.view.read (Elt F) f6' = outOf (accOf (arg3.view.read (Elt F) f3) (KB b f) (VB b g) q)⌝) ∗ ∃ W', owes (c : Thread nD τ) 0 W')) := by
  have h1 : k0_cond1 i = 1#1 := (cond1_iff i).2 (hq ▸ h0)
  unfold bodyOf
  rw [dif_pos h1, wp_bind]
  iintro ⟨HR, H10, H11, H3, H6, O⟩
  iapply (wp_wand_r Idealize.ShloMosaic.frame (wpE (defs₀ (F := F)) 𝒱₀ (c : Thread nD τ) none) Set.univ)
  isplitl [HR O]
  · iapply (starts_run c i arg3 harg3 arg6 harg6 h1 dK dV f g b hb W)
    isplitl [HR]; · iexact HR
    iexact O
  iintro %_ ⟨HF, %W', O⟩
  iapply (rest_run c i arg3 harg3 arg6 harg6 f3 f6 f g b q hq W')
  isplitl [HF H10 H11]
  · unfold Mid
    rw [h0, bigSep_rangeSet_empty (NB := 16) (Φ := hold7 c (KB b f)) le_rfl, bigSep_rangeSet_empty (NB := 16) (Φ := hold8 c (VB b g)) le_rfl, bigSep_rangeSet_empty (NB := 16) (Φ := done c f g b) le_rfl, rangeSet_univ]
    isplitr; · iempintro
    isplitr; · iempintro
    isplitr; · iempintro
    isplitl [HF]; · iexact HF
    isplitl [H10]; · iexact H10
    iexact H11
  isplitl [H3]; · iexact H3
  isplitl [H6]; · iexact H6
  iexact O

theorem later_run (c : Dev nD) (i : grid0.Coords) (arg3 : Memref sig .tc .vmem S1024x512 .bf16) (harg3 : arg3.IsWhole) (arg6 : Memref sig .tc .vmem S512x512 .bf16) (harg6 : arg6.IsWhole)
    (f3 : arg3.view.ty.Contents (Elt F)) (f6 : arg6.view.ty.Contents (Elt F)) (f : S32x512x1024.Idx → Elt F .bf16) (g : S32x640x512.Idx → Elt F .bf16)
    (b : Fin 2) (q : Fin 16) (hq : q.val = (i 2).val) (h0 : q.val ≠ 0) (W : Waits sig Unit) :
    iprop(Mid c f g b q.val ∗ own c arg3 f3 ∗ own c arg6 f6 ∗ owes (c : Thread nD τ) 0 W)
      ⊢ wp (M := 𝕄) frame (wpE defs₀ 𝒱₀ (c : Thread nD τ) none) Set.univ (bodyOf (F := F) i arg3 harg3 arg6 harg6)
        (fun _ => iprop(Mid c f g b (q.val + 1) ∗ own c arg3 f3 ∗ (∃ f6', own c arg6 f6' ∗ ⌜arg6.view.read (Elt F) f6' = outOf (accOf (arg3.view.read (Elt F) f3) (KB b f) (VB b g) q)⌝) ∗ ∃ W', owes (c : Thread nD τ) 0 W')) := by
  have h1 : ¬ k0_cond1 i = 1#1 := fun h => h0 (hq.trans ((cond1_iff i).1 h))
  unfold bodyOf
  rw [dif_neg h1]
  simp only [pure_bind]
  exact rest_run c i arg3 harg3 arg6 harg6 f3 f6 f g b q hq W

end Attn

end
-- ==== Proof.Cells.lean ====
module

public import proofs.«01_k».proof.Proof.Body
public import proofs.«01_k».proof.Proof.Gen.KernelIdeal.Frame
public import Idealize.ShloMosaic.Lib.Pipeline.FrameBody

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ (Pipeline.UD sig nD τ) ℕ

/-! ## A buffer's blocks along its leading axis -/

theorem slotK_set (j : Fin 16) : (slotK ![j.val, 0, 0] (inb7 j)).view.set = A7.view.setOn (Rect.unit (s := S16x512x1024) ![j.val, 0, 0] ![1, 512, 1024] (inb7 j)).set :=
  (View.set_reshape _ _).trans (View.set_slice _ _)
theorem slotV_set (j : Fin 16) : (slotV ![j.val, 0, 0] (inb8 j)).view.set = A8.view.setOn (Rect.unit (s := S16x640x512) ![j.val, 0, 0] ![1, 640, 512] (inb8 j)).set :=
  (View.set_reshape _ _).trans (View.set_slice _ _)
theorem srcK_set (p : Fin 32) : (srcK ![p.val, 0, 0] (inb14 p)).view.set = HK.view.setOn (Rect.unit (s := S32x512x1024) ![p.val, 0, 0] ![1, 512, 1024] (inb14 p)).set :=
  (View.set_reshape _ _).trans (View.set_slice _ _)
theorem srcV_set (p : Fin 32) : (srcV ![p.val, 0, 0] (inb20 p)).view.set = HV.view.setOn (Rect.unit (s := S32x640x512) ![p.val, 0, 0] ![1, 640, 512] (inb20 p)).set :=
  (View.set_reshape _ _).trans (View.set_slice _ _)

/-- The facts of blocks one long along the leading axis of a rank-three shape. -/
theorem off0 {NB : ℕ} (b : Fin NB) : (![b.val, 0, 0] : Fin 3 → ℕ) 0 = 1 * b.val := by simp
theorem offr {NB : ℕ} (b : Fin NB) (a : Fin 3) (ha : a ≠ 0) : (![b.val, 0, 0] : Fin 3 → ℕ) a = 0 := by
  fin_cases a
  · exact absurd rfl ha
  · rfl
  · rfl

theorem split7 (c : Dev nD) (f : S16x512x1024.Idx → Elt F .bf16) :
    holdAll c A7 f = bigSep Finset.univ fun j : Fin 16 => hold7 c f j := by
  refine (pointsTo_blocks (ℓ := A7.view.loc (c : Thread nD τ)) (fun j : Fin 16 => (Rect.unit (s := S16x512x1024) ![j.val, 0, 0] ![1, 512, 1024] (inb7 j)).set)
    (lead_disjoint (s := S16x512x1024) (0 : Fin 3) 1 (fun j : Fin 16 => ![j.val, 0, 0]) ![1, 512, 1024] inb7 off0 rfl)
    (lead_cover (s := S16x512x1024) (0 : Fin 3) 1 (fun j : Fin 16 => ![j.val, 0, 0]) ![1, 512, 1024] inb7 off0 offr rfl (by decide) rfl) f).trans ?_
  refine bigSep_congr fun j _ => ?_
  unfold hold7
  rw [show ∀ M, A7.view.setOn M = M from fun M => Finset.map_refl]

theorem split8 (c : Dev nD) (f : S16x640x512.Idx → Elt F .bf16) :
    holdAll c A8 f = bigSep Finset.univ fun j : Fin 16 => hold8 c f j := by
  refine (pointsTo_blocks (ℓ := A8.view.loc (c : Thread nD τ)) (fun j : Fin 16 => (Rect.unit (s := S16x640x512) ![j.val, 0, 0] ![1, 640, 512] (inb8 j)).set)
    (lead_disjoint (s := S16x640x512) (0 : Fin 3) 1 (fun j : Fin 16 => ![j.val, 0, 0]) ![1, 640, 512] inb8 off0 rfl)
    (lead_cover (s := S16x640x512) (0 : Fin 3) 1 (fun j : Fin 16 => ![j.val, 0, 0]) ![1, 640, 512] inb8 off0 offr rfl (by decide) rfl) f).trans ?_
  refine bigSep_congr fun j _ => ?_
  unfold hold8
  rw [show ∀ M, A8.view.setOn M = M from fun M => Finset.map_refl]

theorem splitK (c : Dev nD) (f : S32x512x1024.Idx → Elt F .bf16) :
    holdAll c HK f = bigSep Finset.univ fun j : Fin 32 => homeK c f j := by
  refine (pointsTo_blocks (ℓ := HK.view.loc (c : Thread nD τ)) (fun j : Fin 32 => (Rect.unit (s := S32x512x1024) ![j.val, 0, 0] ![1, 512, 1024] (inb14 j)).set)
    (lead_disjoint (s := S32x512x1024) (0 : Fin 3) 1 (fun j : Fin 32 => ![j.val, 0, 0]) ![1, 512, 1024] inb14 off0 rfl)
    (lead_cover (s := S32x512x1024) (0 : Fin 3) 1 (fun j : Fin 32 => ![j.val, 0, 0]) ![1, 512, 1024] inb14 off0 offr rfl (by decide) rfl) f).trans ?_
  refine bigSep_congr fun j _ => ?_
  unfold homeK own
  rw [srcK_set]
  rw [show ∀ M, HK.view.setOn M = M from fun M => Finset.map_refl]

theorem splitV (c : Dev nD) (f : S32x640x512.Idx → Elt F .bf16) :
    holdAll c HV f = bigSep Finset.univ fun j : Fin 32 => homeV c f j := by
  refine (pointsTo_blocks (ℓ := HV.view.loc (c : Thread nD τ)) (fun j : Fin 32 => (Rect.unit (s := S32x640x512) ![j.val, 0, 0] ![1, 640, 512] (inb20 j)).set)
    (lead_disjoint (s := S32x640x512) (0 : Fin 3) 1 (fun j : Fin 32 => ![j.val, 0, 0]) ![1, 640, 512] inb20 off0 rfl)
    (lead_cover (s := S32x640x512) (0 : Fin 3) 1 (fun j : Fin 32 => ![j.val, 0, 0]) ![1, 640, 512] inb20 off0 offr rfl (by decide) rfl) f).trans ?_
  refine bigSep_congr fun j _ => ?_
  unfold homeV own
  rw [srcV_set]
  rw [show ∀ M, HV.view.setOn M = M from fun M => Finset.map_refl]

theorem bs_sep {I : Type} (s : Finset I) (Φ Ψ : I → sProp 𝕄) : bigSep s (fun i => iprop(Φ i ∗ Ψ i)) = iprop(bigSep s Φ ∗ bigSep s Ψ) := bigSep_sep s Φ Ψ
theorem bs_two (Φ : Fin 2 → sProp 𝕄) : bigSep Finset.univ Φ = iprop(Φ 0 ∗ Φ 1) := bigSep_fin_two Φ

/-- Blocks of thirty-two in two batches of sixteen. -/
theorem batches (Φ : Fin 32 → sProp 𝕄) (b : Fin 2) :
    bigSep Finset.univ Φ = iprop(bigSep Finset.univ (fun j : Fin 16 => Φ (blk b j)) ∗ bigSep Finset.univ (fun j : Fin 16 => Φ (blk (1 - b) j))) := by
  have e : bigSep Finset.univ Φ = iprop(bigSep Finset.univ (fun j : Fin 16 => Φ (blk 0 j)) ∗ bigSep Finset.univ (fun j : Fin 16 => Φ (blk 1 j))) := by
    rw [bigSep_univ_equiv (finProdFinEquiv (m := 2) (n := 16)) Φ, bigSep_univ_prod, bs_two]
    refine congrArg₂ _ (bigSep_congr fun j _ => congrArg Φ (Fin.ext ?_)) (bigSep_congr fun j _ => congrArg Φ (Fin.ext ?_))
    · simp [blk, finProdFinEquiv]
    · simp [blk, finProdFinEquiv]; omega
  rcases (show b = 0 ∨ b = 1 by omega) with rfl | rfl
  · exact e
  · rw [show (1 : Fin 2) - 1 = 0 from rfl]
    exact e.trans (equiv_iff.mp ⟨BI.sep_comm, BI.sep_comm⟩)

/-! ## The kernel's own semaphores -/

def osem0 (p : Fin 2 × Fin 16) : SemLoc sig := SemLoc.dma (cellOf ![p.1.val, p.2.val] (inbC p.1 p.2)).sem
theorem osem0_eq : ∀ p : Fin 2 × Fin 16, osem0 p = SemLoc.dma ⟨4 + 16 * p.1.val + p.2.val, by have := p.1.isLt; have := p.2.isLt; show _ < 36; omega⟩ := by
  intro p
  unfold osem0
  revert p; decide
theorem ownSemFacts0 : Pipeline.OwnSemFacts spec0 osem0 := by
  have e : osem0 = _ := funext osem0_eq
  rw [e]; decide
def H0 : Finset (Ref sig .tc) := {main_v14, main_v20}
theorem H0_sub : H0 ⊆ Pipeline.restRefs sig spec0 := by decide

variable (m : (ℓ : Loc nD τ sig) → Buf (Elt F) ℓ)

/-- The keys and values, as the host prepares them. -/
abbrev Kh (c : Dev nD) : S32x512x1024.Idx → Elt F .bf16 := Gen.V m c main_v14
abbrev Vh (c : Dev nD) : S32x640x512.Idx → Elt F .bf16 := Gen.V m c main_v20

/-- What the kernel holds between batches. -/
def rest (c : Dev nD) : sProp 𝕄 := Pipeline.ΦD osem0 spec0 H0 (Gen.V m) c
/-- What is held all along and never used by a batch `b`: the other batch's blocks and the generator. -/
def aside (c : Dev nD) (b : Fin 2) : sProp 𝕄 :=
  iprop(bigSep Finset.univ (fun j => homeK c (Kh m c) (blk (1 - b) j)) ∗ bigSep Finset.univ (fun j => homeV c (Vh m c) (blk (1 - b) j)) ∗ (∃ r, prngReg c r))

theorem rest_eq (c : Dev nD) (b : Fin 2) : rest m c
    = iprop(((∃ f, holdAll c A7 f) ∗ (∃ f, holdAll c A8 f) ∗ (∃ f, holdAll c A10 f) ∗ (∃ f, holdAll c A11 f)) ∗ (∃ r, prngReg c r)
      ∗ (bigSep Finset.univ (fun j : Fin 16 => zeroCell c ![(0 : Fin 2).val, j.val] (inbC 0 j)) ∗ bigSep Finset.univ (fun j : Fin 16 => zeroCell c ![(1 : Fin 2).val, j.val] (inbC 1 j)))
      ∗ (bigSep Finset.univ (fun j => homeK c (Kh m c) (blk b j)) ∗ bigSep Finset.univ (fun j => homeK c (Kh m c) (blk (1 - b) j)))
      ∗ (bigSep Finset.univ (fun j => homeV c (Vh m c) (blk b j)) ∗ bigSep Finset.univ (fun j => homeV c (Vh m c) (blk (1 - b) j)))) := by
  unfold rest
  rw [Pipeline.ΦD_eq, scopedRest0_eq]
  unfold Pipeline.ownSems0
  rw [bigSep_univ_prod, bs_two, ← batches (homeK c (Kh m c)) b, ← batches (homeV c (Vh m c)) b, ← splitK, ← splitV,
    BI.bigSep_eq_bigSepL_of_eq (S := H0) [main_v14, main_v20] (by decide) (by decide)]
  rfl

theorem open_rest (c : Dev nD) (b : Fin 2) : rest m c ⊢ iprop(∃ dK dV, bigSep Finset.univ (ready c dK dV (Kh m c) (Vh m c) b)
    ∗ (∃ f10, holdAll c A10 f10) ∗ (∃ f11, holdAll c A11 f11) ∗ aside m c b) := by
  rw [rest_eq m c b]
  have er : ∀ dK dV, bigSep Finset.univ (ready c dK dV (Kh m c) (Vh m c) b)
      = iprop(holdAll c A7 dK ∗ holdAll c A8 dV ∗ bigSep Finset.univ (fun j => homeK c (Kh m c) (blk b j)) ∗ bigSep Finset.univ (fun j => homeV c (Vh m c) (blk b j))
        ∗ bigSep Finset.univ (fun j : Fin 16 => zeroCell c ![(0 : Fin 2).val, j.val] (inbC 0 j)) ∗ bigSep Finset.univ (fun j : Fin 16 => zeroCell c ![(1 : Fin 2).val, j.val] (inbC 1 j))) := by
    intro dK dV
    rw [split7, split8, ← bs_sep, ← bs_sep, ← bs_sep, ← bs_sep, ← bs_sep]
    refine bigSep_congr fun j _ => ?_
    unfold ready own hold7 hold8
    rw [slotK_set, slotV_set]
  unfold aside
  iintro ⟨⟨⟨%dK, H7⟩, ⟨%dV, H8⟩, H10, H11⟩, Hg, ⟨C0, C1⟩, ⟨K0, K1⟩, ⟨V0, V1⟩⟩
  iexists dK, dV
  isplitl [H7 H8 C0 C1 K0 V0]
  · iapply (BIBase.Entails.of_eq (er dK dV).symm)
    isplitl [H7]; · iexact H7
    isplitl [H8]; · iexact H8
    isplitl [K0]; · iexact K0
    isplitl [V0]; · iexact V0
    isplitl [C0]; · iexact C0
    iexact C1
  isplitl [H10]; · iexact H10
  isplitl [H11]; · iexact H11
  isplitl [K1]; · iexact K1
  isplitl [V1]; · iexact V1
  iexact Hg

theorem close_rest (c : Dev nD) (b : Fin 2) : iprop(Mid c (Kh m c) (Vh m c) b 16 ∗ aside m c b) ⊢ rest m c := by
  rw [rest_eq m c b]
  unfold Mid aside
  rw [rangeSet_univ]
  have ed : bigSep Finset.univ (done c (Kh m c) (Vh m c) b)
      = iprop(bigSep Finset.univ (fun j => homeK c (Kh m c) (blk b j)) ∗ bigSep Finset.univ (fun j => homeV c (Vh m c) (blk b j))
        ∗ bigSep Finset.univ (fun j : Fin 16 => zeroCell c ![(0 : Fin 2).val, j.val] (inbC 0 j)) ∗ bigSep Finset.univ (fun j : Fin 16 => zeroCell c ![(1 : Fin 2).val, j.val] (inbC 1 j))) := by
    rw [← bs_sep, ← bs_sep, ← bs_sep]
    rfl
  rw [ed]
  rw [← split7, ← split8]
  iintro ⟨⟨H7, H8, ⟨K0, V0, C0, C1⟩, He, H10, H11⟩, K1, V1, Hg⟩
  isplitl [H7 H8 H10 H11]
  · isplitl [H7]; · iexists _; iexact H7
    isplitl [H8]; · iexists _; iexact H8
    isplitl [H10]; · iexact H10
    iexact H11
  isplitl [Hg]; · iexact Hg
  isplitl [C0 C1]
  · isplitl [C0]; · iexact C0
    iexact C1
  isplitl [K0 K1]
  · isplitl [K0]; · iexact K0
    iexact K1
  isplitl [V0]; · iexact V0
  iexact V1

end Attn

end
-- ==== Proof.Frame.lean ====
module

public import proofs.«01_k».proof.Proof.Cells

@[expose] public section

set_option maxRecDepth 16384

noncomputable section

namespace Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.Rounds Idealize.ShloMosaic.Ring

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The points -/

/-- The batch and the query block of a point. -/
def bt (n : ℕ) : Fin 2 := ⟨n / 16 % 2, by omega⟩
def qt (n : ℕ) : Fin 16 := ⟨n % 16, by omega⟩

theorem coord_b : ∀ t : Fin cfg0.N, ((grid0.coords t) 0).val = (bt t.val).val :=
  (by decide +kernel : ∀ t : Fin grid0.N, ((grid0.coords t) 0).val = (bt t.val).val)
theorem coord_q : ∀ t : Fin cfg0.N, (qt t.val).val = ((grid0.coords t) 2).val :=
  (by decide +kernel : ∀ t : Fin grid0.N, (qt t.val).val = ((grid0.coords t) 2).val)

/-- What a point leaves in the output's block. -/
def outAt (c : Dev nD) (t : Fin cfg0.N) : FVec F S512x512 .bf16 :=
  outOf (accOf (iblk m c 0 t) (KB (bt t.val) (Kh m c)) (VB (bt t.val) (Vh m c)) (qt t.val))

/-- What is held before a point. -/
def phi (c : Dev nD) (n : ℕ) : sProp 𝕄 :=
  if n % 16 = 0 then rest m c else iprop(Mid c (Kh m c) (Vh m c) (bt n) (n % 16) ∗ aside m c (bt n))

theorem phi_next (c : Dev nD) (n : ℕ) : iprop(Mid c (Kh m c) (Vh m c) (bt n) ((qt n).val + 1) ∗ aside m c (bt n)) ⊢ phi m c (n + 1) := by
  by_cases h : (n + 1) % 16 = 0
  · rw [phi, if_pos h, show (qt n).val + 1 = 16 by show n % 16 + 1 = 16; omega]
    exact close_rest m c (bt n)
  · rw [phi, if_neg h, show (n + 1) % 16 = (qt n).val + 1 by show _ = n % 16 + 1; omega, show bt (n + 1) = bt n from Fin.ext (by show (n + 1) / 16 % 2 = n / 16 % 2; omega)]

/-! ## The proof data -/

def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => outAt m c t
  Φ t := phi m c t.val
  q _ := fullShare
  owed _ := 0

theorem A_eq (c : Dev nD) (w : Fin cfg0.W) : (dats m 0 c).A w = Gen.V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = outAt m c t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-! ## The body -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at a point, from what is held there. -/
theorem point_run (c : Dev nD) (t : Fin cfg0.N) (f3 f6) (W) :
    iprop(phi m c t.val ∗ own c (st0_0 t) f3 ∗ own c (st0_1 t) f6 ∗ owes c 0 W)
    ⊢ wp frame (wpE (defs₀ (F := F)) 𝒱₀ (c : Thread nD τ) none) Set.univ (bodyOf (grid0.coords t) (st0_0 t) (hstage0_0 ((cfg0.slots t 0).cast nbuf0_0)) (st0_1 t) (hstage0_1 ((cfg0.slots t 1).cast nbuf0_1)))
      (fun _ => iprop(phi m c (t.val + 1) ∗ own c (st0_0 t) f3
        ∗ (∃ f6', own c (st0_1 t) f6' ∗ ⌜(st0_1 t).view.read (Elt F) f6' = outOf (accOf ((st0_0 t).view.read (Elt F) f3) (KB (bt t.val) (Kh m c)) (VB (bt t.val) (Vh m c)) (qt t.val))⌝)
        ∗ ∃ W', owes c 0 W')) := by
  by_cases h : t.val % 16 = 0
  · rw [phi, if_pos h]
    iintro ⟨HR, H3, H6, HW⟩
    ihave HR := (open_rest m c (bt t.val)) $$ HR
    icases HR with ⟨%dK, %dV, HR, H10, H11, HA⟩
    iapply (wp_wand_r Idealize.ShloMosaic.frame (wpE (defs₀ (F := F)) 𝒱₀ (c : Thread nD τ) none) Set.univ)
    isplitr [HA]
    · iapply (first_run c _ _ _ _ _ f3 f6 (Kh m c) (Vh m c) dK dV (bt t.val) (qt t.val) (coord_b t) (coord_q t) h W)
      isplitl [HR]; · iexact HR
      isplitl [H10]; · iexact H10
      isplitl [H11]; · iexact H11
      isplitl [H3]; · iexact H3
      isplitl [H6]; · iexact H6
      iexact HW
    iintro %u ⟨HM, H3, H6, HW⟩
    isplitl [HM HA]
    · iapply (phi_next m c t.val)
      isplitl [HM]; · iexact HM
      iexact HA
    isplitl [H3]; · iexact H3
    isplitl [H6]; · iexact H6
    iexact HW
  · rw [phi, if_neg h]
    iintro ⟨⟨HR, HA⟩, H3, H6, HW⟩
    iapply (wp_wand_r Idealize.ShloMosaic.frame (wpE (defs₀ (F := F)) 𝒱₀ (c : Thread nD τ) none) Set.univ)
    isplitr [HA]
    · iapply (later_run c _ _ _ _ _ f3 f6 (Kh m c) (Vh m c) (bt t.val) (qt t.val) (coord_q t) h W)
      isplitl [HR]; · iexact HR
      isplitl [H3]; · iexact H3
      isplitl [H6]; · iexact H6
      iexact HW
    iintro %u ⟨HM, H3, H6, HW⟩
    isplitl [HM HA]
    · iapply (phi_next m c t.val)
      isplitl [HM]; · iexact HM
      iexact HA
    isplitl [H3]; · iexact H3
    isplitl [H6]; · iexact H6
    iexact HW

theorem sound_body (c : Dev nD) (t : Fin cfg0.N) :
    bodyPre m c t ⊢ wp frame (wpE (defs₀ (F := F)) 𝒱₀ (c : Thread nD τ) none) Set.univ (bodyAt0 t) (fun _ => bodyPost m c t) := by
  rw [show bodyAt0 (F := F) t = bodyOf (grid0.coords t) (st0_0 t) (hstage0_0 ((cfg0.slots t 0).cast nbuf0_0)) (st0_1 t) (hstage0_1 ((cfg0.slots t 1).cast nbuf0_1)) from body_eq _ _ _ _ _]
  unfold bodyPre bodyPost
  rw [after0_0, after0_1]
  simp only [before0_0]
  rw [show (dats m 0 c).Φ t.castSucc = phi m c t.val from rfl, show (dats m 0 c).Φ t.succ = phi m c (t.val + 1) from rfl]
  unfold Dat.owesAt Pipeline.owesWithin
  rw [show (dats m 0 c).owed t.castSucc = 0 from rfl, show (dats m 0 c).owed t.succ = 0 from rfl]
  unfold owns
  iintro ⟨HΦ, ⟨%W, -, HW⟩, ⟨%d0, %f3, %e3, H3⟩, ⟨%d1, %f6, %e6, H6⟩⟩
  iapply (wp_wand_r Idealize.ShloMosaic.frame (wpE (defs₀ (F := F)) 𝒱₀ (c : Thread nD τ) none) Set.univ)
  isplitl
  · iapply (point_run m c t f3 f6 W)
    isplitl [HΦ]; · iexact HΦ
    isplitl [H3]; · iexact H3
    isplitl [H6]; · iexact H6
    iexact HW
  iintro %u ⟨HΦ, H3, ⟨%f6', H6, %e6'⟩, ⟨%W', HW'⟩⟩
  isplitl [HΦ]; · iexact HΦ
  isplitl [HW']
  · iexists W'; isplitr; · ipureintro; exact fun _ _ => Or.inl trivial
    iexact HW'
  isplitl [H3]
  · iexists f3; isplitr
    swap; · iexact H3
    ipureintro; exact e3
  iexists f6'; isplitr
  swap; · iexact H6
  ipureintro
  rw [e6', outAt, ← e3]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option maxHeartbeats 800000 in
theorem hmain : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

set_option backward.isDefEq.respectTransparency.types false in
theorem run_main : θ_run defs (onTc (τ := τ) (main (F := F))) (s₀ m ρ) (fun r => Pipeline.FramePost cfgs (dats m) 0 (Gen.V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := Gen.V m) (hmain := hmain m) (hA := A_eq m)
    (hin := fun _ => .rfl) (hout := fun _ => .rfl)

/-- The arguments are as they were and no semaphore is left raised. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Attn

end
-- ==== Proof.Online.lean ====
module

public import Idealize.ShloMosaic.PureOps.Ideal
public import Mathlib.Data.EReal.Inv

@[expose] public section

noncomputable section

/-! Weighted sums over the extended reals, with real weights that are not negative. -/

namespace Online

open Idealize.ShloMosaic

theorem mul_add' {c : ℝ} (hc : 0 ≤ c) (x y : EReal) : (c : EReal) * (x + y) = c * x + c * y :=
  EReal.left_distrib_of_nonneg_of_ne_top (by exact_mod_cast hc) (EReal.coe_ne_top c) x y

theorem mul_sum' {ι : Type} (s : Finset ι) {c : ℝ} (hc : 0 ≤ c) (f : ι → EReal) : (c : EReal) * ∑ i ∈ s, f i = ∑ i ∈ s, (c : EReal) * f i := by
  classical
  induction s using Finset.induction_on with
  | empty => simp
  | insert a s ha ih => rw [Finset.sum_insert ha, Finset.sum_insert ha, mul_add' hc, ih]

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp2_bot : Ideal.exp2 ⊥ = 0 := rfl
theorem exp2_top : Ideal.exp2 ⊤ = ⊤ := rfl
theorem exp2_coe (r : ℝ) : Ideal.exp2 (r : EReal) = (((2 : ℝ) ^ r : ℝ) : EReal) := rfl
theorem exp_bot : Ideal.exp ⊥ = 0 := rfl
theorem exp_top : Ideal.exp ⊤ = ⊤ := rfl
theorem exp_coe (r : ℝ) : Ideal.exp (r : EReal) = ((Real.exp r : ℝ) : EReal) := rfl

/-- The weight `2 ^ (x - m)` of a score. -/
def w2 (x : EReal) (m : ℝ) : ℝ := (Ideal.exp2 (x - m)).toReal
def we (x : EReal) (m : ℝ) : ℝ := (Ideal.exp (x - m)).toReal

theorem exp2_eq {x : EReal} (hx : x ≠ ⊤) (m : ℝ) : Ideal.exp2 (x - m) = (w2 x m : EReal) := by
  unfold w2
  induction x with
  | bot => simp [exp2_bot, exp2_top, exp2_coe]
  | top => exact absurd rfl hx
  | coe r => rw [← EReal.coe_sub, exp2_coe, EReal.toReal_coe]
theorem exp_eq {x : EReal} (hx : x ≠ ⊤) (m : ℝ) : Ideal.exp (x - m) = (we x m : EReal) := by
  unfold we
  induction x with
  | bot => simp [exp_bot, exp_top, exp_coe]
  | top => exact absurd rfl hx
  | coe r => rw [← EReal.coe_sub, exp_coe, EReal.toReal_coe]
theorem w2_nonneg (x : EReal) (m : ℝ) : 0 ≤ w2 x m := by
  unfold w2
  induction x with
  | bot => simp [exp2_bot, exp2_top, exp2_coe]
  | top => simp [exp2_bot, exp2_top, exp2_coe]
  | coe r => rw [← EReal.coe_sub]; simp only [exp2_coe, EReal.toReal_coe]; exact Real.rpow_nonneg (by norm_num) _
theorem we_nonneg (x : EReal) (m : ℝ) : 0 ≤ we x m := by
  unfold we
  induction x with
  | bot => simp [exp_bot, exp_top, exp_coe]
  | top => simp [exp_bot, exp_top, exp_coe]
  | coe r => rw [← EReal.coe_sub]; simp only [exp_coe, EReal.toReal_coe]; exact (Real.exp_pos _).le
theorem we_pos (r m : ℝ) : 0 < we (r : EReal) m := by
  unfold we
  rw [← EReal.coe_sub]; simp only [exp_coe, EReal.toReal_coe]; exact Real.exp_pos _

/-- Moving the point a weight is relative to. -/
theorem w2_shift {x : EReal} (hx : x ≠ ⊤) (m m' : ℝ) : w2 (m : EReal) m' * w2 x m = w2 x m' := by
  unfold w2
  induction x with
  | bot => simp [exp2_bot, exp2_top, exp2_coe]
  | top => exact absurd rfl hx
  | coe r =>
    rw [← EReal.coe_sub, ← EReal.coe_sub, ← EReal.coe_sub]
    simp only [exp2_coe, EReal.toReal_coe]
    show (2 : ℝ) ^ (m - m') * (2 : ℝ) ^ (r - m) = (2 : ℝ) ^ (r - m')
    rw [← Real.rpow_add (by norm_num)]; congr 1; ring

/-- The weight of a score in the other base is, up to a factor common to all scores, that of the scaled score. -/
theorem w2_we (r a m μ : ℝ) (ha : a = r / Real.log 2) : w2 (a : EReal) m = Real.exp (μ - m * Real.log 2) * we (r : EReal) μ := by
  unfold w2 we
  rw [← EReal.coe_sub, ← EReal.coe_sub]
  simp only [exp2_coe, exp_coe, EReal.toReal_coe]
  rw [Real.rpow_def_of_pos (by norm_num), ← Real.exp_add]
  congr 1
  have h2 : Real.log 2 ≠ 0 := (Real.log_pos (by norm_num)).ne'
  subst ha
  field_simp
  ring
theorem w2_bot (m : ℝ) : w2 ⊥ m = 0 := by simp [w2, exp2_bot]
theorem we_bot (m : ℝ) : we ⊥ m = 0 := by simp [we, exp_bot]

theorem div_real (x : EReal) {l : ℝ} (hl : 0 < l) : Ideal.div x (l : EReal) = ((l⁻¹ : ℝ) : EReal) * x := by
  unfold Ideal.div
  rw [if_neg (by exact_mod_cast hl.ne'), mul_comm, EReal.coe_inv]

/-! ### The running form -/

section
variable (S : ℕ → Fin 512 → EReal) (M : ℕ → EReal) (V : ℕ → Fin 512 → EReal)

def rm : ℕ → EReal
  | 0 => ⊥
  | j + 1 => max (rm j) (M j)
def ra : ℕ → EReal
  | 0 => 0
  | j + 1 => Ideal.exp2 (rm M j - max (rm M j) (M j)) * ra j
      + Ideal.exp2 (M j - max (rm M j) (M j)) * ∑ r, V j r * Ideal.exp2 (S j r - M j)

theorem rm_real (hM : ∀ j, ∃ r : ℝ, M j = r) (j : ℕ) : ∃ r : ℝ, rm M (j + 1) = r := by
  induction j with
  | zero => obtain ⟨r, hr⟩ := hM 0; exact ⟨r, by simp [rm, hr]⟩
  | succ j ih =>
    obtain ⟨r, hr⟩ := ih; obtain ⟨r', hr'⟩ := hM (j + 1)
    refine ⟨max r r', ?_⟩
    rw [rm, hr, hr']; exact (EReal.coe_strictMono.monotone.map_max).symm

/-- After `n + 1` chunks: the weighted sum over all of them, relative to the running maximum. -/
theorem ra_eq (hS : ∀ j r, S j r ≠ ⊤) (hM : ∀ j, ∃ r : ℝ, M j = r) (n : ℕ) (m : ℝ) (hm : rm M (n + 1) = m) :
    ra S M V (n + 1) = ∑ j ∈ Finset.range (n + 1), ∑ r, (w2 (S j r) m : EReal) * V j r := by
  induction n generalizing m with
  | zero =>
    obtain ⟨μ, hμ⟩ := hM 0
    have e : m = μ := by
      have : rm M 1 = (μ : EReal) := by simp [rm, hμ]
      exact_mod_cast hm.symm.trans this
    subst e
    rw [Finset.sum_range_one]
    simp only [ra, rm, hμ]
    rw [mul_zero, zero_add, max_eq_right bot_le, exp2_eq (EReal.coe_ne_top _), mul_sum' _ (w2_nonneg _ _)]
    refine Finset.sum_congr rfl fun r _ => ?_
    rw [exp2_eq (hS 0 r), mul_comm (V 0 r), ← mul_assoc, ← EReal.coe_mul, w2_shift (hS 0 r)]
  | succ n ih =>
    obtain ⟨μ, hμ⟩ := rm_real M hM n
    obtain ⟨ν, hν⟩ := hM (n + 1)
    have e : max (rm M (n + 1)) (M (n + 1)) = (m : EReal) := hm
    rw [Finset.sum_range_succ, ra, e, hμ, hν, ih μ hμ, exp2_eq (EReal.coe_ne_top _), exp2_eq (EReal.coe_ne_top _), mul_sum' _ (w2_nonneg _ _), mul_sum' _ (w2_nonneg _ _)]
    congr 1
    · refine Finset.sum_congr rfl fun j _ => ?_
      rw [mul_sum' _ (w2_nonneg _ _)]
      refine Finset.sum_congr rfl fun r _ => ?_
      rw [← mul_assoc, ← EReal.coe_mul, w2_shift (hS j r)]
    · refine Finset.sum_congr rfl fun r _ => ?_
      rw [exp2_eq (hS (n + 1) r), mul_comm (V (n + 1) r), ← mul_assoc, ← EReal.coe_mul, w2_shift (hS (n + 1) r)]
end

/-! ### The quotient does not see the common factor -/

/-- `C`-fold numerators over `C`-fold denominators are the weights divided first. -/
theorem quot {ι : Type} (s : Finset ι) (W E : ι → ℝ) (v : ι → EReal) (C : ℝ) (hC : 0 < C) (hW : ∀ k ∈ s, W k = C * E k) (hE : ∀ k ∈ s, 0 ≤ E k) (hpos : ∃ k ∈ s, 0 < E k) :
    Ideal.div (∑ k ∈ s, (W k : EReal) * v k) (∑ k ∈ s, (W k : EReal) * 1) = ∑ k ∈ s, v k * Ideal.div (E k : EReal) (∑ k ∈ s, (E k : EReal)) := by
  have hl : 0 < ∑ k ∈ s, E k := Finset.sum_pos' hE hpos
  have hL : 0 < ∑ k ∈ s, W k := by
    rw [Finset.sum_congr rfl hW, ← Finset.mul_sum]; positivity
  simp only [mul_one]
  rw [← coe_sum', ← coe_sum', div_real _ hL, mul_sum' _ (by positivity)]
  refine Finset.sum_congr rfl fun k hk => ?_
  rw [div_real _ hl, ← EReal.coe_mul, ← mul_assoc, ← EReal.coe_mul, mul_comm (v k)]
  congr 2
  rw [Finset.sum_congr rfl hW, ← Finset.mul_sum, hW k hk]
  field_simp

end Online

end
-- ==== Proof.Host.lean ====
module

public import proofs.«01_k».proof.Proof.Frame
public import Idealize.ShloMosaic.Lib.Claim
public import Idealize.ShloMosaic.Lib.KernelVsHost
public import Idealize.ShloMosaic.Lib.IdealHost
public import Idealize.ShloMosaic.Lib.Pipeline.Value
public import Idealize.ShloMosaic.Lib.Pointwise.SelectCore

@[expose] public section

set_option maxRecDepth 16384

noncomputable section

namespace Attn

open Idealize.ShloMosaic.ValueIdx hiding ix0 ix1 ix2 ix3 ix4 eq_ix1 eq_ix2 eq_ix3 eq_ix4
open Idealize.ShloMosaic Idealize.ShloMosaic.TcCoe Idealize.ShloMosaic.Tactic Cert.KernelIdeal Cert.KernelIdeal.Gen

/-! ## What the launch's arguments hold, in terms of the five arrays given -/

variable (m : (ℓ : Loc nD τ sig) → Buf (Elt Ideal) ℓ) (c : Dev nD)

/-- The five arrays. -/
def aq : FVec Ideal S2x8192x8x64 .f32 := m ((c.tc : Thread nD τ).loc main_arg0)
def ar : FVec Ideal S2x8192x8x32 .f32 := m ((c.tc : Thread nD τ).loc main_arg1)
def ak : FVec Ideal S2x8192x8x64 .f32 := m ((c.tc : Thread nD τ).loc main_arg2)
def ao : FVec Ideal S2x8192x32 .f32 := m ((c.tc : Thread nD τ).loc main_arg3)
def av : FVec Ideal S2x8192x8x64 .f32 := m ((c.tc : Thread nD τ).loc main_arg4)

/-- The scale the queries are multiplied with. -/
def kap : EReal := Ideal.div (FloatOps.ofBits (F := Ideal) .f32 0x3DD105EC#32) (Ideal.log (FloatOps.ofBits (F := Ideal) .f32 0x40000000#32))

/-- A head of 64 and 32 entries, padded to 128. -/
def padH (x : FVec Ideal S2x8192x8x96 .f32) : FVec Ideal S2x8192x8x128 .bf16 :=
  truncf .bf16 (pad S2x8192x8x128 ![0, 0, 0, 0] ![0, 0, 0, 32] ![0, 0, 0, 0] x (sitofp (F := Ideal) .f32 (constantI S_ 32 0#32)) pads_S2x8192x8x96_S2x8192x8x128_000_000_000_0320 h_S_) bitsLt_bf16_f32
def catH (x : FVec Ideal S2x8192x8x64 .f32) (y : FVec Ideal S2x8192x8x32 .f32) : FVec Ideal S2x8192x8x96 .f32 :=
  concatenate S2x8192x8x96 3 [⟨S2x8192x8x64, x⟩, ⟨S2x8192x8x32, y⟩] concatenates_S2x8192x8x64_S2x8192x8x32_S2x8192x8x96_d3
def padV (x : FVec Ideal S2x8192x8x65 .f32) : FVec Ideal S2x8192x8x80 .bf16 :=
  truncf .bf16 (pad S2x8192x8x80 ![0, 0, 0, 0] ![0, 0, 0, 15] ![0, 0, 0, 0] x (sitofp (F := Ideal) .f32 (constantI S_ 32 0#32)) pads_S2x8192x8x65_S2x8192x8x80_000_000_000_0150 h_S_) bitsLt_bf16_f32
def catV (x : FVec Ideal S2x8192x8x64 .f32) : FVec Ideal S2x8192x8x65 .f32 :=
  concatenate S2x8192x8x65 3 [⟨S2x8192x8x64, x⟩, ⟨S2x8192x8x1, broadcastInDim S2x8192x8x1 ![] bcast_S_S2x8192x8x1 (constant (F := Ideal) S_ .f32 0x3F800000#32)⟩] concatenates_S2x8192x8x64_S2x8192x8x1_S2x8192x8x65_d3

theorem Kh_eq : Kh m c = shapeCast S32x512x1024 (padH (catH (ak m c) (broadcastInDim S2x8192x8x32 ![0, 1, 2, 3] bcast_S2x8192x1x32_S2x8192x8x32_0_1_2_3 (broadcastInDim S2x8192x1x32 ![0, 1, 3] bcast_S2x8192x32_S2x8192x1x32_0_1_3 (ao m c))))) shapeCasts_S2x8192x8x128_S32x512x1024 := by
  unfold Kh
  entry_read
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append, StableHlo.TRef.binary, StableHlo.TRef.unary, StableHlo.TRef.toBuf, StableHlo.TRef.ofBuf, cast_eq]
  after_results_simp <;> rfl
theorem Vh_eq : Vh m c = transpose S32x640x512 [0, 2, 1] (shapeCast S32x512x640 (padV (catV (av m c))) shapeCasts_S2x8192x8x80_S32x512x640) transposes_S32x512x640_S32x640x512_0_2_1 := by
  unfold Vh
  entry_read
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append, StableHlo.TRef.binary, StableHlo.TRef.unary, StableHlo.TRef.toBuf, StableHlo.TRef.ofBuf, cast_eq]
  after_results_simp <;> rfl
theorem Qh_eq : Gen.V m c main_v8 = transpose S1024x16384 [1, 0] (shapeCast S16384x1024 (padH (mulf (catH (aq m c) (ar m c)) (broadcastInDim S2x8192x8x96 ![] bcast_S_S2x8192x8x96 (Host.divf (constant (F := Ideal) S_ .f32 0x3DD105EC#32) (Host.log (constant (F := Ideal) S_ .f32 0x40000000#32)))))) shapeCasts_S2x8192x8x128_S16384x1024) transposes_S16384x1024_S1024x16384_1_0 := by
  entry_read
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append, StableHlo.TRef.binary, StableHlo.TRef.unary, StableHlo.TRef.toBuf, StableHlo.TRef.ofBuf, cast_eq]
  after_results_simp <;> rfl

/-! ### Their entries -/

theorem padH_apply (x : FVec Ideal S2x8192x8x96 .f32) (b : Fin 2) (s : Fin 8192) (h : Fin 8) (d : Fin 128) :
    padH x (ix4 b s h d) = if hd : d.val < 96 then x (ix4 b s h ⟨d.val, hd⟩) else 0 := by
  unfold padH
  show pad S2x8192x8x128 ![0, 0, 0, 0] ![0, 0, 0, 32] ![0, 0, 0, 0] x (sitofp (F := Ideal) .f32 (constantI S_ 32 0#32)) pads_S2x8192x8x96_S2x8192x8x128_000_000_000_0320 h_S_ (ix4 b s h d) = _
  split_ifs with hd
  · refine pad_apply_of_inside _ _ _ _ _ _ _ _ _ fun a => ?_
    match a with
    | ⟨0, _⟩ => simp
    | ⟨1, _⟩ => simp
    | ⟨2, _⟩ => simp
    | ⟨3, _⟩ => simp
  · refine (pad_apply_of_not_inside _ _ _ _ _ _ _ _ (3 : Fin 4) ?_).trans ?_
    · rintro ⟨_, _, h3⟩
      have : d.val < 96 := by simpa using h3
      exact hd this
    · show ((((0#32 : BitVec 32).toInt : ℝ)) : EReal) = 0
      simp
theorem catH_apply (x : FVec Ideal S2x8192x8x64 .f32) (y : FVec Ideal S2x8192x8x32 .f32) (b : Fin 2) (s : Fin 8192) (h : Fin 8) (d : Fin 96) :
    catH x y (ix4 b s h d) = if hd : d.val < 64 then x (ix4 b s h ⟨d.val, hd⟩) else y (ix4 b s h ⟨d.val - 64, by omega⟩) := by
  unfold catH
  split_ifs with hd
  · refine concatenate_pair_apply_left (t := S2x8192x8x96) (s₁ := S2x8192x8x64) (s₂ := S2x8192x8x32) (3 : Fin 4) x y _ _ rfl _ fun a => ?_
    match a with
    | ⟨0, _⟩ => rfl
    | ⟨1, _⟩ => rfl
    | ⟨2, _⟩ => rfl
    | ⟨3, _⟩ => rfl
  · refine concatenate_pair_apply_right (t := S2x8192x8x96) (s₁ := S2x8192x8x64) (s₂ := S2x8192x8x32) (3 : Fin 4) x y _ _ rfl rfl _ (fun a ha => ?_) ?_
    · match a with
      | ⟨0, _⟩ => rfl
      | ⟨1, _⟩ => rfl
      | ⟨2, _⟩ => rfl
      | ⟨3, _⟩ => exact absurd rfl ha
    · show d.val - 64 + 64 = d.val
      omega
theorem padV_apply (x : FVec Ideal S2x8192x8x65 .f32) (b : Fin 2) (s : Fin 8192) (h : Fin 8) (d : Fin 80) (hd : d.val < 65) :
    padV x (ix4 b s h d) = x (ix4 b s h ⟨d.val, hd⟩) := by
  unfold padV
  show pad S2x8192x8x80 ![0, 0, 0, 0] ![0, 0, 0, 15] ![0, 0, 0, 0] x (sitofp (F := Ideal) .f32 (constantI S_ 32 0#32)) pads_S2x8192x8x65_S2x8192x8x80_000_000_000_0150 h_S_ (ix4 b s h d) = _
  refine pad_apply_of_inside _ _ _ _ _ _ _ _ _ fun a => ?_
  match a with
  | ⟨0, _⟩ => simp
  | ⟨1, _⟩ => simp
  | ⟨2, _⟩ => simp
  | ⟨3, _⟩ => simp
theorem catV_apply (x : FVec Ideal S2x8192x8x64 .f32) (b : Fin 2) (s : Fin 8192) (h : Fin 8) (d : Fin 65) :
    catV x (ix4 b s h d) = if hd : d.val < 64 then x (ix4 b s h ⟨d.val, hd⟩) else 1 := by
  unfold catV
  split_ifs with hd
  · refine concatenate_pair_apply_left (t := S2x8192x8x65) (s₁ := S2x8192x8x64) (s₂ := S2x8192x8x1) (3 : Fin 4) x _ _ _ rfl _ fun a => ?_
    match a with
    | ⟨0, _⟩ => rfl
    | ⟨1, _⟩ => rfl
    | ⟨2, _⟩ => rfl
    | ⟨3, _⟩ => rfl
  · refine (concatenate_pair_apply_right (t := S2x8192x8x65) (s₁ := S2x8192x8x64) (s₂ := S2x8192x8x1) (3 : Fin 4) x _ _ _ rfl rfl (ix4 b s h (0 : Fin 1)) (fun a ha => ?_) ?_).trans ?_
    · match a with
      | ⟨0, _⟩ => rfl
      | ⟨1, _⟩ => rfl
      | ⟨2, _⟩ => rfl
      | ⟨3, _⟩ => exact absurd rfl ha
    · show 0 + 64 = d.val
      omega
    · exact Ideal.ofBits_one_f32

/-- A token's place in the flat order. -/
def tok (b : Fin 2) (s : Fin 8192) : Fin 16384 := ⟨8192 * b.val + s.val, by omega⟩
/-- Row `r` of block `j`. -/
def pos (j : Fin 16) (r : Fin 512) : Fin 8192 := ⟨512 * j.val + r.val, by omega⟩

/-- A query's entry, scaled and padded. -/
def qe (b : Fin 2) (s : Fin 8192) (h : Fin 8) (d : Fin 128) : EReal :=
  if hd : d.val < 64 then aq m c (ix4 b s h ⟨d.val, hd⟩) * kap else if hd' : d.val < 96 then ar m c (ix4 b s h ⟨d.val - 64, by omega⟩) * kap else 0
/-- A key's entry, padded. -/
def ke (b : Fin 2) (s : Fin 8192) (h : Fin 8) (d : Fin 128) : EReal :=
  if hd : d.val < 64 then ak m c (ix4 b s h ⟨d.val, hd⟩) else if hd' : d.val < 96 then ao m c (ix3 b s ⟨d.val - 64, by omega⟩) else 0

theorem Kh_apply (b : Fin 2) (j : Fin 16) (r : Fin 512) (h : Fin 8) (d : Fin 128) :
    Kh m c (ix3 (blk b j) r ⟨128 * h.val + d.val, by omega⟩) = ke m c b (pos j r) h d := by
  rw [Kh_eq]
  refine (shapeCast_apply _ _ _ (ix4 b (pos j r) h d) ?_).trans ?_
  · rw [Shape.rowMajor_val_three, Shape.rowMajor_val_four]
    show ((b.val * 8192 + (512 * j.val + r.val)) * 8 + h.val) * 128 + d.val = ((16 * b.val + j.val) * 512 + r.val) * 1024 + (128 * h.val + d.val)
    omega
  · rw [padH_apply]
    unfold ke
    by_cases h1 : d.val < 64
    · rw [dif_pos (show d.val < 96 by omega), dif_pos h1, catH_apply, dif_pos h1]
    · rw [dif_neg h1]
      by_cases h2 : d.val < 96
      · rw [dif_pos h2, dif_pos h2, catH_apply, dif_neg h1]
        refine (broadcastInDim_apply _ _ _ _ (ix4 b (pos j r) 0 ⟨d.val - 64, by omega⟩) fun a => ?_).trans (broadcastInDim_apply _ _ _ _ _ fun a => ?_)
        · match a with
          | ⟨0, _⟩ => rfl
          | ⟨1, _⟩ => rfl
          | ⟨2, _⟩ => rfl
          | ⟨3, _⟩ => rfl
        · match a with
          | ⟨0, _⟩ => rfl
          | ⟨1, _⟩ => rfl
          | ⟨2, _⟩ => rfl
      · rw [dif_neg h2, dif_neg h2]
theorem Vh_apply (b : Fin 2) (j : Fin 16) (r : Fin 512) (h : Fin 8) (d : Fin 80) (hd : d.val < 65) :
    Vh m c (ix3 (blk b j) ⟨80 * h.val + d.val, by omega⟩ r) = if hd : d.val < 64 then av m c (ix4 b (pos j r) h ⟨d.val, hd⟩) else 1 := by
  rw [Vh_eq]
  refine (transpose_apply _ _ _ _ (ix3 (blk b j) r ⟨80 * h.val + d.val, by omega⟩) fun a => ?_).trans ((shapeCast_apply _ _ _ (ix4 b (pos j r) h d) ?_).trans ?_)
  · match a with
    | ⟨0, _⟩ => rfl
    | ⟨1, _⟩ => rfl
    | ⟨2, _⟩ => rfl
  · rw [Shape.rowMajor_val_three, Shape.rowMajor_val_four]
    show ((b.val * 8192 + (512 * j.val + r.val)) * 8 + h.val) * 80 + d.val = ((16 * b.val + j.val) * 512 + r.val) * 640 + (80 * h.val + d.val)
    omega
  · rw [padV_apply _ _ _ _ _ hd, catV_apply]
theorem Qh_apply (b : Fin 2) (s : Fin 8192) (h : Fin 8) (d : Fin 128) :
    (Gen.V m c main_v8 : FVec Ideal S1024x16384 .bf16) (ix2 ⟨128 * h.val + d.val, by omega⟩ (tok b s)) = qe m c b s h d := by
  rw [Qh_eq]
  refine (transpose_apply _ _ _ _ (ix2 (tok b s) ⟨128 * h.val + d.val, by omega⟩) fun a => ?_).trans ((shapeCast_apply _ _ _ (ix4 b s h d) ?_).trans ?_)
  · match a with
    | ⟨0, _⟩ => rfl
    | ⟨1, _⟩ => rfl
  · rw [Shape.rowMajor_val_two, Shape.rowMajor_val_four]
    show ((b.val * 8192 + s.val) * 8 + h.val) * 128 + d.val = (8192 * b.val + s.val) * 1024 + (128 * h.val + d.val)
    omega
  · rw [padH_apply]
    unfold qe
    by_cases h1 : d.val < 64
    · rw [dif_pos (show d.val < 96 by omega), dif_pos h1]
      show catH _ _ _ * _ = _
      rw [catH_apply, dif_pos h1]; rfl
    · rw [dif_neg h1]
      by_cases h2 : d.val < 96
      · rw [dif_pos h2, dif_pos h2]
        show catH _ _ _ * _ = _
        rw [catH_apply, dif_neg h1]; rfl
      · rw [dif_neg h2, dif_neg h2]

end Attn

end
-- ==== Proof.KernelValue.lean ====
module

public import proofs.«01_k».proof.Proof.Online
public import proofs.«01_k».proof.Proof.Host
public import Idealize.ShloMosaic.Lib.MatmulPlain
public import Idealize.ShloMosaic.Lib.Pointwise.ShapeOpsCore
public import Idealize.ShloMosaic.Lib.Pointwise.ElementwiseCore
public import Idealize.ShloMosaic.Lib.Claim
public import Idealize.ShloMosaic.Lib.KernelVsHost
public import Idealize.ShloMosaic.Lib.IdealHost
public import Idealize.ShloMosaic.Lib.Pipeline.Value
public import Idealize.ShloMosaic.Lib.Pointwise.SelectCore

@[expose] public section

set_option maxRecDepth 16384

noncomputable section

namespace Attn

open Idealize.ShloMosaic.ValueIdx hiding ix0 ix1 ix2 ix3 ix4 eq_ix1 eq_ix2 eq_ix3 eq_ix4
open Idealize.ShloMosaic Idealize.ShloMosaic.TcCoe Idealize.ShloMosaic.Tactic Cert.KernelIdeal Cert.KernelIdeal.Gen

/-! ## The kernel's block, entry by entry -/

/-- A real number among the extended ones. -/
def IsR (x : EReal) : Prop := ∃ r : ℝ, x = (r : EReal)
theorem IsR.ne_top {x : EReal} (h : IsR x) : x ≠ ⊤ := by obtain ⟨r, rfl⟩ := h; exact EReal.coe_ne_top _
theorem IsR.max_left {a b : EReal} (ha : IsR a) (hb : b ≠ ⊤) : IsR (max a b) := by
  obtain ⟨r, rfl⟩ := ha
  induction b with
  | bot => exact ⟨r, max_eq_left bot_le⟩
  | top => exact absurd rfl hb
  | coe s => exact ⟨max r s, (EReal.coe_strictMono.monotone.map_max).symm⟩
theorem max_ne_top {a b : EReal} (ha : a ≠ ⊤) (hb : b ≠ ⊤) : max a b ≠ ⊤ := by
  rcases max_choice a b with h | h <;> rw [h] <;> assumption
/-- The greatest of a finite family. -/
def top {n : ℕ} (f : Fin n → EReal) : EReal := (Finset.univ : Finset (Fin n)).fold max ⊥ f
theorem fold_ne_top {ι : Type} (s : Finset ι) (f : ι → EReal) (h : ∀ i, f i ≠ ⊤) : s.fold max ⊥ f ≠ ⊤ := by
  classical
  induction s using Finset.induction_on with
  | empty => rw [Finset.fold_empty]; exact bot_ne_top
  | insert a s ha ih => rw [Finset.fold_insert ha]; exact max_ne_top (h a) ih
theorem top_ne_top {n : ℕ} (f : Fin n → EReal) (h : ∀ i, f i ≠ ⊤) : top f ≠ ⊤ := fold_ne_top _ f h
theorem top_isR {n : ℕ} (f : Fin n → EReal) (h : ∀ i, f i ≠ ⊤) (i : Fin n) (hi : IsR (f i)) : IsR (top f) := by
  classical
  unfold top
  rw [← Finset.insert_erase (Finset.mem_univ i), Finset.fold_insert (Finset.notMem_erase _ _)]
  exact hi.max_left (fold_ne_top _ f h)

theorem NEG_eq : (NEG : Ideal .f32) = (⊥ : EReal) := IdealRules.named_const.ideal_named_scalar _ _ _ _ rfl

theorem vix2 {n0 n1 : ℕ} (a : Fin n0) (b : Fin n1) : (ValueIdx.ix2 a b : (⟨2, ![n0, n1]⟩ : Shape).Idx) = ix2 a b := by
  funext d; match d with | ⟨0, _⟩ => rfl | ⟨1, _⟩ => rfl

/-- The product of a row of keys and a column of queries. -/
def dot (K : FVec Ideal S512x128 .bf16) (Q : FVec Ideal S128x512 .bf16) (r x : Fin 512) : EReal := ∑ d : Fin 128, (K (ix2 r d) : EReal) * Q (ix2 d x)

/-- A product of two matrices into zero, at an entry. -/
theorem mm_apply {M K N : ℕ} {φ₁ φ₂ : FTy} (l : FVec Ideal ⟨2, ![M, K]⟩ φ₁) (r : FVec Ideal ⟨2, ![K, N]⟩ φ₂) (i : Fin M) (x : Fin N) :
    (FloatOps.matmul (DotDims.plain M K N) none l r (constant (F := Ideal) ⟨2, ![M, N]⟩ .f32 0x00000000#32) (ix2 i x) : EReal) = ∑ k : Fin K, (l (ix2 i k) : EReal) * r (ix2 k x) := by
  have h := Ideal.matmul_plain_apply (M := M) (K := K) (N := N) none l r (constant (F := Ideal) ⟨2, ![M, N]⟩ .f32 0x00000000#32) i x
  simp only [vix2] at h
  rw [h, show (constant (F := Ideal) ⟨2, ![M, N]⟩ .f32 0x00000000#32 (ix2 i x) : EReal) = 0 from Ideal.ofBits_zero_f32]
  exact zero_add _

theorem dotQ_apply (K : FVec Ideal S512x128 .bf16) (Q : FVec Ideal S128x512 .bf16) (r x : Fin 512) : dotQ K Q (ix2 r x) = dot K Q r x :=
  mm_apply (M := 512) (K := 128) (N := 512) K Q r x

theorem word_le (a b : ℕ) (ha : a < 512) (hb : b < 512) : (BitVec.ofNat 32 a).sle (BitVec.ofNat 32 b) = decide (a ≤ b) := by
  have h : ∀ n, n < 512 → (BitVec.ofNat 32 n).toInt = n := fun n hn => by
    rw [BitVec.toInt_eq_toNat_of_lt] <;> rw [BitVec.toNat_ofNat, Nat.mod_eq_of_lt (by omega)]; omega
  rw [BitVec.sle_eq_decide, h a ha, h b hb]
  simp
theorem mask_apply (r x : Fin 512) : k0_pay2205 (ix2 r x) = if r.val ≤ x.val then 1#1 else 0#1 := by
  unfold k0_pay2205
  show Scalar.cmpi .sle (iota .tc S512x512 32 [0] iota_S512x512_d0_w32 (ix2 r x)) (iota .tc S512x512 32 [1] iota_S512x512_d1_w32 (ix2 r x)) = _
  have e0 : iota .tc S512x512 32 [0] iota_S512x512_d0_w32 (ix2 r x) = BitVec.ofNat 32 r.val := by simp [iota_apply]
  have e1 : iota .tc S512x512 32 [1] iota_S512x512_d1_w32 (ix2 r x) = BitVec.ofNat 32 x.val := by simp [iota_apply]
  rw [e0, e1]
  unfold Scalar.cmpi
  show IntOp.cmpi .sle _ _ = _
  unfold IntOp.cmpi
  simp only [word_le _ _ r.isLt x.isLt]
  by_cases h : r.val ≤ x.val <;> simp [h]

theorem dTop_apply (K : FVec Ideal S512x128 .bf16) (Q : FVec Ideal S128x512 .bf16) (r : Fin 256) (x : Fin 512) :
    dTop K Q (ix2 r x) = if r.val ≤ x.val then dot K Q ⟨r.val, by omega⟩ x else ⊥ := by
  have e0 : extractStridedSlice S256x512 ![0, 0] k0_pay2205 slices_S512x512_o0_0_S256x512 (ix2 r x) = k0_pay2205 (ix2 ⟨r.val, by omega⟩ x) :=
    extractStridedSlice_apply _ _ _ _ _ fun a => by match a with | ⟨0, _⟩ => exact (Nat.zero_add _).symm | ⟨1, _⟩ => exact (Nat.zero_add _).symm
  have e1 : (matmul dot_S256x128_S128x512_S256x512_1_0_0_1_n_n none (extractStridedSlice S256x128 ![0, 0] K slices_S512x128_o0_0_S256x128) Q (constant (F := Ideal) S256x512 .f32 0x00000000#32)) (ix2 r x) = dot K Q ⟨r.val, by omega⟩ x := by
    refine (mm_apply (M := 256) (K := 128) (N := 512) _ _ r x).trans (Finset.sum_congr rfl fun d _ => ?_)
    congr 1
    exact extractStridedSlice_apply _ _ _ _ _ fun a => by match a with | ⟨0, _⟩ => exact (Nat.zero_add _).symm | ⟨1, _⟩ => exact (Nat.zero_add _).symm
  unfold dTop
  show Scalar.select _ _ _ = _
  rw [e0, e1, mask_apply]
  split_ifs with h
  · rfl
  · exact NEG_eq
theorem dLow_apply (K : FVec Ideal S512x128 .bf16) (Q : FVec Ideal S128x512 .bf16) (r x : Fin 256) :
    dLow K Q (ix2 r x) = if r.val ≤ x.val then dot K Q ⟨256 + r.val, by omega⟩ ⟨256 + x.val, by omega⟩ else ⊥ := by
  have e0 : extractStridedSlice S256x256 ![256, 256] k0_pay2205 slices_S512x512_o256_256_S256x256 (ix2 r x) = k0_pay2205 (ix2 ⟨256 + r.val, by omega⟩ ⟨256 + x.val, by omega⟩) :=
    extractStridedSlice_apply _ _ _ _ _ fun a => by match a with | ⟨0, _⟩ => rfl | ⟨1, _⟩ => rfl
  have e1 : (matmul dot_S256x128_S128x256_S256x256_1_0_0_1_n_n none (extractStridedSlice S256x128 ![256, 0] K slices_S512x128_o256_0_S256x128) (extractStridedSlice S128x256 ![0, 256] Q slices_S128x512_o0_256_S128x256) (constant (F := Ideal) S256x256 .f32 0x00000000#32)) (ix2 r x) = dot K Q ⟨256 + r.val, by omega⟩ ⟨256 + x.val, by omega⟩ := by
    refine (mm_apply (M := 256) (K := 128) (N := 256) _ _ r x).trans (Finset.sum_congr rfl fun d _ => ?_)
    congr 1
    · exact extractStridedSlice_apply _ _ _ _ _ fun a => by match a with | ⟨0, _⟩ => rfl | ⟨1, _⟩ => exact (Nat.zero_add _).symm
    · exact extractStridedSlice_apply _ _ _ _ _ fun a => by match a with | ⟨0, _⟩ => exact (Nat.zero_add _).symm | ⟨1, _⟩ => rfl
  unfold dLow
  show Scalar.select _ _ _ = _
  rw [e0, e1, mask_apply]
  simp only [Nat.add_le_add_iff_left]
  split_ifs with h
  · rfl
  · exact NEG_eq
/-- The masked scores of the diagonal chunk. -/
theorem dSc_apply (K : FVec Ideal S512x128 .bf16) (Q : FVec Ideal S128x512 .bf16) (r x : Fin 512) :
    dSc K Q (ix2 r x) = if r.val ≤ x.val then dot K Q r x else ⊥ := by
  unfold dSc
  show (if h : r.val < 256 then dTop K Q (ix2 ⟨r.val, h⟩ x) else if h' : x.val < 256 then NEG else dLow K Q (ix2 ⟨r.val - 256, _⟩ ⟨x.val - 256, _⟩)) = _
  split_ifs with h1 h2 h3 h4 h5
  · rw [dTop_apply, if_pos h2]
  · rw [dTop_apply, if_neg h2]
  · omega
  · exact NEG_eq
  · rw [dLow_apply, if_pos (show r.val - 256 ≤ x.val - 256 by omega)]
    congr 1 <;> apply Fin.ext <;> show 256 + _ = _ <;> simp only [] <;> omega
  · rw [dLow_apply, if_neg (show ¬(r.val - 256 ≤ x.val - 256) by omega)]

theorem ofBits_ninf : (FloatOps.ofBits (F := Ideal) .f32 0xFF800000#32 : EReal) = ⊥ := by
  show Ideal.ofBits .f32 0xFF800000#32 = ⊥
  simp [Ideal.ofBits, Ideal.ieee]

/-- A block's greatest entry of a column. -/
theorem colMax_apply {M N : ℕ} (S : FVec Ideal ⟨2, ![M, N]⟩ .f32) (h : (⟨2, ![M, N]⟩ : Shape).Reduces [0] ⟨1, ![N]⟩) (x : Fin N) :
    multiReduction .maximumf [0] ⟨1, ![N]⟩ S 0xFF800000#32 h (.inl rfl) rfl (ix1 x) = top fun r : Fin M => S (ix2 r x) := by
  refine (Ideal.multiReduction_maximumf_single S _ h (.inl rfl) rfl (ix1 x)).trans ?_
  rw [show FloatOps.ofBits (F := Ideal) .f32 (FKind.maximumf.neutral .f32 (.inl rfl)) = (⊥ : EReal) from ofBits_ninf]
  unfold top
  congr 1
  funext r
  refine congrArg S (funext fun a => ?_)
  match a with | ⟨0, _⟩ => rfl | ⟨1, _⟩ => rfl
theorem cast_row {N : ℕ} (v : FVec Ideal ⟨1, ![N]⟩ .f32) (h : (⟨1, ![N]⟩ : Shape).ShapeCasts ⟨2, ![1, N]⟩) (x : Fin N) :
    shapeCast ⟨2, ![1, N]⟩ v h (ix2 0 x) = v (ix1 x) :=
  shapeCast_apply _ _ _ _ (by rw [Shape.rowMajor_val_one, Shape.rowMajor_val_two]; show x.val = 0 * N + x.val; omega)
theorem rowMax_apply (S : FVec Ideal S512x512 .f32) (x : Fin 512) : rowMax S (ix2 0 x) = top fun r : Fin 512 => S (ix2 r x) :=
  (cast_row _ _ x).trans (colMax_apply S _ x)

theorem dMax_isR (K : FVec Ideal S512x128 .bf16) (Q : FVec Ideal S128x512 .bf16) (x : Fin 512) (h : ∀ r x, IsR (dot K Q r x)) : IsR (dMax K Q (ix2 0 x)) := by
  unfold dMax k0_pay2229
  refine IsR.max_left ?_ ?_
  · rw [show shapeCast S1x512 _ shapeCasts_S512_S1x512 (ix2 0 x) = _ from (cast_row _ _ x).trans (colMax_apply (dTop K Q) _ x)]
    refine top_isR _ (fun r => ?_) 0 ?_
    · rw [dTop_apply]; split_ifs
      · exact (h _ _).ne_top
      · exact bot_ne_top
    · rw [dTop_apply, if_pos (show (0 : Fin 256).val ≤ x.val from Nat.zero_le _)]; exact h _ _
  · by_cases hx : x.val < 256
    · rw [concatenate_pair_apply_left (t := S1x512) (s₁ := S1x256) (s₂ := S1x256) (1 : Fin 2) _ _ _ _ rfl (ix2 0 ⟨x.val, hx⟩) fun a => by match a with | ⟨0, _⟩ => rfl | ⟨1, _⟩ => rfl]
      show NEG ≠ _
      rw [NEG_eq]; exact bot_ne_top
    · rw [concatenate_pair_apply_right (t := S1x512) (s₁ := S1x256) (s₂ := S1x256) (1 : Fin 2) _ _ _ _ rfl rfl (ix2 0 ⟨x.val - 256, by omega⟩) (fun a ha => by match a with | ⟨0, _⟩ => rfl | ⟨1, _⟩ => exact absurd rfl ha) (by show x.val - 256 + 256 = x.val; omega)]
      rw [show shapeCast S1x256 _ shapeCasts_S256_S1x256 (ix2 0 ⟨x.val - 256, by omega⟩) = _ from (cast_row _ _ _).trans (colMax_apply (dLow K Q) _ _)]
      refine top_ne_top _ fun r => ?_
      rw [dLow_apply]; split_ifs
      · exact (h _ _).ne_top
      · exact bot_ne_top

/-! ### The scale -/

theorem two_f32 : Ideal.ofBits .f32 0x40000000#32 = ((2 : ℝ) : EReal) := by
  simp [Ideal.ofBits, Ideal.ieee]
  rw [← EReal.coe_mul]; norm_num
theorem scale_isR : IsR (Ideal.ofBits .f32 0x3DD105EC#32) := by
  simp [Ideal.ofBits, Ideal.ieee]; exact ⟨_, rfl⟩
/-- The scale of the scores, a real number. -/
def sc : ℝ := scale_isR.choose
theorem sc_eq : Ideal.ofBits .f32 0x3DD105EC#32 = (sc : EReal) := scale_isR.choose_spec
theorem kap_eq : kap = ((sc / Real.log 2 : ℝ) : EReal) := by
  unfold kap
  have h2 : (0 : ℝ) < Real.log 2 := Real.log_pos (by norm_num)
  rw [show (FloatOps.ofBits (F := Ideal) .f32 0x3DD105EC#32 : EReal) = (sc : EReal) from sc_eq, show (FloatOps.ofBits (F := Ideal) .f32 0x40000000#32 : EReal) = ((2 : ℝ) : EReal) from two_f32,
    show Ideal.log ((2 : ℝ) : EReal) = ((Real.log 2 : ℝ) : EReal) from if_neg (by norm_num), Online.div_real _ h2, ← EReal.coe_mul, mul_comm, div_eq_mul_inv]

/-! ### A trip, and all of them -/

theorem row_apply {M N : ℕ} (v : FVec Ideal ⟨2, ![1, N]⟩ .f32) (h : (⟨2, ![1, N]⟩ : Shape).Broadcasts ⟨2, ![M, N]⟩) (hN : N ≠ 1) (i : Fin M) (x : Fin N) :
    broadcastTo ⟨2, ![M, N]⟩ v h (ix2 i x) = v (ix2 0 x) :=
  broadcastTo_apply _ _ _ _ fun a => by
    match a with
    | ⟨0, _⟩ => rfl
    | ⟨1, _⟩ => exact (if_neg hN).symm
theorem pOf_apply (S : FVec Ideal S512x512 .f32) (M : FVec Ideal S1x512 .f32) (r x : Fin 512) :
    (pOf S M (ix2 r x) : EReal) = Ideal.exp2 ((S (ix2 r x) : EReal) - M (ix2 0 x)) := by
  unfold pOf
  show Ideal.exp2 ((S (ix2 r x) : EReal) - broadcastTo S512x512 M _ (ix2 r x)) = _
  rw [show broadcastTo S512x512 M _ (ix2 r x) = M (ix2 0 x) from row_apply (M := 512) (N := 512) M _ (by decide) r x]
theorem accStep_apply (m M : FVec Ideal S1x512 .f32) (P : FVec Ideal S512x512 .bf16) (V : FVec Ideal S80x512 .bf16) (A : FVec Ideal S80x512 .f32) (i : Fin 80) (x : Fin 512) :
    (accStep m M P V A (ix2 i x) : EReal) = Ideal.exp2 ((m (ix2 0 x) : EReal) - max (m (ix2 0 x) : EReal) (M (ix2 0 x))) * A (ix2 i x)
      + Ideal.exp2 ((M (ix2 0 x) : EReal) - max (m (ix2 0 x) : EReal) (M (ix2 0 x))) * ∑ r : Fin 512, (V (ix2 i r) : EReal) * P (ix2 r x) := by
  unfold accStep
  show (broadcastTo S80x512 _ _ (ix2 i x) : EReal) * _ + (broadcastTo S80x512 _ _ (ix2 i x) : EReal) * _ = _
  rw [show broadcastTo S80x512 (exp2 (subf m (maximumf m M))) broadcasts_S1x512_S80x512 (ix2 i x) = _ from row_apply (M := 80) (N := 512) _ _ (by decide) i x,
    show broadcastTo S80x512 (exp2 (subf M (maximumf m M))) broadcasts_S1x512_S80x512 (ix2 i x) = _ from row_apply (M := 80) (N := 512) _ _ (by decide) i x,
    show matmul dot_S80x512_S512x512_S80x512_1_0_0_1_n_n none V P (constant (F := Ideal) S80x512 .f32 0x00000000#32) (ix2 i x) = _ from mm_apply (M := 80) (K := 512) (N := 512) V P i x]
  rfl

/-- The running maximum and the accumulator, at a query and a row. -/
theorem mm_run (Q : Fin 8 → FVec Ideal S128x512 .bf16) (f7 : S16x512x1024.Idx → Elt Ideal .bf16) (M0 : Fin 8 → FVec Ideal S1x512 .f32) (h : Fin 8) (x : Fin 512) (j : ℕ) :
    (mm Q f7 M0 (fun _ => m00) j h (ix2 0 x) : EReal) = Online.rm (fun j => Mx Q f7 M0 j h (ix2 0 x)) j := by
  induction j with
  | zero => exact NEG_eq
  | succ j ih => show max (mm Q f7 M0 (fun _ => m00) j h (ix2 0 x) : EReal) (Mx Q f7 M0 j h (ix2 0 x)) = _; rw [ih]; rfl
theorem ac_run (Q : Fin 8 → FVec Ideal S128x512 .bf16) (f7 : S16x512x1024.Idx → Elt Ideal .bf16) (f8 : S16x640x512.Idx → Elt Ideal .bf16) (q : Fin 16) (S0 : Fin 8 → FVec Ideal S512x512 .f32)
    (M0 : Fin 8 → FVec Ideal S1x512 .f32) (h : Fin 8) (i : Fin 80) (x : Fin 512) (j : ℕ) :
    (ac Q f7 f8 q S0 M0 (fun _ => m00) (fun _ => Z11) j h (ix2 i x) : EReal)
      = Online.ra (fun j r => Sc Q f7 S0 j h (ix2 r x)) (fun j => Mx Q f7 M0 j h (ix2 0 x)) (fun j r => slab8 f8 (kcf q j) h (ix2 i r)) j := by
  induction j with
  | zero => exact Ideal.ofBits_zero_f32
  | succ j ih =>
    refine (accStep_apply _ _ _ _ _ i x).trans ?_
    rw [mm_run, ih]
    simp only [pOf_apply]
    rfl

/-! ### The block stored -/

theorem outOf_apply (a : Fin 8 → FVec Ideal S80x512 .f32) (h : Fin 8) (d : Fin 64) (x : Fin 512) :
    (outOf a (ix2 ⟨64 * h.val + d.val, by omega⟩ x) : EReal) = Ideal.div (a h (ix2 ⟨d.val, by omega⟩ x)) (a h (ix2 64 x)) := by
  unfold outOf
  have hc : Shape.Concatenates ((List.ofFn fun n : Fin 8 => (⟨S64x512, normH (a n)⟩ : (s : Shape) × (s.Idx → Ideal .f32))).map (·.1)) S512x512 0 :=
    concatenates_S64x512_S64x512_S64x512_S64x512_S64x512_S64x512_S64x512_S64x512_S512x512_d0
  show concatenate S512x512 0 (List.ofFn fun n : Fin 8 => (⟨S64x512, normH (a n)⟩ : (s : Shape) × (s.Idx → Ideal .f32))) hc (ix2 ⟨64 * h.val + d.val, by omega⟩ x) = _
  refine (concatenate_ofFn_apply (t := S512x512) (s₁ := S64x512) 0 (fun n : Fin 8 => normH (a n)) _ rfl 64 rfl _ h ?_ (ix2 d x) ?_ ?_).trans ?_
  · show (64 * h.val + d.val) / 64 = h.val; omega
  · show d.val = (64 * h.val + d.val) % 64; omega
  · intro b hb
    match b with
    | ⟨0, _⟩ => exact absurd rfl hb
    | ⟨1, _⟩ => rfl
  · rfl

end Attn

end
-- ==== Proof.Out.lean ====
module

public import proofs.«01_k».proof.Proof.KernelValue
public import Idealize.ShloMosaic.Lib.Pipeline.ValueKit
public import Idealize.ShloMosaic.Lib.Claim
public import Idealize.ShloMosaic.Lib.KernelVsHost

public import Idealize.ShloMosaic.Lib.Pipeline.Value
public import Idealize.ShloMosaic.Lib.Pointwise.SelectCore

@[expose] public section

set_option maxRecDepth 16384

noncomputable section

namespace Attn

open Idealize.ShloMosaic.ValueIdx hiding ix0 ix1 ix2 ix3 ix4 eq_ix1 eq_ix2 eq_ix3 eq_ix4
open Idealize.ShloMosaic Idealize.ShloMosaic.TcCoe Idealize.ShloMosaic.Tactic Cert.KernelIdeal Cert.KernelIdeal.Gen

/-! ## The output array, block by block -/

variable (m : (ℓ : Loc nD τ sig) → Buf (Elt Ideal) ℓ)

/-- The whole output: column `n` is point `n / 512`'s block at column `n % 512`. -/
def outArr (c : Dev nD) : FVec Ideal S512x16384 .bf16 := fun i =>
  outAt m c ⟨(i 1).val / 512, by have : (i 1).val < 16384 := (i 1).isLt; show _ < 32; omega⟩ (ix2 (i 0) ⟨(i 1).val % 512, Nat.mod_lt _ (by decide)⟩)

theorem at_1 : ∀ t : Fin cfg0.N, win0_1.index t 0 = 0 ∧ win0_1.index t 1 = t.val :=
  (by decide +kernel : ∀ t : Fin grid0.N, win0_1.index t 0 = 0 ∧ win0_1.index t 1 = t.val)
theorem at_0 : ∀ t : Fin cfg0.N, win0_0.index t 0 = 0 ∧ win0_0.index t 1 = t.val :=
  (by decide +kernel : ∀ t : Fin grid0.N, win0_0.index t 0 = 0 ∧ win0_0.index t 1 = t.val)
theorem emb_1 (t : Fin cfg0.N) (y : S512x512.Idx) : (((win0_1.blk t).view.emb y) 0).val = (y 0).val ∧ (((win0_1.blk t).view.emb y) 1).val = 512 * t.val + (y 1).val := by
  have h0 : (((win0_1.blk t).view.emb y) 0).val = win0_1.index t 0 * 512 + 1 * (y 0).val := rfl
  have h1 : (((win0_1.blk t).view.emb y) 1).val = win0_1.index t 1 * 512 + 1 * (y 1).val := rfl
  rw [h0, h1, (at_1 t).1, (at_1 t).2]
  omega
theorem emb_0 (t : Fin cfg0.N) (y : S1024x512.Idx) : (((win0_0.blk t).view.emb y) 0).val = (y 0).val ∧ (((win0_0.blk t).view.emb y) 1).val = 512 * t.val + (y 1).val := by
  have h0 : (((win0_0.blk t).view.emb y) 0).val = win0_0.index t 0 * 1024 + 1 * (y 0).val := rfl
  have h1 : (((win0_0.blk t).view.emb y) 1).val = win0_0.index t 1 * 512 + 1 * (y 1).val := rfl
  rw [h0, h1, (at_0 t).1, (at_0 t).2]
  omega

theorem arr_out (c : Dev nD) : (dats m 0 c).arrAt 1 cfg0.N = outArr m c := by
  refine (dats m 0 c).arrAt_eq_of_covers 1 _ (by decide +kernel) fun t hf y => ?_
  blk_simp
  rw [after0_1]
  have hy : (y 1).val < 512 := (y 1).isLt
  obtain ⟨e0, e1⟩ := emb_1 t y
  unfold outArr
  have et : (⟨(((win0_1.blk t).view.emb y) 1).val / 512, by have : (((win0_1.blk t).view.emb y) 1).val < 16384 := (((win0_1.blk t).view.emb y) 1).isLt; show _ < 32; omega⟩ : Fin cfg0.N) = t :=
    Fin.ext (by show (((win0_1.blk t).view.emb y) 1).val / 512 = t.val; rw [e1]; omega)
  rw [et]
  refine congrArg _ (funext fun a => Fin.ext ?_)
  match a with
  | ⟨0, _⟩ => exact e0.symm
  | ⟨1, _⟩ => show (y 1).val = (((win0_1.blk t).view.emb y) 1).val % 512; rw [e1]; omega

/-- A point's queries. -/
theorem iblk_apply (c : Dev nD) (b : Fin 2) (q : Fin 16) (h : Fin 8) (d : Fin 128) (x : Fin 512) (t : Fin cfg0.N) (ht : t.val = 16 * b.val + q.val) :
    (iblk m c 0 t : FVec Ideal S1024x512 .bf16) (ix2 ⟨128 * h.val + d.val, by omega⟩ x) = qe m c b (pos q x) h d := by
  rw [← Qh_apply]
  show (Gen.V m c main_v8 : FVec Ideal S1024x16384 .bf16) ((win0_0.blk t).view.emb (ix2 ⟨128 * h.val + d.val, by omega⟩ x)) = _
  obtain ⟨e0, e1⟩ := emb_0 t (ix2 ⟨128 * h.val + d.val, by omega⟩ x)
  refine congrArg _ (funext fun a => Fin.ext ?_)
  match a with
  | ⟨0, _⟩ => exact e0
  | ⟨1, _⟩ => refine e1.trans ?_; show 512 * t.val + x.val = 8192 * b.val + (512 * q.val + x.val); rw [ht]; omega

theorem run_out (ρ : Dev nD → PrngReg) : θ_run defs (onTc (τ := τ) (main (F := Ideal))) ⟨m, fun _ => 0, ρ⟩ (fun r => ∀ c : Dev nD,
      r.2.mem ((c.tc : Thread nD τ).loc main_v21) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h => fun c => ⟨((h.1 c).1 1).trans (arr_out m c), ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Attn

end
-- ==== Proof.Scores.lean ====
module

public import proofs.«01_k».proof.Proof.Out
public import Idealize.ShloMosaic.Lib.Claim
public import Idealize.ShloMosaic.Lib.KernelVsHost
public import Idealize.ShloMosaic.Lib.IdealHost
public import Idealize.ShloMosaic.Lib.Pipeline.Value
public import Idealize.ShloMosaic.Lib.Pointwise.SelectCore

@[expose] public section

set_option maxRecDepth 16384

noncomputable section

namespace Attn

open Idealize.ShloMosaic.ValueIdx hiding ix0 ix1 ix2 ix3 ix4 eq_ix1 eq_ix2 eq_ix3 eq_ix4
open Idealize.ShloMosaic Idealize.ShloMosaic.TcCoe Idealize.ShloMosaic.Tactic Cert.KernelIdeal Cert.KernelIdeal.Gen

/-! ## The kernel's output as attention over all keys -/

/-- The blocks in the order the trips take them, summed. -/
theorem resum (G : Fin 16 → EReal) (q : Fin 16) (h0 : ∀ n : Fin 16, q.val < n.val → G n = 0) :
    ∑ j ∈ Finset.range (q.val + 1), G (kcf q j) = ∑ n : Fin 16, G n := by
  have hcl : ∀ n : Fin 16, cl n.val = n := fun n => Fin.ext (Nat.mod_eq_of_lt n.isLt)
  have e : ∑ n : Fin 16, G n = ∑ n ∈ Finset.range 16, G (cl n) := by
    rw [Finset.sum_range]; exact Finset.sum_congr rfl fun n _ => by rw [hcl]
  rw [e, ← Finset.sum_subset (Finset.range_mono (show q.val + 1 ≤ 16 by omega)) (fun n hn hn' => ?_), Finset.sum_range_succ', Finset.sum_range_succ]
  · show ∑ j ∈ Finset.range q.val, G (cl j) + G q = _
    rw [hcl]
  · rw [Finset.mem_range] at hn hn'
    exact h0 _ (by show q.val < n % 16; rw [Nat.mod_eq_of_lt hn]; omega)
/-- A sum over the keys, block by block. -/
theorem sum_pos (g : Fin 8192 → EReal) : ∑ k, g k = ∑ n : Fin 16, ∑ r : Fin 512, g (pos n r) := by
  rw [← Fintype.sum_prod_type' (f := fun n r => g (pos n r))]
  refine (Equiv.sum_comp (finProdFinEquiv (m := 16) (n := 512)) g).symm.trans (Finset.sum_congr rfl fun p _ => ?_)
  exact congrArg g (Fin.ext (by show p.2.val + 512 * p.1.val = 512 * p.1.val + p.2.val; omega))

variable (m : (ℓ : Loc nD τ sig) → Buf (Elt Ideal) ℓ) (c : Dev nD)

/-- Every query and every key is a real number. -/
structure Finite : Prop where
  q : ∀ i, IsR (aq m c i)
  r : ∀ i, IsR (ar m c i)
  k : ∀ i, IsR (ak m c i)
  s : ∀ i, IsR (ao m c i)

/-- The score of a key for a query. -/
def sig0 (b : Fin 2) (h : Fin 8) (k t : Fin 8192) : ℝ :=
  ∑ d : Fin 64, ((aq m c (ix4 b t h d) : EReal).toReal * sc) * (ak m c (ix4 b k h d) : EReal).toReal
    + ∑ d : Fin 32, (ao m c (ix3 b k d) : EReal).toReal * ((ar m c (ix4 b t h d) : EReal).toReal * sc)
/-- The same, a query seeing only the keys up to itself. -/
def seen (b : Fin 2) (h : Fin 8) (t k : Fin 8192) : EReal := if k.val ≤ t.val then (sig0 m c b h k t : EReal) else ⊥

theorem seen_pos (b : Fin 2) (h : Fin 8) (t k : Fin 8192) (hk : k.val ≤ t.val) : seen m c b h t k = (sig0 m c b h k t : EReal) := if_pos hk

theorem seen_bot (b : Fin 2) (h : Fin 8) (t k : Fin 8192) (hk : ¬k.val ≤ t.val) : seen m c b h t k = ⊥ := if_neg hk

theorem IsR.coe {x : EReal} (h : IsR x) : x = (x.toReal : EReal) := by obtain ⟨r, rfl⟩ := h; rfl

variable {m c}

/-- A sum over a padded head: its 64 and its 32 entries. -/
theorem sum_head (g : Fin 128 → ℝ) (A : Fin 64 → ℝ) (B : Fin 32 → ℝ) (hA : ∀ d : Fin 64, g ⟨d.val, by omega⟩ = A d) (hB : ∀ d : Fin 32, g ⟨64 + d.val, by omega⟩ = B d)
    (h0 : ∀ d : Fin 128, 96 ≤ d.val → g d = 0) : ∑ d, g d = ∑ d, A d + ∑ d, B d := by
  have e1 : ∑ d, g d = ∑ d : Fin 64, g ⟨d.val, by omega⟩ + ∑ d : Fin 64, g ⟨64 + d.val, by omega⟩ := Fin.sum_univ_add (a := 64) (b := 64) g
  have e2 : ∑ d : Fin 64, g ⟨64 + d.val, by omega⟩ = ∑ d : Fin 32, g ⟨64 + d.val, by omega⟩ + ∑ d : Fin 32, g ⟨64 + (32 + d.val), by omega⟩ :=
    Fin.sum_univ_add (a := 32) (b := 32) fun d : Fin 64 => g ⟨64 + d.val, by omega⟩
  rw [e1, e2, Finset.sum_congr rfl fun d _ => hA d, Finset.sum_congr rfl fun d _ => hB d, Finset.sum_eq_zero (s := Finset.univ) (f := fun d : Fin 32 => g ⟨64 + (32 + d.val), by omega⟩) fun d _ => h0 _ (by show 96 ≤ 64 + (32 + d.val); omega), add_zero]

/-- The kernel's product of a padded key and a padded query. -/
theorem ks_eq (hf : Finite m c) (b : Fin 2) (h : Fin 8) (k t : Fin 8192) :
    ∑ d : Fin 128, ke m c b k h d * qe m c b t h d = ((sig0 m c b h k t / Real.log 2 : ℝ) : EReal) := by
  have e : ∀ d : Fin 128, ke m c b k h d * qe m c b t h d = ((if hd : d.val < 64 then (aq m c (ix4 b t h ⟨d.val, hd⟩) : EReal).toReal * sc * (ak m c (ix4 b k h ⟨d.val, hd⟩) : EReal).toReal / Real.log 2
      else if hd' : d.val < 96 then (ao m c (ix3 b k ⟨d.val - 64, by omega⟩) : EReal).toReal * ((ar m c (ix4 b t h ⟨d.val - 64, by omega⟩) : EReal).toReal * sc) / Real.log 2 else 0 : ℝ) : EReal) := by
    intro d
    unfold ke qe
    split_ifs with h1 h2
    · rw [(hf.k _).coe, (hf.q _).coe, kap_eq, ← EReal.coe_mul, ← EReal.coe_mul]
      simp only [EReal.toReal_coe]
      congr 1; ring
    · rw [(hf.s _).coe, (hf.r _).coe, kap_eq, ← EReal.coe_mul, ← EReal.coe_mul]
      simp only [EReal.toReal_coe]
      congr 1; ring
    · rw [zero_mul]; rfl
  rw [Finset.sum_congr rfl fun d _ => e d, ← Online.coe_sum']
  congr 1
  unfold sig0
  rw [add_div, Finset.sum_div, Finset.sum_div]
  refine sum_head _ _ _ (fun d => ?_) (fun d => ?_) (fun d hd => ?_)
  · rw [dif_pos d.isLt]
  · have h1 : ¬(64 + d.val < 64) := by omega
    have h2 : 64 + d.val < 96 := by omega
    have h3 : (⟨64 + d.val - 64, by omega⟩ : Fin 32) = d := Fin.ext (Nat.add_sub_cancel_left 64 d.val)
    simp only [h1, h2, dif_pos, dif_neg, not_false_eq_true, h3]
  · rw [dif_neg (by omega), dif_neg (by omega)]

/-! ### A point's trips -/

section
variable (hf : Finite m c) (b : Fin 2) (q : Fin 16) (h : Fin 8) (x : Fin 512) (t : Fin cfg0.N) (ht : t.val = 16 * b.val + q.val)
include hf ht

theorem dot_eq (n : Fin 16) (r x : Fin 512) : dot (slab7 (KB b (Kh m c)) n h) (Qx (iblk m c 0 t) h) r x = ((sig0 m c b h (pos n r) (pos q x) / Real.log 2 : ℝ) : EReal) := by
  rw [← ks_eq hf]
  unfold dot
  refine Finset.sum_congr rfl fun d _ => ?_
  rw [← Kh_apply, ← iblk_apply m c b q h d x t ht]
  rfl
/-- The scores of a trip, in base 2. -/
theorem Sc_eq (j : ℕ) (hj : j < q.val + 1) (r : Fin 512) :
    (Sc (Qx (iblk m c 0 t)) (KB b (Kh m c)) (fun h => dSc (slab7 (KB b (Kh m c)) q h) (Qx (iblk m c 0 t) h)) j h (ix2 r x) : EReal)
      = if (pos (kcf q j) r).val ≤ (pos q x).val then ((sig0 m c b h (pos (kcf q j) r) (pos q x) / Real.log 2 : ℝ) : EReal) else ⊥ := by
  cases j with
  | zero =>
    refine (dSc_apply _ _ r x).trans ?_
    rw [dot_eq hf b q h t ht]
    have e : (pos (kcf q 0) r).val ≤ (pos q x).val ↔ r.val ≤ x.val := by show 512 * q.val + r.val ≤ 512 * q.val + x.val ↔ _; omega
    simp only [e]; rfl
  | succ j =>
    refine (dotQ_apply _ _ r x).trans ?_
    rw [dot_eq hf b q h t ht, if_pos]; · rfl
    show 512 * (j % 16) + r.val ≤ 512 * q.val + x.val
    rw [Nat.mod_eq_of_lt (by omega)]; omega

theorem Sc_ne_top (j : ℕ) (r : Fin 512) :
    (Sc (Qx (iblk m c 0 t)) (KB b (Kh m c)) (fun h => dSc (slab7 (KB b (Kh m c)) q h) (Qx (iblk m c 0 t) h)) j h (ix2 r x) : EReal) ≠ ⊤ := by
  cases j with
  | zero =>
    refine (dSc_apply _ _ r x).trans_ne ?_
    rw [dot_eq hf b q h t ht]
    split_ifs
    · exact EReal.coe_ne_top _
    · exact bot_ne_top
  | succ j => refine (dotQ_apply _ _ r x).trans_ne ?_; rw [dot_eq hf b q h t ht]; exact EReal.coe_ne_top _
theorem Mx_isR (j : ℕ) :
    IsR (Mx (Qx (iblk m c 0 t)) (KB b (Kh m c)) (fun h => dMax (slab7 (KB b (Kh m c)) q h) (Qx (iblk m c 0 t) h)) j h (ix2 0 x)) := by
  cases j with
  | zero => exact dMax_isR _ _ x fun r x => ⟨_, dot_eq hf b q h t ht q r x⟩
  | succ j =>
    rw [show Mx _ _ _ (j + 1) h (ix2 0 x) = _ from rowMax_apply _ x]
    have e : ∀ r, IsR (dotQ (slab7 (KB b (Kh m c)) (cl j) h) (Qx (iblk m c 0 t) h) (ix2 r x)) := fun r => ⟨_, (dotQ_apply _ _ r x).trans (dot_eq hf b q h t ht (cl j) r x)⟩
    exact top_isR _ (fun r => (e r).ne_top) 0 (e 0)

/-- What a query's entry of the block comes to: its values weighted, relative to any real number. -/
theorem out_eq (d : Fin 64) (μ : ℝ) : (outAt m c t (ix2 ⟨64 * h.val + d.val, by omega⟩ x) : EReal)
    = ∑ k : Fin 8192, (av m c (ix4 b k h d) : EReal) * Ideal.div (Online.we (seen m c b h (pos q x) k) μ : EReal) (∑ k : Fin 8192, (Online.we (seen m c b h (pos q x) k) μ : EReal)) := by
  have hb : bt t.val = b := Fin.ext (by show t.val / 16 % 2 = b.val; rw [ht]; omega)
  have hq : qt t.val = q := Fin.ext (by show t.val % 16 = q.val; rw [ht]; omega)
  unfold outAt
  rw [hb, hq]
  refine (outOf_apply _ h d x).trans ?_
  unfold accOf
  rw [ac_run, ac_run]
  set S : ℕ → Fin 512 → EReal := fun j r => Sc (Qx (iblk m c 0 t)) (KB b (Kh m c)) (fun h => dSc (slab7 (KB b (Kh m c)) q h) (Qx (iblk m c 0 t) h)) j h (ix2 r x) with hS
  set M : ℕ → EReal := fun j => Mx (Qx (iblk m c 0 t)) (KB b (Kh m c)) (fun h => dMax (slab7 (KB b (Kh m c)) q h) (Qx (iblk m c 0 t) h)) j h (ix2 0 x) with hM
  obtain ⟨ν, hν⟩ := Online.rm_real M (fun j => Mx_isR hf b q h x t ht j) q.val
  have hne : ∀ j r, S j r ≠ ⊤ := fun j r => Sc_ne_top hf b q h x t ht j r
  rw [Online.ra_eq S M _ hne (fun j => Mx_isR hf b q h x t ht j) q.val ν hν, Online.ra_eq S M _ hne (fun j => Mx_isR hf b q h x t ht j) q.val ν hν]
  have hV : ∀ (j : ℕ) (r : Fin 512), (slab8 (VB b (Vh m c)) (kcf q j) h (ix2 ⟨d.val, by omega⟩ r) : EReal) = av m c (ix4 b (pos (kcf q j) r) h d) := fun j r => by
    refine (Vh_apply m c b (kcf q j) r h ⟨d.val, by omega⟩ (by show d.val < 65; omega)).trans ?_
    exact dif_pos d.isLt
  have hL : ∀ (j : ℕ) (r : Fin 512), (slab8 (VB b (Vh m c)) (kcf q j) h (ix2 64 r) : EReal) = 1 := fun j r => by
    refine (Vh_apply m c b (kcf q j) r h 64 (by decide)).trans ?_
    exact dif_neg (by decide)
  simp only [hV, hL]
  -- the weights in the other base
  have hW : ∀ j < q.val + 1, ∀ r, Online.w2 (S j r) ν = Real.exp (μ - ν * Real.log 2) * Online.we (seen m c b h (pos q x) (pos (kcf q j) r)) μ := fun j hj r => by
    rw [show S j r = _ from Sc_eq hf b q h x t ht j hj r]
    unfold seen
    split_ifs
    · exact Online.w2_we _ _ _ _ rfl
    · rw [Online.w2_bot, Online.we_bot, mul_zero]
  rw [← Finset.sum_product', ← Finset.sum_product']
  refine (Online.quot (Finset.range (q.val + 1) ×ˢ (Finset.univ : Finset (Fin 512))) (fun p => Online.w2 (S p.1 p.2) ν) (fun p => Online.we (seen m c b h (pos q x) (pos (kcf q p.1) p.2)) μ)
    (fun p => av m c (ix4 b (pos (kcf q p.1) p.2) h d)) (Real.exp (μ - ν * Real.log 2)) (Real.exp_pos _) (fun p hp => hW _ (Finset.mem_range.mp (Finset.mem_product.mp hp).1) _) (fun p _ => Online.we_nonneg _ _)
    ⟨(0, 0), Finset.mem_product.mpr ⟨Finset.mem_range.mpr (Nat.succ_pos _), Finset.mem_univ _⟩, ?_⟩).trans ?_
  · show 0 < Online.we (seen m c b h (pos q x) (pos q 0)) μ
    rw [seen_pos m c b h (pos q x) (pos q 0) (show 512 * q.val + 0 ≤ 512 * q.val + x.val by omega)]
    exact Online.we_pos _ _
  · have hz : ∀ n : Fin 16, q.val < n.val → ∀ r, Online.we (seen m c b h (pos q x) (pos n r)) μ = 0 := fun n hn r => by
      rw [seen_bot m c b h (pos q x) (pos n r) (show ¬(512 * n.val + r.val ≤ 512 * q.val + x.val) by omega), Online.we_bot]
    have hden : ∑ p ∈ Finset.range (q.val + 1) ×ˢ (Finset.univ : Finset (Fin 512)), (Online.we (seen m c b h (pos q x) (pos (kcf q p.1) p.2)) μ : EReal) = ∑ k : Fin 8192, (Online.we (seen m c b h (pos q x) k) μ : EReal) := by
      rw [sum_pos, Finset.sum_product]
      refine resum (fun n => ∑ r : Fin 512, (Online.we (seen m c b h (pos q x) (pos n r)) μ : EReal)) q fun n hn => Finset.sum_eq_zero fun r _ => ?_
      rw [hz n hn r]; rfl
    have hl : ∃ l : ℝ, 0 < l ∧ ∑ k : Fin 8192, (Online.we (seen m c b h (pos q x) k) μ : EReal) = (l : EReal) := by
      refine ⟨∑ k, Online.we (seen m c b h (pos q x) k) μ, Finset.sum_pos' (fun k _ => Online.we_nonneg _ _) ⟨pos q 0, Finset.mem_univ _, ?_⟩, (Online.coe_sum' _ _).symm⟩
      rw [seen_pos m c b h (pos q x) (pos q 0) (show 512 * q.val + 0 ≤ 512 * q.val + x.val by omega)]
      exact Online.we_pos _ _
    obtain ⟨l, hl0, hl⟩ := hl
    rw [hden, hl, sum_pos, Finset.sum_product]
    refine resum (fun n => ∑ r : Fin 512, (av m c (ix4 b (pos n r) h d) : EReal) * Ideal.div (Online.we (seen m c b h (pos q x) (pos n r)) μ : EReal) (l : EReal)) q fun n hn => Finset.sum_eq_zero fun r _ => ?_
    rw [hz n hn r, Online.div_real _ hl0, EReal.coe_zero, mul_zero, mul_zero]
end

end Attn

end
-- ==== Proof.RefValue.lean ====
module

public import proofs.«01_k».proof.Proof.Scores
public import proofs.«01_k».proof.Proof.Gen.ReferenceIdeal.Run
public import Idealize.ShloMosaic.Lib.Claim
public import Idealize.ShloMosaic.Lib.KernelVsHost
public import Idealize.ShloMosaic.Lib.IdealHost
public import Idealize.ShloMosaic.Lib.Pipeline.Value
public import Idealize.ShloMosaic.Lib.Pointwise.SelectCore

@[expose] public section

set_option maxRecDepth 16384

noncomputable section

/-! What the reference writes of a query: the values weighted by the exponentials of its scores. -/

namespace Attn.Ref

open Idealize.ShloMosaic.ValueIdx hiding ix0 ix1 ix2 ix3 ix4 eq_ix1 eq_ix2 eq_ix3 eq_ix4
open Idealize.ShloMosaic Idealize.ShloMosaic.TcCoe Idealize.ShloMosaic.Tactic Cert.ReferenceIdeal Cert.ReferenceIdeal.Gen

abbrev A4 := FVec Ideal S2x8192x8x64 .f32
abbrev B4 := FVec Ideal S2x8192x8x32 .f32
abbrev B3 := FVec Ideal S2x8192x32 .f32
abbrev T4 := FVec Ideal S2x8x8192x8192 .f32

/-! ### The reference's stages -/

/-- The two products whose sum is a score. -/
def content (q k : A4) : T4 :=
  Host.dotGeneral dot_S2x8192x8x64_S2x8192x8x64_S2x8x8192x8192_3_3_1_1_02_02 none (mulf q (broadcastInDim S2x8192x8x64 ![] bcast_S_S2x8192x8x64 (constant S_ .f32 0x3DD105EC#32))) k
def place (r : B4) (s : B3) : T4 :=
  transpose S2x8x8192x8192 [0, 3, 2, 1] (Host.dotGeneral dot_S2x8192x32_S2x8192x8x32_S2x8192x8192x8_2_3_1_12_0_0 none s (mulf r (broadcastInDim S2x8192x8x32 ![] bcast_S_S2x8192x8x32 (constant S_ .f32 0x3DD105EC#32)))) transposes_S2x8192x8192x8_S2x8x8192x8192_0_3_2_1
/-- A query sees a key. -/
def sees : IVec S2x8x8192x8192 1 :=
  broadcastInDim S2x8x8192x8192 ![0, 1, 2, 3] bcast_S1x1x8192x8192_S2x8x8192x8192_0_1_2_3 (broadcastInDim S1x1x8192x8192 ![2, 3] bcast_S8192x8192_S1x1x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0)))))
def scores (q : A4) (r : B4) (k : A4) (s : B3) : T4 :=
  select sees (addf (content q k) (place r s)) (broadcastInDim S2x8x8192x8192 ![] bcast_S_S2x8x8192x8192 (id (constant S_ .f32 0xFF800000#32)))
def greatest (X : T4) : FVec Ideal S2x8x8192 .f32 :=
  maximumf (broadcastInDim S2x8x8192 ![] bcast_S_S2x8x8192 (constant S_ .f32 0xFF800000#32)) (Host.reduce FloatOps.maximumf X (constant S_ .f32 0xFF800000#32) reducesTo_S2x8x8192x8192_S2x8x8192_d3 h_S_)
/-- One number per query, for each of its keys. -/
def spread (y : FVec Ideal S2x8x8192 .f32) : T4 :=
  broadcastInDim S2x8x8192x8192 ![0, 1, 2, 3] bcast_S2x8x8192x1_S2x8x8192x8192_0_1_2_3 (broadcastInDim S2x8x8192x1 ![0, 1, 2] bcast_S2x8x8192_S2x8x8192x1_0_1_2 y)
def powers (X : T4) : T4 := Host.exp (subf X (spread (greatest X)))
def weights (X : T4) : T4 :=
  Host.divf (powers X) (spread (Host.reduceAdd (powers X) (constant S_ .f32 0x00000000#32) reducesTo_S2x8x8192x8192_S2x8x8192_d3 h_S_))
def columns (v : A4) (W : T4) : FVec Ideal S512x16384 .f32 :=
  transpose S512x16384 [1, 0] (shapeCast S16384x512 (transpose S2x8192x8x64 [0, 3, 1, 2] (Host.dotGeneral dot_S2x8192x8x64_S2x8x8192x8192_S2x8x64x8192_1_3_3_2_02_01 none v W) transposes_S2x8x64x8192_S2x8192x8x64_0_3_1_2) shapeCasts_S2x8192x8x64_S16384x512) transposes_S16384x512_S512x16384_1_0
def result (v : A4) (W : T4) : FVec Ideal S512x16384 .bf16 := truncf .bf16 (columns v W) bitsLt_bf16_f32

theorem res_eq (m : (ℓ : Loc nD τ sig) → Buf (Elt Ideal) ℓ) (c : Dev nD) : Cert.ReferenceIdeal.Value.res_main_v31 m c
    = result (m ((c.tc : Thread nD τ).loc main_arg4)) (weights (scores (m ((c.tc : Thread nD τ).loc main_arg0)) (m ((c.tc : Thread nD τ).loc main_arg1)) (m ((c.tc : Thread nD τ).loc main_arg2)) (m ((c.tc : Thread nD τ).loc main_arg3)))) := rfl

/-! ### The products at an entry -/

theorem content_apply (q k : A4) (b : Fin 2) (h : Fin 8) (t kk : Fin 8192) :
    (content q k (ix4 b h t kk) : EReal) = ∑ d : Fin 64, (q (ix4 b t h d) * (sc : EReal)) * k (ix4 b kk h d) := by
  unfold content
  show FloatOps.dotGeneral _ none _ _ k (ix4 b h t kk) = _
  rw [Ideal.dotGeneral_apply, ← Equiv.sum_comp (contrEquiv1 dot_S2x8192x8x64_S2x8192x8x64_S2x8x8192x8192_3_3_1_1_02_02 64 rfl rfl).symm]
  refine Finset.sum_congr rfl fun d _ => ?_
  have cv := contrEquiv1_symm_val dot_S2x8192x8x64_S2x8192x8x64_S2x8x8192x8192_3_3_1_1_02_02 64 rfl rfl d
  have l : DotDims.lhsIdx dot_S2x8192x8x64_S2x8192x8x64_S2x8x8192x8192_3_3_1_1_02_02 (ix4 b h t kk) ((contrEquiv1 dot_S2x8192x8x64_S2x8192x8x64_S2x8x8192x8192_3_3_1_1_02_02 64 rfl rfl).symm d) = ix4 b t h d := by
    funext a; apply Fin.ext
    match a with | ⟨0, _⟩ => rfl | ⟨1, _⟩ => rfl | ⟨2, _⟩ => rfl | ⟨3, _⟩ => exact cv
  have r : DotDims.rhsIdx dot_S2x8192x8x64_S2x8192x8x64_S2x8x8192x8192_3_3_1_1_02_02 (ix4 b h t kk) ((contrEquiv1 dot_S2x8192x8x64_S2x8192x8x64_S2x8x8192x8192_3_3_1_1_02_02 64 rfl rfl).symm d) = ix4 b kk h d := by
    funext a; apply Fin.ext
    match a with | ⟨0, _⟩ => rfl | ⟨1, _⟩ => rfl | ⟨2, _⟩ => rfl | ⟨3, _⟩ => exact cv
  rw [l, r, ← sc_eq]; rfl

theorem place_apply (r : B4) (s : B3) (b : Fin 2) (h : Fin 8) (t kk : Fin 8192) :
    (place r s (ix4 b h t kk) : EReal) = ∑ d : Fin 32, s (ix3 b kk d) * (r (ix4 b t h d) * (sc : EReal)) := by
  unfold place
  refine (transpose_apply _ _ _ _ (ix4 b kk t h) fun a => ?_).trans ?_
  · match a with | ⟨0, _⟩ => rfl | ⟨1, _⟩ => rfl | ⟨2, _⟩ => rfl | ⟨3, _⟩ => rfl
  show FloatOps.dotGeneral _ none _ s _ (ix4 b kk t h) = _
  rw [Ideal.dotGeneral_apply, ← Equiv.sum_comp (contrEquiv1 dot_S2x8192x32_S2x8192x8x32_S2x8192x8192x8_2_3_1_12_0_0 32 rfl rfl).symm]
  refine Finset.sum_congr rfl fun d _ => ?_
  have cv := contrEquiv1_symm_val dot_S2x8192x32_S2x8192x8x32_S2x8192x8192x8_2_3_1_12_0_0 32 rfl rfl d
  have l : DotDims.lhsIdx dot_S2x8192x32_S2x8192x8x32_S2x8192x8192x8_2_3_1_12_0_0 (ix4 b kk t h) ((contrEquiv1 dot_S2x8192x32_S2x8192x8x32_S2x8192x8192x8_2_3_1_12_0_0 32 rfl rfl).symm d) = ix3 b kk d := by
    funext a; apply Fin.ext
    match a with | ⟨0, _⟩ => rfl | ⟨1, _⟩ => rfl | ⟨2, _⟩ => exact cv
  have r : DotDims.rhsIdx dot_S2x8192x32_S2x8192x8x32_S2x8192x8192x8_2_3_1_12_0_0 (ix4 b kk t h) ((contrEquiv1 dot_S2x8192x32_S2x8192x8x32_S2x8192x8192x8_2_3_1_12_0_0 32 rfl rfl).symm d) = ix4 b t h d := by
    funext a; apply Fin.ext
    match a with | ⟨0, _⟩ => rfl | ⟨1, _⟩ => rfl | ⟨2, _⟩ => rfl | ⟨3, _⟩ => exact cv
  rw [l, r, ← sc_eq]; rfl

theorem result_apply (v : A4) (W : T4) (b : Fin 2) (h : Fin 8) (t : Fin 8192) (d : Fin 64) :
    (result v W (ix2 ⟨64 * h.val + d.val, by omega⟩ ⟨8192 * b.val + t.val, by omega⟩) : EReal) = ∑ k : Fin 8192, v (ix4 b k h d) * W (ix4 b h t k) := by
  show columns v W _ = _
  unfold columns
  refine (transpose_apply _ _ _ _ (ix2 ⟨8192 * b.val + t.val, by omega⟩ ⟨64 * h.val + d.val, by omega⟩) fun a => ?_).trans ((shapeCast_apply _ _ _ (ix4 b t h d) ?_).trans ((transpose_apply _ _ _ _ (ix4 b h d t) fun a => ?_).trans ?_))
  · match a with | ⟨0, _⟩ => rfl | ⟨1, _⟩ => rfl
  · rw [Shape.rowMajor_val_four, Shape.rowMajor_val_two]
    show ((b.val * 8192 + t.val) * 8 + h.val) * 64 + d.val = (8192 * b.val + t.val) * 512 + (64 * h.val + d.val)
    omega
  · match a with | ⟨0, _⟩ => rfl | ⟨1, _⟩ => rfl | ⟨2, _⟩ => rfl | ⟨3, _⟩ => rfl
  show FloatOps.dotGeneral _ none _ v W (ix4 b h d t) = _
  rw [Ideal.dotGeneral_apply, ← Equiv.sum_comp (contrEquiv1 dot_S2x8192x8x64_S2x8x8192x8192_S2x8x64x8192_1_3_3_2_02_01 8192 rfl rfl).symm]
  refine Finset.sum_congr rfl fun k _ => ?_
  have cv := contrEquiv1_symm_val dot_S2x8192x8x64_S2x8x8192x8192_S2x8x64x8192_1_3_3_2_02_01 8192 rfl rfl k
  have l : DotDims.lhsIdx dot_S2x8192x8x64_S2x8x8192x8192_S2x8x64x8192_1_3_3_2_02_01 (ix4 b h d t) ((contrEquiv1 dot_S2x8192x8x64_S2x8x8192x8192_S2x8x64x8192_1_3_3_2_02_01 8192 rfl rfl).symm k) = ix4 b k h d := by
    funext a; apply Fin.ext
    match a with | ⟨0, _⟩ => rfl | ⟨1, _⟩ => exact cv | ⟨2, _⟩ => rfl | ⟨3, _⟩ => rfl
  have r : DotDims.rhsIdx dot_S2x8192x8x64_S2x8x8192x8192_S2x8x64x8192_1_3_3_2_02_01 (ix4 b h d t) ((contrEquiv1 dot_S2x8192x8x64_S2x8x8192x8192_S2x8x64x8192_1_3_3_2_02_01 8192 rfl rfl).symm k) = ix4 b h t k := by
    funext a; apply Fin.ext
    match a with | ⟨0, _⟩ => rfl | ⟨1, _⟩ => rfl | ⟨2, _⟩ => rfl | ⟨3, _⟩ => exact cv
  rw [l, r]

/-! ### The weights at an entry -/

theorem word_le (a b : ℕ) (ha : a < 8192) (hb : b < 8192) : (BitVec.ofNat 32 a).sle (BitVec.ofNat 32 b) = decide (a ≤ b) := by
  have h : ∀ n, n < 8192 → (BitVec.ofNat 32 n).toInt = n := fun n hn => by
    rw [BitVec.toInt_eq_toNat_of_lt] <;> rw [BitVec.toNat_ofNat, Nat.mod_eq_of_lt (by omega)]; omega
  rw [BitVec.sle_eq_decide, h a ha, h b hb]
  simp

theorem sees_apply (b : Fin 2) (h : Fin 8) (t k : Fin 8192) : sees (ix4 b h t k) = if k.val ≤ t.val then 1#1 else 0#1 := by
  unfold sees
  refine (broadcastInDim_apply _ _ _ _ (ix4 0 0 t k) fun a => ?_).trans ((broadcastInDim_apply _ _ _ _ (ix2 t k) fun a => ?_).trans ?_)
  · match a with | ⟨0, _⟩ => rfl | ⟨1, _⟩ => rfl | ⟨2, _⟩ => rfl | ⟨3, _⟩ => rfl
  · match a with | ⟨0, _⟩ => rfl | ⟨1, _⟩ => rfl
  show IntOp.cmpi .sle _ _ = _
  rw [broadcastInDim_apply _ _ _ (ix2 t k) (ix2 0 k) (fun a => by match a with | ⟨0, _⟩ => rfl | ⟨1, _⟩ => rfl),
    broadcastInDim_apply _ _ _ (ix2 0 k) (ix1 k) (fun a => by match a with | ⟨0, _⟩ => rfl),
    broadcastInDim_apply _ _ _ (ix2 t k) (ix2 t 0) (fun a => by match a with | ⟨0, _⟩ => rfl | ⟨1, _⟩ => rfl),
    broadcastInDim_apply _ _ _ (ix2 t 0) (ix1 t) (fun a => by match a with | ⟨0, _⟩ => rfl), iotaInDim_apply, iotaInDim_apply]
  show IntOp.cmpi .sle (BitVec.ofNat 32 k.val) (BitVec.ofNat 32 t.val) = _
  unfold IntOp.cmpi
  simp only [word_le _ _ k.isLt t.isLt]
  by_cases e : k.val ≤ t.val <;> simp [e]

theorem spread_apply (y : FVec Ideal S2x8x8192 .f32) (b : Fin 2) (h : Fin 8) (t k : Fin 8192) : spread y (ix4 b h t k) = y (ix3 b h t) := by
  unfold spread
  refine (broadcastInDim_apply _ _ _ _ (ix4 b h t 0) fun a => ?_).trans (broadcastInDim_apply _ _ _ _ (ix3 b h t) fun a => ?_)
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

theorem reduces_keys : S2x8x8192x8192.Reduces [3] S2x8x8192 := by decide

theorem lift_keys (b : Fin 2) (h : Fin 8) (t k : Fin 8192) : reduces_keys.lift (ix3 b h t) k = ix4 b h t k := by
  funext a; match a with | ⟨0, _⟩ => rfl | ⟨1, _⟩ => rfl | ⟨2, _⟩ => rfl | ⟨3, _⟩ => rfl

theorem max_at {s : Shape} (x y : FVec Ideal s .f32) (i : s.Idx) : (maximumf x y i : EReal) = max (x i : EReal) (y i) := rfl

theorem greatest_apply (X : T4) (b : Fin 2) (h : Fin 8) (t : Fin 8192) : (greatest X (ix3 b h t) : EReal) = top fun k : Fin 8192 => X (ix4 b h t k) := by
  unfold greatest
  rw [max_at, broadcastInDim_scalar_apply, show (constant (F := Ideal) S_ .f32 0xFF800000#32 ValueIdx.ix0 : EReal) = ⊥ from ofBits_ninf, max_eq_right bot_le]
  refine (Host.reduce_eq_fold_single FloatOps.maximumf X _ _ reduces_keys _ _).trans ?_
  rw [show (constant (F := Ideal) S_ .f32 0xFF800000#32 (Shape.Idx.first h_S_) : EReal) = ⊥ from ofBits_ninf]
  unfold top
  show Finset.fold max ⊥ _ _ = _
  refine congrArg (fun f => Finset.fold max (⊥ : EReal) f Finset.univ) (funext fun k => ?_)
  exact congrArg X (lift_keys b h t k)

theorem powers_apply (X : T4) (b : Fin 2) (h : Fin 8) (t k : Fin 8192) : (powers X (ix4 b h t k) : EReal) = Ideal.exp (X (ix4 b h t k) - top fun k : Fin 8192 => X (ix4 b h t k)) := by
  rw [← greatest_apply, ← spread_apply (greatest X) b h t k]; rfl

theorem weights_apply (X : T4) (b : Fin 2) (h : Fin 8) (t k : Fin 8192) :
    (weights X (ix4 b h t k) : EReal) = Ideal.div (powers X (ix4 b h t k)) (∑ k : Fin 8192, (powers X (ix4 b h t k) : EReal)) := by
  unfold weights
  rw [hostDivf_apply, spread_apply, hostReduceAdd_apply, Ideal.hostReduceAdd_single _ reduces_keys, show (constant (F := Ideal) S_ .f32 0x00000000#32 (Shape.Idx.first h_S_) : EReal) = 0 from Ideal.ofBits_zero_f32, zero_add]
  refine congrArg _ (Finset.sum_congr rfl fun k _ => ?_)
  exact congrArg (powers X) (lift_keys b h t k)

/-! ### Of real queries and keys -/

section
variable (q : A4) (r : B4) (k : A4) (s : B3) (hq : ∀ i, IsR (q i)) (hr : ∀ i, IsR (r i)) (hk : ∀ i, IsR (k i)) (hs : ∀ i, IsR (s i))
include hq hr hk hs

theorem scores_apply (b : Fin 2) (h : Fin 8) (t kk : Fin 8192) : (scores q r k s (ix4 b h t kk) : EReal)
    = if kk.val ≤ t.val then ((∑ d : Fin 64, ((q (ix4 b t h d) : EReal).toReal * sc) * (k (ix4 b kk h d) : EReal).toReal
      + ∑ d : Fin 32, (s (ix3 b kk d) : EReal).toReal * ((r (ix4 b t h d) : EReal).toReal * sc) : ℝ) : EReal) else ⊥ := by
  have e1 : (content q k (ix4 b h t kk) : EReal) = ((∑ d : Fin 64, ((q (ix4 b t h d) : EReal).toReal * sc) * (k (ix4 b kk h d) : EReal).toReal : ℝ) : EReal) := by
    rw [content_apply, Online.coe_sum']
    refine Finset.sum_congr rfl fun d _ => ?_
    rw [(hq _).coe, (hk _).coe, ← EReal.coe_mul, ← EReal.coe_mul]; rfl
  have e2 : (place r s (ix4 b h t kk) : EReal) = ((∑ d : Fin 32, (s (ix3 b kk d) : EReal).toReal * ((r (ix4 b t h d) : EReal).toReal * sc) : ℝ) : EReal) := by
    rw [place_apply, Online.coe_sum']
    refine Finset.sum_congr rfl fun d _ => ?_
    rw [(hr _).coe, (hs _).coe, ← EReal.coe_mul, ← EReal.coe_mul]; rfl
  unfold scores
  show (if sees (ix4 b h t kk) = 1#1 then (content q k (ix4 b h t kk) + place r s (ix4 b h t kk) : EReal) else _) = _
  rw [sees_apply, e1, e2, ← EReal.coe_add]
  by_cases hle : kk.val ≤ t.val
  · rw [if_pos hle, if_pos hle, if_pos rfl]
  · rw [if_neg hle, if_neg hle, if_neg (by decide)]
    exact (broadcastInDim_scalar_apply _ _ _).trans ofBits_ninf

end

/-- The result at a query, its scores being real or `-∞`. -/
theorem result_weights (v : A4) (X : T4) (b : Fin 2) (h : Fin 8) (t : Fin 8192) (d : Fin 64) (hX : ∀ k, (X (ix4 b h t k) : EReal) ≠ ⊤) (hR : IsR (X (ix4 b h t t))) :
    ∃ μ : ℝ, (result v (weights X) (ix2 ⟨64 * h.val + d.val, by omega⟩ ⟨8192 * b.val + t.val, by omega⟩) : EReal)
      = ∑ k : Fin 8192, (v (ix4 b k h d) : EReal) * Ideal.div (Online.we (X (ix4 b h t k)) μ : EReal) (∑ k : Fin 8192, (Online.we (X (ix4 b h t k)) μ : EReal)) := by
  obtain ⟨μ, hμ⟩ := top_isR (fun k : Fin 8192 => (X (ix4 b h t k) : EReal)) hX t hR
  refine ⟨μ, ?_⟩
  have e : ∀ k, (powers X (ix4 b h t k) : EReal) = (Online.we (X (ix4 b h t k)) μ : EReal) := fun k => by
    rw [powers_apply, hμ]; exact Online.exp_eq (hX k) μ
  rw [result_apply]
  simp only [weights_apply, e]

end Attn.Ref

end
-- ==== Proof.Algebraic.lean ====
module

public import proofs.«01_k».proof.Defs
public import proofs.«01_k».proof.Proof.RefValue

@[expose] public section

set_option maxRecDepth 16384

noncomputable section

/-! The kernel's array and the reference's are the same, of real queries and keys. -/

namespace Attn

open Idealize.ShloMosaic.ValueIdx hiding ix0 ix1 ix2 ix3 ix4 eq_ix1 eq_ix2 eq_ix3 eq_ix4
open Idealize.ShloMosaic Idealize.ShloMosaic.TcCoe Idealize.SL Idealize.SL.Sem

theorem preFacts : Cert.Pre_finite_scores.Facts where
  bcast_S_S2x8192x8x64 := by decide
  bcast_S_S2x8192x8x32 := by decide
  bcast_S_S2x8192x32 := by decide

/-- A number whose absolute value is below `∞` is real. -/
theorem isR_of_lt {s : Shape} (x : FVec Ideal s .f32) (h : (⟨0, ![]⟩ : Shape).BroadcastsInDim s ![])
    (e : cmpf .olt (Host.absf x) (broadcastInDim s ![] h (constant (F := Ideal) (⟨0, ![]⟩ : Shape) .f32 0x7F800000#32)) = fun _ => 1#1) (i : s.Idx) : IsR (x i) := by
  have e' := congrFun e i
  have ht : (broadcastInDim s ![] h (constant (F := Ideal) (⟨0, ![]⟩ : Shape) .f32 0x7F800000#32) i : EReal) = ⊤ := by
    rw [broadcastInDim_scalar_apply]
    show Ideal.ofBits .f32 0x7F800000#32 = ⊤
    simp [Ideal.ofBits, Ideal.ieee]
  have hc : Ideal.cmp .olt (max (x i : EReal) (-(x i : EReal))) (broadcastInDim s ![] h (constant (F := Ideal) (⟨0, ![]⟩ : Shape) .f32 0x7F800000#32) i) = 1#1 := e'
  rw [ht] at hc
  have hl : max (x i : EReal) (-(x i : EReal)) < ⊤ := by
    by_contra hn
    simp [Ideal.cmp, hn] at hc
  have h1 : (x i : EReal) ≠ ⊤ := (lt_of_le_of_lt (le_max_left _ _) hl).ne
  have h2 : (x i : EReal) ≠ ⊥ := fun hb => by
    have := lt_of_le_of_lt (le_max_right (x i : EReal) (-(x i : EReal))) hl
    rw [hb] at this
    simp at this
  exact ⟨(x i : EReal).toReal, (EReal.coe_toReal h1 h2).symm⟩

theorem finite_of_pre (m : (ℓ : Loc Cert.KernelIdeal.nD Cert.KernelIdeal.τ Cert.KernelIdeal.sig) → Buf (Elt Ideal) ℓ)
    (h : Cert.Pre_KernelIdeal_finite_scores (hPre_finite_scores := preFacts) m) (c : Dev Cert.KernelIdeal.nD) : Finite m c where
  q := isR_of_lt (aq m c) _ (h c).1
  r := isR_of_lt (ar m c) _ (h c).2.1
  k := isR_of_lt (ak m c) _ (h c).2.2.1
  s := isR_of_lt (ao m c) _ (h c).2.2.2

theorem scores_eq (m : (ℓ : Loc Cert.KernelIdeal.nD Cert.KernelIdeal.τ Cert.KernelIdeal.sig) → Buf (Elt Ideal) ℓ) (c : Dev Cert.KernelIdeal.nD) (hf : Finite m c)
    (b : Fin 2) (h : Fin 8) (t k : Fin 8192) : (Ref.scores (aq m c) (ar m c) (ak m c) (ao m c) (ix4 b h t k) : EReal) = seen m c b h t k :=
  Ref.scores_apply _ _ _ _ hf.q hf.r hf.k hf.s b h t k

theorem entry_eq (m : (ℓ : Loc Cert.KernelIdeal.nD Cert.KernelIdeal.τ Cert.KernelIdeal.sig) → Buf (Elt Ideal) ℓ) (c : Dev Cert.KernelIdeal.nD) (hf : Finite m c)
    (b : Fin 2) (q : Fin 16) (x : Fin 512) (h : Fin 8) (d : Fin 64) (t : Fin Cert.KernelIdeal.cfg0.N) (ht : t.val = 16 * b.val + q.val) :
    (outAt m c t (ix2 ⟨64 * h.val + d.val, by omega⟩ x) : EReal)
      = Ref.result (av m c) (Ref.weights (Ref.scores (aq m c) (ar m c) (ak m c) (ao m c))) (ix2 ⟨64 * h.val + d.val, by omega⟩ ⟨8192 * b.val + (pos q x).val, by omega⟩) := by
  obtain ⟨μ, hμ⟩ := Ref.result_weights (av m c) (Ref.scores (aq m c) (ar m c) (ak m c) (ao m c)) b h (pos q x) d
    (fun k => by
      rw [scores_eq m c hf]
      unfold seen
      split_ifs
      · exact EReal.coe_ne_top _
      · exact bot_ne_top)
    ⟨_, (scores_eq m c hf b h (pos q x) (pos q x)).trans (seen_pos m c b h (pos q x) (pos q x) le_rfl)⟩
  rw [hμ, out_eq hf b q h x t ht d μ]
  simp only [scores_eq m c hf]

theorem arrays_eq (m : (ℓ : Loc Cert.KernelIdeal.nD Cert.KernelIdeal.τ Cert.KernelIdeal.sig) → Buf (Elt Ideal) ℓ) (c : Dev Cert.KernelIdeal.nD) (hf : Finite m c) :
    outArr m c = Ref.result (av m c) (Ref.weights (Ref.scores (aq m c) (ar m c) (ak m c) (ao m c))) := by
  funext i
  have h0 : (i 0).val < 512 := (i 0).isLt
  have h1 : (i 1).val < 16384 := (i 1).isLt
  have hb : (i 1).val / 8192 < 2 := by omega
  have hq : (i 1).val / 512 % 16 < 16 := by omega
  have hx : (i 1).val % 512 < 512 := by omega
  have hh : (i 0).val / 64 < 8 := by omega
  have hd : (i 0).val % 64 < 64 := by omega
  have hN : (i 1).val / 512 < Cert.KernelIdeal.cfg0.N := by show _ < 32; omega
  have e := entry_eq m c hf ⟨(i 1).val / 8192, hb⟩ ⟨(i 1).val / 512 % 16, hq⟩ ⟨(i 1).val % 512, hx⟩ ⟨(i 0).val / 64, hh⟩ ⟨(i 0).val % 64, hd⟩ ⟨(i 1).val / 512, hN⟩
    (by show (i 1).val / 512 = 16 * ((i 1).val / 8192) + (i 1).val / 512 % 16; omega)
  have r : (⟨64 * ((i 0).val / 64) + (i 0).val % 64, by omega⟩ : Fin 512) = i 0 := Fin.ext (by show 64 * ((i 0).val / 64) + (i 0).val % 64 = (i 0).val; omega)
  have s : (ix2 (⟨64 * ((i 0).val / 64) + (i 0).val % 64, by omega⟩ : Fin 512) (⟨8192 * ((i 1).val / 8192) + (512 * ((i 1).val / 512 % 16) + (i 1).val % 512), by omega⟩ : Fin 16384) : Cert.ReferenceIdeal.S512x16384.Idx) = i := by
    funext a
    match a with
    | ⟨0, _⟩ => exact r
    | ⟨1, _⟩ => exact Fin.ext (by show 8192 * ((i 1).val / 8192) + (512 * ((i 1).val / 512 % 16) + (i 1).val % 512) = (i 1).val; omega)
  refine Eq.trans ?_ (e.trans (congrArg _ s))
  unfold outArr
  exact congrArg (fun z => outAt m c _ (ix2 z _)) r.symm

end Attn

namespace Cert.Proof

open Idealize.ShloMosaic Idealize.ShloMosaic.TcCoe Idealize.SL Idealize.SL.Sem

theorem algebraic : Cert.algebraic_KernelIdeal_ReferenceIdeal_pre_finite_scores (hPre_finite_scores := Attn.preFacts) := fun m g m' g' hp ha =>
  ⟨fun c => Attn.outArr m c, Attn.run_out m g, (θ_run Cert.ReferenceIdeal.defs _ _).mono (fun r h c => by
    refine ⟨(h c).1.trans ?_, (h c).2⟩
    rw [Attn.Ref.res_eq, (ha c).1, (ha c).2.1, (ha c).2.2.1, (ha c).2.2.2.1, (ha c).2.2.2.2]
    exact (Attn.arrays_eq m c (Attn.finite_of_pre m hp c)).symm) (Cert.ReferenceIdeal.Value.run m' g')⟩

end Cert.Proof

end
-- ==== Proof.Claims.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame
public import proofs.«01_k».proof.Proof.Bits.Frame
public import proofs.«01_k».proof.Proof.Algebraic
public import Idealize.ShloMosaic.Adequacy
public import Idealize.ShloMosaic.Init

@[expose] public section

noncomputable section

namespace Cert.Proof

open Idealize.ShloMosaic Idealize.ShloMosaic.TcCoe
open Idealize.SL Idealize.SL.Sem

theorem kernel : Cert.quiescent_Kernel := fun m ρ _ => AttnBits.frame_main (F := Bits) m ρ

theorem kernelIdeal : Cert.quiescent_KernelIdeal := fun m ρ _ => Attn.frame_main (F := Ideal) m ρ

theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

theorem kernelIdeal_pre : Cert.quiescent_KernelIdeal_pre_finite_scores (hPre_finite_scores := Attn.preFacts) := fun m ρ _ => kernelIdeal m ρ trivial

theorem referenceIdeal_pre : Cert.quiescent_ReferenceIdeal_pre_finite_scores (hPre_finite_scores := Attn.preFacts) := fun m ρ _ => referenceIdeal m ρ trivial

theorem preserves : Cert.preserves_Kernel_KernelIdeal := IdealRules.named_const.statement _ _ _ _ _ rfl

end Cert.Proof

end
-- ==== Proof.Mlp.Body.lean ====
module

public import proofs.«01_k».proof.Proof.KernelValue
public import proofs.«01_k».proof.Proof.Gen.Kernel2Ideal.Value
public import Idealize.ShloMosaic.Lib.Claim
public import Idealize.ShloMosaic.Lib.KernelVsHost
public import Idealize.ShloMosaic.Lib.IdealHost
public import Idealize.ShloMosaic.Lib.Pipeline.Value
public import Idealize.ShloMosaic.Lib.Pipeline.ValueKit

@[expose] public section

set_option maxRecDepth 16384

noncomputable section

/-! The feed-forward layer of one row, and the kernel's block as that row by row. -/

namespace Mlp

open Idealize.ShloMosaic Idealize.ShloMosaic.TcCoe

/-! ### One row -/

/-- The mean square of a row, with the small constant added. -/
def ms (v : Fin 1024 → EReal) : EReal :=
  Ideal.div (∑ k, v k * v k) (FloatOps.ofBits (F := Ideal) .f32 0x44800000#32) + FloatOps.ofBits (F := Ideal) .f32 0x358637BD#32
/-- A row normalised by its root mean square and scaled. -/
def nrm (v g : Fin 1024 → EReal) (j : Fin 1024) : EReal := v j * Ideal.rsqrt (ms v) * g j
/-- The squared positive part of a hidden unit. -/
def hid {N : ℕ} (u : Fin 1024 → EReal) (w : Fin 1024 → Fin N → EReal) (f : Fin N) : EReal := max (∑ k, u k * w k f) 0 * max (∑ k, u k * w k f) 0
/-- The row plus its feed-forward update. -/
def upd (h g : Fin 1024 → EReal) (w1 : Fin 1024 → Fin 4096 → EReal) (w2 : Fin 4096 → Fin 1024 → EReal) (j : Fin 1024) : EReal :=
  h j + ∑ f : Fin 4096, hid (nrm h g) w1 f * w2 f j
/-- What the layer makes of a row. -/
def row (h g : Fin 1024 → EReal) (w1 : Fin 1024 → Fin 4096 → EReal) (w2 : Fin 4096 → Fin 1024 → EReal) (e : Fin 1024 → EReal) : Fin 1024 → EReal :=
  nrm (upd h g w1 w2) e

/-- Hidden unit `f` of slice `n`. -/
def unit (n : Fin 4) (f : Fin 1024) : Fin 4096 := ⟨1024 * n.val + f.val, by omega⟩
theorem sum_unit (g : Fin 4096 → EReal) : ∑ k, g k = ∑ n : Fin 4, ∑ f : Fin 1024, g (unit n f) := by
  rw [← Fintype.sum_prod_type' (f := fun n f => g (unit n f))]
  refine (Equiv.sum_comp (finProdFinEquiv (m := 4) (n := 1024)) g).symm.trans (Finset.sum_congr rfl fun p _ => ?_)
  exact congrArg g (Fin.ext (by show p.2.val + 1024 * p.1.val = 1024 * p.1.val + p.2.val; omega))

/-- The update, slice after slice. -/
theorem upd_slices (h g : Fin 1024 → EReal) (w1 : Fin 1024 → Fin 4096 → EReal) (w2 : Fin 4096 → Fin 1024 → EReal) (j : Fin 1024) :
    upd h g w1 w2 j = h j + (∑ f, hid (nrm h g) w1 (unit 0 f) * w2 (unit 0 f) j) + (∑ f, hid (nrm h g) w1 (unit 1 f) * w2 (unit 1 f) j)
      + (∑ f, hid (nrm h g) w1 (unit 2 f) * w2 (unit 2 f) j) + ∑ f, hid (nrm h g) w1 (unit 3 f) * w2 (unit 3 f) j := by
  unfold upd
  rw [sum_unit, Fin.sum_univ_four, ← add_assoc, ← add_assoc, ← add_assoc]

end Mlp

namespace Mlp

open Idealize.ShloMosaic.ValueIdx hiding ix0 ix1 ix2 ix3 ix4 eq_ix1 eq_ix2 eq_ix3 eq_ix4
open Idealize.ShloMosaic Idealize.ShloMosaic.TcCoe Idealize.ShloMosaic.Tactic Cert.Kernel2Ideal Cert.Kernel2Ideal.Gen

/-! ### The body's stages -/

/-- The reciprocal root mean square of each row of a block. -/
def scale (Y : FVec Ideal S512x1024 .f32) : FVec Ideal S512x1 .f32 :=
  rsqrt (addf (divf (shapeCast S512x1 (multiReduction .add [1] S512 (mulf Y Y) 0x00000000#32 reduces_S512x1024_S512 (.inl rfl) rfl) shapeCasts_S512_S512x1) (broadcast S512x1 (Scalar.ofBits .f32 0x44800000#32))) (broadcast S512x1 (Scalar.ofBits .f32 0x358637BD#32)))
def nrmB (Y : FVec Ideal S512x1024 .f32) (G : FVec Ideal S1x1024 .f32) : FVec Ideal S512x1024 .f32 := k0_pay1 Y G (scale Y)
def hidB (U : FVec Ideal S512x1024 .bf16) (W : FVec Ideal S1024x1024 .f32) : FVec Ideal S512x1024 .bf16 :=
  truncf .bf16 (mulf (maximumf (matmul dot_S512x1024_S1024x1024_S512x1024_1_0_0_1_n_n none U (truncf .bf16 (shapeCast S1024x1024 W shapeCasts_S1024x1024_S1024x1024) bitsLt_bf16_f32) (constant S512x1024 .f32 0x00000000#32)) (broadcast S512x1024 (Scalar.ofBits .f32 0x00000000#32))) (maximumf (matmul dot_S512x1024_S1024x1024_S512x1024_1_0_0_1_n_n none U (truncf .bf16 (shapeCast S1024x1024 W shapeCasts_S1024x1024_S1024x1024) bitsLt_bf16_f32) (constant S512x1024 .f32 0x00000000#32)) (broadcast S512x1024 (Scalar.ofBits .f32 0x00000000#32)))) bitsLt_bf16_f32
def outB (A : FVec Ideal S512x1024 .bf16) (W : FVec Ideal S1024x1024 .f32) : FVec Ideal S512x1024 .f32 :=
  matmul dot_S512x1024_S1024x1024_S512x1024_1_0_0_1_n_n none A (truncf .bf16 (shapeCast S1024x1024 W shapeCasts_S1024x1024_S1024x1024) bitsLt_bf16_f32) (constant S512x1024 .f32 0x00000000#32)
/-- The block's rows with their updates added, slice after slice. -/
def updB (X : FVec Ideal S512x1024 .f32) (U : FVec Ideal S512x1024 .bf16) (A0 B0 A1 B1 A2 B2 A3 B3 : FVec Ideal S1024x1024 .f32) : FVec Ideal S512x1024 .f32 :=
  addf (addf (addf (addf X (outB (hidB U A0) B0)) (outB (hidB U A1) B1)) (outB (hidB U A2) B2)) (outB (hidB U A3) B3)

theorem pay2_eq (X : FVec Ideal S512x1024 .f32) : k0_pay2 (F := Ideal) X = X := shapeCast_self _ _
theorem pay3_apply (X : FVec Ideal S512x1024 .f32) (G : FVec Ideal S1x1024 .f32) (i : S512x1024.Idx) : (k0_pay3 (F := Ideal) X G i : EReal) = nrmB X G i := by
  have h : k0_pay3 (F := Ideal) X G = truncf .bf16 (nrmB (k0_pay2 (F := Ideal) X) (shapeCast S1x1024 G shapeCasts_S1x1024_S1x1024)) bitsLt_bf16_f32 := rfl
  rw [h, pay2_eq, shapeCast_self]; rfl

theorem scale_apply (Y : FVec Ideal S512x1024 .f32) (r : Fin 512) : (scale Y (ix2 r 0) : EReal) = Ideal.rsqrt (ms fun k => Y (ix2 r k)) := by
  have e : (multiReduction .add [1] S512 (mulf Y Y) 0x00000000#32 reduces_S512x1024_S512 (.inl rfl) rfl (ix1 r) : EReal) = ∑ k : Fin 1024, (Y (ix2 r k) : EReal) * Y (ix2 r k) := by
    refine (Ideal.multiReduction_add_single _ _ reduces_S512x1024_S512 (.inl rfl) rfl (ix1 r)).trans ?_
    have l : ∀ k : Fin 1024, Shape.Reduces.lift reduces_S512x1024_S512 (ix1 r) k = ix2 r k := fun k => funext fun a => by
      match a with | ⟨0, _⟩ => rfl | ⟨1, _⟩ => rfl
    exact Finset.sum_congr rfl fun k _ => congrArg (fun i => (Y i : EReal) * Y i) (l k)
  have f : shapeCast S512x1 (multiReduction .add [1] S512 (mulf Y Y) 0x00000000#32 reduces_S512x1024_S512 (.inl rfl) rfl) shapeCasts_S512_S512x1 (ix2 r 0) = multiReduction .add [1] S512 (mulf Y Y) 0x00000000#32 reduces_S512x1024_S512 (.inl rfl) rfl (ix1 r) := by
    refine shapeCast_apply _ _ _ (ix1 r) ?_
    rw [Shape.rowMajor_val_two, Shape.rowMajor_val_one]
    show r.val = r.val * 1 + 0
    omega
  unfold ms
  rw [← e, ← f]; rfl

theorem nrmB_apply (Y : FVec Ideal S512x1024 .f32) (G : FVec Ideal S1x1024 .f32) (r : Fin 512) (j : Fin 1024) :
    (nrmB Y G (ix2 r j) : EReal) = nrm (fun k => Y (ix2 r k)) (fun k => G (ix2 0 k)) j := by
  have a : broadcastTo S512x1024 (scale Y) broadcasts_S512x1_S512x1024 (ix2 r j) = scale Y (ix2 r 0) :=
    broadcastTo_apply _ _ _ _ fun a => by match a with | ⟨0, _⟩ => rfl | ⟨1, _⟩ => rfl
  have b : broadcastTo S512x1024 G broadcasts_S1x1024_S512x1024 (ix2 r j) = G (ix2 0 j) :=
    broadcastTo_apply _ _ _ _ fun a => by match a with | ⟨0, _⟩ => rfl | ⟨1, _⟩ => rfl
  have h : (nrmB Y G (ix2 r j) : EReal) = Y (ix2 r j) * broadcastTo S512x1024 (scale Y) broadcasts_S512x1_S512x1024 (ix2 r j) * broadcastTo S512x1024 G broadcasts_S1x1024_S512x1024 (ix2 r j) := rfl
  rw [h, a, b, scale_apply]; rfl

theorem dotB_apply (A : FVec Ideal S512x1024 .bf16) (W : FVec Ideal S1024x1024 .f32) (r : Fin 512) (j : Fin 1024) :
    (outB A W (ix2 r j) : EReal) = ∑ k : Fin 1024, (A (ix2 r k) : EReal) * W (ix2 k j) := by
  unfold outB
  rw [shapeCast_self]
  exact Attn.mm_apply (M := 512) (K := 1024) (N := 1024) A (truncf .bf16 W bitsLt_bf16_f32) r j
theorem hidB_apply (U : FVec Ideal S512x1024 .bf16) (W : FVec Ideal S1024x1024 .f32) (r : Fin 512) (f : Fin 1024) :
    (hidB U W (ix2 r f) : EReal) = hid (fun k => U (ix2 r k)) (fun k f => W (ix2 k f)) f := by
  have z : (broadcast S512x1024 (Scalar.ofBits (F := Ideal) .f32 0x00000000#32) (ix2 r f) : EReal) = 0 := Ideal.ofBits_zero_f32
  unfold hid
  rw [← dotB_apply, ← z]; rfl

theorem updB_apply (X : FVec Ideal S512x1024 .f32) (U : FVec Ideal S512x1024 .bf16) (A0 B0 A1 B1 A2 B2 A3 B3 : FVec Ideal S1024x1024 .f32) (r : Fin 512) (j : Fin 1024) :
    (updB X U A0 B0 A1 B1 A2 B2 A3 B3 (ix2 r j) : EReal) = X (ix2 r j) + (∑ f, hid (fun k => U (ix2 r k)) (fun k f => A0 (ix2 k f)) f * B0 (ix2 f j)) + (∑ f, hid (fun k => U (ix2 r k)) (fun k f => A1 (ix2 k f)) f * B1 (ix2 f j))
      + (∑ f, hid (fun k => U (ix2 r k)) (fun k f => A2 (ix2 k f)) f * B2 (ix2 f j)) + ∑ f, hid (fun k => U (ix2 r k)) (fun k f => A3 (ix2 k f)) f * B3 (ix2 f j) := by
  simp only [← hidB_apply]
  rw [← dotB_apply, ← dotB_apply, ← dotB_apply, ← dotB_apply]; rfl

/-! ### The block a point writes -/

variable (x0 : Vec Ideal S512x1024 .f32) (x1 : Vec Ideal S1x1024 .f32) (x2 : Vec Ideal S1024x4096 .f32) (x3 : Vec Ideal S4096x1024 .f32) (x4 : Vec Ideal S1x1024 .f32)

/-- The slices of the two weights. -/
def inS0 : FVec Ideal S1024x1024 .f32 := View.ld (Val := Elt Ideal) (e' := .f32) x2 r0_2
def outS0 : FVec Ideal S1024x1024 .f32 := View.ld (Val := Elt Ideal) (e' := .f32) x3 r0_3
def inS1 : FVec Ideal S1024x1024 .f32 := View.ld (Val := Elt Ideal) (e' := .f32) x2 r0_4
def outS1 : FVec Ideal S1024x1024 .f32 := View.ld (Val := Elt Ideal) (e' := .f32) x3 r0_5
def inS2 : FVec Ideal S1024x1024 .f32 := View.ld (Val := Elt Ideal) (e' := .f32) x2 r0_6
def outS2 : FVec Ideal S1024x1024 .f32 := View.ld (Val := Elt Ideal) (e' := .f32) x3 r0_7
def inS3 : FVec Ideal S1024x1024 .f32 := View.ld (Val := Elt Ideal) (e' := .f32) x2 r0_8
def outS3 : FVec Ideal S1024x1024 .f32 := View.ld (Val := Elt Ideal) (e' := .f32) x3 r0_9

theorem out_eq : out0_5 (F := Ideal) x0 x1 x2 x3 x4 = nrmB (updB x0 (k0_pay3 (F := Ideal) x0 x1) (inS0 x2) (outS0 x3) (inS1 x2) (outS1 x3) (inS2 x2) (outS2 x3) (inS3 x2) (outS3 x3)) x4 := by
  have l0 : View.ld (Val := Elt Ideal) (e' := .f32) x0 r0_0 = x0 := View.ld_unit_zero (funext fun a => by match a with | ⟨0, _⟩ => rfl | ⟨1, _⟩ => rfl) _ _
  have l1 : View.ld (Val := Elt Ideal) (e' := .f32) x1 r0_1 = x1 := View.ld_unit_zero (funext fun a => by match a with | ⟨0, _⟩ => rfl | ⟨1, _⟩ => rfl) _ _
  have l4 : View.ld (Val := Elt Ideal) (e' := .f32) x4 r0_1 = x4 := View.ld_unit_zero (funext fun a => by match a with | ⟨0, _⟩ => rfl | ⟨1, _⟩ => rfl) _ _
  unfold out0_5 k0_pay11 k0_pay10 k0_pay9
  rw [l0, l1, l4]
  refine (View.canon_cons_unit_zero (funext fun a => by match a with | ⟨0, _⟩ => rfl | ⟨1, _⟩ => rfl) _ _ _).trans ?_
  have e4 : ∀ A B, k0_pay4 (F := Ideal) x0 x1 A B = addf (k0_pay2 (F := Ideal) x0) (outB (hidB (k0_pay3 (F := Ideal) x0 x1) A) B) := fun _ _ => rfl
  have e5 : ∀ A, k0_pay5 (F := Ideal) x0 x1 A = hidB (k0_pay3 (F := Ideal) x0 x1) A := fun _ => rfl
  have e7 : k0_pay7 (F := Ideal) x4 = x4 := shapeCast_self _ _
  have e6 : ∀ U V A B0 A1 B1 A2 B2, k0_pay6 (F := Ideal) U V A B0 A1 B1 A2 B2 = addf (addf (addf V (outB A B0)) (outB (hidB U A1) B1)) (outB (hidB U A2) B2) := fun _ _ _ _ _ _ _ _ => rfl
  have e8 : ∀ U V A B0 A1 B1 A2 B2, k0_pay8 (F := Ideal) U V A B0 A1 B1 A2 B2 = scale (k0_pay6 U V A B0 A1 B1 A2 B2) := fun _ _ _ _ _ _ _ _ => rfl
  rw [e8, e7, e6, e5, e4, pay2_eq]; rfl

theorem left0 (k f : Fin 1024) : inS0 x2 (ix2 k f) = x2 (ix2 k (unit 0 f)) :=
  View.ld_unit_apply_of _ _ _ _ _ _ fun a => by match a with | ⟨0, _⟩ => exact (Nat.zero_add _).symm | ⟨1, _⟩ => rfl
theorem left1 (k f : Fin 1024) : inS1 x2 (ix2 k f) = x2 (ix2 k (unit 1 f)) :=
  View.ld_unit_apply_of _ _ _ _ _ _ fun a => by match a with | ⟨0, _⟩ => exact (Nat.zero_add _).symm | ⟨1, _⟩ => rfl
theorem left2 (k f : Fin 1024) : inS2 x2 (ix2 k f) = x2 (ix2 k (unit 2 f)) :=
  View.ld_unit_apply_of _ _ _ _ _ _ fun a => by match a with | ⟨0, _⟩ => exact (Nat.zero_add _).symm | ⟨1, _⟩ => rfl
theorem left3 (k f : Fin 1024) : inS3 x2 (ix2 k f) = x2 (ix2 k (unit 3 f)) :=
  View.ld_unit_apply_of _ _ _ _ _ _ fun a => by match a with | ⟨0, _⟩ => exact (Nat.zero_add _).symm | ⟨1, _⟩ => rfl
theorem right0 (f j : Fin 1024) : outS0 x3 (ix2 f j) = x3 (ix2 (unit 0 f) j) :=
  View.ld_unit_apply_of _ _ _ _ _ _ fun a => by match a with | ⟨0, _⟩ => rfl | ⟨1, _⟩ => exact (Nat.zero_add _).symm
theorem right1 (f j : Fin 1024) : outS1 x3 (ix2 f j) = x3 (ix2 (unit 1 f) j) :=
  View.ld_unit_apply_of _ _ _ _ _ _ fun a => by match a with | ⟨0, _⟩ => rfl | ⟨1, _⟩ => exact (Nat.zero_add _).symm
theorem right2 (f j : Fin 1024) : outS2 x3 (ix2 f j) = x3 (ix2 (unit 2 f) j) :=
  View.ld_unit_apply_of _ _ _ _ _ _ fun a => by match a with | ⟨0, _⟩ => rfl | ⟨1, _⟩ => exact (Nat.zero_add _).symm
theorem right3 (f j : Fin 1024) : outS3 x3 (ix2 f j) = x3 (ix2 (unit 3 f) j) :=
  View.ld_unit_apply_of _ _ _ _ _ _ fun a => by match a with | ⟨0, _⟩ => rfl | ⟨1, _⟩ => exact (Nat.zero_add _).symm

theorem out_apply (r : Fin 512) (j : Fin 1024) : (out0_5 (F := Ideal) x0 x1 x2 x3 x4 (ix2 r j) : EReal)
    = row (fun k => x0 (ix2 r k)) (fun k => x1 (ix2 0 k)) (fun k f => x2 (ix2 k f)) (fun f k => x3 (ix2 f k)) (fun k => x4 (ix2 0 k)) j := by
  have u : (fun k => (k0_pay3 (F := Ideal) x0 x1 (ix2 r k) : EReal)) = nrm (fun k => x0 (ix2 r k)) (fun k => x1 (ix2 0 k)) := funext fun k => by
    rw [pay3_apply]; exact nrmB_apply x0 x1 r k
  rw [out_eq, nrmB_apply]
  unfold row
  congr 1
  funext i
  rw [upd_slices, updB_apply, u]
  simp only [left0, left1, left2, left3, right0, right1, right2, right3]
  rfl

end Mlp

end
-- ==== Proof.Mlp.Array.lean ====
module

public import proofs.«01_k».proof.Proof.Mlp.Body

@[expose] public section

set_option maxRecDepth 16384

noncomputable section

/-! The kernel's result, row by row, of the five arrays given. -/

namespace Mlp

open Idealize.ShloMosaic.ValueIdx hiding ix0 ix1 ix2 ix3 ix4 eq_ix1 eq_ix2 eq_ix3 eq_ix4
open Idealize.ShloMosaic Idealize.ShloMosaic.TcCoe Idealize.ShloMosaic.Tactic Cert.Kernel2Ideal Cert.Kernel2Ideal.Gen

/-- The layer of five arrays at row `n`, a row of the first being entry `n / 8192` of its batch at `n % 8192`. -/
def layer (h : FVec Ideal S2x8192x1024 .f32) (g : FVec Ideal S1x1024 .f32) (w1 : FVec Ideal S1x1024x4096 .f32) (w2 : FVec Ideal S1x4096x1024 .f32) (e : FVec Ideal S1024 .f32) : FVec Ideal S16384x1024 .f32 := fun i =>
  row (fun k => h (ix3 ⟨(i 0).val / 8192, by have : (i 0).val < 16384 := (i 0).isLt; omega⟩ ⟨(i 0).val % 8192, Nat.mod_lt _ (by decide)⟩ k)) (fun k => g (ix2 0 k)) (fun k f => w1 (ix3 0 k f)) (fun f k => w2 (ix3 0 f k)) (fun k => e (ix1 k)) (i 1)

variable (m : (ℓ : Loc nD τ sig) → Buf (Elt Ideal) ℓ) (c : Dev nD)

def ah : FVec Ideal S2x8192x1024 .f32 := m ((c.tc : Thread nD τ).loc main_arg0)
def ag : FVec Ideal S1x1024 .f32 := m ((c.tc : Thread nD τ).loc main_arg1)
def aw : FVec Ideal S1x1024x4096 .f32 := m ((c.tc : Thread nD τ).loc main_arg2)
def ax : FVec Ideal S1x4096x1024 .f32 := m ((c.tc : Thread nD τ).loc main_arg3)
def ae : FVec Ideal S1024 .f32 := m ((c.tc : Thread nD τ).loc main_arg4)

theorem V0_eq : V m c main_v0 = shapeCast S16384x1024 (ah m c) shapeCasts_S2x8192x1024_S16384x1024 := by
  entry_read
  rfl
theorem V2_eq : V m c main_v2 = shapeCast S1x1024 (shapeCast S1024 (ag m c) shapeCasts_S1x1024_S1024) shapeCasts_S1024_S1x1024 := by
  entry_read
  rfl
theorem V3_eq : V m c main_v3 = shapeCast S1024x4096 (aw m c) shapeCasts_S1x1024x4096_S1024x4096 := by
  entry_read
  rfl
theorem V4_eq : V m c main_v4 = shapeCast S4096x1024 (ax m c) shapeCasts_S1x4096x1024_S4096x1024 := by
  entry_read
  rfl
theorem V5_eq : V m c main_v5 = shapeCast S1x1024 (ae m c) shapeCasts_S1024_S1x1024 := by
  entry_read
  rfl

/-! ### The windows' blocks -/

theorem at_0 : ∀ t : Fin cfg0.N, win0_0.index t 0 = t.val ∧ win0_0.index t 1 = 0 :=
  (by decide +kernel : ∀ t : Fin grid0.N, win0_0.index t 0 = t.val ∧ win0_0.index t 1 = 0)
theorem at_1 : ∀ t : Fin cfg0.N, win0_1.index t 0 = 0 ∧ win0_1.index t 1 = 0 :=
  (by decide +kernel : ∀ t : Fin grid0.N, win0_1.index t 0 = 0 ∧ win0_1.index t 1 = 0)
theorem at_2 : ∀ t : Fin cfg0.N, win0_2.index t 0 = 0 ∧ win0_2.index t 1 = 0 :=
  (by decide +kernel : ∀ t : Fin grid0.N, win0_2.index t 0 = 0 ∧ win0_2.index t 1 = 0)
theorem at_3 : ∀ t : Fin cfg0.N, win0_3.index t 0 = 0 ∧ win0_3.index t 1 = 0 :=
  (by decide +kernel : ∀ t : Fin grid0.N, win0_3.index t 0 = 0 ∧ win0_3.index t 1 = 0)
theorem at_4 : ∀ t : Fin cfg0.N, win0_4.index t 0 = 0 ∧ win0_4.index t 1 = 0 :=
  (by decide +kernel : ∀ t : Fin grid0.N, win0_4.index t 0 = 0 ∧ win0_4.index t 1 = 0)
theorem at_5 : ∀ t : Fin cfg0.N, win0_5.index t 0 = t.val ∧ win0_5.index t 1 = 0 :=
  (by decide +kernel : ∀ t : Fin grid0.N, win0_5.index t 0 = t.val ∧ win0_5.index t 1 = 0)

theorem emb_0 (t : Fin cfg0.N) (y : S512x1024.Idx) : (((win0_0.blk t).view.emb y) 0).val = 512 * t.val + (y 0).val ∧ (((win0_0.blk t).view.emb y) 1).val = (y 1).val := by
  have h0 : (((win0_0.blk t).view.emb y) 0).val = win0_0.index t 0 * 512 + 1 * (y 0).val := rfl
  have h1 : (((win0_0.blk t).view.emb y) 1).val = win0_0.index t 1 * 1024 + 1 * (y 1).val := rfl
  rw [h0, h1, (at_0 t).1, (at_0 t).2]
  omega
theorem emb_5 (t : Fin cfg0.N) (y : S512x1024.Idx) : (((win0_5.blk t).view.emb y) 0).val = 512 * t.val + (y 0).val ∧ (((win0_5.blk t).view.emb y) 1).val = (y 1).val := by
  have h0 : (((win0_5.blk t).view.emb y) 0).val = win0_5.index t 0 * 512 + 1 * (y 0).val := rfl
  have h1 : (((win0_5.blk t).view.emb y) 1).val = win0_5.index t 1 * 1024 + 1 * (y 1).val := rfl
  rw [h0, h1, (at_5 t).1, (at_5 t).2]
  omega
theorem emb_1 (t : Fin cfg0.N) (y : S1x1024.Idx) : (win0_1.blk t).view.emb y = y := funext fun a => Fin.ext (by
  have h0 : (((win0_1.blk t).view.emb y) 0).val = win0_1.index t 0 * 1 + 1 * (y 0).val := rfl
  have h1 : (((win0_1.blk t).view.emb y) 1).val = win0_1.index t 1 * 1024 + 1 * (y 1).val := rfl
  rw [(at_1 t).1] at h0
  rw [(at_1 t).2] at h1
  match a with
  | ⟨0, _⟩ => exact h0.trans (show 0 * 1 + 1 * (y 0).val = (y 0).val by omega)
  | ⟨1, _⟩ => exact h1.trans (show 0 * 1024 + 1 * (y 1).val = (y 1).val by omega))
theorem emb_2 (t : Fin cfg0.N) (y : S1024x4096.Idx) : (win0_2.blk t).view.emb y = y := funext fun a => Fin.ext (by
  have h0 : (((win0_2.blk t).view.emb y) 0).val = win0_2.index t 0 * 1024 + 1 * (y 0).val := rfl
  have h1 : (((win0_2.blk t).view.emb y) 1).val = win0_2.index t 1 * 4096 + 1 * (y 1).val := rfl
  rw [(at_2 t).1] at h0
  rw [(at_2 t).2] at h1
  match a with
  | ⟨0, _⟩ => exact h0.trans (show 0 * 1024 + 1 * (y 0).val = (y 0).val by omega)
  | ⟨1, _⟩ => exact h1.trans (show 0 * 4096 + 1 * (y 1).val = (y 1).val by omega))
theorem emb_3 (t : Fin cfg0.N) (y : S4096x1024.Idx) : (win0_3.blk t).view.emb y = y := funext fun a => Fin.ext (by
  have h0 : (((win0_3.blk t).view.emb y) 0).val = win0_3.index t 0 * 4096 + 1 * (y 0).val := rfl
  have h1 : (((win0_3.blk t).view.emb y) 1).val = win0_3.index t 1 * 1024 + 1 * (y 1).val := rfl
  rw [(at_3 t).1] at h0
  rw [(at_3 t).2] at h1
  match a with
  | ⟨0, _⟩ => exact h0.trans (show 0 * 4096 + 1 * (y 0).val = (y 0).val by omega)
  | ⟨1, _⟩ => exact h1.trans (show 0 * 1024 + 1 * (y 1).val = (y 1).val by omega))
theorem emb_4 (t : Fin cfg0.N) (y : S1x1024.Idx) : (win0_4.blk t).view.emb y = y := funext fun a => Fin.ext (by
  have h0 : (((win0_4.blk t).view.emb y) 0).val = win0_4.index t 0 * 1 + 1 * (y 0).val := rfl
  have h1 : (((win0_4.blk t).view.emb y) 1).val = win0_4.index t 1 * 1024 + 1 * (y 1).val := rfl
  rw [(at_4 t).1] at h0
  rw [(at_4 t).2] at h1
  match a with
  | ⟨0, _⟩ => exact h0.trans (show 0 * 1 + 1 * (y 0).val = (y 0).val by omega)
  | ⟨1, _⟩ => exact h1.trans (show 0 * 1024 + 1 * (y 1).val = (y 1).val by omega))

theorem blk_0 (t : Fin cfg0.N) (r : Fin 512) (k : Fin 1024) (b : Fin 2) (s : Fin 8192) (e : 512 * t.val + r.val = 8192 * b.val + s.val) :
    (iblk m c 0 t : FVec Ideal S512x1024 .f32) (ix2 r k) = ah m c (ix3 b s k) := by
  show (V m c main_v0 : FVec Ideal S16384x1024 .f32) ((win0_0.blk t).view.emb (ix2 r k)) = _
  obtain ⟨e0, e1⟩ := emb_0 t (ix2 r k)
  rw [V0_eq]
  refine shapeCast_apply _ _ _ _ ?_
  rw [Shape.rowMajor_val_three, Shape.rowMajor_val_two, e0, e1]
  show (b.val * 8192 + s.val) * 1024 + k.val = (512 * t.val + r.val) * 1024 + k.val
  rw [e]; omega
theorem blk_1 (t : Fin cfg0.N) (k : Fin 1024) : (iblk m c 1 t : FVec Ideal S1x1024 .f32) (ix2 0 k) = ag m c (ix2 0 k) := by
  show (V m c main_v2 : FVec Ideal S1x1024 .f32) ((win0_1.blk t).view.emb (ix2 0 k)) = _
  rw [emb_1, V2_eq]
  refine (shapeCast_apply _ _ _ (ix1 k) ?_).trans (shapeCast_apply _ _ _ _ ?_)
  · rw [Shape.rowMajor_val_one, Shape.rowMajor_val_two]; show k.val = 0 * 1024 + k.val; omega
  · rw [Shape.rowMajor_val_one, Shape.rowMajor_val_two]; show 0 * 1024 + k.val = k.val; omega
theorem blk_2 (t : Fin cfg0.N) (k : Fin 1024) (f : Fin 4096) : (iblk m c 2 t : FVec Ideal S1024x4096 .f32) (ix2 k f) = aw m c (ix3 0 k f) := by
  show (V m c main_v3 : FVec Ideal S1024x4096 .f32) ((win0_2.blk t).view.emb (ix2 k f)) = _
  rw [emb_2, V3_eq]
  refine shapeCast_apply _ _ _ _ ?_
  rw [Shape.rowMajor_val_three, Shape.rowMajor_val_two]; show (0 * 1024 + k.val) * 4096 + f.val = k.val * 4096 + f.val; omega
theorem blk_3 (t : Fin cfg0.N) (f : Fin 4096) (k : Fin 1024) : (iblk m c 3 t : FVec Ideal S4096x1024 .f32) (ix2 f k) = ax m c (ix3 0 f k) := by
  show (V m c main_v4 : FVec Ideal S4096x1024 .f32) ((win0_3.blk t).view.emb (ix2 f k)) = _
  rw [emb_3, V4_eq]
  refine shapeCast_apply _ _ _ _ ?_
  rw [Shape.rowMajor_val_three, Shape.rowMajor_val_two]; show (0 * 4096 + f.val) * 1024 + k.val = f.val * 1024 + k.val; omega
theorem blk_4 (t : Fin cfg0.N) (k : Fin 1024) : (iblk m c 4 t : FVec Ideal S1x1024 .f32) (ix2 0 k) = ae m c (ix1 k) := by
  show (V m c main_v5 : FVec Ideal S1x1024 .f32) ((win0_4.blk t).view.emb (ix2 0 k)) = _
  rw [emb_4, V5_eq]
  refine shapeCast_apply _ _ _ _ ?_
  rw [Shape.rowMajor_val_one, Shape.rowMajor_val_two]; show k.val = 0 * 1024 + k.val; omega

/-! ### The result -/

theorem arr_out : (dats m 0 c).arrAt 5 cfg0.N = layer (ah m c) (ag m c) (aw m c) (ax m c) (ae m c) := by
  refine (dats m 0 c).arrAt_eq_of_covers 5 _ (by decide +kernel) fun t hf y => ?_
  blk_simp
  rw [after0_5]
  have hy : (y 0).val < 512 := (y 0).isLt
  have ht : t.val < 32 := t.isLt
  obtain ⟨e0, e1⟩ := emb_5 t y
  have s : (ix2 (y 0) (y 1) : S512x1024.Idx) = y := funext fun a => by match a with | ⟨0, _⟩ => rfl | ⟨1, _⟩ => rfl
  have p : (((win0_5.blk t).view.emb y) 1) = y 1 := Fin.ext e1
  refine (congrArg _ s.symm).trans ((out_apply _ _ _ _ _ (y 0) (y 1)).trans ?_)
  unfold layer
  rw [p]
  simp only [blk_1, blk_2, blk_3, blk_4]
  refine congrArg (fun h => row h _ _ _ _ (y 1)) (funext fun k => ?_)
  refine blk_0 m c t (y 0) k _ _ ?_
  show 512 * t.val + (y 0).val = 8192 * ((((win0_5.blk t).view.emb y) 0).val / 8192) + (((win0_5.blk t).view.emb y) 0).val % 8192
  rw [e0]; omega

end Mlp

end
-- ==== Proof.Mlp.RefValue.lean ====
module

public import proofs.«01_k».proof.Proof.Mlp.Array
public import proofs.«01_k».proof.Proof.Gen.Reference2Ideal.Run

@[expose] public section

set_option maxRecDepth 16384

noncomputable section

/-! What the reference makes of a row: the same layer. -/

namespace Mlp.Ref

open Idealize.ShloMosaic.ValueIdx hiding ix0 ix1 ix2 ix3 ix4 eq_ix1 eq_ix2 eq_ix3 eq_ix4
open Idealize.ShloMosaic Idealize.ShloMosaic.TcCoe Idealize.ShloMosaic.Tactic Cert.Reference2Ideal Cert.Reference2Ideal.Gen

abbrev H3 := FVec Ideal S2x8192x1024 .f32
abbrev F3 := FVec Ideal S2x8192x4096 .f32

/-! ### The reference's stages -/

/-- The reciprocal root mean square of each row. -/
def scale (x : H3) : FVec Ideal S2x8192x1 .f32 :=
  Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))
def norm (x : H3) (g : FVec Ideal S1024 .f32) : H3 :=
  mulf (mulf x (broadcastInDim S2x8192x1024 ![0, 1, 2] bcast_S2x8192x1_S2x8192x1024_0_1_2 (scale x))) (broadcastInDim S2x8192x1024 ![0, 1, 2] bcast_S1x1x1024_S2x8192x1024_0_1_2 (broadcastInDim S1x1x1024 ![2] bcast_S1024_S1x1x1024_2 g))
def relu (u : H3) (w : FVec Ideal S1024x4096 .f32) : F3 :=
  maximumf (Host.dotGeneral dot_S2x8192x1024_S1024x4096_S2x8192x4096_2_0_01_1_n_n none u w) (broadcastInDim S2x8192x4096 ![] bcast_S_S2x8192x4096 (constant S_ .f32 0x00000000#32))
def square (a : F3) : F3 := mulf a a
def update (x : H3) (a : F3) (w : FVec Ideal S4096x1024 .f32) : H3 :=
  addf x (Host.dotGeneral dot_S2x8192x4096_S4096x1024_S2x8192x1024_2_0_01_1_n_n none a w)
def result (x : H3) (g : FVec Ideal S1x1024 .f32) (w1 : FVec Ideal S1x1024x4096 .f32) (w2 : FVec Ideal S1x4096x1024 .f32) (e : FVec Ideal S1024 .f32) : FVec Ideal S16384x1024 .f32 :=
  shapeCast S16384x1024 (norm (update x (square (relu (norm x (shapeCast S1024 g shapeCasts_S1x1024_S1024)) (shapeCast S1024x4096 w1 shapeCasts_S1x1024x4096_S1024x4096))) (shapeCast S4096x1024 w2 shapeCasts_S1x4096x1024_S4096x1024)) e) shapeCasts_S2x8192x1024_S16384x1024

theorem res_eq (m : (ℓ : Loc nD τ sig) → Buf (Elt Ideal) ℓ) (c : Dev nD) : Cert.Reference2Ideal.Value.res_main_v34 m c
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-! ### The stages at an entry -/

theorem max_at {s : Shape} (x y : FVec Ideal s .f32) (i : s.Idx) : (maximumf x y i : EReal) = max (x i : EReal) (y i) := rfl

theorem reduces_row : S2x8192x1024.Reduces [2] S2x8192 := by decide
theorem lift_row (b : Fin 2) (s : Fin 8192) (k : Fin 1024) : reduces_row.lift (ix2 b s) k = ix3 b s k := by
  funext a; match a with | ⟨0, _⟩ => rfl | ⟨1, _⟩ => rfl | ⟨2, _⟩ => rfl

theorem scale_apply (x : H3) (b : Fin 2) (s : Fin 8192) : (scale x (ix3 b s 0) : EReal) = Ideal.rsqrt (ms fun k => x (ix3 b s k)) := by
  have e : (broadcastInDim S2x8192x1 ![0, 1] bcast_S2x8192_S2x8192x1_0_1 (Host.reduceAdd (mulf x x) (constant S_ .f32 0x00000000#32) reducesTo_S2x8192x1024_S2x8192_d2 h_S_) (ix3 b s 0) : EReal) = ∑ k : Fin 1024, (x (ix3 b s k) : EReal) * x (ix3 b s k) := by
    refine (broadcastInDim_apply _ _ _ _ (ix2 b s) fun a => ?_).trans ?_
    · match a with | ⟨0, _⟩ => rfl | ⟨1, _⟩ => rfl
    rw [hostReduceAdd_apply, Ideal.hostReduceAdd_single _ reduces_row, show (constant (F := Ideal) S_ .f32 0x00000000#32 (Shape.Idx.first h_S_) : EReal) = 0 from Ideal.ofBits_zero_f32, zero_add]
    exact Finset.sum_congr rfl fun k _ => congrArg (fun i => (x i : EReal) * x i) (lift_row b s k)
  have f : (broadcastInDim S2x8192x1 ![] bcast_S_S2x8192x1 (constant (F := Ideal) S_ .f32 0x44800000#32) (ix3 b s 0) : EReal) = FloatOps.ofBits (F := Ideal) .f32 0x44800000#32 := broadcastInDim_scalar_apply _ _ _
  have g : (broadcastInDim S2x8192x1 ![] bcast_S_S2x8192x1 (constant (F := Ideal) S_ .f32 0x358637BD#32) (ix3 b s 0) : EReal) = FloatOps.ofBits (F := Ideal) .f32 0x358637BD#32 := broadcastInDim_scalar_apply _ _ _
  unfold ms
  rw [← e, ← f, ← g]; rfl

theorem norm_apply (x : H3) (w : FVec Ideal S1024 .f32) (b : Fin 2) (s : Fin 8192) (j : Fin 1024) :
    (norm x w (ix3 b s j) : EReal) = nrm (fun k => x (ix3 b s k)) (fun k => w (ix1 k)) j := by
  have e : broadcastInDim S2x8192x1024 ![0, 1, 2] bcast_S2x8192x1_S2x8192x1024_0_1_2 (scale x) (ix3 b s j) = scale x (ix3 b s 0) :=
    broadcastInDim_apply _ _ _ _ _ fun a => by match a with | ⟨0, _⟩ => rfl | ⟨1, _⟩ => rfl | ⟨2, _⟩ => rfl
  have f : broadcastInDim S2x8192x1024 ![0, 1, 2] bcast_S1x1x1024_S2x8192x1024_0_1_2 (broadcastInDim S1x1x1024 ![2] bcast_S1024_S1x1x1024_2 w) (ix3 b s j) = w (ix1 j) :=
    (broadcastInDim_apply _ _ _ _ (ix3 0 0 j) fun a => by match a with | ⟨0, _⟩ => rfl | ⟨1, _⟩ => rfl | ⟨2, _⟩ => rfl).trans
      (broadcastInDim_apply _ _ _ _ (ix1 j) fun a => by match a with | ⟨0, _⟩ => rfl)
  have h : (norm x w (ix3 b s j) : EReal) = x (ix3 b s j) * broadcastInDim S2x8192x1024 ![0, 1, 2] bcast_S2x8192x1_S2x8192x1024_0_1_2 (scale x) (ix3 b s j)
    * broadcastInDim S2x8192x1024 ![0, 1, 2] bcast_S1x1x1024_S2x8192x1024_0_1_2 (broadcastInDim S1x1x1024 ![2] bcast_S1024_S1x1x1024_2 w) (ix3 b s j) := rfl
  rw [h, e, f, scale_apply]; rfl

theorem relu_apply (u : H3) (w : FVec Ideal S1024x4096 .f32) (b : Fin 2) (s : Fin 8192) (f : Fin 4096) :
    (relu u w (ix3 b s f) : EReal) = max (∑ k : Fin 1024, (u (ix3 b s k) : EReal) * w (ix2 k f)) 0 := by
  unfold relu
  rw [max_at, broadcastInDim_scalar_apply, show (constant (F := Ideal) S_ .f32 0x00000000#32 ValueIdx.ix0 : EReal) = 0 from Ideal.ofBits_zero_f32]
  refine congrArg (fun z : EReal => max z 0) ?_
  show FloatOps.dotGeneral _ none _ u w (ix3 b s f) = _
  rw [Ideal.dotGeneral_apply, ← Equiv.sum_comp (contrEquiv1 dot_S2x8192x1024_S1024x4096_S2x8192x4096_2_0_01_1_n_n 1024 rfl rfl).symm]
  refine Finset.sum_congr rfl fun k _ => ?_
  have cv := contrEquiv1_symm_val dot_S2x8192x1024_S1024x4096_S2x8192x4096_2_0_01_1_n_n 1024 rfl rfl k
  have l : DotDims.lhsIdx dot_S2x8192x1024_S1024x4096_S2x8192x4096_2_0_01_1_n_n (ix3 b s f) ((contrEquiv1 dot_S2x8192x1024_S1024x4096_S2x8192x4096_2_0_01_1_n_n 1024 rfl rfl).symm k) = ix3 b s k := by
    funext a; apply Fin.ext
    match a with | ⟨0, _⟩ => rfl | ⟨1, _⟩ => rfl | ⟨2, _⟩ => exact cv
  have r : DotDims.rhsIdx dot_S2x8192x1024_S1024x4096_S2x8192x4096_2_0_01_1_n_n (ix3 b s f) ((contrEquiv1 dot_S2x8192x1024_S1024x4096_S2x8192x4096_2_0_01_1_n_n 1024 rfl rfl).symm k) = ix2 k f := by
    funext a; apply Fin.ext
    match a with | ⟨0, _⟩ => exact cv | ⟨1, _⟩ => rfl
  rw [l, r]

theorem update_apply (x : H3) (a : F3) (w : FVec Ideal S4096x1024 .f32) (b : Fin 2) (s : Fin 8192) (j : Fin 1024) :
    (update x a w (ix3 b s j) : EReal) = x (ix3 b s j) + ∑ f : Fin 4096, (a (ix3 b s f) : EReal) * w (ix2 f j) := by
  unfold update
  refine congrArg (fun z : EReal => (x (ix3 b s j) : EReal) + z) ?_
  show FloatOps.dotGeneral _ none _ a w (ix3 b s j) = _
  rw [Ideal.dotGeneral_apply, ← Equiv.sum_comp (contrEquiv1 dot_S2x8192x4096_S4096x1024_S2x8192x1024_2_0_01_1_n_n 4096 rfl rfl).symm]
  refine Finset.sum_congr rfl fun k _ => ?_
  have cv := contrEquiv1_symm_val dot_S2x8192x4096_S4096x1024_S2x8192x1024_2_0_01_1_n_n 4096 rfl rfl k
  have l : DotDims.lhsIdx dot_S2x8192x4096_S4096x1024_S2x8192x1024_2_0_01_1_n_n (ix3 b s j) ((contrEquiv1 dot_S2x8192x4096_S4096x1024_S2x8192x1024_2_0_01_1_n_n 4096 rfl rfl).symm k) = ix3 b s k := by
    funext a; apply Fin.ext
    match a with | ⟨0, _⟩ => rfl | ⟨1, _⟩ => rfl | ⟨2, _⟩ => exact cv
  have r : DotDims.rhsIdx dot_S2x8192x4096_S4096x1024_S2x8192x1024_2_0_01_1_n_n (ix3 b s j) ((contrEquiv1 dot_S2x8192x4096_S4096x1024_S2x8192x1024_2_0_01_1_n_n 4096 rfl rfl).symm k) = ix2 k j := by
    funext a; apply Fin.ext
    match a with | ⟨0, _⟩ => exact cv | ⟨1, _⟩ => rfl
  rw [l, r]

theorem square_apply (a : F3) (i : S2x8192x4096.Idx) : (square a i : EReal) = a i * a i := rfl

/-! ### The result -/

theorem result_eq (x : H3) (g : FVec Ideal S1x1024 .f32) (w1 : FVec Ideal S1x1024x4096 .f32) (w2 : FVec Ideal S1x4096x1024 .f32) (e : FVec Ideal S1024 .f32) :
    result x g w1 w2 e = layer x g w1 w2 e := by
  funext i
  have h0 : (i 0).val < 16384 := (i 0).isLt
  have hg : ∀ k : Fin 1024, shapeCast S1024 g shapeCasts_S1x1024_S1024 (ix1 k) = g (ix2 0 k) := fun k => by
    refine shapeCast_apply _ _ _ _ ?_
    rw [Shape.rowMajor_val_one, Shape.rowMajor_val_two]; show 0 * 1024 + k.val = k.val; omega
  have h1 : ∀ (k : Fin 1024) (f : Fin 4096), shapeCast S1024x4096 w1 shapeCasts_S1x1024x4096_S1024x4096 (ix2 k f) = w1 (ix3 0 k f) := fun k f => by
    refine shapeCast_apply _ _ _ _ ?_
    rw [Shape.rowMajor_val_three, Shape.rowMajor_val_two]; show (0 * 1024 + k.val) * 4096 + f.val = k.val * 4096 + f.val; omega
  have h2 : ∀ (f : Fin 4096) (k : Fin 1024), shapeCast S4096x1024 w2 shapeCasts_S1x4096x1024_S4096x1024 (ix2 f k) = w2 (ix3 0 f k) := fun f k => by
    refine shapeCast_apply _ _ _ _ ?_
    rw [Shape.rowMajor_val_three, Shape.rowMajor_val_two]; show (0 * 4096 + f.val) * 1024 + k.val = f.val * 1024 + k.val; omega
  unfold result layer row
  refine (shapeCast_apply _ _ _ (ix3 ⟨(i 0).val / 8192, by omega⟩ ⟨(i 0).val % 8192, Nat.mod_lt _ (by decide)⟩ (i 1)) ?_).trans ?_
  · rw [Shape.rowMajor_val_three, Shape.rowMajor_val_two]
    show ((i 0).val / 8192 * 8192 + (i 0).val % 8192) * 1024 + (i 1).val = (i 0).val * 1024 + (i 1).val
    omega
  refine (norm_apply _ _ _ _ (i 1)).trans (congrArg (fun v => nrm v _ (i 1)) (funext fun j => ?_))
  rw [update_apply]
  unfold upd hid
  simp only [square_apply, relu_apply, norm_apply, hg, h1, h2]

end Mlp.Ref

end
-- ==== Proof.Mlp.Claims.lean ====
module

public import proofs.«01_k».proof.Proof.Mlp.RefValue
public import proofs.«01_k».proof.Proof.Gen.Kernel2.Frame
public import proofs.«01_k».proof.Defs
public import Idealize.ShloMosaic.Adequacy
public import Idealize.ShloMosaic.Init

@[expose] public section

noncomputable section

/-! The claims about the feed-forward layer's call. -/

namespace Cert.Proof

open Idealize.ShloMosaic Idealize.ShloMosaic.TcCoe Idealize.SL Idealize.SL.Sem

theorem kernel2 : Cert.quiescent_Kernel2 := fun m ρ _ => Cert.Kernel2.Gen.frame m ρ

theorem kernel2Ideal : Cert.quiescent_Kernel2Ideal := fun m ρ _ => Cert.Kernel2Ideal.Gen.frame m ρ

theorem reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

theorem preserves2 : Cert.preserves_Kernel2_Kernel2Ideal := trivial

theorem algebraic2 : Cert.algebraic_Kernel2Ideal_Reference2Ideal := fun m g m' g' _ ha =>
  ⟨fun c => Mlp.layer (Mlp.ah m c) (Mlp.ag m c) (Mlp.aw m c) (Mlp.ax m c) (Mlp.ae m c),
    (θ_run Cert.Kernel2Ideal.defs _ _).mono (fun r h c => ⟨(h c).1.trans (Mlp.arr_out m c), (h c).2⟩) (Cert.Kernel2Ideal.Value.run_blocks m g),
    (θ_run Cert.Reference2Ideal.defs _ _).mono (fun r h c => by
      refine ⟨(h c).1.trans ?_, (h c).2⟩
      rw [Mlp.Ref.res_eq, (ha c).1, (ha c).2.1, (ha c).2.2.1, (ha c).2.2.2.1, (ha c).2.2.2.2]
      exact Mlp.Ref.result_eq _ _ _ _ _) (Cert.Reference2Ideal.Value.run m' g')⟩

end Cert.Proof

end
-- ==== Proof.InProj.Body.lean ====
module

public import proofs.«01_k».proof.Proof.Mlp.Body
public import proofs.«01_k».proof.Proof.Gen.Kernel3Ideal.Value
public import Idealize.ShloMosaic.Lib.MatmulPlain
public import Idealize.ShloMosaic.Lib.VecWindow

@[expose] public section

set_option maxRecDepth 16384

noncomputable section

/-! The gated unit and the gates of one row, and the kernel's two blocks as those row by row. -/

namespace InProj

open Idealize.ShloMosaic Idealize.ShloMosaic.TcCoe

/-! ### One row -/

/-- The logistic function. -/
def sg (y : EReal) : EReal :=
  Ideal.div (FloatOps.ofBits (F := Ideal) .f32 0x3F800000#32) (FloatOps.ofBits (F := Ideal) .f32 0x3F800000#32 + Ideal.exp (-y))
/-- Column `c` of the normalised row's projection. -/
def proj (x g : Fin 1024 → EReal) (w : Fin 1024 → Fin 3744 → EReal) (c : Fin 3744) : EReal := ∑ k, Mlp.nrm x g k * w k c
/-- The columns of the gated unit's values and of its gate, and of the mixer's gates. -/
def colA (j : Fin 512) : Fin 3744 := ⟨j.val, by omega⟩
def colG (j : Fin 512) : Fin 3744 := ⟨512 + j.val, by omega⟩
def colS (j : Fin 2048) : Fin 3744 := ⟨1696 + j.val, by omega⟩
def glu (x g : Fin 1024 → EReal) (w : Fin 1024 → Fin 3744 → EReal) (j : Fin 512) : EReal := proj x g w (colA j) * sg (proj x g w (colG j))
def gate (x g : Fin 1024 → EReal) (w : Fin 1024 → Fin 3744 → EReal) (j : Fin 2048) : EReal := sg (proj x g w (colS j))

end InProj

namespace InProj

open Idealize.ShloMosaic.ValueIdx hiding ix0 ix1 ix2 ix3 ix4 eq_ix1 eq_ix2 eq_ix3 eq_ix4
open Idealize.ShloMosaic Idealize.ShloMosaic.TcCoe Idealize.ShloMosaic.Tactic Cert.Kernel3Ideal Cert.Kernel3Ideal.Gen

/-! ### The body's stages -/

/-- The reciprocal root mean square of each row of a block. -/
def scale (Y : FVec Ideal S1024x1024 .f32) : FVec Ideal S1024x1 .f32 :=
  rsqrt (addf (divf (shapeCast S1024x1 (multiReduction .add [1] S1024 (mulf Y Y) 0x00000000#32 reduces_S1024x1024_S1024 (.inl rfl) rfl) shapeCasts_S1024_S1024x1) (broadcast S1024x1 (Scalar.ofBits .f32 0x44800000#32))) (broadcast S1024x1 (Scalar.ofBits .f32 0x358637BD#32)))

theorem scale_apply (Y : FVec Ideal S1024x1024 .f32) (r : Fin 1024) : (scale Y (ix2 r 0) : EReal) = Ideal.rsqrt (Mlp.ms fun k => Y (ix2 r k)) := by
  have e : (multiReduction .add [1] S1024 (mulf Y Y) 0x00000000#32 reduces_S1024x1024_S1024 (.inl rfl) rfl (ix1 r) : EReal) = ∑ k : Fin 1024, (Y (ix2 r k) : EReal) * Y (ix2 r k) := by
    refine (Ideal.multiReduction_add_single _ _ reduces_S1024x1024_S1024 (.inl rfl) rfl (ix1 r)).trans ?_
    have l : ∀ k : Fin 1024, Shape.Reduces.lift reduces_S1024x1024_S1024 (ix1 r) k = ix2 r k := fun k => funext fun a => by
      match a with | ⟨0, _⟩ => rfl | ⟨1, _⟩ => rfl
    exact Finset.sum_congr rfl fun k _ => congrArg (fun i => (Y i : EReal) * Y i) (l k)
  have f : shapeCast S1024x1 (multiReduction .add [1] S1024 (mulf Y Y) 0x00000000#32 reduces_S1024x1024_S1024 (.inl rfl) rfl) shapeCasts_S1024_S1024x1 (ix2 r 0) = multiReduction .add [1] S1024 (mulf Y Y) 0x00000000#32 reduces_S1024x1024_S1024 (.inl rfl) rfl (ix1 r) := by
    refine shapeCast_apply _ _ _ (ix1 r) ?_
    rw [Shape.rowMajor_val_two, Shape.rowMajor_val_one]
    show r.val = r.val * 1 + 0
    omega
  unfold Mlp.ms
  rw [← e, ← f]; rfl

/-- The normalised block. -/
theorem norm_apply (X : FVec Ideal S1024x1024 .f32) (G : FVec Ideal S1x1024 .f32) (r j : Fin 1024) :
    (k0_pay4 (F := Ideal) X G (ix2 r j) : EReal) = Mlp.nrm (fun k => X (ix2 r k)) (fun k => G (ix2 0 k)) j := by
  have a : broadcastTo S1024x1024 (scale X) broadcasts_S1024x1_S1024x1024 (ix2 r j) = scale X (ix2 r 0) :=
    broadcastTo_apply _ _ _ _ fun a => by match a with | ⟨0, _⟩ => rfl | ⟨1, _⟩ => rfl
  have b : broadcastTo S1024x1024 G broadcasts_S1x1024_S1024x1024 (ix2 r j) = G (ix2 0 j) :=
    broadcastTo_apply _ _ _ _ fun a => by match a with | ⟨0, _⟩ => rfl | ⟨1, _⟩ => rfl
  have h : k0_pay4 (F := Ideal) X G = truncf .bf16 (mulf (mulf (shapeCast S1024x1024 X shapeCasts_S1024x1024_S1024x1024) (broadcastTo S1024x1024 (scale (shapeCast S1024x1024 X shapeCasts_S1024x1024_S1024x1024)) broadcasts_S1024x1_S1024x1024)) (broadcastTo S1024x1024 (shapeCast S1x1024 G shapeCasts_S1x1024_S1x1024) broadcasts_S1x1024_S1024x1024)) bitsLt_bf16_f32 := rfl
  rw [h, shapeCast_self, shapeCast_self]
  have h' : (truncf .bf16 (mulf (mulf X (broadcastTo S1024x1024 (scale X) broadcasts_S1024x1_S1024x1024)) (broadcastTo S1024x1024 G broadcasts_S1x1024_S1024x1024)) bitsLt_bf16_f32 (ix2 r j) : EReal)
      = X (ix2 r j) * broadcastTo S1024x1024 (scale X) broadcasts_S1024x1_S1024x1024 (ix2 r j) * broadcastTo S1024x1024 G broadcasts_S1x1024_S1024x1024 (ix2 r j) := rfl
  rw [h', a, b, scale_apply]; rfl

/-- A product with the rows of a second matrix, into zero, at an entry. -/
theorem nt_apply {M K N : ℕ} {φ₁ φ₂ : FTy} (l : FVec Ideal ⟨2, ![M, K]⟩ φ₁) (r : FVec Ideal ⟨2, ![N, K]⟩ φ₂) (i : Fin M) (x : Fin N) :
    (FloatOps.matmul (DotDims.transposedRhs M K N) none l r (constant (F := Ideal) ⟨2, ![M, N]⟩ .f32 0x00000000#32) (ix2 i x) : EReal) = ∑ k : Fin K, (l (ix2 i k) : EReal) * r (ix2 x k) := by
  have h := Ideal.matmul_transposedRhs_apply (M := M) (K := K) (N := N) none l r (constant (F := Ideal) ⟨2, ![M, N]⟩ .f32 0x00000000#32) i x
  simp only [Attn.vix2] at h
  rw [h, show (constant (F := Ideal) ⟨2, ![M, N]⟩ .f32 0x00000000#32 (ix2 i x) : EReal) = 0 from Ideal.ofBits_zero_f32]
  exact zero_add _

/-- A block's product with 512 rows of the transposed weight, and with 2048 of them. -/
def dotB (U : FVec Ideal S1024x1024 .bf16) (W : FVec Ideal S1x512x1024 .f32) : FVec Ideal S1024x512 .f32 :=
  matmul dot_S1024x1024_S512x1024_S1024x512_1_1_0_0_n_n none U (truncf .bf16 (shapeCast S512x1024 W shapeCasts_S1x512x1024_S512x1024) bitsLt_bf16_f32) (constant S1024x512 .f32 0x00000000#32)
def dotS (U : FVec Ideal S1024x1024 .bf16) (W : FVec Ideal S1x2048x1024 .f32) : FVec Ideal S1024x2048 .f32 :=
  matmul dot_S1024x1024_S2048x1024_S1024x2048_1_1_0_0_n_n none U (truncf .bf16 (shapeCast S2048x1024 W shapeCasts_S1x2048x1024_S2048x1024) bitsLt_bf16_f32) (constant S1024x2048 .f32 0x00000000#32)

theorem dotB_apply (U : FVec Ideal S1024x1024 .bf16) (W : FVec Ideal S1x512x1024 .f32) (r : Fin 1024) (j : Fin 512) :
    (dotB U W (ix2 r j) : EReal) = ∑ k : Fin 1024, (U (ix2 r k) : EReal) * W (ix3 0 j k) := by
  unfold dotB
  refine (nt_apply (M := 1024) (K := 1024) (N := 512) U (truncf .bf16 (shapeCast S512x1024 W shapeCasts_S1x512x1024_S512x1024) bitsLt_bf16_f32) r j).trans ?_
  refine Finset.sum_congr rfl fun k _ => congrArg (fun z : EReal => (U (ix2 r k) : EReal) * z) ?_
  show (shapeCast S512x1024 W shapeCasts_S1x512x1024_S512x1024 (ix2 j k) : EReal) = _
  refine shapeCast_apply _ _ _ _ ?_
  rw [Shape.rowMajor_val_three, Shape.rowMajor_val_two]; show (0 * 512 + j.val) * 1024 + k.val = j.val * 1024 + k.val; omega
theorem dotS_apply (U : FVec Ideal S1024x1024 .bf16) (W : FVec Ideal S1x2048x1024 .f32) (r : Fin 1024) (j : Fin 2048) :
    (dotS U W (ix2 r j) : EReal) = ∑ k : Fin 1024, (U (ix2 r k) : EReal) * W (ix3 0 j k) := by
  unfold dotS
  refine (nt_apply (M := 1024) (K := 1024) (N := 2048) U (truncf .bf16 (shapeCast S2048x1024 W shapeCasts_S1x2048x1024_S2048x1024) bitsLt_bf16_f32) r j).trans ?_
  refine Finset.sum_congr rfl fun k _ => congrArg (fun z : EReal => (U (ix2 r k) : EReal) * z) ?_
  show (shapeCast S2048x1024 W shapeCasts_S1x2048x1024_S2048x1024 (ix2 j k) : EReal) = _
  refine shapeCast_apply _ _ _ _ ?_
  rw [Shape.rowMajor_val_three, Shape.rowMajor_val_two]; show (0 * 2048 + j.val) * 1024 + k.val = j.val * 1024 + k.val; omega

/-- The logistic function as the body writes it, its argument taken from zero. -/
theorem sg_sub (y : EReal) : Ideal.div (FloatOps.ofBits (F := Ideal) .f32 0x3F800000#32) (FloatOps.ofBits (F := Ideal) .f32 0x3F800000#32 + Ideal.exp ((FloatOps.ofBits (F := Ideal) .f32 0x00000000#32 : EReal) - y)) = sg y := by
  rw [show (FloatOps.ofBits (F := Ideal) .f32 0x00000000#32 : EReal) = 0 from Ideal.ofBits_zero_f32, zero_sub]; rfl

theorem pay5_apply (X : FVec Ideal S1024x1024 .f32) (G : FVec Ideal S1x1024 .f32) (A B : FVec Ideal S1x512x1024 .f32) (r : Fin 1024) (j : Fin 512) :
    (k0_pay5 (F := Ideal) X G A B (ix2 r j) : EReal) = (∑ k, Mlp.nrm (fun k => X (ix2 r k)) (fun k => G (ix2 0 k)) k * A (ix3 0 j k)) * sg (∑ k, Mlp.nrm (fun k => X (ix2 r k)) (fun k => G (ix2 0 k)) k * B (ix3 0 j k)) := by
  simp only [← norm_apply]
  rw [← dotB_apply, ← dotB_apply, ← sg_sub]; rfl
theorem pay6_apply (U : FVec Ideal S1024x1024 .bf16) (A : FVec Ideal S1x2048x1024 .f32) (r : Fin 1024) (j : Fin 2048) :
    (k0_pay6 (F := Ideal) U A (ix2 r j) : EReal) = sg (∑ k, (U (ix2 r k) : EReal) * A (ix3 0 j k)) := by
  rw [← dotS_apply, ← sg_sub]; rfl

/-! ### The blocks a point writes -/

/-- The rows of the transposed weight that a point loads. -/
def rowsA (x2 : Vec Ideal S1x3744x1024 .f32) : FVec Ideal S1x512x1024 .f32 := View.ld (Val := Elt Ideal) (e' := .f32) x2 (Rect.unit ![0, 0, 0] ![1, 512, 1024] inb_S1x3744x1024_S1x512x1024_0_0_0)
def rowsG (x2 : Vec Ideal S1x3744x1024 .f32) : FVec Ideal S1x512x1024 .f32 := View.ld (Val := Elt Ideal) (e' := .f32) x2 (Rect.unit ![0, 512, 0] ![1, 512, 1024] inb_S1x3744x1024_S1x512x1024_0_512_0)
def rowsS (x2 : Vec Ideal S1x3744x1024 .f32) : FVec Ideal S1x2048x1024 .f32 := View.ld (Val := Elt Ideal) (e' := .f32) x2 (Rect.unit ![0, 1696, 0] ![1, 2048, 1024] inb_S1x3744x1024_S1x2048x1024_0_1696_0)

theorem rowsA_apply (x2 : Vec Ideal S1x3744x1024 .f32) (j : Fin 512) (k : Fin 1024) : rowsA x2 (ix3 0 j k) = x2 (ix3 0 (colA j) k) :=
  View.ld_unit_apply_of _ _ _ _ _ _ fun a => by match a with | ⟨0, _⟩ => rfl | ⟨1, _⟩ => exact (Nat.zero_add _).symm | ⟨2, _⟩ => exact (Nat.zero_add _).symm
theorem rowsG_apply (x2 : Vec Ideal S1x3744x1024 .f32) (j : Fin 512) (k : Fin 1024) : rowsG x2 (ix3 0 j k) = x2 (ix3 0 (colG j) k) :=
  View.ld_unit_apply_of _ _ _ _ _ _ fun a => by match a with | ⟨0, _⟩ => rfl | ⟨1, _⟩ => rfl | ⟨2, _⟩ => exact (Nat.zero_add _).symm
theorem rowsS_apply (x2 : Vec Ideal S1x3744x1024 .f32) (j : Fin 2048) (k : Fin 1024) : rowsS x2 (ix3 0 j k) = x2 (ix3 0 (colS j) k) :=
  View.ld_unit_apply_of _ _ _ _ _ _ fun a => by match a with | ⟨0, _⟩ => rfl | ⟨1, _⟩ => rfl | ⟨2, _⟩ => exact (Nat.zero_add _).symm

/-- A load of a part of a staging buffer that holds `X`. -/
theorem load_part {s : Shape} {e : EltTy} (a : Memref sig .tc .vmem s e) (h : a.IsWhole) (X : s.Idx → Elt Ideal e) (r : Rect s) :
    View.readAt (Elt Ideal) a.view r.toLoadRect (h.unread X) = View.ld X r := by
  rw [View.readAt_eq_ld, h.read_unread]

/-- A point's loads of its first three inputs. -/
def atX (a : Memref sig .tc .vmem S1024x1024 .f32) (h : a.IsWhole) (x0 : Vec Ideal S1024x1024 .f32) : FVec Ideal S1024x1024 .f32 :=
  View.readAt (Elt Ideal) a.view (Rect.unit (s := S1024x1024) ![0, 0] ![1024, 1024] inb_S1024x1024_S1024x1024_0_0).toLoadRect (h.unread x0)
def atW (a : Memref sig .tc .vmem S1x1024 .f32) (h : a.IsWhole) (x1 : Vec Ideal S1x1024 .f32) : FVec Ideal S1x1024 .f32 :=
  View.readAt (Elt Ideal) a.view (Rect.unit (s := S1x1024) ![0, 0] ![1, 1024] inb_S1x1024_S1x1024_0_0).toLoadRect (h.unread x1)
def atA (a : Memref sig .tc .vmem S1x3744x1024 .f32) (h : a.IsWhole) (x2 : Vec Ideal S1x3744x1024 .f32) : FVec Ideal S1x512x1024 .f32 :=
  View.readAt (Elt Ideal) a.view (Rect.unit (s := S1x3744x1024) ![0, 0, 0] ![1, 512, 1024] inb_S1x3744x1024_S1x512x1024_0_0_0).toLoadRect (h.unread x2)
def atG (a : Memref sig .tc .vmem S1x3744x1024 .f32) (h : a.IsWhole) (x2 : Vec Ideal S1x3744x1024 .f32) : FVec Ideal S1x512x1024 .f32 :=
  View.readAt (Elt Ideal) a.view (Rect.unit (s := S1x3744x1024) ![0, 512, 0] ![1, 512, 1024] inb_S1x3744x1024_S1x512x1024_0_512_0).toLoadRect (h.unread x2)
def atS (a : Memref sig .tc .vmem S1x3744x1024 .f32) (h : a.IsWhole) (x2 : Vec Ideal S1x3744x1024 .f32) : FVec Ideal S1x2048x1024 .f32 :=
  View.readAt (Elt Ideal) a.view (Rect.unit (s := S1x3744x1024) ![0, 1696, 0] ![1, 2048, 1024] inb_S1x3744x1024_S1x2048x1024_0_1696_0).toLoadRect (h.unread x2)
theorem atX_eq (a : Memref sig .tc .vmem S1024x1024 .f32) (h : a.IsWhole) (x0 : Vec Ideal S1024x1024 .f32) : atX a h x0 = x0 :=
  (load_part a h x0 _).trans (View.ld_unit_zero (funext fun a => by match a with | ⟨0, _⟩ => rfl | ⟨1, _⟩ => rfl) _ _)
theorem atW_eq (a : Memref sig .tc .vmem S1x1024 .f32) (h : a.IsWhole) (x1 : Vec Ideal S1x1024 .f32) : atW a h x1 = x1 :=
  (load_part a h x1 _).trans (View.ld_unit_zero (funext fun a => by match a with | ⟨0, _⟩ => rfl | ⟨1, _⟩ => rfl) _ _)
theorem atA_eq (a : Memref sig .tc .vmem S1x3744x1024 .f32) (h : a.IsWhole) (x2 : Vec Ideal S1x3744x1024 .f32) : atA a h x2 = rowsA x2 := load_part a h x2 _
theorem atG_eq (a : Memref sig .tc .vmem S1x3744x1024 .f32) (h : a.IsWhole) (x2 : Vec Ideal S1x3744x1024 .f32) : atG a h x2 = rowsG x2 := load_part a h x2 _
theorem atS_eq (a : Memref sig .tc .vmem S1x3744x1024 .f32) (h : a.IsWhole) (x2 : Vec Ideal S1x3744x1024 .f32) : atS a h x2 = rowsS x2 := load_part a h x2 _

set_option maxHeartbeats 1000000 in
/-- The block of the gated unit a point leaves. -/
theorem out_z (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x3744x1024 .f32) (harg3 : arg3.IsWhole) (arg4 : Memref sig .tc .vmem S1x384 .f32) (harg4 : arg4.IsWhole) (arg5 : Memref sig .tc .vmem S1x256 .f32) (harg5 : arg5.IsWhole) (arg6 : Memref sig .tc .vmem S1024x384 .bf16) (harg6 : arg6.IsWhole) (arg7 : Memref sig .tc .vmem S256x1024 .bf16) (harg7 : arg7.IsWhole) (arg8 : Memref sig .tc .vmem S640x256 .bf16) (harg8 : arg8.IsWhole) (arg9 : Memref sig .tc .vmem S640x1 .f32) (harg9 : arg9.IsWhole) (arg10 : Memref sig .tc .vmem S128x1024 .bf16) (harg10 : arg10.IsWhole) (arg11 : Memref sig .tc .vmem S1x1024 .i32) (harg11 : arg11.IsWhole) (arg12 : Memref sig .tc .vmem S16x1 .f32) (harg12 : arg12.IsWhole) (arg13 : Memref sig .tc .vmem S1024x512 .bf16) (harg13 : arg13.IsWhole) (arg14 : Memref sig .tc .vmem S1024x2048 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S2x640x512 .bf16) (harg17 : arg17.IsWhole)
    (x0 : Vec Ideal S1024x1024 .f32) (x1 : Vec Ideal S1x1024 .f32) (x2 : Vec Ideal S1x3744x1024 .f32) (x3 : Vec Ideal S1x384 .f32) (x4 : Vec Ideal S1x256 .f32) (x5 : Vec Ideal S1024x384 .bf16) (x6 : Vec Ideal S256x1024 .bf16) (x7 : Vec Ideal S640x256 .bf16) (x8 : Vec Ideal S640x1 .f32) (x9 : Vec Ideal S128x1024 .bf16) (x10 : Vec Ideal S1x1024 .i32) (x11 : Vec Ideal S16x1 .f32) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = k0_pay5 (F := Ideal) x0 x1 (rowsA x2) (rowsG x2) := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).1 = [⟨Rect.unit ![0, 0] ![1024, 512] inb_S1024x512_S1024x512_0_0,
      k0_pay5 (F := Ideal) (atX arg1 harg1 x0) (atW arg2 harg2 x1) (atA arg3 harg3 x2) (atG arg3 harg3 x2)⟩] := by
    delta kernelRun0_A
    dsimp only
    rfl
  unfold out0_A_12
  rw [h]
  refine (View.read_writes_full _ _ _ _ _).trans ?_
  rw [atX_eq, atW_eq, atA_eq, atG_eq]

set_option maxHeartbeats 1000000 in
/-- The block of the gates a point leaves. -/
theorem out_s (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1x3744x1024 .f32) (harg3 : arg3.IsWhole) (arg4 : Memref sig .tc .vmem S1x384 .f32) (harg4 : arg4.IsWhole) (arg5 : Memref sig .tc .vmem S1x256 .f32) (harg5 : arg5.IsWhole) (arg6 : Memref sig .tc .vmem S1024x384 .bf16) (harg6 : arg6.IsWhole) (arg7 : Memref sig .tc .vmem S256x1024 .bf16) (harg7 : arg7.IsWhole) (arg8 : Memref sig .tc .vmem S640x256 .bf16) (harg8 : arg8.IsWhole) (arg9 : Memref sig .tc .vmem S640x1 .f32) (harg9 : arg9.IsWhole) (arg10 : Memref sig .tc .vmem S128x1024 .bf16) (harg10 : arg10.IsWhole) (arg11 : Memref sig .tc .vmem S1x1024 .i32) (harg11 : arg11.IsWhole) (arg12 : Memref sig .tc .vmem S16x1 .f32) (harg12 : arg12.IsWhole) (arg13 : Memref sig .tc .vmem S1024x512 .bf16) (harg13 : arg13.IsWhole) (arg14 : Memref sig .tc .vmem S1024x2048 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S2x640x512 .bf16) (harg17 : arg17.IsWhole)
    (x0 : Vec Ideal S1024x1024 .f32) (x1 : Vec Ideal S1x1024 .f32) (x2 : Vec Ideal S1x3744x1024 .f32) (x3 : Vec Ideal S1x384 .f32) (x4 : Vec Ideal S1x256 .f32) (x5 : Vec Ideal S1024x384 .bf16) (x6 : Vec Ideal S256x1024 .bf16) (x7 : Vec Ideal S640x256 .bf16) (x8 : Vec Ideal S640x1 .f32) (x9 : Vec Ideal S128x1024 .bf16) (x10 : Vec Ideal S1x1024 .i32) (x11 : Vec Ideal S16x1 .f32) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 = k0_pay6 (F := Ideal) (k0_pay4 (F := Ideal) x0 x1) (rowsS x2) := by
  have h : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11).2.1 = [⟨Rect.unit ![0, 0] ![1024, 2048] inb_S1024x2048_S1024x2048_0_0,
      k0_pay6 (F := Ideal) (k0_pay4 (F := Ideal) (atX arg1 harg1 x0) (atW arg2 harg2 x1)) (atS arg3 harg3 x2)⟩] := by
    delta kernelRun0_A
    dsimp only
    rfl
  unfold out0_A_13
  rw [h]
  refine (View.read_writes_full _ _ _ _ _).trans ?_
  rw [atX_eq, atW_eq, atS_eq]

/-- The two blocks, row by row. -/
theorem z_row (x0 : Vec Ideal S1024x1024 .f32) (x1 : Vec Ideal S1x1024 .f32) (x2 : Vec Ideal S1x3744x1024 .f32) (r : Fin 1024) (j : Fin 512) :
    (k0_pay5 (F := Ideal) x0 x1 (rowsA x2) (rowsG x2) (ix2 r j) : EReal) = glu (fun k => x0 (ix2 r k)) (fun k => x1 (ix2 0 k)) (fun k c => x2 (ix3 0 c k)) j := by
  rw [pay5_apply]
  simp only [rowsA_apply, rowsG_apply]
  rfl
theorem s_row (x0 : Vec Ideal S1024x1024 .f32) (x1 : Vec Ideal S1x1024 .f32) (x2 : Vec Ideal S1x3744x1024 .f32) (r : Fin 1024) (j : Fin 2048) :
    (k0_pay6 (F := Ideal) (k0_pay4 (F := Ideal) x0 x1) (rowsS x2) (ix2 r j) : EReal) = gate (fun k => x0 (ix2 r k)) (fun k => x1 (ix2 0 k)) (fun k c => x2 (ix3 0 c k)) j := by
  rw [pay6_apply]
  simp only [norm_apply, rowsS_apply]
  rfl

end InProj

end
-- ==== Proof.InProj.Array.lean ====
module

public import proofs.«01_k».proof.Proof.InProj.Body

@[expose] public section

set_option maxRecDepth 16384

noncomputable section

/-! The kernel's two results, row by row, of the three arrays they depend on. -/

namespace InProj

open Idealize.ShloMosaic.ValueIdx hiding ix0 ix1 ix2 ix3 ix4 eq_ix1 eq_ix2 eq_ix3 eq_ix4
open Idealize.ShloMosaic Idealize.ShloMosaic.TcCoe Idealize.ShloMosaic.Tactic Cert.Kernel3Ideal Cert.Kernel3Ideal.Gen

/-- Row `n` of the first array: entry `n / 8192` of the batch at `n % 8192`. -/
def rowOf (x : FVec Ideal S2x8192x1024 .f32) (n : Fin 16384) (k : Fin 1024) : EReal :=
  x (ix3 ⟨n.val / 8192, by omega⟩ ⟨n.val % 8192, Nat.mod_lt _ (by decide)⟩ k)
/-- The gated unit and the gates of every row. -/
def gluA (x : FVec Ideal S2x8192x1024 .f32) (g : FVec Ideal S1x1024 .f32) (w : FVec Ideal S1x1024x3744 .f32) : FVec Ideal S16384x512 .bf16 := fun i =>
  glu (rowOf x (i 0)) (fun k => g (ix2 0 k)) (fun k c => w (ix3 0 k c)) (i 1)
def gateA (x : FVec Ideal S2x8192x1024 .f32) (g : FVec Ideal S1x1024 .f32) (w : FVec Ideal S1x1024x3744 .f32) : FVec Ideal S16384x2048 .bf16 := fun i =>
  gate (rowOf x (i 0)) (fun k => g (ix2 0 k)) (fun k c => w (ix3 0 k c)) (i 1)

variable (m : (ℓ : Loc nD τ sig) → Buf (Elt Ideal) ℓ) (c : Dev nD)

def ax : FVec Ideal S2x8192x1024 .f32 := m ((c.tc : Thread nD τ).loc main_arg0)
def ag : FVec Ideal S1x1024 .f32 := m ((c.tc : Thread nD τ).loc main_arg2)
def aw : FVec Ideal S1x1024x3744 .f32 := m ((c.tc : Thread nD τ).loc main_arg3)

theorem V23_eq : V m c main_v23 = shapeCast S16384x1024 (ax m c) shapeCasts_S2x8192x1024_S16384x1024 := by
  entry_read
  rfl
theorem V25_eq : V m c main_v25 = shapeCast S1x1024 (shapeCast S1024 (ag m c) shapeCasts_S1x1024_S1024) shapeCasts_S1024_S1x1024 := by
  entry_read
  rfl
theorem V6_eq : V m c main_v6 = transpose S1x3744x1024 [0, 2, 1] (aw m c) transposes_S1x1024x3744_S1x3744x1024_0_2_1 := by
  entry_read
  rfl

/-! ### The windows' blocks -/

theorem at_0 : ∀ t : Fin cfg0.N, win0_0.index t 0 = t.val ∧ win0_0.index t 1 = 0 :=
  (by decide +kernel : ∀ t : Fin grid0.N, win0_0.index t 0 = t.val ∧ win0_0.index t 1 = 0)
theorem at_1 : ∀ t : Fin cfg0.N, win0_1.index t 0 = 0 ∧ win0_1.index t 1 = 0 :=
  (by decide +kernel : ∀ t : Fin grid0.N, win0_1.index t 0 = 0 ∧ win0_1.index t 1 = 0)
theorem at_2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem at_12 : ∀ t : Fin cfg0.N, win0_12.index t 0 = t.val ∧ win0_12.index t 1 = 0 :=
  (by decide +kernel : ∀ t : Fin grid0.N, win0_12.index t 0 = t.val ∧ win0_12.index t 1 = 0)
theorem at_13 : ∀ t : Fin cfg0.N, win0_13.index t 0 = t.val ∧ win0_13.index t 1 = 0 :=
  (by decide +kernel : ∀ t : Fin grid0.N, win0_13.index t 0 = t.val ∧ win0_13.index t 1 = 0)

theorem emb_0 (t : Fin cfg0.N) (y : S1024x1024.Idx) : (((win0_0.blk t).view.emb y) 0).val = 1024 * t.val + (y 0).val ∧ (((win0_0.blk t).view.emb y) 1).val = (y 1).val := by
  have h0 : (((win0_0.blk t).view.emb y) 0).val = win0_0.index t 0 * 1024 + 1 * (y 0).val := rfl
  have h1 : (((win0_0.blk t).view.emb y) 1).val = win0_0.index t 1 * 1024 + 1 * (y 1).val := rfl
  rw [h0, h1, (at_0 t).1, (at_0 t).2]
  omega
theorem emb_12 (t : Fin cfg0.N) (y : S1024x512.Idx) : (((win0_12.blk t).view.emb y) 0).val = 1024 * t.val + (y 0).val ∧ (((win0_12.blk t).view.emb y) 1).val = (y 1).val := by
  have h0 : (((win0_12.blk t).view.emb y) 0).val = win0_12.index t 0 * 1024 + 1 * (y 0).val := rfl
  have h1 : (((win0_12.blk t).view.emb y) 1).val = win0_12.index t 1 * 512 + 1 * (y 1).val := rfl
  rw [h0, h1, (at_12 t).1, (at_12 t).2]
  omega
theorem emb_13 (t : Fin cfg0.N) (y : S1024x2048.Idx) : (((win0_13.blk t).view.emb y) 0).val = 1024 * t.val + (y 0).val ∧ (((win0_13.blk t).view.emb y) 1).val = (y 1).val := by
  have h0 : (((win0_13.blk t).view.emb y) 0).val = win0_13.index t 0 * 1024 + 1 * (y 0).val := rfl
  have h1 : (((win0_13.blk t).view.emb y) 1).val = win0_13.index t 1 * 2048 + 1 * (y 1).val := rfl
  rw [h0, h1, (at_13 t).1, (at_13 t).2]
  omega
theorem emb_1 (t : Fin cfg0.N) (y : S1x1024.Idx) : (win0_1.blk t).view.emb y = y := funext fun a => Fin.ext (by
  have h0 : (((win0_1.blk t).view.emb y) 0).val = win0_1.index t 0 * 1 + 1 * (y 0).val := rfl
  have h1 : (((win0_1.blk t).view.emb y) 1).val = win0_1.index t 1 * 1024 + 1 * (y 1).val := rfl
  rw [(at_1 t).1] at h0
  rw [(at_1 t).2] at h1
  match a with
  | ⟨0, _⟩ => exact h0.trans (show 0 * 1 + 1 * (y 0).val = (y 0).val by omega)
  | ⟨1, _⟩ => exact h1.trans (show 0 * 1024 + 1 * (y 1).val = (y 1).val by omega))
theorem emb_2 (t : Fin cfg0.N) (y : S1x3744x1024.Idx) : (win0_2.blk t).view.emb y = y := funext fun a => Fin.ext (by
  have h0 : (((win0_2.blk t).view.emb y) 0).val = win0_2.index t 0 * 1 + 1 * (y 0).val := rfl
  have h1 : (((win0_2.blk t).view.emb y) 1).val = win0_2.index t 1 * 3744 + 1 * (y 1).val := rfl
  have h2 : (((win0_2.blk t).view.emb y) 2).val = win0_2.index t 2 * 1024 + 1 * (y 2).val := rfl
  rw [(at_2 t).1] at h0
  rw [(at_2 t).2.1] at h1
  rw [(at_2 t).2.2] at h2
  match a with
  | ⟨0, _⟩ => exact h0.trans (show 0 * 1 + 1 * (y 0).val = (y 0).val by omega)
  | ⟨1, _⟩ => exact h1.trans (show 0 * 3744 + 1 * (y 1).val = (y 1).val by omega)
  | ⟨2, _⟩ => exact h2.trans (show 0 * 1024 + 1 * (y 2).val = (y 2).val by omega))

theorem blk_0 (t : Fin cfg0.N) (r : Fin 1024) (k : Fin 1024) (n : Fin 16384) (e : n.val = 1024 * t.val + r.val) :
    (iblk m c 0 t : FVec Ideal S1024x1024 .f32) (ix2 r k) = rowOf (ax m c) n k := by
  show (V m c main_v23 : FVec Ideal S16384x1024 .f32) ((win0_0.blk t).view.emb (ix2 r k)) = _
  obtain ⟨e0, e1⟩ := emb_0 t (ix2 r k)
  rw [V23_eq]
  refine shapeCast_apply _ _ _ _ ?_
  rw [Shape.rowMajor_val_three, Shape.rowMajor_val_two, e0, e1]
  show (n.val / 8192 * 8192 + n.val % 8192) * 1024 + k.val = (1024 * t.val + r.val) * 1024 + k.val
  omega
theorem blk_1 (t : Fin cfg0.N) (k : Fin 1024) : (iblk m c 1 t : FVec Ideal S1x1024 .f32) (ix2 0 k) = ag m c (ix2 0 k) := by
  show (V m c main_v25 : FVec Ideal S1x1024 .f32) ((win0_1.blk t).view.emb (ix2 0 k)) = _
  rw [emb_1, V25_eq]
  refine (shapeCast_apply _ _ _ (ix1 k) ?_).trans (shapeCast_apply _ _ _ _ ?_)
  · rw [Shape.rowMajor_val_one, Shape.rowMajor_val_two]; show k.val = 0 * 1024 + k.val; omega
  · rw [Shape.rowMajor_val_one, Shape.rowMajor_val_two]; show 0 * 1024 + k.val = k.val; omega
theorem blk_2 (t : Fin cfg0.N) (f : Fin 3744) (k : Fin 1024) : (iblk m c 2 t : FVec Ideal S1x3744x1024 .f32) (ix3 0 f k) = aw m c (ix3 0 k f) := by
  show (V m c main_v6 : FVec Ideal S1x3744x1024 .f32) ((win0_2.blk t).view.emb (ix3 0 f k)) = _
  rw [emb_2, V6_eq]
  exact transpose_apply _ _ _ _ _ fun a => by match a with | ⟨0, _⟩ => rfl | ⟨1, _⟩ => rfl | ⟨2, _⟩ => rfl

/-! ### The results -/

theorem arr_z : (dats m 0 c).arrAt 12 cfg0.N = gluA (ax m c) (ag m c) (aw m c) := by
  refine (dats m 0 c).arrAt_eq_of_covers 12 _ (by decide +kernel) fun t hf y => ?_
  blk_simp
  rw [after0_12]
  unfold outsAt0
  dsimp only
  rw [out_z]
  obtain ⟨e0, e1⟩ := emb_12 t y
  have s : (ix2 (y 0) (y 1) : S1024x512.Idx) = y := funext fun a => by match a with | ⟨0, _⟩ => rfl | ⟨1, _⟩ => rfl
  have p : (((win0_12.blk t).view.emb y) 1) = y 1 := Fin.ext e1
  refine (congrArg _ s.symm).trans ((z_row _ _ _ (y 0) (y 1)).trans ?_)
  unfold gluA
  rw [p]
  simp only [blk_1, blk_2]
  exact congrArg (fun h => glu h _ _ (y 1)) (funext fun k => blk_0 m c t (y 0) k _ e0)

theorem arr_s : (dats m 0 c).arrAt 13 cfg0.N = gateA (ax m c) (ag m c) (aw m c) := by
  refine (dats m 0 c).arrAt_eq_of_covers 13 _ (by decide +kernel) fun t hf y => ?_
  blk_simp
  rw [after0_13]
  unfold outsAt0
  dsimp only
  rw [out_s]
  obtain ⟨e0, e1⟩ := emb_13 t y
  have s : (ix2 (y 0) (y 1) : S1024x2048.Idx) = y := funext fun a => by match a with | ⟨0, _⟩ => rfl | ⟨1, _⟩ => rfl
  have p : (((win0_13.blk t).view.emb y) 1) = y 1 := Fin.ext e1
  refine (congrArg _ s.symm).trans ((s_row _ _ _ (y 0) (y 1)).trans ?_)
  unfold gateA
  rw [p]
  simp only [blk_1, blk_2]
  exact congrArg (fun h => gate h _ _ (y 1)) (funext fun k => blk_0 m c t (y 0) k _ e0)

end InProj

end
-- ==== Proof.InProj.RefValue.lean ====
module

public import proofs.«01_k».proof.Proof.InProj.Array
public import proofs.«01_k».proof.Proof.Gen.Reference3Ideal.Run

@[expose] public section

set_option maxRecDepth 16384

noncomputable section

/-! What the reference makes of a row: the same gated unit and gates. -/

namespace InProj.Ref

open Idealize.ShloMosaic.ValueIdx hiding ix0 ix1 ix2 ix3 ix4 eq_ix1 eq_ix2 eq_ix3 eq_ix4
open Idealize.ShloMosaic Idealize.ShloMosaic.TcCoe Idealize.ShloMosaic.Tactic Cert.Reference3Ideal Cert.Reference3Ideal.Gen

abbrev H3 := FVec Ideal S2x8192x1024 .f32
abbrev P3 := FVec Ideal S2x8192x3744 .f32
abbrev Z3 := FVec Ideal S2x8192x512 .f32
abbrev G3 := FVec Ideal S2x8192x2048 .f32

/-! ### The reference's stages -/

/-- The reciprocal root mean square of each row. -/
def scale (x : H3) : FVec Ideal S2x8192x1 .f32 :=
  Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))
def norm (x : H3) (g : FVec Ideal S1024 .f32) : H3 :=
  mulf (mulf x (broadcastInDim S2x8192x1024 ![0, 1, 2] bcast_S2x8192x1_S2x8192x1024_0_1_2 (scale x))) (broadcastInDim S2x8192x1024 ![0, 1, 2] bcast_S1x1x1024_S2x8192x1024_0_1_2 (broadcastInDim S1x1x1024 ![2] bcast_S1024_S1x1x1024_2 g))
def project (u : H3) (w : FVec Ideal S1024x3744 .f32) : P3 :=
  Host.dotGeneral dot_S2x8192x1024_S1024x3744_S2x8192x3744_2_0_01_1_n_n none u w
def projection (x : H3) (g : FVec Ideal S1x1024 .f32) (w : FVec Ideal S1x1024x3744 .f32) : P3 :=
  project (norm x (shapeCast S1024 g shapeCasts_S1x1024_S1024)) (shapeCast S1024x3744 w shapeCasts_S1x1024x3744_S1024x3744)
/-- The slices of the projection. -/
def pair (p : P3) : H3 := extractStridedSlice S2x8192x1024 ![0, 0, 0] p slices_S2x8192x3744_S2x8192x1024_0_0_0
def partA (p : P3) : Z3 := extractStridedSlice S2x8192x512 ![0, 0, 0] (pair p) slices_S2x8192x1024_S2x8192x512_0_0_0
def partG (p : P3) : Z3 := extractStridedSlice S2x8192x512 ![0, 0, 512] (pair p) slices_S2x8192x1024_S2x8192x512_0_0_512
def partS (p : P3) : G3 := extractStridedSlice S2x8192x2048 ![0, 0, 1696] p slices_S2x8192x3744_S2x8192x2048_0_0_1696
def unitZ (p : P3) : Z3 :=
  mulf (partA p) (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf (partG p)))))
def gatesS (p : P3) : G3 :=
  Host.divf (broadcastInDim S2x8192x2048 ![] bcast_S_S2x8192x2048 (constant S_ .f32 0x3F800000#32)) (addf (broadcastInDim S2x8192x2048 ![] bcast_S_S2x8192x2048 (constant S_ .f32 0x3F800000#32)) (Host.exp (Host.negf (partS p))))
def resultZ (x : H3) (g : FVec Ideal S1x1024 .f32) (w : FVec Ideal S1x1024x3744 .f32) : FVec Ideal S16384x512 .bf16 :=
  truncf .bf16 (shapeCast S16384x512 (unitZ (projection x g w)) shapeCasts_S2x8192x512_S16384x512) bitsLt_bf16_f32
def resultS (x : H3) (g : FVec Ideal S1x1024 .f32) (w : FVec Ideal S1x1024x3744 .f32) : FVec Ideal S16384x2048 .bf16 :=
  truncf .bf16 (shapeCast S16384x2048 (gatesS (projection x g w)) shapeCasts_S2x8192x2048_S16384x2048) bitsLt_bf16_f32

/-! ### The stages at an entry -/

theorem reduces_row : S2x8192x1024.Reduces [2] S2x8192 := by decide
theorem lift_row (b : Fin 2) (s : Fin 8192) (k : Fin 1024) : reduces_row.lift (ix2 b s) k = ix3 b s k := by
  funext a; match a with | ⟨0, _⟩ => rfl | ⟨1, _⟩ => rfl | ⟨2, _⟩ => rfl

theorem scale_apply (x : H3) (b : Fin 2) (s : Fin 8192) : (scale x (ix3 b s 0) : EReal) = Ideal.rsqrt (Mlp.ms fun k => x (ix3 b s k)) := by
  have e : (broadcastInDim S2x8192x1 ![0, 1] bcast_S2x8192_S2x8192x1_0_1 (Host.reduceAdd (mulf x x) (constant S_ .f32 0x00000000#32) reducesTo_S2x8192x1024_S2x8192_d2 h_S_) (ix3 b s 0) : EReal) = ∑ k : Fin 1024, (x (ix3 b s k) : EReal) * x (ix3 b s k) := by
    refine (broadcastInDim_apply _ _ _ _ (ix2 b s) fun a => ?_).trans ?_
    · match a with | ⟨0, _⟩ => rfl | ⟨1, _⟩ => rfl
    rw [hostReduceAdd_apply, Ideal.hostReduceAdd_single _ reduces_row, show (constant (F := Ideal) S_ .f32 0x00000000#32 (Shape.Idx.first h_S_) : EReal) = 0 from Ideal.ofBits_zero_f32, zero_add]
    exact Finset.sum_congr rfl fun k _ => congrArg (fun i => (x i : EReal) * x i) (lift_row b s k)
  have f : (broadcastInDim S2x8192x1 ![] bcast_S_S2x8192x1 (constant (F := Ideal) S_ .f32 0x44800000#32) (ix3 b s 0) : EReal) = FloatOps.ofBits (F := Ideal) .f32 0x44800000#32 := broadcastInDim_scalar_apply _ _ _
  have g : (broadcastInDim S2x8192x1 ![] bcast_S_S2x8192x1 (constant (F := Ideal) S_ .f32 0x358637BD#32) (ix3 b s 0) : EReal) = FloatOps.ofBits (F := Ideal) .f32 0x358637BD#32 := broadcastInDim_scalar_apply _ _ _
  unfold Mlp.ms
  rw [← e, ← f, ← g]; rfl

theorem norm_apply (x : H3) (w : FVec Ideal S1024 .f32) (b : Fin 2) (s : Fin 8192) (j : Fin 1024) :
    (norm x w (ix3 b s j) : EReal) = Mlp.nrm (fun k => x (ix3 b s k)) (fun k => w (ix1 k)) j := by
  have e : broadcastInDim S2x8192x1024 ![0, 1, 2] bcast_S2x8192x1_S2x8192x1024_0_1_2 (scale x) (ix3 b s j) = scale x (ix3 b s 0) :=
    broadcastInDim_apply _ _ _ _ _ fun a => by match a with | ⟨0, _⟩ => rfl | ⟨1, _⟩ => rfl | ⟨2, _⟩ => rfl
  have f : broadcastInDim S2x8192x1024 ![0, 1, 2] bcast_S1x1x1024_S2x8192x1024_0_1_2 (broadcastInDim S1x1x1024 ![2] bcast_S1024_S1x1x1024_2 w) (ix3 b s j) = w (ix1 j) :=
    (broadcastInDim_apply _ _ _ _ (ix3 0 0 j) fun a => by match a with | ⟨0, _⟩ => rfl | ⟨1, _⟩ => rfl | ⟨2, _⟩ => rfl).trans
      (broadcastInDim_apply _ _ _ _ (ix1 j) fun a => by match a with | ⟨0, _⟩ => rfl)
  have h : (norm x w (ix3 b s j) : EReal) = x (ix3 b s j) * broadcastInDim S2x8192x1024 ![0, 1, 2] bcast_S2x8192x1_S2x8192x1024_0_1_2 (scale x) (ix3 b s j)
    * broadcastInDim S2x8192x1024 ![0, 1, 2] bcast_S1x1x1024_S2x8192x1024_0_1_2 (broadcastInDim S1x1x1024 ![2] bcast_S1024_S1x1x1024_2 w) (ix3 b s j) := rfl
  rw [h, e, f, scale_apply]; rfl

theorem project_apply (u : H3) (w : FVec Ideal S1024x3744 .f32) (b : Fin 2) (s : Fin 8192) (f : Fin 3744) :
    (project u w (ix3 b s f) : EReal) = ∑ k : Fin 1024, (u (ix3 b s k) : EReal) * w (ix2 k f) := by
  unfold project
  show FloatOps.dotGeneral _ none _ u w (ix3 b s f) = _
  rw [Ideal.dotGeneral_apply, ← Equiv.sum_comp (contrEquiv1 dot_S2x8192x1024_S1024x3744_S2x8192x3744_2_0_01_1_n_n 1024 rfl rfl).symm]
  refine Finset.sum_congr rfl fun k _ => ?_
  have cv := contrEquiv1_symm_val dot_S2x8192x1024_S1024x3744_S2x8192x3744_2_0_01_1_n_n 1024 rfl rfl k
  have l : DotDims.lhsIdx dot_S2x8192x1024_S1024x3744_S2x8192x3744_2_0_01_1_n_n (ix3 b s f) ((contrEquiv1 dot_S2x8192x1024_S1024x3744_S2x8192x3744_2_0_01_1_n_n 1024 rfl rfl).symm k) = ix3 b s k := by
    funext a; apply Fin.ext
    match a with | ⟨0, _⟩ => rfl | ⟨1, _⟩ => rfl | ⟨2, _⟩ => exact cv
  have r : DotDims.rhsIdx dot_S2x8192x1024_S1024x3744_S2x8192x3744_2_0_01_1_n_n (ix3 b s f) ((contrEquiv1 dot_S2x8192x1024_S1024x3744_S2x8192x3744_2_0_01_1_n_n 1024 rfl rfl).symm k) = ix2 k f := by
    funext a; apply Fin.ext
    match a with | ⟨0, _⟩ => exact cv | ⟨1, _⟩ => rfl
  rw [l, r]

/-- The projection's entries. -/
theorem projection_apply (x : H3) (g : FVec Ideal S1x1024 .f32) (w : FVec Ideal S1x1024x3744 .f32) (b : Fin 2) (s : Fin 8192) (f : Fin 3744) :
    (projection x g w (ix3 b s f) : EReal) = proj (fun k => x (ix3 b s k)) (fun k => g (ix2 0 k)) (fun k c => w (ix3 0 k c)) f := by
  have hg : ∀ k : Fin 1024, shapeCast S1024 g shapeCasts_S1x1024_S1024 (ix1 k) = g (ix2 0 k) := fun k => by
    refine shapeCast_apply _ _ _ _ ?_
    rw [Shape.rowMajor_val_one, Shape.rowMajor_val_two]; show 0 * 1024 + k.val = k.val; omega
  have hw : ∀ (k : Fin 1024) (f : Fin 3744), shapeCast S1024x3744 w shapeCasts_S1x1024x3744_S1024x3744 (ix2 k f) = w (ix3 0 k f) := fun k f => by
    refine shapeCast_apply _ _ _ _ ?_
    rw [Shape.rowMajor_val_three, Shape.rowMajor_val_two]; show (0 * 1024 + k.val) * 3744 + f.val = k.val * 3744 + f.val; omega
  unfold projection proj
  rw [project_apply]
  simp only [norm_apply, hg, hw]

theorem partA_apply (p : P3) (b : Fin 2) (s : Fin 8192) (j : Fin 512) : partA p (ix3 b s j) = p (ix3 b s (colA j)) :=
  (extractStridedSlice_apply _ _ _ _ (ix3 b s ⟨j.val, by omega⟩) fun a => by match a with | ⟨0, _⟩ => exact (Nat.zero_add _).symm | ⟨1, _⟩ => exact (Nat.zero_add _).symm | ⟨2, _⟩ => exact (Nat.zero_add _).symm).trans
    (extractStridedSlice_apply _ _ _ _ _ fun a => by match a with | ⟨0, _⟩ => exact (Nat.zero_add _).symm | ⟨1, _⟩ => exact (Nat.zero_add _).symm | ⟨2, _⟩ => exact (Nat.zero_add _).symm)
theorem partG_apply (p : P3) (b : Fin 2) (s : Fin 8192) (j : Fin 512) : partG p (ix3 b s j) = p (ix3 b s (colG j)) :=
  (extractStridedSlice_apply _ _ _ _ (ix3 b s ⟨512 + j.val, by omega⟩) fun a => by match a with | ⟨0, _⟩ => exact (Nat.zero_add _).symm | ⟨1, _⟩ => exact (Nat.zero_add _).symm | ⟨2, _⟩ => rfl).trans
    (extractStridedSlice_apply _ _ _ _ _ fun a => by match a with | ⟨0, _⟩ => exact (Nat.zero_add _).symm | ⟨1, _⟩ => exact (Nat.zero_add _).symm | ⟨2, _⟩ => exact (Nat.zero_add _).symm)
theorem partS_apply (p : P3) (b : Fin 2) (s : Fin 8192) (j : Fin 2048) : partS p (ix3 b s j) = p (ix3 b s (colS j)) :=
  extractStridedSlice_apply _ _ _ _ _ fun a => by match a with | ⟨0, _⟩ => exact (Nat.zero_add _).symm | ⟨1, _⟩ => exact (Nat.zero_add _).symm | ⟨2, _⟩ => rfl

theorem unitZ_apply (p : P3) (b : Fin 2) (s : Fin 8192) (j : Fin 512) : (unitZ p (ix3 b s j) : EReal) = p (ix3 b s (colA j)) * sg (p (ix3 b s (colG j))) := by
  have e : (broadcastInDim S2x8192x512 ![] bcast_S_S2x8192x512 (constant (F := Ideal) S_ .f32 0x3F800000#32) (ix3 b s j) : EReal) = FloatOps.ofBits (F := Ideal) .f32 0x3F800000#32 := broadcastInDim_scalar_apply _ _ _
  unfold sg
  rw [← partA_apply p b s j, ← partG_apply p b s j, ← e]; rfl
theorem gatesS_apply (p : P3) (b : Fin 2) (s : Fin 8192) (j : Fin 2048) : (gatesS p (ix3 b s j) : EReal) = sg (p (ix3 b s (colS j))) := by
  have e : (broadcastInDim S2x8192x2048 ![] bcast_S_S2x8192x2048 (constant (F := Ideal) S_ .f32 0x3F800000#32) (ix3 b s j) : EReal) = FloatOps.ofBits (F := Ideal) .f32 0x3F800000#32 := broadcastInDim_scalar_apply _ _ _
  unfold sg
  rw [← partS_apply p b s j, ← e]; rfl

/-! ### The results -/

theorem resultZ_eq (x : H3) (g : FVec Ideal S1x1024 .f32) (w : FVec Ideal S1x1024x3744 .f32) : resultZ x g w = gluA x g w := by
  funext i
  have h0 : (i 0).val < 16384 := (i 0).isLt
  show (shapeCast S16384x512 (unitZ (projection x g w)) shapeCasts_S2x8192x512_S16384x512 i : EReal) = _
  refine (shapeCast_apply _ _ _ (ix3 ⟨(i 0).val / 8192, by omega⟩ ⟨(i 0).val % 8192, Nat.mod_lt _ (by decide)⟩ (i 1)) ?_).trans ?_
  · rw [Shape.rowMajor_val_three, Shape.rowMajor_val_two]
    show ((i 0).val / 8192 * 8192 + (i 0).val % 8192) * 512 + (i 1).val = (i 0).val * 512 + (i 1).val
    omega
  refine (unitZ_apply _ _ _ (i 1)).trans ?_
  rw [projection_apply, projection_apply]; rfl

theorem resultS_eq (x : H3) (g : FVec Ideal S1x1024 .f32) (w : FVec Ideal S1x1024x3744 .f32) : resultS x g w = gateA x g w := by
  funext i
  have h0 : (i 0).val < 16384 := (i 0).isLt
  show (shapeCast S16384x2048 (gatesS (projection x g w)) shapeCasts_S2x8192x2048_S16384x2048 i : EReal) = _
  refine (shapeCast_apply _ _ _ (ix3 ⟨(i 0).val / 8192, by omega⟩ ⟨(i 0).val % 8192, Nat.mod_lt _ (by decide)⟩ (i 1)) ?_).trans ?_
  · rw [Shape.rowMajor_val_three, Shape.rowMajor_val_two]
    show ((i 0).val / 8192 * 8192 + (i 0).val % 8192) * 2048 + (i 1).val = (i 0).val * 2048 + (i 1).val
    omega
  refine (gatesS_apply _ _ _ (i 1)).trans ?_
  rw [projection_apply]; rfl

end InProj.Ref

end
-- ==== Proof.InProj.Claims.lean ====
module

public import proofs.«01_k».proof.Proof.InProj.RefValue
public import proofs.«01_k».proof.Proof.Gen.Kernel3.Frame
public import proofs.«01_k».proof.Defs
public import Idealize.ShloMosaic.Adequacy
public import Idealize.ShloMosaic.Init

@[expose] public section

noncomputable section

/-! The claims about the input projection's call. -/

namespace Cert.Proof

open Idealize.ShloMosaic Idealize.ShloMosaic.TcCoe Idealize.SL Idealize.SL.Sem

theorem kernel3 : Cert.quiescent_Kernel3 := fun m ρ _ => Cert.Kernel3.Gen.frame m ρ
theorem kernel3Ideal : Cert.quiescent_Kernel3Ideal := fun m ρ _ => Cert.Kernel3Ideal.Gen.frame m ρ
theorem reference3Ideal : Cert.quiescent_Reference3Ideal := fun m ρ _ =>
  (θ_run Cert.Reference3Ideal.defs _ _).mono (fun r h => ⟨fun c => (h c).2.2, sem_eq_zero_of_no_sems (by decide) r.2⟩) (Cert.Reference3Ideal.Value.run m ρ)

theorem preserves3 : Cert.preserves_Kernel3_Kernel3Ideal := trivial

theorem algebraic3 : Cert.algebraic_Kernel3Ideal_Reference3Ideal := fun m g m' g' _ ha =>
  ⟨fun c => InProj.gluA (InProj.ax m c) (InProj.ag m c) (InProj.aw m c), fun c => InProj.gateA (InProj.ax m c) (InProj.ag m c) (InProj.aw m c),
    (θ_run Cert.Kernel3Ideal.defs _ _).mono (fun r h c => ⟨(h c).1.trans (InProj.arr_z m c), (h c).2.1.trans (InProj.arr_s m c), (h c).2.2.2.2.2⟩) (Cert.Kernel3Ideal.Value.run_blocks m g),
    (θ_run Cert.Reference3Ideal.defs _ _).mono (fun r h c => by
      refine ⟨(h c).1.trans ?_, (h c).2.1.trans ?_, (h c).2.2⟩
      · rw [(ha c).1, (ha c).2.2.1, (ha c).2.2.2.1]
        exact InProj.Ref.resultZ_eq (InProj.ax m c) (InProj.ag m c) (InProj.aw m c)
      · rw [(ha c).1, (ha c).2.2.1, (ha c).2.2.2.1]
        exact InProj.Ref.resultS_eq (InProj.ax m c) (InProj.ag m c) (InProj.aw m c)) (Cert.Reference3Ideal.Value.run m' g')⟩

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Claims
public import proofs.«01_k».proof.Proof.Mlp.Claims
public import proofs.«01_k».proof.Proof.InProj.Claims

@[expose] public section

noncomputable section

namespace Cert.Proof

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Attn.preFacts,
  kernel, kernelIdeal, kernelIdeal_pre, referenceIdeal, referenceIdeal_pre, kernel2, kernel2Ideal, reference2Ideal, kernel3, kernel3Ideal, reference3Ideal,
  preserves, algebraic, preserves2, algebraic2, preserves3, algebraic3⟩

end Cert.Proof

end
